-- ==== Defs.lean ====
def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite [hPre_finite : Cert.Pre_finite.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite [hPre_finite : Cert.Pre_finite.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Tab (m : (ℓ : Loc Cert.Tab.nD Cert.Tab.τ Cert.Tab.sig) → Buf (Elt Bits) ℓ) : Prop :=
  True

def Pre_TabIdeal (m : (ℓ : Loc Cert.TabIdeal.nD Cert.TabIdeal.τ Cert.TabIdeal.sig) → Buf (Elt Ideal) ℓ) : Prop :=
  True

def Pre_TabRefIdeal (m : (ℓ : Loc Cert.TabRefIdeal.nD Cert.TabRefIdeal.τ Cert.TabRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmIdeal_pre_finite [hMlstmIdeal : Cert.MlstmIdeal.Facts] [hPre_finite : Cert.Pre_finite.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_MlstmRefIdeal_pre_finite [hMlstmRefIdeal : Cert.MlstmRefIdeal.Facts] [hPre_finite : Cert.Pre_finite.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8)
      ∧ r.2.mem ((c.tc : Thread Cert.Inp.nD Cert.Inp.τ).loc Cert.Inp.main_arg9) = m ((c.tc : Thread Cert.Inp.nD Cert.Inp.τ).loc Cert.Inp.main_arg9)
      ∧ r.2.mem ((c.tc : Thread Cert.Inp.nD Cert.Inp.τ).loc Cert.Inp.main_arg10) = m ((c.tc : Thread Cert.Inp.nD Cert.Inp.τ).loc Cert.Inp.main_arg10)
      ∧ r.2.mem ((c.tc : Thread Cert.Inp.nD Cert.Inp.τ).loc Cert.Inp.main_arg11) = m ((c.tc : Thread Cert.Inp.nD Cert.Inp.τ).loc Cert.Inp.main_arg11)
      ∧ r.2.mem ((c.tc : Thread Cert.Inp.nD Cert.Inp.τ).loc Cert.Inp.main_arg12) = m ((c.tc : Thread Cert.Inp.nD Cert.Inp.τ).loc Cert.Inp.main_arg12))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
      ∧ r.2.mem ((c.tc : Thread Cert.InpIdeal.nD Cert.InpIdeal.τ).loc Cert.InpIdeal.main_arg9) = m ((c.tc : Thread Cert.InpIdeal.nD Cert.InpIdeal.τ).loc Cert.InpIdeal.main_arg9)
      ∧ r.2.mem ((c.tc : Thread Cert.InpIdeal.nD Cert.InpIdeal.τ).loc Cert.InpIdeal.main_arg10) = m ((c.tc : Thread Cert.InpIdeal.nD Cert.InpIdeal.τ).loc Cert.InpIdeal.main_arg10)
      ∧ r.2.mem ((c.tc : Thread Cert.InpIdeal.nD Cert.InpIdeal.τ).loc Cert.InpIdeal.main_arg11) = m ((c.tc : Thread Cert.InpIdeal.nD Cert.InpIdeal.τ).loc Cert.InpIdeal.main_arg11)
      ∧ r.2.mem ((c.tc : Thread Cert.InpIdeal.nD Cert.InpIdeal.τ).loc Cert.InpIdeal.main_arg12) = m ((c.tc : Thread Cert.InpIdeal.nD Cert.InpIdeal.τ).loc Cert.InpIdeal.main_arg12))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8)
      ∧ r.2.mem ((c.tc : Thread Cert.InpRefIdeal.nD Cert.InpRefIdeal.τ).loc Cert.InpRefIdeal.main_arg9) = m ((c.tc : Thread Cert.InpRefIdeal.nD Cert.InpRefIdeal.τ).loc Cert.InpRefIdeal.main_arg9)
      ∧ r.2.mem ((c.tc : Thread Cert.InpRefIdeal.nD Cert.InpRefIdeal.τ).loc Cert.InpRefIdeal.main_arg10) = m ((c.tc : Thread Cert.InpRefIdeal.nD Cert.InpRefIdeal.τ).loc Cert.InpRefIdeal.main_arg10)
      ∧ r.2.mem ((c.tc : Thread Cert.InpRefIdeal.nD Cert.InpRefIdeal.τ).loc Cert.InpRefIdeal.main_arg11) = m ((c.tc : Thread Cert.InpRefIdeal.nD Cert.InpRefIdeal.τ).loc Cert.InpRefIdeal.main_arg11)
      ∧ r.2.mem ((c.tc : Thread Cert.InpRefIdeal.nD Cert.InpRefIdeal.τ).loc Cert.InpRefIdeal.main_arg12) = m ((c.tc : Thread Cert.InpRefIdeal.nD Cert.InpRefIdeal.τ).loc Cert.InpRefIdeal.main_arg12))
      ∧ r.2.sem = fun _ => 0)

def quiescent_Tab [hTab : Cert.Tab.Facts] : Prop :=
  ∀ (m : (ℓ : Loc Cert.Tab.nD Cert.Tab.τ Cert.Tab.sig) → Buf (Elt Bits) ℓ) (g : Dev Cert.Tab.nD → PrngReg), Pre_Tab m →
    θ_run (Cert.Tab.defs (F := Bits)) (onTc (τ := Cert.Tab.τ) (Cert.Tab.main (F := Bits))) ⟨m, fun _ => 0, g⟩ (fun r => (∀ c : Dev Cert.Tab.nD,
      r.2.mem ((c.tc : Thread Cert.Tab.nD Cert.Tab.τ).loc Cert.Tab.main_arg0) = m ((c.tc : Thread Cert.Tab.nD Cert.Tab.τ).loc Cert.Tab.main_arg0))
      ∧ r.2.sem = fun _ => 0)

def quiescent_TabIdeal [hTabIdeal : Cert.TabIdeal.Facts] : Prop :=
  ∀ (m : (ℓ : Loc Cert.TabIdeal.nD Cert.TabIdeal.τ Cert.TabIdeal.sig) → Buf (Elt Ideal) ℓ) (g : Dev Cert.TabIdeal.nD → PrngReg), Pre_TabIdeal m →
    θ_run (Cert.TabIdeal.defs (F := Ideal)) (onTc (τ := Cert.TabIdeal.τ) (Cert.TabIdeal.main (F := Ideal))) ⟨m, fun _ => 0, g⟩ (fun r => (∀ c : Dev Cert.TabIdeal.nD,
      r.2.mem ((c.tc : Thread Cert.TabIdeal.nD Cert.TabIdeal.τ).loc Cert.TabIdeal.main_arg0) = m ((c.tc : Thread Cert.TabIdeal.nD Cert.TabIdeal.τ).loc Cert.TabIdeal.main_arg0))
      ∧ r.2.sem = fun _ => 0)

def quiescent_TabRefIdeal [hTabRefIdeal : Cert.TabRefIdeal.Facts] : Prop :=
  ∀ (m : (ℓ : Loc Cert.TabRefIdeal.nD Cert.TabRefIdeal.τ Cert.TabRefIdeal.sig) → Buf (Elt Ideal) ℓ) (g : Dev Cert.TabRefIdeal.nD → PrngReg), Pre_TabRefIdeal m →
    θ_run (Cert.TabRefIdeal.defs (F := Ideal)) (onTc (τ := Cert.TabRefIdeal.τ) (Cert.TabRefIdeal.main (F := Ideal))) ⟨m, fun _ => 0, g⟩ (fun r => (∀ c : Dev Cert.TabRefIdeal.nD,
      r.2.mem ((c.tc : Thread Cert.TabRefIdeal.nD Cert.TabRefIdeal.τ).loc Cert.TabRefIdeal.main_arg0) = m ((c.tc : Thread Cert.TabRefIdeal.nD Cert.TabRefIdeal.τ).loc Cert.TabRefIdeal.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def preserves_Mlstm_MlstmIdeal : Prop :=
  True

def algebraic_MlstmIdeal_MlstmRefIdeal_pre_finite [hMlstmIdeal : Cert.MlstmIdeal.Facts] [hMlstmRefIdeal : Cert.MlstmRefIdeal.Facts] [hPre_finite : Cert.Pre_finite.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)) →
    ∃ (v0 : (c : Dev Cert.MlstmIdeal.nD) → Buf (Elt Ideal) ((c.tc : Thread Cert.MlstmIdeal.nD Cert.MlstmIdeal.τ).loc Cert.MlstmIdeal.main_v1)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v1) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v55) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)
      ∧ m' ((c.tc : Thread Cert.InpRefIdeal.nD Cert.InpRefIdeal.τ).loc Cert.InpRefIdeal.main_arg8) = m ((c.tc : Thread Cert.InpIdeal.nD Cert.InpIdeal.τ).loc Cert.InpIdeal.main_arg8)
      ∧ m' ((c.tc : Thread Cert.InpRefIdeal.nD Cert.InpRefIdeal.τ).loc Cert.InpRefIdeal.main_arg9) = m ((c.tc : Thread Cert.InpIdeal.nD Cert.InpIdeal.τ).loc Cert.InpIdeal.main_arg9)
      ∧ m' ((c.tc : Thread Cert.InpRefIdeal.nD Cert.InpRefIdeal.τ).loc Cert.InpRefIdeal.main_arg10) = m ((c.tc : Thread Cert.InpIdeal.nD Cert.InpIdeal.τ).loc Cert.InpIdeal.main_arg10)
      ∧ m' ((c.tc : Thread Cert.InpRefIdeal.nD Cert.InpRefIdeal.τ).loc Cert.InpRefIdeal.main_arg11) = m ((c.tc : Thread Cert.InpIdeal.nD Cert.InpIdeal.τ).loc Cert.InpIdeal.main_arg11)
      ∧ m' ((c.tc : Thread Cert.InpRefIdeal.nD Cert.InpRefIdeal.τ).loc Cert.InpRefIdeal.main_arg12) = m ((c.tc : Thread Cert.InpIdeal.nD Cert.InpIdeal.τ).loc Cert.InpIdeal.main_arg12)) →
    ∃ (v0 : (c : Dev Cert.InpIdeal.nD) → Buf (Elt Ideal) ((c.tc : Thread Cert.InpIdeal.nD Cert.InpIdeal.τ).loc Cert.InpIdeal.main_v41_0)) (v1 : (c : Dev Cert.InpIdeal.nD) → Buf (Elt Ideal) ((c.tc : Thread Cert.InpIdeal.nD Cert.InpIdeal.τ).loc Cert.InpIdeal.main_v41_1)) (v2 : (c : Dev Cert.InpIdeal.nD) → Buf (Elt Ideal) ((c.tc : Thread Cert.InpIdeal.nD Cert.InpIdeal.τ).loc Cert.InpIdeal.main_v41_2)) (v3 : (c : Dev Cert.InpIdeal.nD) → Buf (Elt Ideal) ((c.tc : Thread Cert.InpIdeal.nD Cert.InpIdeal.τ).loc Cert.InpIdeal.main_v41_3)) (v4 : (c : Dev Cert.InpIdeal.nD) → Buf (Elt Ideal) ((c.tc : Thread Cert.InpIdeal.nD Cert.InpIdeal.τ).loc Cert.InpIdeal.main_v41_4)) (v5 : (c : Dev Cert.InpIdeal.nD) → Buf (Elt Ideal) ((c.tc : Thread Cert.InpIdeal.nD Cert.InpIdeal.τ).loc Cert.InpIdeal.main_v41_5)) (v6 : (c : Dev Cert.InpIdeal.nD) → Buf (Elt Ideal) ((c.tc : Thread Cert.InpIdeal.nD Cert.InpIdeal.τ).loc Cert.InpIdeal.main_v41_6)) (v7 : (c : Dev Cert.InpIdeal.nD) → Buf (Elt Ideal) ((c.tc : Thread Cert.InpIdeal.nD Cert.InpIdeal.τ).loc Cert.InpIdeal.main_v41_7)) (v8 : (c : Dev Cert.InpIdeal.nD) → Buf (Elt Ideal) ((c.tc : Thread Cert.InpIdeal.nD Cert.InpIdeal.τ).loc Cert.InpIdeal.main_v41_8)) (v9 : (c : Dev Cert.InpIdeal.nD) → Buf (Elt Ideal) ((c.tc : Thread Cert.InpIdeal.nD Cert.InpIdeal.τ).loc Cert.InpIdeal.main_v41_9)) (v10 : (c : Dev Cert.InpIdeal.nD) → Buf (Elt Ideal) ((c.tc : Thread Cert.InpIdeal.nD Cert.InpIdeal.τ).loc Cert.InpIdeal.main_v41_10)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v41_0) = v0 c
          ∧ r.2.mem ((c.tc : Thread Cert.InpIdeal.nD Cert.InpIdeal.τ).loc Cert.InpIdeal.main_v41_1) = v1 c
          ∧ r.2.mem ((c.tc : Thread Cert.InpIdeal.nD Cert.InpIdeal.τ).loc Cert.InpIdeal.main_v41_2) = v2 c
          ∧ r.2.mem ((c.tc : Thread Cert.InpIdeal.nD Cert.InpIdeal.τ).loc Cert.InpIdeal.main_v41_3) = v3 c
          ∧ r.2.mem ((c.tc : Thread Cert.InpIdeal.nD Cert.InpIdeal.τ).loc Cert.InpIdeal.main_v41_4) = v4 c
          ∧ r.2.mem ((c.tc : Thread Cert.InpIdeal.nD Cert.InpIdeal.τ).loc Cert.InpIdeal.main_v41_5) = v5 c
          ∧ r.2.mem ((c.tc : Thread Cert.InpIdeal.nD Cert.InpIdeal.τ).loc Cert.InpIdeal.main_v41_6) = v6 c
          ∧ r.2.mem ((c.tc : Thread Cert.InpIdeal.nD Cert.InpIdeal.τ).loc Cert.InpIdeal.main_v41_7) = v7 c
          ∧ r.2.mem ((c.tc : Thread Cert.InpIdeal.nD Cert.InpIdeal.τ).loc Cert.InpIdeal.main_v41_8) = v8 c
          ∧ r.2.mem ((c.tc : Thread Cert.InpIdeal.nD Cert.InpIdeal.τ).loc Cert.InpIdeal.main_v41_9) = v9 c
          ∧ r.2.mem ((c.tc : Thread Cert.InpIdeal.nD Cert.InpIdeal.τ).loc Cert.InpIdeal.main_v41_10) = v10 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
          ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
          ∧ r.2.mem ((c.tc : Thread Cert.InpIdeal.nD Cert.InpIdeal.τ).loc Cert.InpIdeal.main_arg9) = m ((c.tc : Thread Cert.InpIdeal.nD Cert.InpIdeal.τ).loc Cert.InpIdeal.main_arg9)
          ∧ r.2.mem ((c.tc : Thread Cert.InpIdeal.nD Cert.InpIdeal.τ).loc Cert.InpIdeal.main_arg10) = m ((c.tc : Thread Cert.InpIdeal.nD Cert.InpIdeal.τ).loc Cert.InpIdeal.main_arg10)
          ∧ r.2.mem ((c.tc : Thread Cert.InpIdeal.nD Cert.InpIdeal.τ).loc Cert.InpIdeal.main_arg11) = m ((c.tc : Thread Cert.InpIdeal.nD Cert.InpIdeal.τ).loc Cert.InpIdeal.main_arg11)
          ∧ r.2.mem ((c.tc : Thread Cert.InpIdeal.nD Cert.InpIdeal.τ).loc Cert.InpIdeal.main_arg12) = m ((c.tc : Thread Cert.InpIdeal.nD Cert.InpIdeal.τ).loc Cert.InpIdeal.main_arg12))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v173) = v0 c
          ∧ r.2.mem ((c.tc : Thread Cert.InpRefIdeal.nD Cert.InpRefIdeal.τ).loc Cert.InpRefIdeal.main_v174) = v1 c
          ∧ r.2.mem ((c.tc : Thread Cert.InpRefIdeal.nD Cert.InpRefIdeal.τ).loc Cert.InpRefIdeal.main_v176) = v2 c
          ∧ r.2.mem ((c.tc : Thread Cert.InpRefIdeal.nD Cert.InpRefIdeal.τ).loc Cert.InpRefIdeal.main_v178) = v3 c
          ∧ r.2.mem ((c.tc : Thread Cert.InpRefIdeal.nD Cert.InpRefIdeal.τ).loc Cert.InpRefIdeal.main_v179) = v4 c
          ∧ r.2.mem ((c.tc : Thread Cert.InpRefIdeal.nD Cert.InpRefIdeal.τ).loc Cert.InpRefIdeal.main_v180) = v5 c
          ∧ r.2.mem ((c.tc : Thread Cert.InpRefIdeal.nD Cert.InpRefIdeal.τ).loc Cert.InpRefIdeal.main_v181) = v6 c
          ∧ r.2.mem ((c.tc : Thread Cert.InpRefIdeal.nD Cert.InpRefIdeal.τ).loc Cert.InpRefIdeal.main_v184) = v7 c
          ∧ r.2.mem ((c.tc : Thread Cert.InpRefIdeal.nD Cert.InpRefIdeal.τ).loc Cert.InpRefIdeal.main_v185) = v8 c
          ∧ r.2.mem ((c.tc : Thread Cert.InpRefIdeal.nD Cert.InpRefIdeal.τ).loc Cert.InpRefIdeal.main_v186) = v9 c
          ∧ r.2.mem ((c.tc : Thread Cert.InpRefIdeal.nD Cert.InpRefIdeal.τ).loc Cert.InpRefIdeal.main_v38) = v10 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7)
          ∧ r.2.mem ((c.tc : Thread Cert.InpRefIdeal.nD Cert.InpRefIdeal.τ).loc Cert.InpRefIdeal.main_arg8) = m' ((c.tc : Thread Cert.InpRefIdeal.nD Cert.InpRefIdeal.τ).loc Cert.InpRefIdeal.main_arg8)
          ∧ r.2.mem ((c.tc : Thread Cert.InpRefIdeal.nD Cert.InpRefIdeal.τ).loc Cert.InpRefIdeal.main_arg9) = m' ((c.tc : Thread Cert.InpRefIdeal.nD Cert.InpRefIdeal.τ).loc Cert.InpRefIdeal.main_arg9)
          ∧ r.2.mem ((c.tc : Thread Cert.InpRefIdeal.nD Cert.InpRefIdeal.τ).loc Cert.InpRefIdeal.main_arg10) = m' ((c.tc : Thread Cert.InpRefIdeal.nD Cert.InpRefIdeal.τ).loc Cert.InpRefIdeal.main_arg10)
          ∧ r.2.mem ((c.tc : Thread Cert.InpRefIdeal.nD Cert.InpRefIdeal.τ).loc Cert.InpRefIdeal.main_arg11) = m' ((c.tc : Thread Cert.InpRefIdeal.nD Cert.InpRefIdeal.τ).loc Cert.InpRefIdeal.main_arg11)
          ∧ r.2.mem ((c.tc : Thread Cert.InpRefIdeal.nD Cert.InpRefIdeal.τ).loc Cert.InpRefIdeal.main_arg12) = m' ((c.tc : Thread Cert.InpRefIdeal.nD Cert.InpRefIdeal.τ).loc Cert.InpRefIdeal.main_arg12))

def preserves_Tab_TabIdeal : Prop :=
  True

def algebraic_TabIdeal_TabRefIdeal [hTabIdeal : Cert.TabIdeal.Facts] [hTabRefIdeal : Cert.TabRefIdeal.Facts] : Prop :=
  ∀ (m : (ℓ : Loc Cert.TabIdeal.nD Cert.TabIdeal.τ Cert.TabIdeal.sig) → Buf (Elt Ideal) ℓ) (g : Dev Cert.TabIdeal.nD → PrngReg)
    (m' : (ℓ : Loc Cert.TabRefIdeal.nD Cert.TabRefIdeal.τ Cert.TabRefIdeal.sig) → Buf (Elt Ideal) ℓ) (g' : Dev Cert.TabRefIdeal.nD → PrngReg), Pre_TabIdeal m →
    (∀ c : Dev Cert.TabIdeal.nD,
      m' ((c.tc : Thread Cert.TabRefIdeal.nD Cert.TabRefIdeal.τ).loc Cert.TabRefIdeal.main_arg0) = m ((c.tc : Thread Cert.TabIdeal.nD Cert.TabIdeal.τ).loc Cert.TabIdeal.main_arg0)) →
    ∃ (v0 : (c : Dev Cert.TabIdeal.nD) → Buf (Elt Ideal) ((c.tc : Thread Cert.TabIdeal.nD Cert.TabIdeal.τ).loc Cert.TabIdeal.main_v12_0)) (v1 : (c : Dev Cert.TabIdeal.nD) → Buf (Elt Ideal) ((c.tc : Thread Cert.TabIdeal.nD Cert.TabIdeal.τ).loc Cert.TabIdeal.main_v12_1)),
      θ_run (Cert.TabIdeal.defs (F := Ideal)) (onTc (τ := Cert.TabIdeal.τ) (Cert.TabIdeal.main (F := Ideal))) ⟨m, fun _ => 0, g⟩ (fun r => ∀ c : Dev Cert.TabIdeal.nD,
          r.2.mem ((c.tc : Thread Cert.TabIdeal.nD Cert.TabIdeal.τ).loc Cert.TabIdeal.main_v12_0) = v0 c
          ∧ r.2.mem ((c.tc : Thread Cert.TabIdeal.nD Cert.TabIdeal.τ).loc Cert.TabIdeal.main_v12_1) = v1 c
          ∧ r.2.mem ((c.tc : Thread Cert.TabIdeal.nD Cert.TabIdeal.τ).loc Cert.TabIdeal.main_arg0) = m ((c.tc : Thread Cert.TabIdeal.nD Cert.TabIdeal.τ).loc Cert.TabIdeal.main_arg0))
      ∧ θ_run (Cert.TabRefIdeal.defs (F := Ideal)) (onTc (τ := Cert.TabRefIdeal.τ) (Cert.TabRefIdeal.main (F := Ideal))) ⟨m', fun _ => 0, g'⟩ (fun r => ∀ c : Dev Cert.TabRefIdeal.nD,
          r.2.mem ((c.tc : Thread Cert.TabRefIdeal.nD Cert.TabRefIdeal.τ).loc Cert.TabRefIdeal.main_v18) = v0 c
          ∧ r.2.mem ((c.tc : Thread Cert.TabRefIdeal.nD Cert.TabRefIdeal.τ).loc Cert.TabRefIdeal.main_v21) = v1 c
          ∧ r.2.mem ((c.tc : Thread Cert.TabRefIdeal.nD Cert.TabRefIdeal.τ).loc Cert.TabRefIdeal.main_arg0) = m' ((c.tc : Thread Cert.TabRefIdeal.nD Cert.TabRefIdeal.τ).loc Cert.TabRefIdeal.main_arg0))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v84) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def Claim : Prop :=
  ∃ (hMlstm : Cert.Mlstm.Facts) (hMlstmIdeal : Cert.MlstmIdeal.Facts) (hMlstmRefIdeal : Cert.MlstmRefIdeal.Facts) (hInp : Cert.Inp.Facts) (hInpIdeal : Cert.InpIdeal.Facts) (hInpRefIdeal : Cert.InpRefIdeal.Facts) (hTab : Cert.Tab.Facts) (hTabIdeal : Cert.TabIdeal.Facts) (hTabRefIdeal : Cert.TabRefIdeal.Facts) (hMod : Cert.Mod.Facts) (hModIdeal : Cert.ModIdeal.Facts) (hModRefIdeal : Cert.ModRefIdeal.Facts) (hFfn : Cert.Ffn.Facts) (hFfnIdeal : Cert.FfnIdeal.Facts) (hFfnRefIdeal : Cert.FfnRefIdeal.Facts) (hPre_finite : Cert.Pre_finite.Facts),
    quiescent_Mlstm (hMlstm := hMlstm)
    ∧ quiescent_MlstmIdeal (hMlstmIdeal := hMlstmIdeal)
    ∧ quiescent_MlstmIdeal_pre_finite (hMlstmIdeal := hMlstmIdeal) (hPre_finite := hPre_finite)
    ∧ quiescent_MlstmRefIdeal (hMlstmRefIdeal := hMlstmRefIdeal)
    ∧ quiescent_MlstmRefIdeal_pre_finite (hMlstmRefIdeal := hMlstmRefIdeal) (hPre_finite := hPre_finite)
    ∧ quiescent_Inp (hInp := hInp)
    ∧ quiescent_InpIdeal (hInpIdeal := hInpIdeal)
    ∧ quiescent_InpRefIdeal (hInpRefIdeal := hInpRefIdeal)
    ∧ quiescent_Tab (hTab := hTab)
    ∧ quiescent_TabIdeal (hTabIdeal := hTabIdeal)
    ∧ quiescent_TabRefIdeal (hTabRefIdeal := hTabRefIdeal)
    ∧ quiescent_Mod (hMod := hMod)
    ∧ quiescent_ModIdeal (hModIdeal := hModIdeal)
    ∧ quiescent_ModRefIdeal (hModRefIdeal := hModRefIdeal)
    ∧ quiescent_Ffn (hFfn := hFfn)
    ∧ quiescent_FfnIdeal (hFfnIdeal := hFfnIdeal)
    ∧ quiescent_FfnRefIdeal (hFfnRefIdeal := hFfnRefIdeal)
    ∧ preserves_Mlstm_MlstmIdeal
    ∧ algebraic_MlstmIdeal_MlstmRefIdeal_pre_finite (hMlstmIdeal := hMlstmIdeal) (hMlstmRefIdeal := hMlstmRefIdeal) (hPre_finite := hPre_finite)
    ∧ preserves_Inp_InpIdeal
    ∧ algebraic_InpIdeal_InpRefIdeal (hInpIdeal := hInpIdeal) (hInpRefIdeal := hInpRefIdeal)
    ∧ preserves_Tab_TabIdeal
    ∧ algebraic_TabIdeal_TabRefIdeal (hTabIdeal := hTabIdeal) (hTabRefIdeal := hTabRefIdeal)
    ∧ preserves_Mod_ModIdeal
    ∧ algebraic_ModIdeal_ModRefIdeal (hModIdeal := hModIdeal) (hModRefIdeal := hModRefIdeal)
    ∧ preserves_Ffn_FfnIdeal
    ∧ algebraic_FfnIdeal_FfnRefIdeal (hFfnIdeal := hFfnIdeal) (hFfnRefIdeal := hFfnRefIdeal)
-- ==== Pre_finite.lean ====
abbrev S16x2048x512 : Shape := ⟨3, ![16, 2048, 512]⟩
abbrev S16x8x2048 : Shape := ⟨3, ![16, 8, 2048]⟩
abbrev S512 : Shape := ⟨1, ![512]⟩
abbrev S_ : Shape := ⟨0, ![]⟩

class Facts : Prop where
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x8x2048 : S_.BroadcastsInDim S16x8x2048 (![] : Fin 0 → Fin S16x8x2048.rank)
  reducesTo_S16x8x2048_S_d0_1_2 : S16x8x2048.ReducesTo [0, 1, 2] S_

variable [Facts]

def fn_part1 {F : FTy → Type} [FloatOps F] (main_v16 : IVec S_ 1) (main_v17 : FVec F S16x8x2048 .f32) : IVec S_ 1 :=
  let main_cst_4 : FVec F S_ .f32 := constant S_ .f32 0x7F800000#32
  let main_v18 : FVec F S16x8x2048 .f32 := broadcastInDim S16x8x2048 ![] bcast_S_S16x8x2048 main_cst_4
  let main_v19 : IVec S16x8x2048 1 := cmpf .olt main_v17 main_v18
  let main_c_5 : IVec S_ 1 := constantI S_ 1 1#1
  let main_v20 : IVec S_ 1 := (fun x v => Host.reduce IntOp.andi x v reducesTo_S16x8x2048_S_d0_1_2 h_S_) main_v19 main_c_5
  let main_v21 : IVec S_ 1 := andi main_v16 main_v20
  main_v21

def fn {F : FTy → Type} [FloatOps F] (main_arg0 : FVec F S16x2048x512 .bf16) (main_arg1 : FVec F S16x2048x512 .bf16) (main_arg2 : FVec F S16x2048x512 .bf16) (main_arg3 : FVec F S16x2048x512 .f32) (main_arg4 : FVec F S16x8x2048 .f32) (main_arg5 : FVec F S512 .f32) : IVec S_ 1 :=
  let main_v0 : FVec F S16x2048x512 .f32 := (extf .f32 · bitsLt_bf16_f32) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_c : IVec S_ 1 := constantI S_ 1 1#1
  let main_v4 : IVec S_ 1 := (fun x v => Host.reduce IntOp.andi x v reducesTo_S16x2048x512_S_d0_1_2 h_S_) main_v3 main_c
  let main_v5 : FVec F S16x2048x512 .f32 := (extf .f32 · bitsLt_bf16_f32) main_arg1
  let main_v6 : FVec F S16x2048x512 .f32 := Host.absf main_v5
  let main_cst_0 : FVec F S_ .f32 := constant S_ .f32 0x7F800000#32
  let main_v7 : FVec F S16x2048x512 .f32 := broadcastInDim S16x2048x512 ![] bcast_S_S16x2048x512 main_cst_0
  let main_v8 : IVec S16x2048x512 1 := cmpf .olt main_v6 main_v7
  let main_c_1 : IVec S_ 1 := constantI S_ 1 1#1
  let main_v9 : IVec S_ 1 := (fun x v => Host.reduce IntOp.andi x v reducesTo_S16x2048x512_S_d0_1_2 h_S_) main_v8 main_c_1
  let main_v10 : IVec S_ 1 := andi main_v4 main_v9
  let main_v11 : FVec F S16x2048x512 .f32 := (extf .f32 · bitsLt_bf16_f32) main_arg2
  let main_v12 : FVec F S16x2048x512 .f32 := Host.absf main_v11
  let main_cst_2 : FVec F S_ .f32 := constant S_ .f32 0x7F800000#32
  let main_v13 : FVec F S16x2048x512 .f32 := broadcastInDim S16x2048x512 ![] bcast_S_S16x2048x512 main_cst_2
  let main_v14 : IVec S16x2048x512 1 := cmpf .olt main_v12 main_v13
  let main_c_3 : IVec S_ 1 := constantI S_ 1 1#1
  let main_v15 : IVec S_ 1 := (fun x v => Host.reduce IntOp.andi x v reducesTo_S16x2048x512_S_d0_1_2 h_S_) main_v14 main_c_3
  let main_v16 : IVec S_ 1 := andi main_v10 main_v15
  let main_v17 : FVec F S16x8x2048 .f32 := Host.absf main_arg4
  fn_part1 (F := F) main_v16 main_v17
-- ==== Mlstm.lean ====
abbrev S16x2048x512 : Shape := ⟨3, ![16, 2048, 512]⟩
abbrev S16x8x2048 : Shape := ⟨3, ![16, 8, 2048]⟩
abbrev S512 : Shape := ⟨1, ![512]⟩
abbrev S512x1 : Shape := ⟨2, ![512, 1]⟩
abbrev S1x2048x512 : Shape := ⟨3, ![1, 2048, 512]⟩
abbrev S1x8x2048 : Shape := ⟨3, ![1, 8, 2048]⟩
abbrev S4x144x128 : Shape := ⟨3, ![4, 144, 128]⟩
abbrev S64x256 : Shape := ⟨2, ![64, 256]⟩
abbrev S8x256x128 : Shape := ⟨3, ![8, 256, 128]⟩
abbrev S256x256 : Shape := ⟨2, ![256, 256]⟩
abbrev S16x256 : Shape := ⟨2, ![16, 256]⟩
abbrev S1x8x256 : Shape := ⟨3, ![1, 8, 256]⟩
abbrev S8x256 : Shape := ⟨2, ![8, 256]⟩
abbrev S4x256 : Shape := ⟨2, ![4, 256]⟩
abbrev S124x256 : Shape := ⟨2, ![124, 256]⟩
abbrev S128x256 : Shape := ⟨2, ![128, 256]⟩
abbrev S256x128 : Shape := ⟨2, ![256, 128]⟩
abbrev S1x256x128 : Shape := ⟨3, ![1, 256, 128]⟩
abbrev S1x1 : Shape := ⟨2, ![1, 1]⟩
abbrev S1x256 : Shape := ⟨2, ![1, 256]⟩
abbrev S256x1 : Shape := ⟨2, ![256, 1]⟩
abbrev S256 : Shape := ⟨1, ![256]⟩
abbrev S1x144x128 : Shape := ⟨3, ![1, 144, 128]⟩
abbrev S144x128 : Shape := ⟨2, ![144, 128]⟩
abbrev S144x256 : Shape := ⟨2, ![144, 256]⟩
abbrev S1 : Shape := ⟨1, ![1]⟩
abbrev S128x1 : Shape := ⟨2, ![128, 1]⟩

abbrev nBuf : Space → Nat
  | .hbm => 8
  | .vmem => 16
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x512, .bf16⟩
  | .hbm, ⟨3, _⟩ => ⟨S16x2048x512, .f32⟩
  | .hbm, ⟨4, _⟩ => ⟨S16x8x2048, .f32⟩
  | .hbm, ⟨5, _⟩ => ⟨S512, .f32⟩
  | .hbm, ⟨6, _⟩ => ⟨S512x1, .f32⟩
  | .hbm, ⟨7, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .f32⟩
  | .local _ .vmem, ⟨7, _⟩ => ⟨S1x2048x512, .f32⟩
  | .local _ .vmem, ⟨8, _⟩ => ⟨S1x8x2048, .f32⟩
  | .local _ .vmem, ⟨9, _⟩ => ⟨S1x8x2048, .f32⟩
  | .local _ .vmem, ⟨10, _⟩ => ⟨S512x1, .f32⟩
  | .local _ .vmem, ⟨11, _⟩ => ⟨S1x2048x512, .bf16⟩
  | .local _ .vmem, ⟨12, _⟩ => ⟨S1x2048x512, .bf16⟩
  | .local _ .vmem, ⟨13, _⟩ => ⟨S4x144x128, .f32⟩
  | .local _ .vmem, ⟨14, _⟩ => ⟨S64x256, .f32⟩
  | .local _ .vmem, ⟨15, _⟩ => ⟨S8x256x128, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_53 : BitVec 32 := 0#32
  let c8_i32 : BitVec 32 := 8#32
  let v110 : BitVec 32 := Scalar.addi c0_i32_53 c8_i32
  let c1_i32 : BitVec 32 := 1#32
  ⟨c0_i32_53, v110, c1_i32⟩
def k0_mult1 (k0_t1 : Fin k0_t1_loop.trips) : BitVec 32 :=
  let c0_i32_53 : BitVec 32 := 0#32
  let c1_i32 : BitVec 32 := 1#32
  let arg11 : BitVec 32 := Scf.iv c0_i32_53 c1_i32 k0_t1
  let c256_i32 : BitVec 32 := 256#32
  let v112 : BitVec 32 := Scalar.muli arg11 c256_i32
  v112
def k0_off1 (k0_t1 : Fin k0_t1_loop.trips) : Fin 3 → Nat :=
  let c0_55 : Index := 0#32
  let c0_56 : Index := 0#32
  let c0_i32_53 : BitVec 32 := 0#32
  let c1_i32 : BitVec 32 := 1#32
  let arg11 : BitVec 32 := Scf.iv c0_i32_53 c1_i32 k0_t1
  let c256_i32 : BitVec 32 := 256#32
  let v112 : BitVec 32 := Scalar.muli arg11 c256_i32
  let v113 : BitVec 32 := v112
  let v114 : Index := Scalar.indexCast v113
  ![0, 0, v114.toNat]
def k0_mult2 (k0_t1 : Fin k0_t1_loop.trips) : BitVec 32 :=
  let c0_i32_53 : BitVec 32 := 0#32
  let c1_i32 : BitVec 32 := 1#32
  let arg11 : BitVec 32 := Scf.iv c0_i32_53 c1_i32 k0_t1
  let c8_i32_57 : BitVec 32 := 8#32
  let v117 : BitVec 32 := Scalar.muli arg11 c8_i32_57
  v117
def k0_off2 (k0_t1 : Fin k0_t1_loop.trips) : Fin 2 → Nat :=
  let c0_i32_53 : BitVec 32 := 0#32
  let c1_i32 : BitVec 32 := 1#32
  let arg11 : BitVec 32 := Scf.iv c0_i32_53 c1_i32 k0_t1
  let c8_i32_57 : BitVec 32 := 8#32
  let v117 : BitVec 32 := Scalar.muli arg11 c8_i32_57
  let v118 : BitVec 32 := v117
  let v119 : Index := Scalar.indexCast v118
  let c0_58 : Index := 0#32
  ![v119.toNat, 0]
def k0_off3 (k0_t1 : Fin k0_t1_loop.trips) : Fin 3 → Nat :=
  let c0_i32_53 : BitVec 32 := 0#32
  let c1_i32 : BitVec 32 := 1#32
  let arg11 : BitVec 32 := Scf.iv c0_i32_53 c1_i32 k0_t1
  let v121 : Index := Scalar.indexCast arg11
  let c0_59 : Index := 0#32
  let c0_60 : Index := 0#32
  ![v121.toNat, 0, 0]
def k0_off4 (k0_t1 : Fin k0_t1_loop.trips) : Fin 3 → Nat :=
  let c0_61 : Index := 0#32
  let c0_i32_53 : BitVec 32 := 0#32
  let c1_i32 : BitVec 32 := 1#32
  let arg11 : BitVec 32 := Scf.iv c0_i32_53 c1_i32 k0_t1
  let c256_i32 : BitVec 32 := 256#32
  let v112 : BitVec 32 := Scalar.muli arg11 c256_i32
  let v113 : BitVec 32 := v112
  let v127 : Index := Scalar.indexCast v113
  let c0_62 : Index := 0#32
  ![0, v127.toNat, 0]
def k0_off5 (k0_t1 : Fin k0_t1_loop.trips) : Fin 3 → Nat :=
  let c0_92 : Index := 0#32
  let c0_i32_53 : BitVec 32 := 0#32
  let c1_i32 : BitVec 32 := 1#32
  let arg11 : BitVec 32 := Scf.iv c0_i32_53 c1_i32 k0_t1
  let c256_i32 : BitVec 32 := 256#32
  let v112 : BitVec 32 := Scalar.muli arg11 c256_i32
  let v113 : BitVec 32 := v112
  let v240 : Index := Scalar.indexCast v113
  let c128 : Index := 128#32
  ![0, v240.toNat, 128]
def k0_off6 (k0_t1 : Fin k0_t1_loop.trips) : Fin 3 → Nat :=
  let c0_122 : Index := 0#32
  let c0_i32_53 : BitVec 32 := 0#32
  let c1_i32 : BitVec 32 := 1#32
  let arg11 : BitVec 32 := Scf.iv c0_i32_53 c1_i32 k0_t1
  let c256_i32 : BitVec 32 := 256#32
  let v112 : BitVec 32 := Scalar.muli arg11 c256_i32
  let v113 : BitVec 32 := v112
  let v353 : Index := Scalar.indexCast v113
  let c256_123 : Index := 256#32
  ![0, v353.toNat, 256]
def k0_off7 (k0_t1 : Fin k0_t1_loop.trips) : Fin 3 → Nat :=
  let c0_153 : Index := 0#32
  let c0_i32_53 : BitVec 32 := 0#32
  let c1_i32 : BitVec 32 := 1#32
  let arg11 : BitVec 32 := Scf.iv c0_i32_53 c1_i32 k0_t1
  let c256_i32 : BitVec 32 := 256#32
  let v112 : BitVec 32 := Scalar.muli arg11 c256_i32
  let v113 : BitVec 32 := v112
  let v466 : Index := Scalar.indexCast v113
  let c384 : Index := 384#32
  ![0, v466.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlstmRefIdeal.lean ====
abbrev S16x2048x512 : Shape := ⟨3, ![16, 2048, 512]⟩
abbrev S16x8x2048 : Shape := ⟨3, ![16, 8, 2048]⟩
abbrev S512 : Shape := ⟨1, ![512]⟩
abbrev S16x4x2048 : Shape := ⟨3, ![16, 4, 2048]⟩
abbrev S16x2048x4x128 : Shape := ⟨4, ![16, 2048, 4, 128]⟩
abbrev S16x4x2048x128 : Shape := ⟨4, ![16, 4, 2048, 128]⟩
abbrev S16x4x32x64x128 : Shape := ⟨5, ![16, 4, 32, 64, 128]⟩
abbrev S32x16x4x64x128 : Shape := ⟨5, ![32, 16, 4, 64, 128]⟩
abbrev S16x4x32x64 : Shape := ⟨4, ![16, 4, 32, 64]⟩
abbrev S32x16x4x64 : Shape := ⟨4, ![32, 16, 4, 64]⟩
abbrev S_ : Shape := ⟨0, ![]⟩
abbrev S64x64 : Shape := ⟨2, ![64, 64]⟩
abbrev S16x4x128x128 : Shape := ⟨4, ![16, 4, 128, 128]⟩
abbrev S16x4x128 : Shape := ⟨3, ![16, 4, 128]⟩
abbrev S16x4 : Shape := ⟨2, ![16, 4]⟩
abbrev S1x16x4x64x128 : Shape := ⟨5, ![1, 16, 4, 64, 128]⟩
abbrev S16x4x64x128 : Shape := ⟨4, ![16, 4, 64, 128]⟩
abbrev S1x16x4x64 : Shape := ⟨4, ![1, 16, 4, 64]⟩
abbrev S16x4x64 : Shape := ⟨3, ![16, 4, 64]⟩
abbrev S16x4x64x1 : Shape := ⟨4, ![16, 4, 64, 1]⟩
abbrev S16x4x1x64 : Shape := ⟨4, ![16, 4, 1, 64]⟩
abbrev S16x4x64x64 : Shape := ⟨4, ![16, 4, 64, 64]⟩
abbrev S16x4x1 : Shape := ⟨3, ![16, 4, 1]⟩
abbrev S16x4x1x1 : Shape := ⟨4, ![16, 4, 1, 1]⟩
abbrev S4x128 : Shape := ⟨2, ![4, 128]⟩
abbrev S16x2048x4 : Shape := ⟨3, ![16, 2048, 4]⟩
abbrev S16x2048x4x1 : Shape := ⟨4, ![16, 2048, 4, 1]⟩
abbrev S1x1x4x128 : Shape := ⟨4, ![1, 1, 4, 128]⟩

abbrev nBuf : Space → Nat
  | .hbm => 206
  | .vmem => 0
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S16x2048x512, .f32⟩
  | 4 => ⟨S16x8x2048, .f32⟩
  | 5 => ⟨S512, .f32⟩
  | 6 => ⟨S16x4x2048, .f32⟩
  | 7 => ⟨S16x4x2048, .f32⟩
  | 8 => ⟨S16x2048x4x128, .bf16⟩
  | 9 => ⟨S16x4x2048x128, .bf16⟩
  | 10 => ⟨S16x4x2048x128, .f32⟩
  | 11 => ⟨S16x2048x4x128, .bf16⟩
  | 12 => ⟨S16x4x2048x128, .bf16⟩
  | 13 => ⟨S16x4x2048x128, .f32⟩
  | 14 => ⟨S16x2048x4x128, .bf16⟩
  | 15 => ⟨S16x4x2048x128, .bf16⟩
  | 16 => ⟨S16x4x2048x128, .f32⟩
  | 17 => ⟨S16x4x32x64x128, .f32⟩
  | 18 => ⟨S32x16x4x64x128, .f32⟩
  | 19 => ⟨S16x4x32x64x128, .f32⟩
  | 20 => ⟨S32x16x4x64x128, .f32⟩
  | 21 => ⟨S16x4x32x64x128, .f32⟩
  | 22 => ⟨S32x16x4x64x128, .f32⟩
  | 23 => ⟨S16x4x32x64, .f32⟩
  | 24 => ⟨S32x16x4x64, .f32⟩
  | 25 => ⟨S16x4x32x64, .f32⟩
  | 26 => ⟨S32x16x4x64, .f32⟩
  | 27 => ⟨S_, .f32⟩
  | 28 => ⟨S_, .f32⟩
  | 29 => ⟨S32x16x4x64, .f32⟩
  | 30 => ⟨S_, .i1⟩
  | 31 => ⟨S64x64, .i1⟩
  | 32 => ⟨S64x64, .i32⟩
  | 33 => ⟨S_, .i32⟩
  | 34 => ⟨S64x64, .i32⟩
  | 35 => ⟨S64x64, .i32⟩
  | 36 => ⟨S64x64, .i32⟩
  | 37 => ⟨S64x64, .i1⟩
  | 38 => ⟨S_, .i1⟩
  | 39 => ⟨S64x64, .i1⟩
  | 40 => ⟨S64x64, .i1⟩
  | 41 => ⟨S_, .f32⟩
  | 42 => ⟨S16x4x128x128, .f32⟩
  | 43 => ⟨S_, .f32⟩
  | 44 => ⟨S16x4x128, .f32⟩
  | 45 => ⟨S_, .f32⟩
  | 46 => ⟨S16x4, .f32⟩
  | 47 => ⟨S_, .f32⟩
  | 48 => ⟨S32x16x4x64x128, .f32⟩
  | 49 => ⟨S_, .i32⟩
  | 50 => ⟨S32x16x4x64x128, .f32⟩
  | 51 => ⟨S32x16x4x64x128, .f32⟩
  | 52 => ⟨S32x16x4x64x128, .f32⟩
  | 53 => ⟨S32x16x4x64, .f32⟩
  | 54 => ⟨S32x16x4x64, .f32⟩
  | 55 => ⟨S64x64, .i1⟩
  | 56 => ⟨S_, .i32⟩
  | 57 => ⟨S16x4x128x128, .f32⟩
  | 58 => ⟨S16x4x128, .f32⟩
  | 59 => ⟨S16x4, .f32⟩
  | 60 => ⟨S32x16x4x64x128, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x16x4x64x128, .f32⟩
  | 68 => ⟨S16x4x64x128, .f32⟩
  | 69 => ⟨S_, .i32⟩
  | 70 => ⟨S_, .i32⟩
  | 71 => ⟨S_, .i32⟩
  | 72 => ⟨S_, .i32⟩
  | 73 => ⟨S1x16x4x64x128, .f32⟩
  | 74 => ⟨S16x4x64x128, .f32⟩
  | 75 => ⟨S_, .i32⟩
  | 76 => ⟨S_, .i32⟩
  | 77 => ⟨S_, .i32⟩
  | 78 => ⟨S_, .i32⟩
  | 79 => ⟨S1x16x4x64x128, .f32⟩
  | 80 => ⟨S16x4x64x128, .f32⟩
  | 81 => ⟨S_, .i32⟩
  | 82 => ⟨S_, .i32⟩
  | 83 => ⟨S_, .i32⟩
  | 84 => ⟨S1x16x4x64, .f32⟩
  | 85 => ⟨S16x4x64, .f32⟩
  | 86 => ⟨S_, .i32⟩
  | 87 => ⟨S_, .i32⟩
  | 88 => ⟨S_, .i32⟩
  | 89 => ⟨S1x16x4x64, .f32⟩
  | 90 => ⟨S16x4x64, .f32⟩
  | 91 => ⟨S16x4x64x1, .f32⟩
  | 92 => ⟨S16x4x1x64, .f32⟩
  | 93 => ⟨S16x4x64x64, .f32⟩
  | 94 => ⟨S16x4x64x64, .f32⟩
  | 95 => ⟨S16x4x64x64, .f32⟩
  | 96 => ⟨S16x4x1x64, .f32⟩
  | 97 => ⟨S16x4x64x64, .f32⟩
  | 98 => ⟨S16x4x64x64, .f32⟩
  | 99 => ⟨S_, .f32⟩
  | 100 => ⟨S_, .f32⟩
  | 101 => ⟨S16x4x64x64, .i1⟩
  | 102 => ⟨S16x4x64x64, .f32⟩
  | 103 => ⟨S16x4x64x64, .f32⟩
  | 104 => ⟨S16x4x1, .f32⟩
  | 105 => ⟨S16x4x64, .f32⟩
  | 106 => ⟨S16x4x64, .f32⟩
  | 107 => ⟨S_, .f32⟩
  | 108 => ⟨S16x4x64, .f32⟩
  | 109 => ⟨S16x4x64, .f32⟩
  | 110 => ⟨S16x4x64x1, .f32⟩
  | 111 => ⟨S16x4x64x64, .f32⟩
  | 112 => ⟨S16x4x64x64, .f32⟩
  | 113 => ⟨S16x4x64x64, .f32⟩
  | 114 => ⟨S16x4x64, .f32⟩
  | 115 => ⟨S16x4x64, .f32⟩
  | 116 => ⟨S16x4x64x64, .f32⟩
  | 117 => ⟨S16x4x64x64, .f32⟩
  | 118 => ⟨S16x4x64x128, .f32⟩
  | 119 => ⟨S16x4x64x1, .f32⟩
  | 120 => ⟨S16x4x64x128, .f32⟩
  | 121 => ⟨S16x4x64x128, .f32⟩
  | 122 => ⟨S16x4x64x128, .f32⟩
  | 123 => ⟨S16x4x64x128, .f32⟩
  | 124 => ⟨S_, .f32⟩
  | 125 => ⟨S16x4x64, .f32⟩
  | 126 => ⟨S16x4x64, .f32⟩
  | 127 => ⟨S16x4x64, .f32⟩
  | _ => ⟨S16x2048x512, .bf16⟩

abbrev hbmTy0_1 (i : Nat) : BufTy := match i % 128 with
  | 0 => ⟨S16x4x64, .f32⟩
  | 1 => ⟨S16x4x64, .f32⟩
  | 2 => ⟨S16x4x64, .f32⟩
  | 3 => ⟨S16x4x64, .f32⟩
  | 4 => ⟨S16x4x64, .f32⟩
  | 5 => ⟨S16x4x64x1, .f32⟩
  | 6 => ⟨S16x4x64x128, .f32⟩
  | 7 => ⟨S16x4x64x128, .f32⟩
  | 8 => ⟨S16x4x1, .f32⟩
  | 9 => ⟨S16x4, .f32⟩
  | 10 => ⟨S16x4x1, .f32⟩
  | 11 => ⟨S16x4x64, .f32⟩
  | 12 => ⟨S16x4x64, .f32⟩
  | 13 => ⟨S16x4x64, .f32⟩
  | 14 => ⟨S16x4, .f32⟩
  | 15 => ⟨S_, .f32⟩
  | 16 => ⟨S16x4, .f32⟩
  | 17 => ⟨S16x4, .f32⟩
  | 18 => ⟨S16x4, .f32⟩
  | 19 => ⟨S16x4, .f32⟩
  | 20 => ⟨S16x4, .f32⟩
  | 21 => ⟨S16x4x1, .f32⟩
  | 22 => ⟨S16x4x64, .f32⟩
  | 23 => ⟨S16x4x64, .f32⟩
  | 24 => ⟨S16x4x64, .f32⟩
  | 25 => ⟨S16x4x1x1, .f32⟩
  | 26 => ⟨S16x4x128x128, .f32⟩
  | 27 => ⟨S16x4x128x128, .f32⟩
  | 28 => ⟨S16x4x64x1, .f32⟩
  | 29 => ⟨S16x4x64x128, .f32⟩
  | 30 => ⟨S16x4x64x128, .f32⟩
  | 31 => ⟨S16x4x128x128, .f32⟩
  | 32 => ⟨S16x4x128x128, .f32⟩
  | 33 => ⟨S16x4x1, .f32⟩
  | 34 => ⟨S16x4x128, .f32⟩
  | 35 => ⟨S16x4x128, .f32⟩
  | 36 => ⟨S16x4x128, .f32⟩
  | 37 => ⟨S16x4x128, .f32⟩
  | 38 => ⟨S1x16x4x64x128, .f32⟩
  | 39 => ⟨S_, .i32⟩
  | 40 => ⟨S_, .i32⟩
  | 41 => ⟨S_, .i32⟩
  | 42 => ⟨S_, .i32⟩
  | 43 => ⟨S32x16x4x64x128, .f32⟩
  | 44 => ⟨S_, .i32⟩
  | 45 => ⟨S_, .i32⟩
  | 46 => ⟨S16x4x32x64x128, .f32⟩
  | 47 => ⟨S16x4x2048x128, .f32⟩
  | 48 => ⟨S16x2048x4x128, .f32⟩
  | 49 => ⟨S4x128, .f32⟩
  | 50 => ⟨S16x2048x4x128, .f32⟩
  | 51 => ⟨S_, .f32⟩
  | 52 => ⟨S16x2048x4, .f32⟩
  | 53 => ⟨S16x2048x4x1, .f32⟩
  | 54 => ⟨S_, .f32⟩
  | 55 => ⟨S16x2048x4x1, .f32⟩
  | 56 => ⟨S16x2048x4x1, .f32⟩
  | 57 => ⟨S_, .f32⟩
  | 58 => ⟨S16x2048x4x1, .f32⟩
  | 59 => ⟨S16x2048x4x1, .f32⟩
  | 60 => ⟨S16x2048x4x1, .f32⟩
  | 61 => ⟨S16x2048x4x128, .f32⟩
  | 62 => ⟨S16x2048x4x128, .f32⟩
  | 63 => ⟨S1x1x4x128, .f32⟩
  | 64 => ⟨S16x2048x4x128, .f32⟩
  | 65 => ⟨S16x2048x4x128, .f32⟩
  | 66 => ⟨S16x2048x512, .f32⟩
  | 67 => ⟨S16x2048x512, .f32⟩
  | 68 => ⟨S_, .f32⟩
  | 69 => ⟨S16x2048x512, .f32⟩
  | 70 => ⟨S16x2048x512, .f32⟩
  | 71 => ⟨S_, .f32⟩
  | 72 => ⟨S16x2048x512, .f32⟩
  | 73 => ⟨S16x2048x512, .f32⟩
  | 74 => ⟨S16x2048x4x128, .f32⟩
  | 75 => ⟨S16x2048x4x128, .f32⟩
  | 76 => ⟨S16x2048x512, .f32⟩
  | 77 => ⟨S16x2048x512, .bf16⟩
  | _ => ⟨S16x2048x512, .bf16⟩

abbrev hbmTy (i : Nat) : BufTy := match i / 128 with
  | 0 => hbmTy0_0 i
  | 1 => hbmTy0_1 i
  | _ => ⟨S16x2048x512, .bf16⟩

abbrev bufTy : (tb : Table) → Fin (tcTables nBuf tb) → BufTy
  | .hbm, ⟨i, _⟩ => hbmTy i
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_call0_cst : Ref sig .tc := ⟨.hbm, 27, rfl⟩
abbrev main_call0_call0_v0 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_0 : Ref sig .tc := ⟨.hbm, 38, rfl⟩
abbrev main_call1_v5 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_c_3 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v28_3 : Ref sig .tc := ⟨.hbm, 53, rfl⟩
abbrev main_v28_4 : Ref sig .tc := ⟨.hbm, 54, rfl⟩
abbrev main_v28_5 : Ref sig .tc := ⟨.hbm, 55, rfl⟩
abbrev main_v28_6 : Ref sig .tc := ⟨.hbm, 56, rfl⟩
abbrev main_v28_7 : Ref sig .tc := ⟨.hbm, 57, rfl⟩
abbrev main_v28_8 : Ref sig .tc := ⟨.hbm, 58, rfl⟩
abbrev main_v28_9 : Ref sig .tc := ⟨.hbm, 59, rfl⟩
abbrev main_v28_10 : Ref sig .tc := ⟨.hbm, 60, rfl⟩
abbrev main_while0c_c_19 : Ref sig .tc := ⟨.hbm, 61, rfl⟩
abbrev main_while0c_v56 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_c_2 : Ref sig .tc := ⟨.hbm, 66, rfl⟩
abbrev main_while0b_call2_v0 : Ref sig .tc := ⟨.hbm, 67, rfl⟩
abbrev main_while0b_v56 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_c_1 : Ref sig .tc := ⟨.hbm, 71, rfl⟩
abbrev main_while0b_call3_c_2 : Ref sig .tc := ⟨.hbm, 72, rfl⟩
abbrev main_while0b_call3_v0 : Ref sig .tc := ⟨.hbm, 73, rfl⟩
abbrev main_while0b_v57 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_call4_c_2 : Ref sig .tc := ⟨.hbm, 78, rfl⟩
abbrev main_while0b_call4_v0 : Ref sig .tc := ⟨.hbm, 79, rfl⟩
abbrev main_while0b_v58 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v59 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_call6_v0 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_v68 : Ref sig .tc := ⟨.hbm, 98, rfl⟩
abbrev main_while0b_cst_19 : Ref sig .tc := ⟨.hbm, 99, rfl⟩
abbrev main_while0b_call7_v0 : Ref sig .tc := ⟨.hbm, 100, rfl⟩
abbrev main_while0b_call7_v1 : Ref sig .tc := ⟨.hbm, 101, rfl⟩
abbrev main_while0b_call7_v2 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_cst_20 : Ref sig .tc := ⟨.hbm, 107, rfl⟩
abbrev main_while0b_v73 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_cst_21 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_v92 : Ref sig .tc := ⟨.hbm, 128, rfl⟩
abbrev main_while0b_v93 : Ref sig .tc := ⟨.hbm, 129, rfl⟩
abbrev main_while0b_v94 : Ref sig .tc := ⟨.hbm, 130, rfl⟩
abbrev main_while0b_v95 : Ref sig .tc := ⟨.hbm, 131, rfl⟩
abbrev main_while0b_v96 : Ref sig .tc := ⟨.hbm, 132, rfl⟩
abbrev main_while0b_v97 : Ref sig .tc := ⟨.hbm, 133, rfl⟩
abbrev main_while0b_v98 : Ref sig .tc := ⟨.hbm, 134, rfl⟩
abbrev main_while0b_v99 : Ref sig .tc := ⟨.hbm, 135, rfl⟩
abbrev main_while0b_v100 : Ref sig .tc := ⟨.hbm, 136, rfl⟩
abbrev main_while0b_v101 : Ref sig .tc := ⟨.hbm, 137, rfl⟩
abbrev main_while0b_v102 : Ref sig .tc := ⟨.hbm, 138, rfl⟩
abbrev main_while0b_v103 : Ref sig .tc := ⟨.hbm, 139, rfl⟩
abbrev main_while0b_v104 : Ref sig .tc := ⟨.hbm, 140, rfl⟩
abbrev main_while0b_v105 : Ref sig .tc := ⟨.hbm, 141, rfl⟩
abbrev main_while0b_v106 : Ref sig .tc := ⟨.hbm, 142, rfl⟩
abbrev main_while0b_cst_22 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_v110 : Ref sig .tc := ⟨.hbm, 147, rfl⟩
abbrev main_while0b_v111 : Ref sig .tc := ⟨.hbm, 148, rfl⟩
abbrev main_while0b_v112 : Ref sig .tc := ⟨.hbm, 149, rfl⟩
abbrev main_while0b_v113 : Ref sig .tc := ⟨.hbm, 150, rfl⟩
abbrev main_while0b_v114 : Ref sig .tc := ⟨.hbm, 151, rfl⟩
abbrev main_while0b_v115 : Ref sig .tc := ⟨.hbm, 152, rfl⟩
abbrev main_while0b_v116 : Ref sig .tc := ⟨.hbm, 153, rfl⟩
abbrev main_while0b_v117 : Ref sig .tc := ⟨.hbm, 154, rfl⟩
abbrev main_while0b_v118 : Ref sig .tc := ⟨.hbm, 155, rfl⟩
abbrev main_while0b_v119 : Ref sig .tc := ⟨.hbm, 156, rfl⟩
abbrev main_while0b_v120 : Ref sig .tc := ⟨.hbm, 157, rfl⟩
abbrev main_while0b_v121 : Ref sig .tc := ⟨.hbm, 158, rfl⟩
abbrev main_while0b_v122 : Ref sig .tc := ⟨.hbm, 159, rfl⟩
abbrev main_while0b_v123 : Ref sig .tc := ⟨.hbm, 160, rfl⟩
abbrev main_while0b_v124 : Ref sig .tc := ⟨.hbm, 161, rfl⟩
abbrev main_while0b_v125 : Ref sig .tc := ⟨.hbm, 162, rfl⟩
abbrev main_while0b_v126 : Ref sig .tc := ⟨.hbm, 163, rfl⟩
abbrev main_while0b_v127 : Ref sig .tc := ⟨.hbm, 164, rfl⟩
abbrev main_while0b_v128 : Ref sig .tc := ⟨.hbm, 165, rfl⟩
abbrev main_while0b_call8_v0 : Ref sig .tc := ⟨.hbm, 166, rfl⟩
abbrev main_while0b_call8_c : Ref sig .tc := ⟨.hbm, 167, rfl⟩
abbrev main_while0b_call8_c_0 : Ref sig .tc := ⟨.hbm, 168, rfl⟩
abbrev main_while0b_call8_c_1 : Ref sig .tc := ⟨.hbm, 169, rfl⟩
abbrev main_while0b_call8_c_2 : Ref sig .tc := ⟨.hbm, 170, rfl⟩
abbrev main_while0b_v129 : Ref sig .tc := ⟨.hbm, 171, rfl⟩
abbrev main_while0b_c_23 : Ref sig .tc := ⟨.hbm, 172, rfl⟩
abbrev main_while0b_v130 : Ref sig .tc := ⟨.hbm, 173, rfl⟩
abbrev main_v29 : Ref sig .tc := ⟨.hbm, 174, rfl⟩
abbrev main_v30 : Ref sig .tc := ⟨.hbm, 175, rfl⟩
abbrev main_v31 : Ref sig .tc := ⟨.hbm, 176, rfl⟩
abbrev main_v32 : Ref sig .tc := ⟨.hbm, 177, rfl⟩
abbrev main_v33 : Ref sig .tc := ⟨.hbm, 178, rfl⟩
abbrev main_cst_4 : Ref sig .tc := ⟨.hbm, 179, rfl⟩
abbrev main_v34 : Ref sig .tc := ⟨.hbm, 180, rfl⟩
abbrev main_v35 : Ref sig .tc := ⟨.hbm, 181, rfl⟩
abbrev main_cst_5 : Ref sig .tc := ⟨.hbm, 182, rfl⟩
abbrev main_v36 : Ref sig .tc := ⟨.hbm, 183, rfl⟩
abbrev main_v37 : Ref sig .tc := ⟨.hbm, 184, rfl⟩
abbrev main_cst_6 : Ref sig .tc := ⟨.hbm, 185, rfl⟩
abbrev main_v38 : Ref sig .tc := ⟨.hbm, 186, rfl⟩
abbrev main_v39 : Ref sig .tc := ⟨.hbm, 187, rfl⟩
abbrev main_v40 : Ref sig .tc := ⟨.hbm, 188, rfl⟩
abbrev main_v41 : Ref sig .tc := ⟨.hbm, 189, rfl⟩
abbrev main_v42 : Ref sig .tc := ⟨.hbm, 190, rfl⟩
abbrev main_v43 : Ref sig .tc := ⟨.hbm, 191, rfl⟩
abbrev main_v44 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩
abbrev main_cst_7 : Ref sig .tc := ⟨.hbm, 196, rfl⟩
abbrev main_v48 : Ref sig .tc := ⟨.hbm, 197, rfl⟩
abbrev main_v49 : Ref sig .tc := ⟨.hbm, 198, rfl⟩
abbrev main_cst_8 : Ref sig .tc := ⟨.hbm, 199, rfl⟩
abbrev main_v50 : Ref sig .tc := ⟨.hbm, 200, rfl⟩
abbrev main_v51 : Ref sig .tc := ⟨.hbm, 201, rfl⟩
abbrev main_v52 : Ref sig .tc := ⟨.hbm, 202, rfl⟩
abbrev main_v53 : Ref sig .tc := ⟨.hbm, 203, rfl⟩
abbrev main_v54 : Ref sig .tc := ⟨.hbm, 204, rfl⟩
abbrev main_v55 : Ref sig .tc := ⟨.hbm, 205, rfl⟩

abbrev nD : Nat := 1
abbrev τ : Topo := Topo.v7x

variable {F : FTy → Type} [FloatOps F]

abbrev main_while0_count : Scf.Loop 32 := ⟨0#32, 32#32, 1#32⟩
-- ==== Inp.lean ====
abbrev S16x2048x1024 : Shape := ⟨3, ![16, 2048, 1024]⟩
abbrev S16x6x1024 : Shape := ⟨3, ![16, 6, 1024]⟩
abbrev S2x1024 : Shape := ⟨2, ![2, 1024]⟩
abbrev S2x1024x3408 : Shape := ⟨3, ![2, 1024, 3408]⟩
abbrev S2x256 : Shape := ⟨2, ![2, 256]⟩
abbrev S2x256x512 : Shape := ⟨3, ![2, 256, 512]⟩
abbrev S2x4x1024 : Shape := ⟨3, ![2, 4, 1024]⟩
abbrev S2x4 : Shape := ⟨2, ![2, 4]⟩
abbrev S16x2048x128 : Shape := ⟨3, ![16, 2048, 128]⟩
abbrev S2x1024x256 : Shape := ⟨3, ![2, 1024, 256]⟩
abbrev S2x1024x512 : Shape := ⟨3, ![2, 1024, 512]⟩
abbrev S2x1024x64 : Shape := ⟨3, ![2, 1024, 64]⟩
abbrev S2x1024x8 : Shape := ⟨3, ![2, 1024, 8]⟩
abbrev S2x1024x4 : Shape := ⟨3, ![2, 1024, 4]⟩
abbrev S_ : Shape := ⟨0, ![]⟩
abbrev S2x1024x48 : Shape := ⟨3, ![2, 1024, 48]⟩
abbrev S2x1024x128 : Shape := ⟨3, ![2, 1024, 128]⟩
abbrev S2x1024x3456 : Shape := ⟨3, ![2, 1024, 3456]⟩
abbrev S2x256x1024 : Shape := ⟨3, ![2, 256, 1024]⟩
abbrev S1x128 : Shape := ⟨2, ![1, 128]⟩
abbrev S1x4 : Shape := ⟨2, ![1, 4]⟩
abbrev S4 : Shape := ⟨1, ![4]⟩
abbrev S1 : Shape := ⟨1, ![1]⟩
abbrev S2 : Shape := ⟨1, ![2]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S1x4x1024 : Shape := ⟨3, ![1, 4, 1024]⟩
abbrev S4x1024 : Shape := ⟨2, ![4, 1024]⟩
abbrev S16x4x4x128x1024 : Shape := ⟨5, ![16, 4, 4, 128, 1024]⟩
abbrev S16x4x64x4096 : Shape := ⟨4, ![16, 4, 64, 4096]⟩
abbrev S16x2048x512 : Shape := ⟨3, ![16, 2048, 512]⟩
abbrev S16x512x2048 : Shape := ⟨3, ![16, 512, 2048]⟩
abbrev S16x2048x64 : Shape := ⟨3, ![16, 2048, 64]⟩
abbrev S16x8x2048 : Shape := ⟨3, ![16, 8, 2048]⟩
abbrev S1x512x1024 : Shape := ⟨3, ![1, 512, 1024]⟩
abbrev S1x6x1024 : Shape := ⟨3, ![1, 6, 1024]⟩
abbrev S1x1024x3456 : Shape := ⟨3, ![1, 1024, 3456]⟩
abbrev S1x256x1024 : Shape := ⟨3, ![1, 256, 1024]⟩
abbrev S1x512x128 : Shape := ⟨3, ![1, 512, 128]⟩
abbrev S1x1x4x128x1024 : Shape := ⟨5, ![1, 1, 4, 128, 1024]⟩
abbrev S1x1x64x4096 : Shape := ⟨4, ![1, 1, 64, 4096]⟩
abbrev S1x512x512 : Shape := ⟨3, ![1, 512, 512]⟩
abbrev S1x512x64 : Shape := ⟨3, ![1, 512, 64]⟩
abbrev S1x8x512 : Shape := ⟨3, ![1, 8, 512]⟩
abbrev S520x1024 : Shape := ⟨2, ![520, 1024]⟩
abbrev S8x1024 : Shape := ⟨2, ![8, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩
abbrev S256x1024 : Shape := ⟨2, ![256, 1024]⟩
abbrev S64x512 : Shape := ⟨2, ![64, 512]⟩
abbrev S1x1x1x64x512 : Shape := ⟨5, ![1, 1, 1, 64, 512]⟩
abbrev S1x1x64x512 : Shape := ⟨4, ![1, 1, 64, 512]⟩
abbrev S1x1024x512 : Shape := ⟨3, ![1, 1024, 512]⟩
abbrev S1024x512 : Shape := ⟨2, ![1024, 512]⟩
abbrev S1x1024x128 : Shape := ⟨3, ![1, 1024, 128]⟩
abbrev S1024x128 : Shape := ⟨2, ![1024, 128]⟩
abbrev S128x512 : Shape := ⟨2, ![128, 512]⟩
abbrev S512x64 : Shape := ⟨2, ![512, 64]⟩
abbrev S8x512 : Shape := ⟨2, ![8, 512]⟩
abbrev S1x1024x1024 : Shape := ⟨3, ![1, 1024, 1024]⟩
abbrev S1024x1024 : Shape := ⟨2, ![1024, 1024]⟩

abbrev nBuf : Space → Nat
  | .hbm => 71
  | .vmem => 38
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S2x1024, .f32⟩
  | .hbm, ⟨3, _⟩ => ⟨S2x1024x3408, .f32⟩
  | .hbm, ⟨4, _⟩ => ⟨S2x256, .f32⟩
  | .hbm, ⟨5, _⟩ => ⟨S2x256x512, .f32⟩
  | .hbm, ⟨6, _⟩ => ⟨S2x256x512, .f32⟩
  | .hbm, ⟨7, _⟩ => ⟨S2x4x1024, .f32⟩
  | .hbm, ⟨8, _⟩ => ⟨S2x1024, .f32⟩
  | .hbm, ⟨9, _⟩ => ⟨S2x4, .f32⟩
  | .hbm, ⟨10, _⟩ => ⟨S2x4, .f32⟩
  | .hbm, ⟨11, _⟩ => ⟨S16x2048x128, .f32⟩
  | .hbm, ⟨12, _⟩ => ⟨S16x2048x128, .f32⟩
  | .hbm, ⟨13, _⟩ => ⟨S2x1024x256, .f32⟩
  | .hbm, ⟨14, _⟩ => ⟨S2x1024x512, .f32⟩
  | .hbm, ⟨15, _⟩ => ⟨S2x1024x512, .f32⟩
  | .hbm, ⟨16, _⟩ => ⟨S2x1024x64, .f32⟩
  | .hbm, ⟨17, _⟩ => ⟨S2x1024x8, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S2x1024x512, .f32⟩
  | .hbm, ⟨22, _⟩ => ⟨S2x1024x4, .f32⟩
  | .hbm, ⟨23, _⟩ => ⟨S2x1024x4, .f32⟩
  | .hbm, ⟨24, _⟩ => ⟨S_, .f32⟩
  | .hbm, ⟨25, _⟩ => ⟨S2x1024x48, .f32⟩
  | .hbm, ⟨26, _⟩ => ⟨S2x1024x128, .f32⟩
  | .hbm, ⟨27, _⟩ => ⟨S2x1024x3456, .f32⟩
  | .hbm, ⟨28, _⟩ => ⟨S2x1024x3456, .bf16⟩
  | .hbm, ⟨29, _⟩ => ⟨S2x256x1024, .f32⟩
  | .hbm, ⟨30, _⟩ => ⟨S2x256x1024, .bf16⟩
  | .hbm, ⟨31, _⟩ => ⟨S_, .f32⟩
  | .hbm, ⟨32, _⟩ => ⟨S1x128, .f32⟩
  | .hbm, ⟨33, _⟩ => ⟨S1x4, .f32⟩
  | .hbm, ⟨34, _⟩ => ⟨S4, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S1x4, .f32⟩
  | .hbm, ⟨42, _⟩ => ⟨S4, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x128, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1x256, .f32⟩
  | .hbm, ⟨53, _⟩ => ⟨S256, .f32⟩
  | .hbm, ⟨54, _⟩ => ⟨S1x256, .f32⟩
  | .hbm, ⟨55, _⟩ => ⟨S1x4x1024, .f32⟩
  | .hbm, ⟨56, _⟩ => ⟨S4x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S16x4x4x128x1024, .bf16⟩
  | .hbm, ⟨61, _⟩ => ⟨S16x4x64x4096, .bf16⟩
  | .hbm, ⟨62, _⟩ => ⟨S16x2048x512, .bf16⟩
  | .hbm, ⟨63, _⟩ => ⟨S16x512x2048, .bf16⟩
  | .hbm, ⟨64, _⟩ => ⟨S16x2048x64, .bf16⟩
  | .hbm, ⟨65, _⟩ => ⟨S16x8x2048, .f32⟩
  | .hbm, ⟨66, _⟩ => ⟨S16x8x2048, .f32⟩
  | .hbm, ⟨67, _⟩ => ⟨S16x2048x512, .bf16⟩
  | .hbm, ⟨68, _⟩ => ⟨S16x2048x512, .bf16⟩
  | .hbm, ⟨69, _⟩ => ⟨S16x2048x512, .bf16⟩
  | .hbm, ⟨70, _⟩ => ⟨S16x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x3456, .bf16⟩
  | .local _ .vmem, ⟨6, _⟩ => ⟨S1x256, .f32⟩
  | .local _ .vmem, ⟨7, _⟩ => ⟨S1x256x1024, .bf16⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x1x4x128x1024, .bf16⟩
  | .local _ .vmem, ⟨16, _⟩ => ⟨S1x1x4x128x1024, .bf16⟩
  | .local _ .vmem, ⟨17, _⟩ => ⟨S1x1x64x4096, .bf16⟩
  | .local _ .vmem, ⟨18, _⟩ => ⟨S1x1x64x4096, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x64, .bf16⟩
  | .local _ .vmem, ⟨24, _⟩ => ⟨S1x512x64, .bf16⟩
  | .local _ .vmem, ⟨25, _⟩ => ⟨S1x8x512, .f32⟩
  | .local _ .vmem, ⟨26, _⟩ => ⟨S1x8x512, .f32⟩
  | .local _ .vmem, ⟨27, _⟩ => ⟨S1x8x512, .f32⟩
  | .local _ .vmem, ⟨28, _⟩ => ⟨S1x8x512, .f32⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x512x512, .f32⟩
  | .local _ .vmem, ⟨36, _⟩ => ⟨S1x512x512, .f32⟩
  | .local _ .vmem, ⟨37, _⟩ => ⟨S520x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v41_3 : Ref sig .tc := ⟨.hbm, 63, rfl⟩
abbrev main_v41_4 : Ref sig .tc := ⟨.hbm, 64, rfl⟩
abbrev main_v41_5 : Ref sig .tc := ⟨.hbm, 65, rfl⟩
abbrev main_v41_6 : Ref sig .tc := ⟨.hbm, 66, rfl⟩
abbrev main_v41_7 : Ref sig .tc := ⟨.hbm, 67, rfl⟩
abbrev main_v41_8 : Ref sig .tc := ⟨.hbm, 68, rfl⟩
abbrev main_v41_9 : Ref sig .tc := ⟨.hbm, 69, rfl⟩
abbrev main_v41_10 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x64x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== InpRefIdeal.lean ====
abbrev S16x2048x1024 : Shape := ⟨3, ![16, 2048, 1024]⟩
abbrev S16x6x1024 : Shape := ⟨3, ![16, 6, 1024]⟩
abbrev S2x1024 : Shape := ⟨2, ![2, 1024]⟩
abbrev S2x1024x3408 : Shape := ⟨3, ![2, 1024, 3408]⟩
abbrev S2x256 : Shape := ⟨2, ![2, 256]⟩
abbrev S2x256x512 : Shape := ⟨3, ![2, 256, 512]⟩
abbrev S2x4x1024 : Shape := ⟨3, ![2, 4, 1024]⟩
abbrev S2x4 : Shape := ⟨2, ![2, 4]⟩
abbrev S16x2048x128 : Shape := ⟨3, ![16, 2048, 128]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x1024 : Shape := ⟨2, ![16, 1024]⟩
abbrev S1x1024x3408 : Shape := ⟨3, ![1, 1024, 3408]⟩
abbrev S1024x3408 : Shape := ⟨2, ![1024, 3408]⟩
abbrev S16x2048x3408 : Shape := ⟨3, ![16, 2048, 3408]⟩
abbrev S16x2048x256 : Shape := ⟨3, ![16, 2048, 256]⟩
abbrev S16x2048x512 : Shape := ⟨3, ![16, 2048, 512]⟩
abbrev S16x2048x64 : Shape := ⟨3, ![16, 2048, 64]⟩
abbrev S16x2048x8 : Shape := ⟨3, ![16, 2048, 8]⟩
abbrev S16x2048x4 : Shape := ⟨3, ![16, 2048, 4]⟩
abbrev S16x2048x1x2x64 : Shape := ⟨5, ![16, 2048, 1, 2, 64]⟩
abbrev S1x256 : Shape := ⟨2, ![1, 256]⟩
abbrev S256 : Shape := ⟨1, ![256]⟩
abbrev S1x1x256 : Shape := ⟨3, ![1, 1, 256]⟩
abbrev S1x256x512 : Shape := ⟨3, ![1, 256, 512]⟩
abbrev S256x512 : Shape := ⟨2, ![256, 512]⟩
abbrev S16x2048x4x2x64 : Shape := ⟨5, ![16, 2048, 4, 2, 64]⟩
abbrev S16x2048x4x2x32 : Shape := ⟨5, ![16, 2048, 4, 2, 32]⟩
abbrev S16x2048x1x1x64 : Shape := ⟨5, ![16, 2048, 1, 1, 64]⟩
abbrev S16x2048x32 : Shape := ⟨3, ![16, 2048, 32]⟩
abbrev S1x4x1024 : Shape := ⟨3, ![1, 4, 1024]⟩
abbrev S4x1024 : Shape := ⟨2, ![4, 1024]⟩
abbrev S16x2051x1024 : Shape := ⟨3, ![16, 2051, 1024]⟩
abbrev S1x4 : Shape := ⟨2, ![1, 4]⟩
abbrev S4 : Shape := ⟨1, ![4]⟩
abbrev S1x1x4 : Shape := ⟨3, ![1, 1, 4]⟩
abbrev S16x4x2048 : Shape := ⟨3, ![16, 4, 2048]⟩
abbrev S16x4x512x4x2x64 : Shape := ⟨6, ![16, 4, 512, 4, 2, 64]⟩
abbrev S16x4x4x2x64x512 : Shape := ⟨6, ![16, 4, 4, 2, 64, 512]⟩
abbrev S2x2 : Shape := ⟨2, ![2, 2]⟩
abbrev S2x1x2x1 : Shape := ⟨4, ![2, 1, 2, 1]⟩
abbrev S16x4x4x2x64x1x512 : Shape := ⟨7, ![16, 4, 4, 2, 64, 1, 512]⟩
abbrev S16x4x4x2x64x2x512 : Shape := ⟨7, ![16, 4, 4, 2, 64, 2, 512]⟩
abbrev S16x4x4x128x1024 : Shape := ⟨5, ![16, 4, 4, 128, 1024]⟩
abbrev S16x4x512x8x64 : Shape := ⟨5, ![16, 4, 512, 8, 64]⟩
abbrev S16x4x64x8x512 : Shape := ⟨5, ![16, 4, 64, 8, 512]⟩
abbrev S16x4x64x4096 : Shape := ⟨4, ![16, 4, 64, 4096]⟩
abbrev S16x512x2048 : Shape := ⟨3, ![16, 512, 2048]⟩
abbrev S16x8x2048 : Shape := ⟨3, ![16, 8, 2048]⟩

abbrev nBuf : Space → Nat
  | .hbm => 242
  | .vmem => 0
  | .smem => 0
  | _ => 0

abbrev hbmTy0_0 (i : Nat) : BufTy := match i % 128 with
  | 0 => ⟨S16x2048x1024, .f32⟩
  | 1 => ⟨S16x6x1024, .f32⟩
  | 2 => ⟨S2x1024, .f32⟩
  | 3 => ⟨S2x1024x3408, .f32⟩
  | 4 => ⟨S2x256, .f32⟩
  | 5 => ⟨S2x256x512, .f32⟩
  | 6 => ⟨S2x256x512, .f32⟩
  | 7 => ⟨S2x4x1024, .f32⟩
  | 8 => ⟨S2x1024, .f32⟩
  | 9 => ⟨S2x4, .f32⟩
  | 10 => ⟨S2x4, .f32⟩
  | 11 => ⟨S16x2048x128, .f32⟩
  | 12 => ⟨S16x2048x128, .f32⟩
  | 13 => ⟨S1x1024, .f32⟩
  | 14 => ⟨S1024, .f32⟩
  | 15 => ⟨S16x2048x1024, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .f32⟩
  | 23 => ⟨S16x2048x1, .f32⟩
  | 24 => ⟨S16x2048x1, .f32⟩
  | 25 => ⟨S16x2048x1, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | 31 => ⟨S16x1x1024, .f32⟩
  | 32 => ⟨S16x1024, .f32⟩
  | 33 => ⟨S16x1x1024, .f32⟩
  | 34 => ⟨S_, .f32⟩
  | 35 => ⟨S16x1x1024, .f32⟩
  | 36 => ⟨S16x1x1024, .f32⟩
  | 37 => ⟨S16x2048x1024, .f32⟩
  | 38 => ⟨S16x2048x1024, .f32⟩
  | 39 => ⟨S16x1x1024, .f32⟩
  | 40 => ⟨S16x1024, .f32⟩
  | 41 => ⟨S16x1x1024, .f32⟩
  | 42 => ⟨S16x2048x1024, .f32⟩
  | 43 => ⟨S16x2048x1024, .f32⟩
  | 44 => ⟨S1x1024x3408, .f32⟩
  | 45 => ⟨S1024x3408, .f32⟩
  | 46 => ⟨S16x2048x3408, .f32⟩
  | 47 => ⟨S16x2048x256, .f32⟩
  | 48 => ⟨S16x2048x512, .f32⟩
  | 49 => ⟨S16x2048x512, .f32⟩
  | 50 => ⟨S16x2048x64, .f32⟩
  | 51 => ⟨S16x2048x8, .f32⟩
  | 52 => ⟨S16x2048x512, .f32⟩
  | 53 => ⟨S16x2048x512, .f32⟩
  | 54 => ⟨S16x2048x512, .f32⟩
  | 55 => ⟨S16x2048x512, .f32⟩
  | 56 => ⟨S16x2048x4, .f32⟩
  | 57 => ⟨S16x2048x4, .f32⟩
  | 58 => ⟨S16x2048x1x2x64, .f32⟩
  | 59 => ⟨S16x2048x1x2x64, .f32⟩
  | 60 => ⟨S1x256, .f32⟩
  | 61 => ⟨S256, .f32⟩
  | 62 => ⟨S16x2048x256, .f32⟩
  | 63 => ⟨S_, .f32⟩
  | 64 => ⟨S16x2048, .f32⟩
  | 65 => ⟨S16x2048x1, .f32⟩
  | 66 => ⟨S_, .f32⟩
  | 67 => ⟨S16x2048x1, .f32⟩
  | 68 => ⟨S16x2048x1, .f32⟩
  | 69 => ⟨S_, .f32⟩
  | 70 => ⟨S16x2048x1, .f32⟩
  | 71 => ⟨S16x2048x1, .f32⟩
  | 72 => ⟨S16x2048x1, .f32⟩
  | 73 => ⟨S16x2048x256, .f32⟩
  | 74 => ⟨S16x2048x256, .f32⟩
  | 75 => ⟨S1x1x256, .f32⟩
  | 76 => ⟨S16x2048x256, .f32⟩
  | 77 => ⟨S16x2048x256, .f32⟩
  | 78 => ⟨S1x256x512, .f32⟩
  | 79 => ⟨S256x512, .f32⟩
  | 80 => ⟨S16x2048x512, .f32⟩
  | 81 => ⟨S16x2048x4x2x64, .f32⟩
  | 82 => ⟨S16x2048x4x2x32, .f32⟩
  | 83 => ⟨S16x2048x4x2x32, .f32⟩
  | 84 => ⟨S16x2048x4x2x64, .f32⟩
  | 85 => ⟨S16x2048x4x2x64, .f32⟩
  | 86 => ⟨S16x2048x4x2x64, .f32⟩
  | 87 => ⟨S16x2048x4x2x64, .f32⟩
  | 88 => ⟨S16x2048x4x2x64, .f32⟩
  | 89 => ⟨S16x2048x4x2x64, .f32⟩
  | 90 => ⟨S_, .f32⟩
  | 91 => ⟨S16x2048x4x2x64, .f32⟩
  | 92 => ⟨S16x2048x4x2x64, .f32⟩
  | 93 => ⟨S1x256x512, .f32⟩
  | 94 => ⟨S256x512, .f32⟩
  | 95 => ⟨S16x2048x512, .f32⟩
  | 96 => ⟨S16x2048x4x2x64, .f32⟩
  | 97 => ⟨S16x2048x4x2x32, .f32⟩
  | 98 => ⟨S16x2048x4x2x32, .f32⟩
  | 99 => ⟨S16x2048x4x2x64, .f32⟩
  | 100 => ⟨S16x2048x4x2x64, .f32⟩
  | 101 => ⟨S16x2048x4x2x64, .f32⟩
  | 102 => ⟨S16x2048x4x2x64, .f32⟩
  | 103 => ⟨S16x2048x4x2x64, .f32⟩
  | 104 => ⟨S16x2048x4x2x64, .f32⟩
  | 105 => ⟨S16x2048x4x2x64, .f32⟩
  | 106 => ⟨S16x2048x4x2x32, .f32⟩
  | 107 => ⟨S16x2048x4x2x32, .f32⟩
  | 108 => ⟨S16x2048x4x2x64, .f32⟩
  | 109 => ⟨S16x2048x4x2x64, .f32⟩
  | 110 => ⟨S16x2048x4x2x64, .f32⟩
  | 111 => ⟨S16x2048x4x2x64, .f32⟩
  | 112 => ⟨S16x2048x4x2x64, .f32⟩
  | 113 => ⟨S16x2048x4x2x64, .f32⟩
  | 114 => ⟨S16x2048x1x1x64, .f32⟩
  | 115 => ⟨S16x2048x64, .f32⟩
  | 116 => ⟨S16x2048x1x1x64, .f32⟩
  | 117 => ⟨S16x2048x64, .f32⟩
  | 118 => ⟨S16x2048x32, .f32⟩
  | 119 => ⟨S16x2048x32, .f32⟩
  | 120 => ⟨S16x2048x64, .f32⟩
  | 121 => ⟨S16x2048x64, .f32⟩
  | 122 => ⟨S16x2048x64, .f32⟩
  | 123 => ⟨S16x2048x64, .f32⟩
  | 124 => ⟨S_, .f32⟩
  | 125 => ⟨S16x2048x8, .f32⟩
  | 126 => ⟨S16x2048x8, .f32⟩
  | 127 => ⟨S16x2048x1024, .f32⟩
  | _ => ⟨S16x2048x1024, .f32⟩

abbrev hbmTy0_1 (i : Nat) : BufTy := match i % 128 with
  | 0 => ⟨S1x4x1024, .f32⟩
  | 1 => ⟨S4x1024, .f32⟩
  | 2 => ⟨S1x1024, .f32⟩
  | 3 => ⟨S1024, .f32⟩
  | 4 => ⟨S_, .i32⟩
  | 5 => ⟨S_, .f32⟩
  | 6 => ⟨S16x2051x1024, .f32⟩
  | 7 => ⟨S16x2048x1024, .f32⟩
  | 8 => ⟨S1x1024, .f32⟩
  | 9 => ⟨S1024, .f32⟩
  | 10 => ⟨S1x1x1024, .f32⟩
  | 11 => ⟨S16x2048x1024, .f32⟩
  | 12 => ⟨S16x2048x1024, .f32⟩
  | 13 => ⟨S_, .f32⟩
  | 14 => ⟨S16x2048x1024, .f32⟩
  | 15 => ⟨S16x2048x1024, .f32⟩
  | 16 => ⟨S16x2048x1024, .f32⟩
  | 17 => ⟨S1x1024, .f32⟩
  | 18 => ⟨S1024, .f32⟩
  | 19 => ⟨S1x1x1024, .f32⟩
  | 20 => ⟨S16x2048x1024, .f32⟩
  | 21 => ⟨S16x2048x1024, .f32⟩
  | 22 => ⟨S16x2048x1024, .f32⟩
  | 23 => ⟨S16x2048x1024, .f32⟩
  | 24 => ⟨S1x1024, .f32⟩
  | 25 => ⟨S1024, .f32⟩
  | 26 => ⟨S1x1x1024, .f32⟩
  | 27 => ⟨S16x2048x1024, .f32⟩
  | 28 => ⟨S16x2048x1024, .f32⟩
  | 29 => ⟨S16x2048x1024, .f32⟩
  | 30 => ⟨S16x2048x1024, .f32⟩
  | 31 => ⟨S1x1024, .f32⟩
  | 32 => ⟨S1024, .f32⟩
  | 33 => ⟨S1x1x1024, .f32⟩
  | 34 => ⟨S16x2048x1024, .f32⟩
  | 35 => ⟨S16x2048x1024, .f32⟩
  | 36 => ⟨S16x2048x1024, .f32⟩
  | 37 => ⟨S1x1x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S_, .f32⟩
  | 43 => ⟨S16x2048x1024, .f32⟩
  | 44 => ⟨S16x2048x1024, .f32⟩
  | 45 => ⟨S_, .f32⟩
  | 46 => ⟨S16x2048x1024, .f32⟩
  | 47 => ⟨S16x2048x1024, .f32⟩
  | 48 => ⟨S16x2048x1024, .f32⟩
  | 49 => ⟨S16x2048x512, .f32⟩
  | 50 => ⟨S16x2048x512, .f32⟩
  | 51 => ⟨S1x4, .f32⟩
  | 52 => ⟨S4, .f32⟩
  | 53 => ⟨S1x1x4, .f32⟩
  | 54 => ⟨S16x2048x4, .f32⟩
  | 55 => ⟨S16x2048x4, .f32⟩
  | 56 => ⟨S16x4x2048, .f32⟩
  | 57 => ⟨S1x4, .f32⟩
  | 58 => ⟨S4, .f32⟩
  | 59 => ⟨S1x1x4, .f32⟩
  | 60 => ⟨S16x2048x4, .f32⟩
  | 61 => ⟨S16x2048x4, .f32⟩
  | 62 => ⟨S16x2048x4, .f32⟩
  | 63 => ⟨S_, .f32⟩
  | 64 => ⟨S16x2048x4, .f32⟩
  | 65 => ⟨S16x2048x4, .f32⟩
  | 66 => ⟨S16x2048x4, .f32⟩
  | 67 => ⟨S16x2048x4, .f32⟩
  | 68 => ⟨S16x2048x4, .i1⟩
  | 69 => ⟨S16x2048x4, .f32⟩
  | 70 => ⟨S16x2048x4, .f32⟩
  | 71 => ⟨S16x2048x4, .f32⟩
  | 72 => ⟨S16x2048x4, .f32⟩
  | 73 => ⟨S16x2048x4, .f32⟩
  | 74 => ⟨S16x2048x4, .f32⟩
  | 75 => ⟨S16x2048x4, .f32⟩
  | 76 => ⟨S16x2048x4, .f32⟩
  | 77 => ⟨S16x2048x4, .f32⟩
  | 78 => ⟨S16x4x2048, .f32⟩
  | 79 => ⟨S16x4x512x4x2x64, .f32⟩
  | 80 => ⟨S16x4x4x2x64x512, .f32⟩
  | 81 => ⟨S2x2, .i32⟩
  | 82 => ⟨S2x2, .i32⟩
  | 83 => ⟨S_, .i32⟩
  | 84 => ⟨S2x2, .i32⟩
  | 85 => ⟨S2x2, .i32⟩
  | 86 => ⟨S2x2, .i1⟩
  | 87 => ⟨S2x1x2x1, .i1⟩
  | 88 => ⟨S16x4x4x2x64x1x512, .f32⟩
  | 89 => ⟨S_, .f32⟩
  | 90 => ⟨S_, .f32⟩
  | 91 => ⟨S16x4x4x2x64x2x512, .i1⟩
  | 92 => ⟨S16x4x4x2x64x2x512, .f32⟩
  | 93 => ⟨S16x4x4x2x64x2x512, .f32⟩
  | 94 => ⟨S16x4x4x2x64x2x512, .f32⟩
  | 95 => ⟨S16x4x4x128x1024, .f32⟩
  | 96 => ⟨S16x4x512x8x64, .f32⟩
  | 97 => ⟨S16x4x64x8x512, .f32⟩
  | 98 => ⟨S16x4x64x4096, .f32⟩
  | 99 => ⟨S16x4x4x128x1024, .bf16⟩
  | 100 => ⟨S16x4x64x4096, .bf16⟩
  | 101 => ⟨S16x2048x512, .f32⟩
  | 102 => ⟨S16x2048x512, .bf16⟩
  | 103 => ⟨S16x512x2048, .f32⟩
  | 104 => ⟨S16x512x2048, .bf16⟩
  | 105 => ⟨S16x2048x64, .bf16⟩
  | 106 => ⟨S16x8x2048, .f32⟩
  | 107 => ⟨S16x8x2048, .f32⟩
  | 108 => ⟨S_, .f32⟩
  | 109 => ⟨S16x2048x512, .f32⟩
  | 110 => ⟨S16x2048x512, .f32⟩
  | 111 => ⟨S16x2048x512, .bf16⟩
  | 112 => ⟨S16x2048x512, .bf16⟩
  | 113 => ⟨S16x2048x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_6 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_7 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_c : Ref sig .tc := ⟨.hbm, 132, rfl⟩
abbrev main_call0_v0 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_8 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_call1_v0 : Ref sig .tc := ⟨.hbm, 168, rfl⟩
abbrev main_call1_v1 : Ref sig .tc := ⟨.hbm, 169, rfl⟩
abbrev main_call1_cst : Ref sig .tc := ⟨.hbm, 170, rfl⟩
abbrev main_call1_v2 : Ref sig .tc := ⟨.hbm, 171, rfl⟩
abbrev main_call1_v3 : Ref sig .tc := ⟨.hbm, 172, rfl⟩
abbrev main_call1_cst_0 : Ref sig .tc := ⟨.hbm, 173, rfl⟩
abbrev main_call1_v4 : Ref sig .tc := ⟨.hbm, 174, rfl⟩
abbrev main_call1_v5 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_call2_v0 : Ref sig .tc := ⟨.hbm, 190, rfl⟩
abbrev main_call2_call0_cst : Ref sig .tc := ⟨.hbm, 191, rfl⟩
abbrev main_call2_call0_v0 : Ref sig .tc := ⟨.hbm, 192, rfl⟩
abbrev main_call2_call0_v1 : Ref sig .tc := ⟨.hbm, 193, rfl⟩
abbrev main_call2_call0_v2 : Ref sig .tc := ⟨.hbm, 194, rfl⟩
abbrev main_call2_call0_v3 : Ref sig .tc := ⟨.hbm, 195, rfl⟩
abbrev main_call2_call0_v4 : Ref sig .tc := ⟨.hbm, 196, rfl⟩
abbrev main_call2_call0_v5 : Ref sig .tc := ⟨.hbm, 197, rfl⟩
abbrev main_call2_call0_v6 : Ref sig .tc := ⟨.hbm, 198, rfl⟩
abbrev main_call2_call0_v7 : Ref sig .tc := ⟨.hbm, 199, rfl⟩
abbrev main_call2_call0_v8 : Ref sig .tc := ⟨.hbm, 200, rfl⟩
abbrev main_call2_call0_v9 : Ref sig .tc := ⟨.hbm, 201, rfl⟩
abbrev main_call2_call0_v10 : Ref sig .tc := ⟨.hbm, 202, rfl⟩
abbrev main_call2_call0_v11 : Ref sig .tc := ⟨.hbm, 203, rfl⟩
abbrev main_call2_v1 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_c_9 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_10 : Ref sig .tc := ⟨.hbm, 217, rfl⟩
abbrev main_call3_v0 : Ref sig .tc := ⟨.hbm, 218, rfl⟩
abbrev main_call3_v1 : Ref sig .tc := ⟨.hbm, 219, rfl⟩
abbrev main_call3_v2 : Ref sig .tc := ⟨.hbm, 220, rfl⟩
abbrev main_call3_v3 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_11 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩

abbrev nD : Nat := 1
abbrev τ : Topo := Topo.v7x

variable {F : FTy → Type} [FloatOps F]
-- ==== Tab.lean ====
abbrev S16x2048 : Shape := ⟨2, ![16, 2048]⟩
abbrev S1x128 : Shape := ⟨2, ![1, 128]⟩
abbrev S32 : Shape := ⟨1, ![32]⟩
abbrev S_ : Shape := ⟨0, ![]⟩
abbrev S16x1x2048 : Shape := ⟨3, ![16, 1, 2048]⟩
abbrev S32x1 : Shape := ⟨2, ![32, 1]⟩
abbrev S16x2048x128 : Shape := ⟨3, ![16, 2048, 128]⟩
abbrev S1x1x512 : Shape := ⟨3, ![1, 1, 512]⟩
abbrev S1x512x128 : Shape := ⟨3, ![1, 512, 128]⟩
abbrev S1x512 : Shape := ⟨2, ![1, 512]⟩
abbrev S32x512 : Shape := ⟨2, ![32, 512]⟩
abbrev S128x512 : Shape := ⟨2, ![128, 512]⟩
abbrev S512x128 : Shape := ⟨2, ![512, 128]⟩

abbrev nBuf : Space → Nat
  | .hbm => 20
  | .vmem => 8
  | .smem => 0
  | _ => 0

abbrev bufTy : (tb : Table) → Fin (tcTables nBuf tb) → BufTy
  | .hbm, ⟨0, _⟩ => ⟨S16x2048, .i32⟩
  | .hbm, ⟨1, _⟩ => ⟨S1x128, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16x1x2048, .i32⟩
  | .hbm, ⟨17, _⟩ => ⟨S32x1, .f32⟩
  | .hbm, ⟨18, _⟩ => ⟨S16x2048x128, .f32⟩
  | .hbm, ⟨19, _⟩ => ⟨S16x2048x128, .f32⟩
  | .local _ .vmem, ⟨0, _⟩ => ⟨S1x1x512, .i32⟩
  | .local _ .vmem, ⟨1, _⟩ => ⟨S1x1x512, .i32⟩
  | .local _ .vmem, ⟨2, _⟩ => ⟨S32x1, .f32⟩
  | .local _ .vmem, ⟨3, _⟩ => ⟨S1x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== TabRefIdeal.lean ====
abbrev S16x2048 : Shape := ⟨2, ![16, 2048]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x128 : Shape := ⟨3, ![16, 2048, 128]⟩

abbrev nBuf : Space → Nat
  | .hbm => 27
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16x2048, .f32⟩
  | .hbm, ⟨16, _⟩ => ⟨S16x2048x1, .f32⟩
  | .hbm, ⟨17, _⟩ => ⟨S1x1x32, .f32⟩
  | .hbm, ⟨18, _⟩ => ⟨S16x2048x32, .f32⟩
  | .hbm, ⟨19, _⟩ => ⟨S16x2048x32, .f32⟩
  | .hbm, ⟨20, _⟩ => ⟨S16x2048x32, .f32⟩
  | .hbm, ⟨21, _⟩ => ⟨S16x2048x32, .f32⟩
  | .hbm, ⟨22, _⟩ => ⟨S16x2048x32, .f32⟩
  | .hbm, ⟨23, _⟩ => ⟨S16x2048x128, .f32⟩
  | .hbm, ⟨24, _⟩ => ⟨S16x2048x32, .f32⟩
  | .hbm, ⟨25, _⟩ => ⟨S16x2048x32, .f32⟩
  | .hbm, ⟨26, _⟩ => ⟨S16x2048x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Mod.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S1x1024x6144, .f32⟩
  | .hbm, ⟨21, _⟩ => ⟨S1024x6144, .f32⟩
  | .hbm, ⟨22, _⟩ => ⟨S16x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S1x16x6144, .f32⟩
  | .hbm, ⟨29, _⟩ => ⟨S1x16x6144, .f32⟩
  | .hbm, ⟨30, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Ffn.lean ====
abbrev S16x2048x512 : Shape := ⟨3, ![16, 2048, 512]⟩
abbrev S16x2048x1024 : Shape := ⟨3, ![16, 2048, 1024]⟩
abbrev S16x6x1024 : Shape := ⟨3, ![16, 6, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S1x512x512 : Shape := ⟨3, ![1, 512, 512]⟩
abbrev S1x512x1024 : Shape := ⟨3, ![1, 512, 1024]⟩
abbrev S1x6x1024 : Shape := ⟨3, ![1, 6, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 23
  | .vmem => 16
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S16x6x1024, .f32⟩
  | .hbm, ⟨4, _⟩ => ⟨S2x1024x1024, .f32⟩
  | .hbm, ⟨5, _⟩ => ⟨S2x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S2x1024, .f32⟩
  | .hbm, ⟨10, _⟩ => ⟨S2x1024x1024, .bf16⟩
  | .hbm, ⟨11, _⟩ => ⟨S2x1024x5632, .bf16⟩
  | .hbm, ⟨12, _⟩ => ⟨S2x2816x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x5632, .bf16⟩
  | .local _ .vmem, ⟨12, _⟩ => ⟨S1x2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S16x2048x512 : Shape := ⟨3, ![16, 2048, 512]⟩
abbrev S16x2048x1024 : Shape := ⟨3, ![16, 2048, 1024]⟩
abbrev S16x6x1024 : Shape := ⟨3, ![16, 6, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16x1x1024 : Shape := ⟨3, ![16, 1, 1024]⟩
abbrev S16x1024 : Shape := ⟨2, ![16, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩

abbrev nBuf : Space → Nat
  | .hbm => 113
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x1024, .f32⟩
  | .hbm, ⟨3, _⟩ => ⟨S16x6x1024, .f32⟩
  | .hbm, ⟨4, _⟩ => ⟨S2x1024x1024, .f32⟩
  | .hbm, ⟨5, _⟩ => ⟨S2x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S2x1024, .f32⟩
  | .hbm, ⟨10, _⟩ => ⟨S16x1x1024, .f32⟩
  | .hbm, ⟨11, _⟩ => ⟨S16x1024, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x1024, .f32⟩
  | .hbm, ⟨18, _⟩ => ⟨S16x2048x512, .f32⟩
  | .hbm, ⟨19, _⟩ => ⟨S16x2048x512, .f32⟩
  | .hbm, ⟨20, _⟩ => ⟨S16x2048x1024, .f32⟩
  | .hbm, ⟨21, _⟩ => ⟨S1x1024x1024, .f32⟩
  | .hbm, ⟨22, _⟩ => ⟨S1024x1024, .f32⟩
  | .hbm, ⟨23, _⟩ => ⟨S16x2048x1024, .f32⟩
  | .hbm, ⟨24, _⟩ => ⟨S16x1x1024, .f32⟩
  | .hbm, ⟨25, _⟩ => ⟨S1x1024, .f32⟩
  | .hbm, ⟨26, _⟩ => ⟨S1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S1x1024, .f32⟩
  | .hbm, ⟨47, _⟩ => ⟨S1024, .f32⟩
  | .hbm, ⟨48, _⟩ => ⟨S16x2048x1024, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S_, .f32⟩
  | .hbm, ⟨56, _⟩ => ⟨S16x2048x1, .f32⟩
  | .hbm, ⟨57, _⟩ => ⟨S16x2048x1, .f32⟩
  | .hbm, ⟨58, _⟩ => ⟨S16x2048x1, .f32⟩
  | .hbm, ⟨59, _⟩ => ⟨S16x2048x1024, .f32⟩
  | .hbm, ⟨60, _⟩ => ⟨S16x2048x1024, .f32⟩
  | .hbm, ⟨61, _⟩ => ⟨S1x1x1024, .f32⟩
  | .hbm, ⟨62, _⟩ => ⟨S16x2048x1024, .f32⟩
  | .hbm, ⟨63, _⟩ => ⟨S16x2048x1024, .f32⟩
  | .hbm, ⟨64, _⟩ => ⟨S16x1x1024, .f32⟩
  | .hbm, ⟨65, _⟩ => ⟨S_, .f32⟩
  | .hbm, ⟨66, _⟩ => ⟨S16x1x1024, .f32⟩
  | .hbm, ⟨67, _⟩ => ⟨S16x1x1024, .f32⟩
  | .hbm, ⟨68, _⟩ => ⟨S16x2048x1024, .f32⟩
  | .hbm, ⟨69, _⟩ => ⟨S16x2048x1024, .f32⟩
  | .hbm, ⟨70, _⟩ => ⟨S16x1x1024, .f32⟩
  | .hbm, ⟨71, _⟩ => ⟨S16x2048x1024, .f32⟩
  | .hbm, ⟨72, _⟩ => ⟨S16x2048x1024, .f32⟩
  | .hbm, ⟨73, _⟩ => ⟨S1x1024x5632, .f32⟩
  | .hbm, ⟨74, _⟩ => ⟨S1024x5632, .f32⟩
  | .hbm, ⟨75, _⟩ => ⟨S1x2816x1024, .f32⟩
  | .hbm, ⟨76, _⟩ => ⟨S2816x1024, .f32⟩
  | .hbm, ⟨77, _⟩ => ⟨S16x2048x5632, .f32⟩
  | .hbm, ⟨78, _⟩ => ⟨S16x2048x2816, .f32⟩
  | .hbm, ⟨79, _⟩ => ⟨S16x2048x2816, .f32⟩
  | .hbm, ⟨80, _⟩ => ⟨S16x2048x2816, .f32⟩
  | .hbm, ⟨81, _⟩ => ⟨S16x2048x2816, .f32⟩
  | .hbm, ⟨82, _⟩ => ⟨S_, .f32⟩
  | .hbm, ⟨83, _⟩ => ⟨S16x2048x2816, .f32⟩
  | .hbm, ⟨84, _⟩ => ⟨S16x2048x2816, .f32⟩
  | .hbm, ⟨85, _⟩ => ⟨S_, .f32⟩
  | .hbm, ⟨86, _⟩ => ⟨S16x2048x2816, .f32⟩
  | .hbm, ⟨87, _⟩ => ⟨S16x2048x2816, .f32⟩
  | .hbm, ⟨88, _⟩ => ⟨S16x2048x2816, .f32⟩
  | .hbm, ⟨89, _⟩ => ⟨S16x2048x2816, .f32⟩
  | .hbm, ⟨90, _⟩ => ⟨S16x2048x1024, .f32⟩
  | .hbm, ⟨91, _⟩ => ⟨S16x1x1024, .f32⟩
  | .hbm, ⟨92, _⟩ => ⟨S1x1024, .f32⟩
  | .hbm, ⟨93, _⟩ => ⟨S1024, .f32⟩
  | .hbm, ⟨94, _⟩ => ⟨S16x2048x1024, .f32⟩
  | .hbm, ⟨95, _⟩ => ⟨S_, .f32⟩
  | .hbm, ⟨96, _⟩ => ⟨S16x2048, .f32⟩
  | .hbm, ⟨97, _⟩ => ⟨S16x2048x1, .f32⟩
  | .hbm, ⟨98, _⟩ => ⟨S_, .f32⟩
  | .hbm, ⟨99, _⟩ => ⟨S16x2048x1, .f32⟩
  | .hbm, ⟨100, _⟩ => ⟨S16x2048x1, .f32⟩
  | .hbm, ⟨101, _⟩ => ⟨S_, .f32⟩
  | .hbm, ⟨102, _⟩ => ⟨S16x2048x1, .f32⟩
  | .hbm, ⟨103, _⟩ => ⟨S16x2048x1, .f32⟩
  | .hbm, ⟨104, _⟩ => ⟨S16x2048x1, .f32⟩
  | .hbm, ⟨105, _⟩ => ⟨S16x2048x1024, .f32⟩
  | .hbm, ⟨106, _⟩ => ⟨S16x2048x1024, .f32⟩
  | .hbm, ⟨107, _⟩ => ⟨S1x1x1024, .f32⟩
  | .hbm, ⟨108, _⟩ => ⟨S16x2048x1024, .f32⟩
  | .hbm, ⟨109, _⟩ => ⟨S16x2048x1024, .f32⟩
  | .hbm, ⟨110, _⟩ => ⟨S16x2048x1024, .f32⟩
  | .hbm, ⟨111, _⟩ => ⟨S16x2048x1024, .f32⟩
  | .hbm, ⟨112, _⟩ => ⟨S16x2048x1024, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_6 : Ref sig .tc := ⟨.hbm, 95, rfl⟩
abbrev main_v70 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_cst_8 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Proof.MlRun.lean ====
/- The run of the recurrence kernel's body. The counted loop's generated state starts from what the result's buffer held
   before the loop; no trip reads that buffer, so the state is the same from any contents (`st_entry`), and the body leaves
   in the result's buffer the trips' pieces over contents that do not matter (`bodyRun`). -/
module

public import proofs.«01_k».proof.Proof.Gen.MlstmIdeal.Frame.Runs

@[expose] public section

set_option maxRecDepth 16384

noncomputable section

namespace Cert.MlstmIdeal.Hand

open Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x512 .f32) (harg4 : arg4.IsWhole) (arg5 : Memref sig .tc .vmem S1x8x2048 .f32) (harg5 : arg5.IsWhole) (arg6 : Memref sig .tc .vmem S512x1 .f32) (harg6 : arg6.IsWhole) (arg7 : Memref sig .tc .vmem S1x2048x512 .bf16) (harg7 : arg7.IsWhole) (arg8 : Memref sig .tc .vmem S4x144x128 .f32) (harg8 : arg8.IsWhole) (arg9 : Memref sig .tc .vmem S64x256 .f32) (harg9 : arg9.IsWhole) (arg10 : Memref sig .tc .vmem S8x256x128 .f32) (harg10 : arg10.IsWhole) (v2 : IVec S256x256 1) (v8 : IVec S16x256 1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg9 : BufTy.Contents (Elt F) arg9.view.ty) (X_arg10 : BufTy.Contents (Elt F) arg10.view.ty)

/-- A trip's yield and pieces do not depend on what the result's buffer holds. -/
theorem tripR_entry (k : Fin k0_t1_loop.trips) (acc) (f7 f7' f8) :
    tripR_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k acc f7 f8 = tripR_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k acc f7' f8 := by
  unfold tripR_k0_t1 trip_k0_t1
  rfl

theorem tripL_entry (k : Fin k0_t1_loop.trips) (acc) (f7 f7' f8) :
    tripL_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k acc f7 f8 = tripL_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k acc f7' f8 := by
  unfold tripL_k0_t1 trip_k0_t1
  rfl

theorem next_entry (G G' : BufTy.Contents (Elt F) arg7.view.ty) (G_arg8 : BufTy.Contents (Elt F) arg8.view.ty) (k : Fin k0_t1_loop.trips)
    (S S' : ((FVec F S1x1 .f32 × FVec F S1x1 .f32 × FVec F S1x1 .f32 × FVec F S1x1 .f32) × List (View.Piece (Elt F) S1x2048x512 .bf16) × List (View.Piece (Elt F) S4x144x128 .f32))) (h : S = S') :
    ((tripR_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S.1 (arg7.view.writes (Elt F) G S.2.1) (arg8.view.writes (Elt F) G_arg8 S.2.2), (tripL_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S.1 (arg7.view.writes (Elt F) G S.2.1) (arg8.view.writes (Elt F) G_arg8 S.2.2)).1 ++ S.2.1, (tripL_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S.1 (arg7.view.writes (Elt F) G S.2.1) (arg8.view.writes (Elt F) G_arg8 S.2.2)).2 ++ S.2.2) : ((FVec F S1x1 .f32 × FVec F S1x1 .f32 × FVec F S1x1 .f32 × FVec F S1x1 .f32) × List (View.Piece (Elt F) S1x2048x512 .bf16) × List (View.Piece (Elt F) S4x144x128 .f32)))
    = (tripR_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S'.1 (arg7.view.writes (Elt F) G' S'.2.1) (arg8.view.writes (Elt F) G_arg8 S'.2.2), (tripL_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S'.1 (arg7.view.writes (Elt F) G' S'.2.1) (arg8.view.writes (Elt F) G_arg8 S'.2.2)).1 ++ S'.2.1, (tripL_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S'.1 (arg7.view.writes (Elt F) G' S'.2.1) (arg8.view.writes (Elt F) G_arg8 S'.2.2)).2 ++ S'.2.2) := by
  subst h
  rw [tripR_entry 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S.1 (arg7.view.writes (Elt F) G S.2.1) (arg7.view.writes (Elt F) G' S.2.1),
    tripL_entry 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 k S.1 (arg7.view.writes (Elt F) G S.2.1) (arg7.view.writes (Elt F) G' S.2.1)]

/-- So the loop's state does not depend on what the result's buffer held at entry. -/
theorem st_entry (G G' : BufTy.Contents (Elt F) arg7.view.ty) (G_arg8 : BufTy.Contents (Elt F) arg8.view.ty) (init) (n : ℕ) (hn : n ≤ k0_t1_loop.trips) :
    st_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 G G_arg8 init n = st_k0_t1 (F := F) 𝒱 c bd i arg1 harg1 arg2 harg2 arg3 harg3 arg4 harg4 arg5 harg5 arg6 harg6 arg7 harg7 arg8 harg8 arg9 harg9 arg10 harg10 v2 v8 X_arg1 X_arg2 X_arg3 X_arg4 X_arg5 X_arg6 X_arg9 X_arg10 G' G_arg8 init n := by
  induction n with
  | zero => rfl
  | succ n ih =>
    exact (st_k0_t1_succ (k := ⟨n, by omega⟩) ..).trans ((next_entry (k := ⟨n, by omega⟩) (h := ih (by omega)) ..).trans (st_k0_t1_succ (k := ⟨n, by omega⟩) ..).symm)
end

set_option maxHeartbeats 4000000 in
/-- What the body leaves in the result's staging buffer, as pieces, with the proof that it does. -/
noncomputable def bodyRun (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x512 .f32) (harg4 : arg4.IsWhole) (arg5 : Memref sig .tc .vmem S1x8x2048 .f32) (harg5 : arg5.IsWhole) (arg6 : Memref sig .tc .vmem S512x1 .f32) (harg6 : arg6.IsWhole) (arg7 : Memref sig .tc .vmem S1x2048x512 .bf16) (harg7 : arg7.IsWhole) (arg8 : Memref sig .tc .vmem S4x144x128 .f32) (harg8 : arg8.IsWhole) (arg9 : Memref sig .tc .vmem S64x256 .f32) (harg9 : arg9.IsWhole) (arg10 : Memref sig .tc .vmem S8x256x128 .f32) (harg10 : arg10.IsWhole)
    (x0 : Vec F S1x2048x512 .bf16) (x1 : Vec F S1x2048x512 .bf16) (x2 : Vec F S1x2048x512 .bf16) (x3 : Vec F S1x2048x512 .f32) (x4 : Vec F S1x8x2048 .f32) (x5 : Vec F S512x1 .f32) :
    { L6 : List (View.Piece (Elt F) S1x2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mlstm i arg1 harg1 arg2 harg2 arg3 harg3 arg4 harg4 arg5 harg5 arg6 harg6 arg7 harg7 arg8 harg8 arg9 harg9 arg10 harg10) K } := by
  refine ⟨?_, fun E K => ?run⟩
  case run =>
    simp only [cc0_mlstm_eq_skeleton]; unfold cc0_mlstm_skel
    simp only [k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    rw [st_entry (G := f6) (G' := arg7.view.junk) (hn := le_refl _)]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.MlstmIdeal.Hand

end
-- ==== Proof.MlFrame.lean ====
/- The frame of the recurrence kernel, from the body's run of `MlRun.lean`: the pipeline's proof data, the body obligation at a
   grid point, and the launch. -/
module

public import proofs.«01_k».proof.Proof.MlRun
public import Idealize.ShloMosaic.Lib.Claim

@[expose] public section

set_option maxRecDepth 16384

noncomputable section

namespace Cert.MlstmIdeal.Hand

open Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces tile the result's block. -/
theorem cover0_A_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x512 .f32) (harg4 : arg4.IsWhole) (arg5 : Memref sig .tc .vmem S1x8x2048 .f32) (harg5 : arg5.IsWhole) (arg6 : Memref sig .tc .vmem S512x1 .f32) (harg6 : arg6.IsWhole) (arg7 : Memref sig .tc .vmem S1x2048x512 .bf16) (harg7 : arg7.IsWhole) (arg8 : Memref sig .tc .vmem S4x144x128 .f32) (harg8 : arg8.IsWhole) (arg9 : Memref sig .tc .vmem S64x256 .f32) (harg9 : arg9.IsWhole) (arg10 : Memref sig .tc .vmem S8x256x128 .f32) (harg10 : arg10.IsWhole)
    (x0 : Vec F S1x2048x512 .bf16) (x1 : Vec F S1x2048x512 .bf16) (x2 : Vec F S1x2048x512 .bf16) (x3 : Vec F S1x2048x512 .f32) (x4 : Vec F S1x8x2048 .f32) (x5 : Vec F S512x1 .f32) (y : S1x2048x512.Idx) :
    ∃ pc ∈ (bodyRun c i arg1 harg1 arg2 harg2 arg3 harg3 arg4 harg4 arg5 harg5 arg6 harg6 arg7 harg7 arg8 harg8 arg9 harg9 arg10 harg10 x0 x1 x2 x3 x4 x5).1, y ∈ pc.1.set :=
  View.cover_of_tiledL (bodyRun c i arg1 harg1 arg2 harg2 arg3 harg3 arg4 harg4 arg5 harg5 arg6 harg6 arg7 harg7 arg8 harg8 arg9 harg9 arg10 harg10 x0 x1 x2 x3 x4 x5).1 S1x256x128.size (by sl_kernel_rfl) y

/-- What the run leaves in output 6's staging buffer: its pieces read back over junk. -/
def out0_A_6 (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x512 .f32) (harg4 : arg4.IsWhole) (arg5 : Memref sig .tc .vmem S1x8x2048 .f32) (harg5 : arg5.IsWhole) (arg6 : Memref sig .tc .vmem S512x1 .f32) (harg6 : arg6.IsWhole) (arg7 : Memref sig .tc .vmem S1x2048x512 .bf16) (harg7 : arg7.IsWhole) (arg8 : Memref sig .tc .vmem S4x144x128 .f32) (harg8 : arg8.IsWhole) (arg9 : Memref sig .tc .vmem S64x256 .f32) (harg9 : arg9.IsWhole) (arg10 : Memref sig .tc .vmem S8x256x128 .f32) (harg10 : arg10.IsWhole)
    (x0 : Vec F S1x2048x512 .bf16) (x1 : Vec F S1x2048x512 .bf16) (x2 : Vec F S1x2048x512 .bf16) (x3 : Vec F S1x2048x512 .f32) (x4 : Vec F S1x8x2048 .f32) (x5 : Vec F S512x1 .f32) : Vec F S1x2048x512 .bf16 :=
  VO0_6.read (Elt F) (VO0_6.writes (Elt F) VO0_6.junk (bodyRun c i arg1 harg1 arg2 harg2 arg3 harg3 arg4 harg4 arg5 harg5 arg6 harg6 arg7 harg7 arg8 harg8 arg9 harg9 arg10 harg10 x0 x1 x2 x3 x4 x5).1)

/-! ## What the outputs hold after each point -/

/-- What the outputs' staging buffers hold after the body at point `t`: the run's contents at
    the point's memrefs and input blocks. -/
def outsAt0 (c : Dev nD) (t : Fin cfg0.N) : Vec F S1x2048x512 .bf16 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_6
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%e6, H6⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.MlstmIdeal.Hand

end
-- ==== Proof.MlMath.lean ====
/- One head's chunk of the gated recurrence. The extended real formulas both programs compute are written once, for a
   chunk of any length; over finite inputs they are the closed sums of the recurrence, whatever the chunk's length and
   whatever running maximum the exponentials are scaled by. -/
module

public import Idealize.ShloMosaic.Lib.Pointwise

@[expose] public section

noncomputable section

namespace Cert.MlMath

open Idealize.ShloMosaic Finset

/-! ## The closed sums -/

/-- The forget gates' logarithms summed over the first `n` steps. -/
def A (lf : ℕ → ℝ) (n : ℕ) : ℝ := ∑ i ∈ range n, lf i

/-- The state after `n` steps: what step `s` put in, forgotten at each later step. -/
def S (lf ig : ℕ → ℝ) (n : ℕ) (x : ℕ → ℝ) : ℝ := ∑ s ∈ range n, Real.exp (A lf n - A lf (s + 1) + ig s) * x s

theorem S_zero (lf ig x : ℕ → ℝ) : S lf ig 0 x = 0 := by simp [S]

theorem S_add (lf ig : ℕ → ℝ) (n m : ℕ) (x : ℕ → ℝ) :
    S lf ig (n + m) x = Real.exp (A lf (n + m) - A lf n) * S lf ig n x
      + ∑ j ∈ range m, Real.exp (A lf (n + m) - A lf (n + j + 1) + ig (n + j)) * x (n + j) := by
  unfold S
  rw [sum_range_add, mul_sum]
  congr 1
  refine sum_congr rfl fun s _ => ?_
  rw [← mul_assoc, ← Real.exp_add]
  congr 2
  ring

theorem S_lin (lf ig : ℕ → ℝ) (n : ℕ) {ι : Type} [Fintype ι] (x : ι → ℕ → ℝ) (q : ι → ℝ) :
    ∑ c, S lf ig n (x c) * q c = S lf ig n fun s => ∑ c, x c s * q c := by
  unfold S
  simp only [sum_mul, mul_sum]
  rw [sum_comm]
  exact sum_congr rfl fun s _ => sum_congr rfl fun c _ => mul_assoc _ _ _

theorem sum_upto {L : ℕ} (t : Fin L) (f : ℕ → ℝ) :
    ∑ s : Fin L, (if s.val ≤ t.val then f s.val else 0) = ∑ j ∈ range (t.val + 1), f j := by
  rw [Fin.sum_univ_eq_sum_range (fun i => if i ≤ t.val then f i else 0) L, ← sum_filter]
  refine sum_congr ?_ fun _ _ => rfl
  ext i
  have := t.isLt
  simp only [mem_filter, mem_range]
  omega

/-! ## Finite extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem fold_ne_top {ι : Type} (s : Finset ι) (f : ι → EReal) (h : ∀ i, f i ≠ ⊤) : s.fold max ⊥ f ≠ ⊤ := by
  classical
  induction s using Finset.induction_on with
  | empty => simp
  | insert a s ha ih => rw [fold_insert ha]; exact (max_lt (lt_top_iff_ne_top.2 (h a)) (lt_top_iff_ne_top.2 ih)).ne

theorem max_fold_real {ι : Type} (s : Finset ι) (f : ι → EReal) (h : ∀ i, f i ≠ ⊤) (x : ℝ) :
    ∃ r : ℝ, max (x : EReal) (s.fold max ⊥ f) = r := by
  have ht : max (x : EReal) (s.fold max ⊥ f) ≠ ⊤ :=
    (max_lt (lt_top_iff_ne_top.2 (EReal.coe_ne_top x)) (lt_top_iff_ne_top.2 (fold_ne_top s f h))).ne
  have hb : max (x : EReal) (s.fold max ⊥ f) ≠ ⊥ := (lt_max_of_lt_left (EReal.bot_lt_coe x)).ne'
  exact ⟨_, (EReal.coe_toReal ht hb).symm⟩

theorem coe_max (x y : ℝ) : max (x : EReal) (y : EReal) = ((max x y : ℝ) : EReal) := (EReal.coe_strictMono.monotone.map_max).symm

/-! ## A chunk's formulas -/

variable {L : ℕ}

/-- The row's running maximum. -/
def mrow (d : Fin L → Fin L → EReal) (B : Fin L → EReal) (M : EReal) (t : Fin L) : EReal :=
  max (B t + M) (univ.fold max ⊥ fun s => d s t)

/-- The gated score of step `s` for row `t`. -/
def sc (q k : Fin L → Fin 128 → EReal) (d : Fin L → Fin L → EReal) (B : Fin L → EReal) (M : EReal) (s t : Fin L) : EReal :=
  (∑ c, k s c * q t c) * Ideal.exp (d s t - mrow d B M t)

/-- The chunk's own steps and the carried state, read by row `t`. -/
def acc (q k : Fin L → Fin 128 → EReal) (d : Fin L → Fin L → EReal) (B : Fin L → EReal) (M : EReal) (v : Fin L → EReal)
    (C : Fin 128 → EReal) (t : Fin L) : EReal :=
  ∑ s, v s * sc q k d B M s t + Ideal.exp (B t + M - mrow d B M t) * ∑ c, C c * q t c

/-- The row's normalised output. -/
def hrow (q k : Fin L → Fin 128 → EReal) (d : Fin L → Fin L → EReal) (B : Fin L → EReal) (M : EReal) (v : Fin L → EReal)
    (C n : Fin 128 → EReal) (t : Fin L) : EReal :=
  Ideal.div (acc q k d B M v C t) (max (max (acc q k d B M (fun _ => 1) n t) (-acc q k d B M (fun _ => 1) n t)) (Ideal.exp (-mrow d B M t)))

/-- The next running maximum. -/
def mnew (w : Fin L → EReal) (T M : EReal) : EReal := max (T + M) (univ.fold max ⊥ w)

/-- The next state. -/
def snew (w : Fin L → EReal) (T M : EReal) (v k : Fin L → EReal) (C : EReal) : EReal :=
  Ideal.exp (T + M - mnew w T M) * C + ∑ s, (v s * Ideal.exp (w s - mnew w T M)) * k s

/-- The layer's output row: the gate, the norm over the head's 128 entries and its weight. -/
def outv (o : EReal) (h : Fin 128 → EReal) (w : EReal) (e : Fin 128) : EReal :=
  Ideal.logistic o * h e * Ideal.rsqrt (Ideal.div (∑ c, h c * h c) (Ideal.ofBits .f32 0x43000000#32) + Ideal.ofBits .f32 0x358637BD#32) * w

/-! ## Their values over finite inputs -/

/-- The scores a row reads with. -/
def kq (kr : ℕ → Fin 128 → ℝ) (qt : Fin 128 → ℝ) (s : ℕ) : ℝ := ∑ c, kr s c * qt c

/-- A row's output as the recurrence's closed sums. -/
def hval (lf ig : ℕ → ℝ) (kr : ℕ → Fin 128 → ℝ) (vr : ℕ → ℝ) (qt : Fin 128 → ℝ) (n : ℕ) : ℝ :=
  S lf ig n (fun s => vr s * kq kr qt s) / max |S lf ig n (kq kr qt)| 1

/-- A chunk of `L` steps starting at `n`, over finite inputs. -/
structure Chunk (lf ig : ℕ → ℝ) (n : ℕ) (d : Fin L → Fin L → EReal) (B : Fin L → EReal) : Prop where
  hB : ∀ t : Fin L, B t = ((A lf (n + t.val + 1) - A lf n : ℝ) : EReal)
  hd : ∀ s t : Fin L, d s t = if s.val ≤ t.val then ((A lf (n + t.val + 1) - A lf (n + s.val + 1) + ig (n + s.val) : ℝ) : EReal) else ⊥

variable {lf ig : ℕ → ℝ} {n : ℕ} {d : Fin L → Fin L → EReal} {B : Fin L → EReal}

theorem mrow_real (hc : Chunk lf ig n d B) (M : ℝ) (t : Fin L) : ∃ r : ℝ, mrow d B M t = r := by
  unfold mrow
  rw [hc.hB, ← EReal.coe_add]
  refine max_fold_real _ _ (fun s => ?_) _
  rw [hc.hd]
  split_ifs
  · exact EReal.coe_ne_top _
  · exact bot_ne_top

theorem acc_val (hc : Chunk lf ig n d B) {q k : Fin L → Fin 128 → EReal} {kr : ℕ → Fin 128 → ℝ} {qt : Fin 128 → ℝ} (M : ℝ) {t : Fin L}
    (hq : ∀ c, q t c = (qt c : EReal)) (hk : ∀ s c, k s c = (kr (n + s.val) c : EReal)) {v : Fin L → EReal} {vr : ℕ → ℝ}
    (hv : ∀ s, v s = (vr (n + s.val) : EReal)) {C : Fin 128 → EReal}
    (hC : ∀ c, C c = ((Real.exp (-M) * S lf ig n (fun s => vr s * kr s c) : ℝ) : EReal)) {r : ℝ} (hr : mrow d B M t = r) :
    acc q k d B M v C t = ((Real.exp (-r) * S lf ig (n + (t.val + 1)) (fun s => vr s * kq kr qt s) : ℝ) : EReal) := by
  have hs : ∀ s : Fin L, v s * sc q k d B M s t
      = ((if s.val ≤ t.val then Real.exp (-r) * (Real.exp (A lf (n + (t.val + 1)) - A lf (n + s.val + 1) + ig (n + s.val)) * (vr (n + s.val) * kq kr qt (n + s.val))) else 0 : ℝ) : EReal) := by
    intro s
    unfold sc
    simp only [hr, hc.hd, hv, hk, hq, ← EReal.coe_mul, ← coe_sum]
    split_ifs with h
    · rw [← EReal.coe_sub, Ideal.exp_coe, ← EReal.coe_mul, ← EReal.coe_mul, sub_eq_add_neg _ r, Real.exp_add, ← add_assoc n]
      congr 1
      unfold kq
      ring
    · rw [EReal.bot_sub, Ideal.exp_bot, mul_zero, mul_zero]; rfl
  unfold acc
  simp only [hs, hr, hC, hq, hc.hB, ← EReal.coe_mul, ← coe_sum, ← EReal.coe_add, ← EReal.coe_sub, Ideal.exp_coe]
  congr 1
  rw [sum_upto t (fun j => Real.exp (-r) * (Real.exp (A lf (n + (t.val + 1)) - A lf (n + j + 1) + ig (n + j)) * (vr (n + j) * kq kr qt (n + j)))),
    S_add, mul_add, mul_sum, add_comm]
  congr 1
  simp only [mul_assoc (Real.exp (-M))]
  have hl : ∑ c, Real.exp (-M) * (S lf ig n (fun s => vr s * kr s c) * qt c) = Real.exp (-M) * S lf ig n fun s => ∑ c, vr s * kr s c * qt c :=
    (mul_sum _ _ _).symm.trans (congrArg _ (S_lin lf ig n (fun c s => vr s * kr s c) qt))
  rw [← mul_sum, hl, ← mul_assoc, ← mul_assoc, ← Real.exp_add, ← Real.exp_add]
  congr 1
  · congr 1; rw [add_assoc n]; ring
  · congr 1; funext s; unfold kq; rw [mul_sum]; exact sum_congr rfl fun c _ => by ring
  · exact (mul_sum _ _ _).symm

theorem hrow_val (hc : Chunk lf ig n d B) {q k : Fin L → Fin 128 → EReal} {kr : ℕ → Fin 128 → ℝ} {qt : Fin 128 → ℝ} (M : ℝ) {t : Fin L}
    (hq : ∀ c, q t c = (qt c : EReal)) (hk : ∀ s c, k s c = (kr (n + s.val) c : EReal)) {v : Fin L → EReal} {vr : ℕ → ℝ}
    (hv : ∀ s, v s = (vr (n + s.val) : EReal)) {C : Fin 128 → EReal}
    (hC : ∀ c, C c = ((Real.exp (-M) * S lf ig n (fun s => vr s * kr s c) : ℝ) : EReal)) {nn : Fin 128 → EReal}
    (hn : ∀ c, nn c = ((Real.exp (-M) * S lf ig n (fun s => kr s c) : ℝ) : EReal)) :
    hrow q k d B M v C nn t = (hval lf ig kr vr qt (n + (t.val + 1)) : EReal) := by
  obtain ⟨r, hr⟩ := mrow_real hc M t
  have h1 := acc_val hc M hq hk hv hC hr
  have h2 := acc_val hc M hq hk (v := fun _ => 1) (vr := fun _ => 1) (fun _ => rfl) (C := nn) (by simpa using hn) hr
  simp only [one_mul] at h2
  unfold hrow
  rw [h1, h2, hr, ← EReal.coe_neg, ← EReal.coe_neg, Ideal.exp_coe, coe_max, coe_max]
  have hp : (0 : ℝ) < Real.exp (-r) := Real.exp_pos _
  have hm : max (max (Real.exp (-r) * S lf ig (n + (t.val + 1)) (kq kr qt)) (-(Real.exp (-r) * S lf ig (n + (t.val + 1)) (kq kr qt)))) (Real.exp (-r))
      = Real.exp (-r) * max |S lf ig (n + (t.val + 1)) (kq kr qt)| 1 := by
    rw [mul_max_of_nonneg _ _ hp.le, mul_one, abs_eq_max_neg, mul_max_of_nonneg _ _ hp.le, mul_neg]
  have hpos : (0 : ℝ) < max |S lf ig (n + (t.val + 1)) (kq kr qt)| 1 := lt_max_of_lt_right one_pos
  rw [hm, Ideal.div_coe (mul_pos hp hpos).ne', ← EReal.coe_mul]
  congr 1
  unfold hval
  field_simp

theorem mnew_real {w : Fin L → EReal} {wr : Fin L → ℝ} (hw : ∀ s, w s = (wr s : EReal)) (T M : ℝ) : ∃ r : ℝ, mnew w T M = r := by
  unfold mnew
  rw [← EReal.coe_add]
  exact max_fold_real _ _ (fun s => by rw [hw]; exact EReal.coe_ne_top _) _

theorem snew_val {w : Fin L → EReal} (hw : ∀ s : Fin L, w s = ((A lf (n + L) - A lf (n + s.val + 1) + ig (n + s.val) : ℝ) : EReal)) {T : EReal}
    (hT : T = ((A lf (n + L) - A lf n : ℝ) : EReal)) (M : ℝ) {r : ℝ} (hr : mnew w T M = r) {k v : Fin L → EReal} {kr vr : ℕ → ℝ}
    (hk : ∀ s, k s = (kr (n + s.val) : EReal)) (hv : ∀ s, v s = (vr (n + s.val) : EReal)) {C : EReal}
    (hC : C = ((Real.exp (-M) * S lf ig n (fun s => vr s * kr s) : ℝ) : EReal)) :
    snew w T M v k C = ((Real.exp (-r) * S lf ig (n + L) (fun s => vr s * kr s) : ℝ) : EReal) := by
  subst hT
  unfold snew
  rw [hr]
  simp only [hC, hw, hk, hv, ← EReal.coe_mul, ← coe_sum, ← EReal.coe_add, ← EReal.coe_sub, Ideal.exp_coe]
  congr 1
  rw [S_add, mul_add, mul_sum, ← mul_assoc, ← mul_assoc, ← Real.exp_add, ← Real.exp_add]
  congr 1
  · congr 2; ring
  · rw [Fin.sum_univ_eq_sum_range (fun j => vr (n + j) * Real.exp (A lf (n + L) - A lf (n + j + 1) + ig (n + j) - r) * kr (n + j)) L]
    refine sum_congr rfl fun j _ => ?_
    rw [sub_eq_add_neg _ r, Real.exp_add]
    ring

end Cert.MlMath

end
-- ==== Proof.MlHead.lean ====
/- What one trip of the recurrence kernel's loop computes for each of its four heads, read one entry at a time: each head's
   payloads are the chunk's formulas (`MlMath`) of the blocks the trip reads. -/
module

public import proofs.«01_k».proof.Proof.Gen.MlstmIdeal.Skeleton
public import proofs.«01_k».proof.Proof.MlMath
public import Idealize.ShloMosaic.Lib.WordCmp

@[expose] public section

set_option maxRecDepth 16384

noncomputable section

namespace Cert.MlstmIdeal.Hand

open Cert.MlstmIdeal Cert.MlstmIdeal.Gen Cert.MlMath
open Idealize.ShloMosaic Idealize.ShloMosaic.TcCoe Idealize.SL.Sem

theorem ninf : Ideal.ofBits .f32 0xFF800000#32 = ⊥ := by simp [Ideal.ofBits, Ideal.ieee]

theorem sel_le (s t : Fin 256) (a : EReal) :
    Scalar.select (IntOp.cmpi .sle (BitVec.ofNat 32 s.val) (BitVec.ofNat 32 t.val)) a ⊥ = if s.val ≤ t.val then a else ⊥ := by
  have h := WordCmp.cmpi_sle_ofNat_eq_one_iff (w := 32) (a := s.val) (b := t.val) (by omega) (by omega)
  by_cases hst : s.val ≤ t.val
  · rw [if_pos hst]; exact if_pos (h.2 hst)
  · rw [if_neg hst]; exact if_neg fun h' => hst (h.1 h')

/-- A chunk's gated decays, as the kernel forms them from its two tables. -/
def dK (g b : Fin 256 → EReal) (s t : Fin 256) : EReal := if s.val ≤ t.val then g s + b t else ⊥

/-- The decays to the chunk's end. -/
def wK (g b : Fin 256 → EReal) (s : Fin 256) : EReal := b 255 - b s + g s

section
variable (m : FVec Ideal S1x1 .f32) (V1 V2 V3 : FVec Ideal S1x256x128 .bf16) (V4 : FVec Ideal S1x256x128 .f32) (V5 : FVec Ideal S1x8x256 .f32)
  (V6 : FVec Ideal S128x1 .f32) (V8 : FVec Ideal S1x144x128 .f32) (V9 : FVec Ideal S8x256 .f32) (V10 : FVec Ideal S1x256x128 .f32)

theorem head0 (e : Fin 128) (t : Fin 256) : (k0_pay21 (k0_pay12 V1) (k0_pay14 V3) (k0_pay15 k0_pay72 V9 V10) (k0_pay17 k0_pay72 m V9 V10) (k0_pay18 k0_pay72 m V9 V10) (k0_pay19 V1 V2) V8 : FVec Ideal S128x256 .f32) (ix2 e t)
    = hrow (fun t c => V1 (ix3 0 t c)) (fun s c => V2 (ix3 0 s c)) (dK (fun s => V10 (ix3 0 s 0)) (fun t => V9 (ix2 4 t))) (fun t => V9 (ix2 4 t)) (m (ix2 0 0))
        (fun s => V3 (ix3 0 s e)) (fun c => V8 (ix3 0 ⟨e.val, by omega⟩ c)) (fun c => V8 (ix3 0 128 c)) t := by
  unfold hrow acc sc mrow dK
  pointwise [k0_pay8, k0_pay10, k0_pay12, k0_pay13, k0_pay14, k0_pay15, k0_pay16, k0_pay17, k0_pay18, k0_pay19, k0_pay20, k0_pay21, k0_pay72]
  simp only [ninf, sel_le, one_mul, zero_sub]
  rfl

theorem max0 : (k0_pay23 m (k0_pay9 V5) (k0_pay10 V9) (k0_pay11 V9) : FVec Ideal S1x1 .f32) (ix2 0 0) = mnew (wK (fun s => V5 (ix3 0 0 s)) (fun t => V9 (ix2 4 t))) (V9 (ix2 4 255)) (m (ix2 0 0)) := by
  unfold mnew wK
  pointwise [k0_pay7, k0_pay9, k0_pay10, k0_pay11, k0_pay22, k0_pay23]
  simp only [ninf]

theorem state0 (e : Fin 128) (c : Fin 128) : (k0_pay26 (k0_pay13 V2) (k0_pay24 k0_pay74 m (k0_pay9 V5) (k0_pay10 V9) (k0_pay11 V9) (k0_pay14 V3)) (k0_pay25 m (k0_pay9 V5) (k0_pay10 V9) (k0_pay11 V9) V8) : FVec Ideal S1x144x128 .f32) (ix3 0 ⟨e.val, by omega⟩ c)
    = snew (wK (fun s => V5 (ix3 0 0 s)) (fun t => V9 (ix2 4 t))) (V9 (ix2 4 255)) (m (ix2 0 0)) (fun s => V3 (ix3 0 s e)) (fun s => V2 (ix3 0 s c)) (V8 (ix3 0 ⟨e.val, by omega⟩ c)) := by
  unfold snew; rw [← max0]; unfold wK
  pointwise [k0_pay13, k0_pay14, k0_pay20, k0_pay24, k0_pay25, k0_pay26, k0_pay74, k0_pay7, k0_pay9, k0_pay10, k0_pay11, k0_pay22]

theorem norm0 (c : Fin 128) : (k0_pay26 (k0_pay13 V2) (k0_pay24 k0_pay74 m (k0_pay9 V5) (k0_pay10 V9) (k0_pay11 V9) (k0_pay14 V3)) (k0_pay25 m (k0_pay9 V5) (k0_pay10 V9) (k0_pay11 V9) V8) : FVec Ideal S1x144x128 .f32) (ix3 0 128 c)
    = snew (wK (fun s => V5 (ix3 0 0 s)) (fun t => V9 (ix2 4 t))) (V9 (ix2 4 255)) (m (ix2 0 0)) (fun _ => 1) (fun s => V2 (ix3 0 s c)) (V8 (ix3 0 128 c)) := by
  unfold snew; rw [← max0]; unfold wK
  simp only [one_mul]
  pointwise [k0_pay13, k0_pay14, k0_pay20, k0_pay24, k0_pay25, k0_pay26, k0_pay74, k0_pay7, k0_pay9, k0_pay10, k0_pay11, k0_pay22]

theorem gate0 (H : FVec Ideal S128x256 .f32) (s : Fin 256) (e : Fin 128) : (k0_pay27 H V4 V6 : FVec Ideal S1x256x128 .bf16) (ix3 0 s e)
    = outv (V4 (ix3 0 s e)) (fun e => H (ix2 e s)) (V6 (ix2 e 0)) e := by
  unfold outv
  pointwise [k0_pay27]

theorem head1 (e : Fin 128) (t : Fin 256) : (k0_pay35 k0_pay72 m (k0_pay8 V10) (k0_pay29 V9) (k0_pay31 V1) V2 V3 V8 : FVec Ideal S128x256 .f32) (ix2 e t)
    = hrow (fun t c => V1 (ix3 0 t c)) (fun s c => V2 (ix3 0 s c)) (dK (fun s => V10 (ix3 0 s 1)) (fun t => V9 (ix2 5 t))) (fun t => V9 (ix2 5 t)) (m (ix2 0 0))
        (fun s => V3 (ix3 0 s e)) (fun c => V8 (ix3 0 ⟨e.val, by omega⟩ c)) (fun c => V8 (ix3 0 128 c)) t := by
  unfold hrow acc sc mrow dK
  pointwise [k0_pay8, k0_pay29, k0_pay31, k0_pay32, k0_pay33, k0_pay34, k0_pay35, k0_pay72]
  simp only [ninf, sel_le, one_mul, zero_sub]
  rfl

theorem max1 : (k0_pay37 m (k0_pay28 (k0_pay7 V5)) (k0_pay29 V9) (k0_pay30 V9) : FVec Ideal S1x1 .f32) (ix2 0 0) = mnew (wK (fun s => V5 (ix3 0 1 s)) (fun t => V9 (ix2 5 t))) (V9 (ix2 5 255)) (m (ix2 0 0)) := by
  unfold mnew wK
  pointwise [k0_pay7, k0_pay28, k0_pay29, k0_pay30, k0_pay36, k0_pay37]
  simp only [ninf]

theorem state1 (e : Fin 128) (c : Fin 128) : (k0_pay38 k0_pay74 m (k0_pay28 (k0_pay7 V5)) (k0_pay29 V9) (k0_pay30 V9) (k0_pay32 V2) (k0_pay33 V3) (k0_pay34 V8) : FVec Ideal S1x144x128 .f32) (ix3 0 ⟨e.val, by omega⟩ c)
    = snew (wK (fun s => V5 (ix3 0 1 s)) (fun t => V9 (ix2 5 t))) (V9 (ix2 5 255)) (m (ix2 0 0)) (fun s => V3 (ix3 0 s e)) (fun s => V2 (ix3 0 s c)) (V8 (ix3 0 ⟨e.val, by omega⟩ c)) := by
  unfold snew; rw [← max1]; unfold wK
  pointwise [k0_pay32, k0_pay33, k0_pay34, k0_pay38, k0_pay74, k0_pay7, k0_pay28, k0_pay29, k0_pay30, k0_pay36]

theorem norm1 (c : Fin 128) : (k0_pay38 k0_pay74 m (k0_pay28 (k0_pay7 V5)) (k0_pay29 V9) (k0_pay30 V9) (k0_pay32 V2) (k0_pay33 V3) (k0_pay34 V8) : FVec Ideal S1x144x128 .f32) (ix3 0 128 c)
    = snew (wK (fun s => V5 (ix3 0 1 s)) (fun t => V9 (ix2 5 t))) (V9 (ix2 5 255)) (m (ix2 0 0)) (fun _ => 1) (fun s => V2 (ix3 0 s c)) (V8 (ix3 0 128 c)) := by
  unfold snew; rw [← max1]; unfold wK
  simp only [one_mul]
  pointwise [k0_pay32, k0_pay33, k0_pay34, k0_pay38, k0_pay74, k0_pay7, k0_pay28, k0_pay29, k0_pay30, k0_pay36]

theorem gate1 (H : FVec Ideal S128x256 .f32) (s : Fin 256) (e : Fin 128) : (k0_pay40 (k0_pay39 H V4) V6 : FVec Ideal S1x256x128 .bf16) (ix3 0 s e)
    = outv (V4 (ix3 0 s e)) (fun e => H (ix2 e s)) (V6 (ix2 e 0)) e := by
  unfold outv
  pointwise [k0_pay39, k0_pay40]

theorem head2 (e : Fin 128) (t : Fin 256) : (k0_pay53 (k0_pay44 V1) (k0_pay46 V3) (k0_pay49 k0_pay72 m V9 (k0_pay8 V10)) (k0_pay50 k0_pay72 m V9 (k0_pay8 V10)) (k0_pay51 k0_pay72 m V9 (k0_pay8 V10) V1 V2) V8 : FVec Ideal S128x256 .f32) (ix2 e t)
    = hrow (fun t c => V1 (ix3 0 t c)) (fun s c => V2 (ix3 0 s c)) (dK (fun s => V10 (ix3 0 s 2)) (fun t => V9 (ix2 6 t))) (fun t => V9 (ix2 6 t)) (m (ix2 0 0))
        (fun s => V3 (ix3 0 s e)) (fun c => V8 (ix3 0 ⟨e.val, by omega⟩ c)) (fun c => V8 (ix3 0 128 c)) t := by
  unfold hrow acc sc mrow dK
  pointwise [k0_pay8, k0_pay42, k0_pay44, k0_pay45, k0_pay46, k0_pay47, k0_pay48, k0_pay49, k0_pay50, k0_pay51, k0_pay52, k0_pay53, k0_pay72]
  simp only [ninf, sel_le, one_mul, zero_sub]
  rfl

theorem max2 : (k0_pay55 m (k0_pay41 (k0_pay7 V5)) (k0_pay42 V9) (k0_pay43 V9) : FVec Ideal S1x1 .f32) (ix2 0 0) = mnew (wK (fun s => V5 (ix3 0 2 s)) (fun t => V9 (ix2 6 t))) (V9 (ix2 6 255)) (m (ix2 0 0)) := by
  unfold mnew wK
  pointwise [k0_pay7, k0_pay41, k0_pay42, k0_pay43, k0_pay54, k0_pay55]
  simp only [ninf]

theorem state2 (e : Fin 128) (c : Fin 128) : (k0_pay57 (k0_pay56 k0_pay74 m (k0_pay41 (k0_pay7 V5)) (k0_pay42 V9) (k0_pay43 V9) (k0_pay45 V2) (k0_pay46 V3) V8) : FVec Ideal S1x144x128 .f32) (ix3 0 ⟨e.val, by omega⟩ c)
    = snew (wK (fun s => V5 (ix3 0 2 s)) (fun t => V9 (ix2 6 t))) (V9 (ix2 6 255)) (m (ix2 0 0)) (fun s => V3 (ix3 0 s e)) (fun s => V2 (ix3 0 s c)) (V8 (ix3 0 ⟨e.val, by omega⟩ c)) := by
  unfold snew; rw [← max2]; unfold wK
  pointwise [k0_pay45, k0_pay46, k0_pay52, k0_pay56, k0_pay57, k0_pay74, k0_pay7, k0_pay41, k0_pay42, k0_pay43, k0_pay54]

theorem norm2 (c : Fin 128) : (k0_pay57 (k0_pay56 k0_pay74 m (k0_pay41 (k0_pay7 V5)) (k0_pay42 V9) (k0_pay43 V9) (k0_pay45 V2) (k0_pay46 V3) V8) : FVec Ideal S1x144x128 .f32) (ix3 0 128 c)
    = snew (wK (fun s => V5 (ix3 0 2 s)) (fun t => V9 (ix2 6 t))) (V9 (ix2 6 255)) (m (ix2 0 0)) (fun _ => 1) (fun s => V2 (ix3 0 s c)) (V8 (ix3 0 128 c)) := by
  unfold snew; rw [← max2]; unfold wK
  simp only [one_mul]
  pointwise [k0_pay45, k0_pay46, k0_pay52, k0_pay56, k0_pay57, k0_pay74, k0_pay7, k0_pay41, k0_pay42, k0_pay43, k0_pay54]

theorem gate2 (H : FVec Ideal S128x256 .f32) (s : Fin 256) (e : Fin 128) : (k0_pay58 H V4 V6 : FVec Ideal S1x256x128 .bf16) (ix3 0 s e)
    = outv (V4 (ix3 0 s e)) (fun e => H (ix2 e s)) (V6 (ix2 e 0)) e := by
  unfold outv
  pointwise [k0_pay58]

theorem head3 (e : Fin 128) (t : Fin 256) : (k0_pay67 k0_pay72 m (k0_pay8 V10) (k0_pay60 V9) (k0_pay62 V1) (k0_pay63 V2) (k0_pay64 V3) V8 : FVec Ideal S128x256 .f32) (ix2 e t)
    = hrow (fun t c => V1 (ix3 0 t c)) (fun s c => V2 (ix3 0 s c)) (dK (fun s => V10 (ix3 0 s 3)) (fun t => V9 (ix2 7 t))) (fun t => V9 (ix2 7 t)) (m (ix2 0 0))
        (fun s => V3 (ix3 0 s e)) (fun c => V8 (ix3 0 ⟨e.val, by omega⟩ c)) (fun c => V8 (ix3 0 128 c)) t := by
  unfold hrow acc sc mrow dK
  pointwise [k0_pay8, k0_pay60, k0_pay62, k0_pay63, k0_pay64, k0_pay65, k0_pay66, k0_pay67, k0_pay72]
  simp only [ninf, sel_le, one_mul, zero_sub]
  rfl

theorem max3 : (k0_pay69 m (k0_pay59 (k0_pay7 V5)) (k0_pay60 V9) (k0_pay61 V9) : FVec Ideal S1x1 .f32) (ix2 0 0) = mnew (wK (fun s => V5 (ix3 0 3 s)) (fun t => V9 (ix2 7 t))) (V9 (ix2 7 255)) (m (ix2 0 0)) := by
  unfold mnew wK
  pointwise [k0_pay7, k0_pay59, k0_pay60, k0_pay61, k0_pay68, k0_pay69]
  simp only [ninf]

theorem state3 (e : Fin 128) (c : Fin 128) : (k0_pay70 k0_pay74 m (k0_pay61 V9) (k0_pay63 V2) (k0_pay65 (k0_pay64 V3)) (k0_pay66 V8) (k0_pay68 (k0_pay59 (k0_pay7 V5)) (k0_pay60 V9) (k0_pay61 V9)) (k0_pay69 m (k0_pay59 (k0_pay7 V5)) (k0_pay60 V9) (k0_pay61 V9)) : FVec Ideal S1x144x128 .f32) (ix3 0 ⟨e.val, by omega⟩ c)
    = snew (wK (fun s => V5 (ix3 0 3 s)) (fun t => V9 (ix2 7 t))) (V9 (ix2 7 255)) (m (ix2 0 0)) (fun s => V3 (ix3 0 s e)) (fun s => V2 (ix3 0 s c)) (V8 (ix3 0 ⟨e.val, by omega⟩ c)) := by
  unfold snew; rw [← max3]; unfold wK
  pointwise [k0_pay63, k0_pay64, k0_pay65, k0_pay66, k0_pay70, k0_pay74, k0_pay7, k0_pay59, k0_pay60, k0_pay61, k0_pay68]

theorem norm3 (c : Fin 128) : (k0_pay70 k0_pay74 m (k0_pay61 V9) (k0_pay63 V2) (k0_pay65 (k0_pay64 V3)) (k0_pay66 V8) (k0_pay68 (k0_pay59 (k0_pay7 V5)) (k0_pay60 V9) (k0_pay61 V9)) (k0_pay69 m (k0_pay59 (k0_pay7 V5)) (k0_pay60 V9) (k0_pay61 V9)) : FVec Ideal S1x144x128 .f32) (ix3 0 128 c)
    = snew (wK (fun s => V5 (ix3 0 3 s)) (fun t => V9 (ix2 7 t))) (V9 (ix2 7 255)) (m (ix2 0 0)) (fun _ => 1) (fun s => V2 (ix3 0 s c)) (V8 (ix3 0 128 c)) := by
  unfold snew; rw [← max3]; unfold wK
  simp only [one_mul]
  pointwise [k0_pay63, k0_pay64, k0_pay65, k0_pay66, k0_pay70, k0_pay74, k0_pay7, k0_pay59, k0_pay60, k0_pay61, k0_pay68]

theorem gate3 (H : FVec Ideal S128x256 .f32) (s : Fin 256) (e : Fin 128) : (k0_pay6 (k0_pay71 H V4 V6) : FVec Ideal S1x256x128 .bf16) (ix3 0 s e)
    = outv (V4 (ix3 0 s e)) (fun e => H (ix2 e s)) (V6 (ix2 e 0)) e := by
  unfold outv
  pointwise [k0_pay6, k0_pay71]

end

end Cert.MlstmIdeal.Hand

end
-- ==== Proof.MlTrip.lean ====
/- One trip of the recurrence kernel's loop as values: what it hands on and the pieces it writes, over the blocks it loads. -/
module

public import proofs.«01_k».proof.Proof.MlFrame
public import proofs.«01_k».proof.Proof.MlHead

@[expose] public section

set_option maxRecDepth 16384

noncomputable section

namespace Cert.MlstmIdeal.Hand

open Cert.MlstmIdeal Cert.MlstmIdeal.Gen Cert.MlMath
open Idealize.ShloMosaic Idealize.ShloMosaic.TcCoe Idealize.SL.Sem

/-- A block of 256 rows and 128 columns. -/
abbrev ld {e : EltTy} (a : Memref sig .tc .vmem S1x2048x512 e) (X : BufTy.Contents (Elt Ideal) a.view.ty) (off : Fin 3 → ℕ)
    (h : ∀ x, off x + S1x256x128.size x ≤ S1x2048x512.size x) : Vec Ideal S1x256x128 e :=
  View.readAt (Elt Ideal) a.view (Rect.unit (s := S1x2048x512) off S1x256x128.size h).toLoadRect X
abbrev ld5 (a : Memref sig .tc .vmem S1x8x2048 .f32) (X : BufTy.Contents (Elt Ideal) a.view.ty) (k : Fin k0_t1_loop.trips) : Vec Ideal S1x8x256 .f32 :=
  View.readAt (Elt Ideal) a.view (Rect.unit (s := S1x8x2048) (k0_off1 k) S1x8x256.size (k0_off1_inb k)).toLoadRect X
abbrev ld6 (a : Memref sig .tc .vmem S512x1 .f32) (X : BufTy.Contents (Elt Ideal) a.view.ty) (off : Fin 2 → ℕ)
    (h : ∀ x, off x + S128x1.size x ≤ S512x1.size x) : Vec Ideal S128x1 .f32 :=
  View.readAt (Elt Ideal) a.view (Rect.unit (s := S512x1) off S128x1.size h).toLoadRect X
abbrev ld8 (a : Memref sig .tc .vmem S4x144x128 .f32) (X : BufTy.Contents (Elt Ideal) a.view.ty) (off : Fin 3 → ℕ)
    (h : ∀ x, off x + S1x144x128.size x ≤ S4x144x128.size x) : Vec Ideal S1x144x128 .f32 :=
  View.readAt (Elt Ideal) a.view (Rect.unit (s := S4x144x128) off S1x144x128.size h).toLoadRect X
abbrev ld9 (a : Memref sig .tc .vmem S64x256 .f32) (X : BufTy.Contents (Elt Ideal) a.view.ty) (k : Fin k0_t1_loop.trips) : Vec Ideal S8x256 .f32 :=
  View.readAt (Elt Ideal) a.view (Rect.unit (s := S64x256) (k0_off2 k) S8x256.size (k0_off2_inb k)).toLoadRect X
abbrev ld10 (a : Memref sig .tc .vmem S8x256x128 .f32) (X : BufTy.Contents (Elt Ideal) a.view.ty) (k : Fin k0_t1_loop.trips) : Vec Ideal S1x256x128 .f32 :=
  View.readAt (Elt Ideal) a.view (Rect.unit (s := S8x256x128) (k0_off3 k) S1x256x128.size (k0_off3_inb k)).toLoadRect X

theorem off1 : ∀ k : Fin k0_t1_loop.trips, k0_off1 k = ![0, 0, 256 * k.val] := by decide +kernel
theorem off2 : ∀ k : Fin k0_t1_loop.trips, k0_off2 k = ![8 * k.val, 0] := by decide +kernel
theorem off3 : ∀ k : Fin k0_t1_loop.trips, k0_off3 k = ![k.val, 0, 0] := by decide +kernel
theorem off4 : ∀ k : Fin k0_t1_loop.trips, k0_off4 k = ![0, 256 * k.val, 0] := by decide +kernel
theorem off5 : ∀ k : Fin k0_t1_loop.trips, k0_off5 k = ![0, 256 * k.val, 128] := by decide +kernel
theorem off6 : ∀ k : Fin k0_t1_loop.trips, k0_off6 k = ![0, 256 * k.val, 256] := by decide +kernel
theorem off7 : ∀ k : Fin k0_t1_loop.trips, k0_off7 k = ![0, 256 * k.val, 384] := by decide +kernel

section
variable (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x512 .f32) (harg4 : arg4.IsWhole) (arg5 : Memref sig .tc .vmem S1x8x2048 .f32) (harg5 : arg5.IsWhole) (arg6 : Memref sig .tc .vmem S512x1 .f32) (harg6 : arg6.IsWhole) (arg7 : Memref sig .tc .vmem S1x2048x512 .bf16) (harg7 : arg7.IsWhole) (arg8 : Memref sig .tc .vmem S4x144x128 .f32) (harg8 : arg8.IsWhole) (arg9 : Memref sig .tc .vmem S64x256 .f32) (harg9 : arg9.IsWhole) (arg10 : Memref sig .tc .vmem S8x256x128 .f32) (harg10 : arg10.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg9 : BufTy.Contents (Elt Ideal) arg9.view.ty) (X_arg10 : BufTy.Contents (Elt Ideal) arg10.view.ty)
variable (k : Fin k0_t1_loop.trips) (acc : FVec Ideal S1x1 .f32 × FVec Ideal S1x1 .f32 × FVec Ideal S1x1 .f32 × FVec Ideal S1x1 .f32)
  (f7 : BufTy.Contents (Elt Ideal) arg7.view.ty) (f8 : BufTy.Contents (Elt Ideal) arg8.view.ty)

/-- The running maxima the trip hands on. -/
theorem trip_next : tripR_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 k acc f7 f8
    = (k0_pay23 acc.1 (k0_pay9 (ld5 arg5 X_arg5 k)) (k0_pay10 (ld9 arg9 X_arg9 k)) (k0_pay11 (ld9 arg9 X_arg9 k)),
      k0_pay37 acc.2.1 (k0_pay28 (k0_pay7 (ld5 arg5 X_arg5 k))) (k0_pay29 (ld9 arg9 X_arg9 k)) (k0_pay30 (ld9 arg9 X_arg9 k)),
      k0_pay55 acc.2.2.1 (k0_pay41 (k0_pay7 (ld5 arg5 X_arg5 k))) (k0_pay42 (ld9 arg9 X_arg9 k)) (k0_pay43 (ld9 arg9 X_arg9 k)),
      k0_pay69 acc.2.2.2 (k0_pay59 (k0_pay7 (ld5 arg5 X_arg5 k))) (k0_pay60 (ld9 arg9 X_arg9 k)) (k0_pay61 (ld9 arg9 X_arg9 k))) := by
  unfold tripR_k0_t1 trip_k0_t1
  rfl

/-- The states it writes. -/
theorem trip_states : (tripL_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 k acc f7 f8).2
    = [⟨Rect.unit ![3, 0, 0] S1x144x128.size inb_S4x144x128_S1x144x128_3_0_0, k0_pay70 k0_pay74 acc.2.2.2 (k0_pay61 (ld9 arg9 X_arg9 k)) (k0_pay63 (ld arg2 X_arg2 (k0_off7 k) (k0_off7_inb k))) (k0_pay65 (k0_pay64 (ld arg3 X_arg3 (k0_off7 k) (k0_off7_inb k)))) (k0_pay66 (ld8 arg8 f8 ![3, 0, 0] inb_S4x144x128_S1x144x128_3_0_0)) (k0_pay68 (k0_pay59 (k0_pay7 (ld5 arg5 X_arg5 k))) (k0_pay60 (ld9 arg9 X_arg9 k)) (k0_pay61 (ld9 arg9 X_arg9 k))) (k0_pay69 acc.2.2.2 (k0_pay59 (k0_pay7 (ld5 arg5 X_arg5 k))) (k0_pay60 (ld9 arg9 X_arg9 k)) (k0_pay61 (ld9 arg9 X_arg9 k)))⟩,
      ⟨Rect.unit ![2, 0, 0] S1x144x128.size inb_S4x144x128_S1x144x128_2_0_0, k0_pay57 (k0_pay56 k0_pay74 acc.2.2.1 (k0_pay41 (k0_pay7 (ld5 arg5 X_arg5 k))) (k0_pay42 (ld9 arg9 X_arg9 k)) (k0_pay43 (ld9 arg9 X_arg9 k)) (k0_pay45 (ld arg2 X_arg2 (k0_off6 k) (k0_off6_inb k))) (k0_pay46 (ld arg3 X_arg3 (k0_off6 k) (k0_off6_inb k))) (ld8 arg8 f8 ![2, 0, 0] inb_S4x144x128_S1x144x128_2_0_0))⟩,
      ⟨Rect.unit ![1, 0, 0] S1x144x128.size inb_S4x144x128_S1x144x128_1_0_0, k0_pay38 k0_pay74 acc.2.1 (k0_pay28 (k0_pay7 (ld5 arg5 X_arg5 k))) (k0_pay29 (ld9 arg9 X_arg9 k)) (k0_pay30 (ld9 arg9 X_arg9 k)) (k0_pay32 (ld arg2 X_arg2 (k0_off5 k) (k0_off5_inb k))) (k0_pay33 (ld arg3 X_arg3 (k0_off5 k) (k0_off5_inb k))) (k0_pay34 (ld8 arg8 f8 ![1, 0, 0] inb_S4x144x128_S1x144x128_1_0_0))⟩,
      ⟨Rect.unit ![0, 0, 0] S1x144x128.size inb_S4x144x128_S1x144x128_0_0_0, k0_pay26 (k0_pay13 (ld arg2 X_arg2 (k0_off4 k) (k0_off4_inb k))) (k0_pay24 k0_pay74 acc.1 (k0_pay9 (ld5 arg5 X_arg5 k)) (k0_pay10 (ld9 arg9 X_arg9 k)) (k0_pay11 (ld9 arg9 X_arg9 k)) (k0_pay14 (ld arg3 X_arg3 (k0_off4 k) (k0_off4_inb k)))) (k0_pay25 acc.1 (k0_pay9 (ld5 arg5 X_arg5 k)) (k0_pay10 (ld9 arg9 X_arg9 k)) (k0_pay11 (ld9 arg9 X_arg9 k)) (ld8 arg8 f8 ![0, 0, 0] inb_S4x144x128_S1x144x128_0_0_0))⟩] := by
  unfold tripL_k0_t1 trip_k0_t1
  dsimp only [ld, ld5, ld6, ld8, ld9, ld10, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.v272, trip_k0_t1.sl.v385, trip_k0_t1.sl.v498]

/-- The rows it writes. -/
theorem trip_rows : (tripL_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 k acc f7 f8).1
    = [⟨Rect.unit (k0_off7 k) S1x256x128.size (k0_off7_inb k), k0_pay6 (k0_pay71 (k0_pay67 k0_pay72 acc.2.2.2 (k0_pay8 (ld10 arg10 X_arg10 k)) (k0_pay60 (ld9 arg9 X_arg9 k)) (k0_pay62 (ld arg1 X_arg1 (k0_off7 k) (k0_off7_inb k))) (k0_pay63 (ld arg2 X_arg2 (k0_off7 k) (k0_off7_inb k))) (k0_pay64 (ld arg3 X_arg3 (k0_off7 k) (k0_off7_inb k))) (ld8 arg8 f8 ![3, 0, 0] inb_S4x144x128_S1x144x128_3_0_0)) (ld arg4 X_arg4 (k0_off7 k) (k0_off7_inb k)) (ld6 arg6 X_arg6 ![384, 0] inb_S512x1_S128x1_384_0))⟩,
      ⟨Rect.unit (k0_off6 k) S1x256x128.size (k0_off6_inb k), k0_pay58 (k0_pay53 (k0_pay44 (ld arg1 X_arg1 (k0_off6 k) (k0_off6_inb k))) (k0_pay46 (ld arg3 X_arg3 (k0_off6 k) (k0_off6_inb k))) (k0_pay49 k0_pay72 acc.2.2.1 (ld9 arg9 X_arg9 k) (k0_pay8 (ld10 arg10 X_arg10 k))) (k0_pay50 k0_pay72 acc.2.2.1 (ld9 arg9 X_arg9 k) (k0_pay8 (ld10 arg10 X_arg10 k))) (k0_pay51 k0_pay72 acc.2.2.1 (ld9 arg9 X_arg9 k) (k0_pay8 (ld10 arg10 X_arg10 k)) (ld arg1 X_arg1 (k0_off6 k) (k0_off6_inb k)) (ld arg2 X_arg2 (k0_off6 k) (k0_off6_inb k))) (ld8 arg8 f8 ![2, 0, 0] inb_S4x144x128_S1x144x128_2_0_0)) (ld arg4 X_arg4 (k0_off6 k) (k0_off6_inb k)) (ld6 arg6 X_arg6 ![256, 0] inb_S512x1_S128x1_256_0)⟩,
      ⟨Rect.unit (k0_off5 k) S1x256x128.size (k0_off5_inb k), k0_pay40 (k0_pay39 (k0_pay35 k0_pay72 acc.2.1 (k0_pay8 (ld10 arg10 X_arg10 k)) (k0_pay29 (ld9 arg9 X_arg9 k)) (k0_pay31 (ld arg1 X_arg1 (k0_off5 k) (k0_off5_inb k))) (ld arg2 X_arg2 (k0_off5 k) (k0_off5_inb k)) (ld arg3 X_arg3 (k0_off5 k) (k0_off5_inb k)) (ld8 arg8 f8 ![1, 0, 0] inb_S4x144x128_S1x144x128_1_0_0)) (ld arg4 X_arg4 (k0_off5 k) (k0_off5_inb k))) (ld6 arg6 X_arg6 ![128, 0] inb_S512x1_S128x1_128_0)⟩,
      ⟨Rect.unit (k0_off4 k) S1x256x128.size (k0_off4_inb k), k0_pay27 (k0_pay21 (k0_pay12 (ld arg1 X_arg1 (k0_off4 k) (k0_off4_inb k))) (k0_pay14 (ld arg3 X_arg3 (k0_off4 k) (k0_off4_inb k))) (k0_pay15 k0_pay72 (ld9 arg9 X_arg9 k) (ld10 arg10 X_arg10 k)) (k0_pay17 k0_pay72 acc.1 (ld9 arg9 X_arg9 k) (ld10 arg10 X_arg10 k)) (k0_pay18 k0_pay72 acc.1 (ld9 arg9 X_arg9 k) (ld10 arg10 X_arg10 k)) (k0_pay19 (ld arg1 X_arg1 (k0_off4 k) (k0_off4_inb k)) (ld arg2 X_arg2 (k0_off4 k) (k0_off4_inb k))) (ld8 arg8 f8 ![0, 0, 0] inb_S4x144x128_S1x144x128_0_0_0)) (ld arg4 X_arg4 (k0_off4 k) (k0_off4_inb k)) (ld6 arg6 X_arg6 ![0, 0] inb_S512x1_S128x1_0_0)⟩] := by
  unfold tripL_k0_t1 trip_k0_t1
  dsimp only [ld, ld5, ld6, ld8, ld9, ld10, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.v272, trip_k0_t1.sl.v385, trip_k0_t1.sl.v498]

end

end Cert.MlstmIdeal.Hand

end
-- ==== Proof.MlStep.lean ====
/- One trip's values for a head over finite inputs: the closed sums of the recurrence, 256 steps further. -/
module

public import proofs.«01_k».proof.Proof.MlHead

@[expose] public section

set_option maxRecDepth 16384

noncomputable section

namespace Cert.MlstmIdeal.Hand

open Cert.MlstmIdeal Cert.MlstmIdeal.Gen Cert.MlMath
open Idealize.ShloMosaic Idealize.ShloMosaic.TcCoe Idealize.SL.Sem

section
variable {lf ig : ℕ → ℝ} {n : ℕ} {g b gc : Fin 256 → EReal}

theorem chunk_dK (hb : ∀ t : Fin 256, b t = ((A lf (n + t.val + 1) - A lf n : ℝ) : EReal))
    (hgc : ∀ s : Fin 256, gc s = ((ig (n + s.val) - (A lf (n + s.val + 1) - A lf n) : ℝ) : EReal)) : Chunk lf ig n (dK gc b) b where
  hB := hb
  hd s t := by
    unfold dK
    split_ifs
    · rw [hgc, hb, ← EReal.coe_add]
      congr 1
      ring
    · rfl

theorem wK_real (hb : ∀ t : Fin 256, b t = ((A lf (n + t.val + 1) - A lf n : ℝ) : EReal)) (hg : ∀ s : Fin 256, g s = (ig (n + s.val) : EReal))
    (s : Fin 256) : wK g b s = ((A lf (n + 256) - A lf (n + s.val + 1) + ig (n + s.val) : ℝ) : EReal) := by
  unfold wK
  rw [hb, hb, hg, ← EReal.coe_sub, ← EReal.coe_add]
  congr 1
  show A lf (n + 255 + 1) - A lf n - (A lf (n + s.val + 1) - A lf n) + ig (n + s.val) = _
  ring_nf

theorem total_real (hb : ∀ t : Fin 256, b t = ((A lf (n + t.val + 1) - A lf n : ℝ) : EReal)) : b 255 = ((A lf (n + 256) - A lf n : ℝ) : EReal) := hb 255
end

section
variable {m : FVec Ideal S1x1 .f32} {V1 V2 V3 : FVec Ideal S1x256x128 .bf16} {V5 : FVec Ideal S1x8x256 .f32}
  {V8 : FVec Ideal S1x144x128 .f32} {V9 : FVec Ideal S8x256 .f32} {V10 : FVec Ideal S1x256x128 .f32}
  {lf ig : ℕ → ℝ} {qr kr : ℕ → Fin 128 → ℝ} {vr : Fin 128 → ℕ → ℝ} {n : ℕ} {M : ℝ}

theorem step0 (hm : m (ix2 0 0) = (M : EReal)) (hq : ∀ (t : Fin 256) c, V1 (ix3 0 t c) = (qr (n + t.val) c : EReal))
    (hk : ∀ (t : Fin 256) c, V2 (ix3 0 t c) = (kr (n + t.val) c : EReal)) (hv : ∀ (t : Fin 256) c, V3 (ix3 0 t c) = (vr c (n + t.val) : EReal))
    (hg : ∀ t : Fin 256, V5 (ix3 0 0 t) = (ig (n + t.val) : EReal))
    (hb : ∀ t : Fin 256, V9 (ix2 4 t) = ((A lf (n + t.val + 1) - A lf n : ℝ) : EReal))
    (hgc : ∀ t : Fin 256, V10 (ix3 0 t 0) = ((ig (n + t.val) - (A lf (n + t.val + 1) - A lf n) : ℝ) : EReal))
    (hC : ∀ e c : Fin 128, V8 (ix3 0 ⟨e.val, by omega⟩ c) = ((Real.exp (-M) * S lf ig n (vr e * fun s => kr s c) : ℝ) : EReal))
    (hN : ∀ c : Fin 128, V8 (ix3 0 128 c) = ((Real.exp (-M) * S lf ig n (fun s => kr s c) : ℝ) : EReal)) :
    ∃ r : ℝ, (k0_pay23 m (k0_pay9 V5) (k0_pay10 V9) (k0_pay11 V9) : FVec Ideal S1x1 .f32) (ix2 0 0) = (r : EReal)
      ∧ (∀ e c : Fin 128, (k0_pay26 (k0_pay13 V2) (k0_pay24 k0_pay74 m (k0_pay9 V5) (k0_pay10 V9) (k0_pay11 V9) (k0_pay14 V3)) (k0_pay25 m (k0_pay9 V5) (k0_pay10 V9) (k0_pay11 V9) V8) : FVec Ideal S1x144x128 .f32) (ix3 0 ⟨e.val, by omega⟩ c)
          = ((Real.exp (-r) * S lf ig (n + 256) (vr e * fun s => kr s c) : ℝ) : EReal))
      ∧ (∀ c : Fin 128, (k0_pay26 (k0_pay13 V2) (k0_pay24 k0_pay74 m (k0_pay9 V5) (k0_pay10 V9) (k0_pay11 V9) (k0_pay14 V3)) (k0_pay25 m (k0_pay9 V5) (k0_pay10 V9) (k0_pay11 V9) V8) : FVec Ideal S1x144x128 .f32) (ix3 0 128 c)
          = ((Real.exp (-r) * S lf ig (n + 256) (fun s => kr s c) : ℝ) : EReal))
      ∧ ∀ (V4 : FVec Ideal S1x256x128 .f32) (V6 : FVec Ideal S128x1 .f32) (s : Fin 256) (e : Fin 128),
          (k0_pay27 (k0_pay21 (k0_pay12 V1) (k0_pay14 V3) (k0_pay15 k0_pay72 V9 V10) (k0_pay17 k0_pay72 m V9 V10) (k0_pay18 k0_pay72 m V9 V10) (k0_pay19 V1 V2) V8) V4 V6 : FVec Ideal S1x256x128 .bf16) (ix3 0 s e)
          = outv (V4 (ix3 0 s e)) (fun e => (hval lf ig kr (vr e) (qr (n + s.val)) (n + (s.val + 1)) : EReal)) (V6 (ix2 e 0)) e := by
  have hc := chunk_dK (gc := fun s => V10 (ix3 0 s 0)) hb hgc
  have hw := wK_real hb hg
  have hT := total_real hb
  obtain ⟨r, hr⟩ := mnew_real (T := A lf (n + 256) - A lf n) hw M
  rw [← hT, ← hm] at hr
  refine ⟨r, (max0 m V5 V9).trans hr, fun e c => ?_, fun c => ?_, fun V4 V6 s e => ?_⟩
  · rw [state0, hm]
    rw [hm] at hr
    exact snew_val hw hT M hr (fun s => hk s c) (fun s => hv s e) (hC e c)
  · rw [norm0, hm]
    rw [hm] at hr
    have := snew_val (vr := fun _ => 1) hw hT M hr (fun s => hk s c) (v := fun _ => 1) (fun s => rfl) (C := V8 (ix3 0 128 c)) (by simpa [Pi.mul_def] using hN c)
    simpa [Pi.mul_def] using this
  · rw [gate0]
    congr 1
    funext e
    rw [head0, hm]
    exact hrow_val hc M (hq s) hk (fun s => hv s e) (hC e) hN

theorem step1 (hm : m (ix2 0 0) = (M : EReal)) (hq : ∀ (t : Fin 256) c, V1 (ix3 0 t c) = (qr (n + t.val) c : EReal))
    (hk : ∀ (t : Fin 256) c, V2 (ix3 0 t c) = (kr (n + t.val) c : EReal)) (hv : ∀ (t : Fin 256) c, V3 (ix3 0 t c) = (vr c (n + t.val) : EReal))
    (hg : ∀ t : Fin 256, V5 (ix3 0 1 t) = (ig (n + t.val) : EReal))
    (hb : ∀ t : Fin 256, V9 (ix2 5 t) = ((A lf (n + t.val + 1) - A lf n : ℝ) : EReal))
    (hgc : ∀ t : Fin 256, V10 (ix3 0 t 1) = ((ig (n + t.val) - (A lf (n + t.val + 1) - A lf n) : ℝ) : EReal))
    (hC : ∀ e c : Fin 128, V8 (ix3 0 ⟨e.val, by omega⟩ c) = ((Real.exp (-M) * S lf ig n (vr e * fun s => kr s c) : ℝ) : EReal))
    (hN : ∀ c : Fin 128, V8 (ix3 0 128 c) = ((Real.exp (-M) * S lf ig n (fun s => kr s c) : ℝ) : EReal)) :
    ∃ r : ℝ, (k0_pay37 m (k0_pay28 (k0_pay7 V5)) (k0_pay29 V9) (k0_pay30 V9) : FVec Ideal S1x1 .f32) (ix2 0 0) = (r : EReal)
      ∧ (∀ e c : Fin 128, (k0_pay38 k0_pay74 m (k0_pay28 (k0_pay7 V5)) (k0_pay29 V9) (k0_pay30 V9) (k0_pay32 V2) (k0_pay33 V3) (k0_pay34 V8) : FVec Ideal S1x144x128 .f32) (ix3 0 ⟨e.val, by omega⟩ c)
          = ((Real.exp (-r) * S lf ig (n + 256) (vr e * fun s => kr s c) : ℝ) : EReal))
      ∧ (∀ c : Fin 128, (k0_pay38 k0_pay74 m (k0_pay28 (k0_pay7 V5)) (k0_pay29 V9) (k0_pay30 V9) (k0_pay32 V2) (k0_pay33 V3) (k0_pay34 V8) : FVec Ideal S1x144x128 .f32) (ix3 0 128 c)
          = ((Real.exp (-r) * S lf ig (n + 256) (fun s => kr s c) : ℝ) : EReal))
      ∧ ∀ (V4 : FVec Ideal S1x256x128 .f32) (V6 : FVec Ideal S128x1 .f32) (s : Fin 256) (e : Fin 128),
          (k0_pay40 (k0_pay39 (k0_pay35 k0_pay72 m (k0_pay8 V10) (k0_pay29 V9) (k0_pay31 V1) V2 V3 V8) V4) V6 : FVec Ideal S1x256x128 .bf16) (ix3 0 s e)
          = outv (V4 (ix3 0 s e)) (fun e => (hval lf ig kr (vr e) (qr (n + s.val)) (n + (s.val + 1)) : EReal)) (V6 (ix2 e 0)) e := by
  have hc := chunk_dK (gc := fun s => V10 (ix3 0 s 1)) hb hgc
  have hw := wK_real hb hg
  have hT := total_real hb
  obtain ⟨r, hr⟩ := mnew_real (T := A lf (n + 256) - A lf n) hw M
  rw [← hT, ← hm] at hr
  refine ⟨r, (max1 m V5 V9).trans hr, fun e c => ?_, fun c => ?_, fun V4 V6 s e => ?_⟩
  · rw [state1, hm]
    rw [hm] at hr
    exact snew_val hw hT M hr (fun s => hk s c) (fun s => hv s e) (hC e c)
  · rw [norm1, hm]
    rw [hm] at hr
    have := snew_val (vr := fun _ => 1) hw hT M hr (fun s => hk s c) (v := fun _ => 1) (fun s => rfl) (C := V8 (ix3 0 128 c)) (by simpa [Pi.mul_def] using hN c)
    simpa [Pi.mul_def] using this
  · rw [gate1]
    congr 1
    funext e
    rw [head1, hm]
    exact hrow_val hc M (hq s) hk (fun s => hv s e) (hC e) hN

theorem step2 (hm : m (ix2 0 0) = (M : EReal)) (hq : ∀ (t : Fin 256) c, V1 (ix3 0 t c) = (qr (n + t.val) c : EReal))
    (hk : ∀ (t : Fin 256) c, V2 (ix3 0 t c) = (kr (n + t.val) c : EReal)) (hv : ∀ (t : Fin 256) c, V3 (ix3 0 t c) = (vr c (n + t.val) : EReal))
    (hg : ∀ t : Fin 256, V5 (ix3 0 2 t) = (ig (n + t.val) : EReal))
    (hb : ∀ t : Fin 256, V9 (ix2 6 t) = ((A lf (n + t.val + 1) - A lf n : ℝ) : EReal))
    (hgc : ∀ t : Fin 256, V10 (ix3 0 t 2) = ((ig (n + t.val) - (A lf (n + t.val + 1) - A lf n) : ℝ) : EReal))
    (hC : ∀ e c : Fin 128, V8 (ix3 0 ⟨e.val, by omega⟩ c) = ((Real.exp (-M) * S lf ig n (vr e * fun s => kr s c) : ℝ) : EReal))
    (hN : ∀ c : Fin 128, V8 (ix3 0 128 c) = ((Real.exp (-M) * S lf ig n (fun s => kr s c) : ℝ) : EReal)) :
    ∃ r : ℝ, (k0_pay55 m (k0_pay41 (k0_pay7 V5)) (k0_pay42 V9) (k0_pay43 V9) : FVec Ideal S1x1 .f32) (ix2 0 0) = (r : EReal)
      ∧ (∀ e c : Fin 128, (k0_pay57 (k0_pay56 k0_pay74 m (k0_pay41 (k0_pay7 V5)) (k0_pay42 V9) (k0_pay43 V9) (k0_pay45 V2) (k0_pay46 V3) V8) : FVec Ideal S1x144x128 .f32) (ix3 0 ⟨e.val, by omega⟩ c)
          = ((Real.exp (-r) * S lf ig (n + 256) (vr e * fun s => kr s c) : ℝ) : EReal))
      ∧ (∀ c : Fin 128, (k0_pay57 (k0_pay56 k0_pay74 m (k0_pay41 (k0_pay7 V5)) (k0_pay42 V9) (k0_pay43 V9) (k0_pay45 V2) (k0_pay46 V3) V8) : FVec Ideal S1x144x128 .f32) (ix3 0 128 c)
          = ((Real.exp (-r) * S lf ig (n + 256) (fun s => kr s c) : ℝ) : EReal))
      ∧ ∀ (V4 : FVec Ideal S1x256x128 .f32) (V6 : FVec Ideal S128x1 .f32) (s : Fin 256) (e : Fin 128),
          (k0_pay58 (k0_pay53 (k0_pay44 V1) (k0_pay46 V3) (k0_pay49 k0_pay72 m V9 (k0_pay8 V10)) (k0_pay50 k0_pay72 m V9 (k0_pay8 V10)) (k0_pay51 k0_pay72 m V9 (k0_pay8 V10) V1 V2) V8) V4 V6 : FVec Ideal S1x256x128 .bf16) (ix3 0 s e)
          = outv (V4 (ix3 0 s e)) (fun e => (hval lf ig kr (vr e) (qr (n + s.val)) (n + (s.val + 1)) : EReal)) (V6 (ix2 e 0)) e := by
  have hc := chunk_dK (gc := fun s => V10 (ix3 0 s 2)) hb hgc
  have hw := wK_real hb hg
  have hT := total_real hb
  obtain ⟨r, hr⟩ := mnew_real (T := A lf (n + 256) - A lf n) hw M
  rw [← hT, ← hm] at hr
  refine ⟨r, (max2 m V5 V9).trans hr, fun e c => ?_, fun c => ?_, fun V4 V6 s e => ?_⟩
  · rw [state2, hm]
    rw [hm] at hr
    exact snew_val hw hT M hr (fun s => hk s c) (fun s => hv s e) (hC e c)
  · rw [norm2, hm]
    rw [hm] at hr
    have := snew_val (vr := fun _ => 1) hw hT M hr (fun s => hk s c) (v := fun _ => 1) (fun s => rfl) (C := V8 (ix3 0 128 c)) (by simpa [Pi.mul_def] using hN c)
    simpa [Pi.mul_def] using this
  · rw [gate2]
    congr 1
    funext e
    rw [head2, hm]
    exact hrow_val hc M (hq s) hk (fun s => hv s e) (hC e) hN

theorem step3 (hm : m (ix2 0 0) = (M : EReal)) (hq : ∀ (t : Fin 256) c, V1 (ix3 0 t c) = (qr (n + t.val) c : EReal))
    (hk : ∀ (t : Fin 256) c, V2 (ix3 0 t c) = (kr (n + t.val) c : EReal)) (hv : ∀ (t : Fin 256) c, V3 (ix3 0 t c) = (vr c (n + t.val) : EReal))
    (hg : ∀ t : Fin 256, V5 (ix3 0 3 t) = (ig (n + t.val) : EReal))
    (hb : ∀ t : Fin 256, V9 (ix2 7 t) = ((A lf (n + t.val + 1) - A lf n : ℝ) : EReal))
    (hgc : ∀ t : Fin 256, V10 (ix3 0 t 3) = ((ig (n + t.val) - (A lf (n + t.val + 1) - A lf n) : ℝ) : EReal))
    (hC : ∀ e c : Fin 128, V8 (ix3 0 ⟨e.val, by omega⟩ c) = ((Real.exp (-M) * S lf ig n (vr e * fun s => kr s c) : ℝ) : EReal))
    (hN : ∀ c : Fin 128, V8 (ix3 0 128 c) = ((Real.exp (-M) * S lf ig n (fun s => kr s c) : ℝ) : EReal)) :
    ∃ r : ℝ, (k0_pay69 m (k0_pay59 (k0_pay7 V5)) (k0_pay60 V9) (k0_pay61 V9) : FVec Ideal S1x1 .f32) (ix2 0 0) = (r : EReal)
      ∧ (∀ e c : Fin 128, (k0_pay70 k0_pay74 m (k0_pay61 V9) (k0_pay63 V2) (k0_pay65 (k0_pay64 V3)) (k0_pay66 V8) (k0_pay68 (k0_pay59 (k0_pay7 V5)) (k0_pay60 V9) (k0_pay61 V9)) (k0_pay69 m (k0_pay59 (k0_pay7 V5)) (k0_pay60 V9) (k0_pay61 V9)) : FVec Ideal S1x144x128 .f32) (ix3 0 ⟨e.val, by omega⟩ c)
          = ((Real.exp (-r) * S lf ig (n + 256) (vr e * fun s => kr s c) : ℝ) : EReal))
      ∧ (∀ c : Fin 128, (k0_pay70 k0_pay74 m (k0_pay61 V9) (k0_pay63 V2) (k0_pay65 (k0_pay64 V3)) (k0_pay66 V8) (k0_pay68 (k0_pay59 (k0_pay7 V5)) (k0_pay60 V9) (k0_pay61 V9)) (k0_pay69 m (k0_pay59 (k0_pay7 V5)) (k0_pay60 V9) (k0_pay61 V9)) : FVec Ideal S1x144x128 .f32) (ix3 0 128 c)
          = ((Real.exp (-r) * S lf ig (n + 256) (fun s => kr s c) : ℝ) : EReal))
      ∧ ∀ (V4 : FVec Ideal S1x256x128 .f32) (V6 : FVec Ideal S128x1 .f32) (s : Fin 256) (e : Fin 128),
          (k0_pay6 (k0_pay71 (k0_pay67 k0_pay72 m (k0_pay8 V10) (k0_pay60 V9) (k0_pay62 V1) (k0_pay63 V2) (k0_pay64 V3) V8) V4 V6) : FVec Ideal S1x256x128 .bf16) (ix3 0 s e)
          = outv (V4 (ix3 0 s e)) (fun e => (hval lf ig kr (vr e) (qr (n + s.val)) (n + (s.val + 1)) : EReal)) (V6 (ix2 e 0)) e := by
  have hc := chunk_dK (gc := fun s => V10 (ix3 0 s 3)) hb hgc
  have hw := wK_real hb hg
  have hT := total_real hb
  obtain ⟨r, hr⟩ := mnew_real (T := A lf (n + 256) - A lf n) hw M
  rw [← hT, ← hm] at hr
  refine ⟨r, (max3 m V5 V9).trans hr, fun e c => ?_, fun c => ?_, fun V4 V6 s e => ?_⟩
  · rw [state3, hm]
    rw [hm] at hr
    exact snew_val hw hT M hr (fun s => hk s c) (fun s => hv s e) (hC e c)
  · rw [norm3, hm]
    rw [hm] at hr
    have := snew_val (vr := fun _ => 1) hw hT M hr (fun s => hk s c) (v := fun _ => 1) (fun s => rfl) (C := V8 (ix3 0 128 c)) (by simpa [Pi.mul_def] using hN c)
    simpa [Pi.mul_def] using this
  · rw [gate3]
    congr 1
    funext e
    rw [head3, hm]
    exact hrow_val hc M (hq s) hk (fun s => hv s e) (hC e) hN

end

end Cert.MlstmIdeal.Hand

end
-- ==== Proof.MlData.lean ====
/- The recurrence's data over finite inputs: the real sequences of one batch entry and the layer's output of them. -/
module

public import proofs.«01_k».proof.Proof.MlMath

@[expose] public section

noncomputable section

namespace Cert.MlMath

open Idealize.ShloMosaic

/-- The real sequences of one batch entry: per head the gates' logarithms, the queries, keys and values. -/
structure Seqs where
  lf : Fin 4 → ℕ → ℝ
  ig : Fin 4 → ℕ → ℝ
  qr : Fin 4 → ℕ → Fin 128 → ℝ
  kr : Fin 4 → ℕ → Fin 128 → ℝ
  vr : Fin 4 → Fin 128 → ℕ → ℝ

/-- What head `h` puts out at step `i`, before the gate and the norm. -/
def Seqs.h (D : Seqs) (h : Fin 4) (i : ℕ) (e : Fin 128) : EReal := (hval (D.lf h) (D.ig h) (D.kr h) (D.vr h e) (D.qr h i) (i + 1) : EReal)

/-- The layer's output at step `i`, head `h`, entry `e`. -/
def Seqs.out (D : Seqs) (o w : EReal) (h : Fin 4) (i : ℕ) (e : Fin 128) : EReal := outv o (D.h h i) w e

/-- The layer's output at step `i` and column `j`. -/
def Seqs.at (D : Seqs) (o w : EReal) (i : Fin 2048) (j : Fin 512) : EReal := D.out o w ⟨j.val / 128, by omega⟩ i.val ⟨j.val % 128, by omega⟩

/-- A sequence read past its end is zero. -/
def ext (f : Fin 2048 → EReal) (i : ℕ) : ℝ := if h : i < 2048 then (f ⟨i, h⟩).toReal else 0

theorem ext_at (f : Fin 2048 → EReal) (i : Fin 2048) (h : ((f i).toReal : EReal) = f i) : (ext f i.val : EReal) = f i := by
  unfold ext
  rw [dif_pos i.isLt]
  exact h

/-- Head `h`'s entry `e` among the 512 columns. -/
def col (h : Fin 4) (e : Fin 128) : Fin 512 := ⟨128 * h.val + e.val, by omega⟩

/-- Head `h`'s rows among the gates: the input gate's logarithm and the forget gate's. -/
def gi (h : Fin 4) : Fin 8 := ⟨h.val, by omega⟩
def gf (h : Fin 4) : Fin 8 := ⟨4 + h.val, by omega⟩

/-- The sequences of a batch entry's queries, keys, values and gates. -/
def seqs (q k v : Fin 2048 → Fin 512 → EReal) (g : Fin 8 → Fin 2048 → EReal) : Seqs where
  lf h i := ext (g (gf h)) i
  ig h i := ext (g (gi h)) i
  qr h i e := ext (fun i => q i (col h e)) i
  kr h i e := ext (fun i => k i (col h e)) i
  vr h e i := ext (fun i => v i (col h e)) i

/-- The layer's output of finite inputs, at step `i` and column `j`. -/
def layer (q k v : Fin 2048 → Fin 512 → EReal) (g : Fin 8 → Fin 2048 → EReal) (o w : EReal) (i : Fin 2048) (j : Fin 512) : EReal :=
  (seqs q k v g).at o w i j

/-- The inputs are finite numbers. -/
structure Finite (q k v : Fin 16 → Fin 2048 → Fin 512 → EReal) (g : Fin 16 → Fin 8 → Fin 2048 → EReal) : Prop where
  q : ∀ b i j, ((q b i j).toReal : EReal) = q b i j
  k : ∀ b i j, ((k b i j).toReal : EReal) = k b i j
  v : ∀ b i j, ((v b i j).toReal : EReal) = v b i j
  g : ∀ b r i, ((g b r i).toReal : EReal) = g b r i

end Cert.MlMath

end
-- ==== Proof.MlLoop.lean ====
/- The recurrence kernel's loop over finite inputs: before each trip the running maxima are real numbers, the carried states
   are the recurrence's closed sums scaled by them, and every row written so far is the layer's output. -/
module

public import proofs.«01_k».proof.Proof.MlTrip
public import proofs.«01_k».proof.Proof.MlStep
public import proofs.«01_k».proof.Proof.MlData
public import Idealize.ShloMosaic.Lib.WritesUnit
public import Idealize.ShloMosaic.Lib.VecWindow

@[expose] public section

set_option maxRecDepth 16384

noncomputable section

namespace Cert.MlstmIdeal.Hand

open Cert.MlstmIdeal Cert.MlstmIdeal.Gen Cert.MlMath
open Idealize.ShloMosaic Idealize.ShloMosaic.TcCoe Idealize.SL.Sem

theorem trips_eq : k0_t1_loop.trips = 8 := by decide +kernel

/-! ## What the loads read -/

theorem ld_at {e : EltTy} (a : Memref sig .tc .vmem S1x2048x512 e) (X : BufTy.Contents (Elt Ideal) a.view.ty) {off : Fin 3 → ℕ} (hh)
    {o p : ℕ} (h : off = ![0, o, p]) (ho : o + 256 ≤ 2048) (hp : p + 128 ≤ 512) (t : Fin 256) (c : Fin 128) :
    ld a X off hh (ix3 0 t c) = a.view.read (Elt Ideal) X (ix3 0 ⟨o + t.val, by omega⟩ ⟨p + c.val, by omega⟩) := by
  subst h
  refine congrArg (a.view.read (Elt Ideal) X) (funext fun x => Fin.ext ?_)
  fin_cases x <;> simp [Rect.unit, Rect.toLoadRect]

theorem ld5_at (a : Memref sig .tc .vmem S1x8x2048 .f32) (X : BufTy.Contents (Elt Ideal) a.view.ty) (k : Fin k0_t1_loop.trips)
    (h : Fin 8) (t : Fin 256) :
    ld5 a X k (ix3 0 h t) = a.view.read (Elt Ideal) X (ix3 0 h ⟨256 * k.val + t.val, by have := k.isLt; have := trips_eq; omega⟩) := by
  have := off1 k
  refine congrArg (a.view.read (Elt Ideal) X) (funext fun x => Fin.ext ?_)
  fin_cases x <;> simp [Rect.unit, Rect.toLoadRect, this]

theorem ld6_at (a : Memref sig .tc .vmem S512x1 .f32) (X : BufTy.Contents (Elt Ideal) a.view.ty) (o : ℕ) (hh) (ho : o + 128 ≤ 512) (e : Fin 128) :
    ld6 a X ![o, 0] hh (ix2 e 0) = a.view.read (Elt Ideal) X (ix2 ⟨o + e.val, by omega⟩ 0) := by
  refine congrArg (a.view.read (Elt Ideal) X) (funext fun x => Fin.ext ?_)
  fin_cases x <;> simp [Rect.unit, Rect.toLoadRect]

theorem ld8_at (a : Memref sig .tc .vmem S4x144x128 .f32) (X : BufTy.Contents (Elt Ideal) a.view.ty) (o : Fin 4) (hh) (e : Fin 144) (c : Fin 128) :
    ld8 a X ![o.val, 0, 0] hh (ix3 0 e c) = a.view.read (Elt Ideal) X (ix3 o e c) := by
  refine congrArg (a.view.read (Elt Ideal) X) (funext fun x => Fin.ext ?_)
  fin_cases x <;> simp [Rect.unit, Rect.toLoadRect]

theorem ld9_at (a : Memref sig .tc .vmem S64x256 .f32) (X : BufTy.Contents (Elt Ideal) a.view.ty) (k : Fin k0_t1_loop.trips) (h : Fin 8) (t : Fin 256) :
    ld9 a X k (ix2 h t) = a.view.read (Elt Ideal) X (ix2 ⟨8 * k.val + h.val, by have := k.isLt; have := trips_eq; omega⟩ t) := by
  have := off2 k
  refine congrArg (a.view.read (Elt Ideal) X) (funext fun x => Fin.ext ?_)
  fin_cases x <;> simp [Rect.unit, Rect.toLoadRect, this]

theorem ld10_at (a : Memref sig .tc .vmem S8x256x128 .f32) (X : BufTy.Contents (Elt Ideal) a.view.ty) (k : Fin k0_t1_loop.trips) (t : Fin 256) (h : Fin 128) :
    ld10 a X k (ix3 0 t h) = a.view.read (Elt Ideal) X (ix3 ⟨k.val, trips_eq ▸ k.isLt⟩ t h) := by
  have := off3 k
  refine congrArg (a.view.read (Elt Ideal) X) (funext fun x => Fin.ext ?_)
  fin_cases x <;> simp [Rect.unit, Rect.toLoadRect, this]

/-! ## The trips -/

section
variable (𝒱 : Variants) (c : Dev nD) (bd : Option 𝒱.V) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x512 .f32) (harg4 : arg4.IsWhole) (arg5 : Memref sig .tc .vmem S1x8x2048 .f32) (harg5 : arg5.IsWhole) (arg6 : Memref sig .tc .vmem S512x1 .f32) (harg6 : arg6.IsWhole) (arg7 : Memref sig .tc .vmem S1x2048x512 .bf16) (harg7 : arg7.IsWhole) (arg8 : Memref sig .tc .vmem S4x144x128 .f32) (harg8 : arg8.IsWhole) (arg9 : Memref sig .tc .vmem S64x256 .f32) (harg9 : arg9.IsWhole) (arg10 : Memref sig .tc .vmem S8x256x128 .f32) (harg10 : arg10.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg9 : BufTy.Contents (Elt Ideal) arg9.view.ty) (X_arg10 : BufTy.Contents (Elt Ideal) arg10.view.ty)

/-- The loop's buffers hold these sequences. -/
structure Holds (D : Seqs) : Prop where
  hq : ∀ (h : Fin 4) (i : Fin 2048) (e : Fin 128), arg1.view.read (Elt Ideal) X_arg1 (ix3 0 i ⟨128 * h.val + e.val, by omega⟩) = (D.qr h i e : EReal)
  hk : ∀ (h : Fin 4) (i : Fin 2048) (e : Fin 128), arg2.view.read (Elt Ideal) X_arg2 (ix3 0 i ⟨128 * h.val + e.val, by omega⟩) = (D.kr h i e : EReal)
  hv : ∀ (h : Fin 4) (i : Fin 2048) (e : Fin 128), arg3.view.read (Elt Ideal) X_arg3 (ix3 0 i ⟨128 * h.val + e.val, by omega⟩) = (D.vr h e i : EReal)
  hg : ∀ (h : Fin 4) (i : Fin 2048), arg5.view.read (Elt Ideal) X_arg5 (ix3 0 ⟨h.val, by omega⟩ i) = (D.ig h i : EReal)
  h9 : ∀ (k : Fin 8) (h : Fin 4) (t : Fin 256), arg9.view.read (Elt Ideal) X_arg9 (ix2 ⟨8 * k.val + (4 + h.val), by omega⟩ t)
    = ((A (D.lf h) (256 * k.val + t.val + 1) - A (D.lf h) (256 * k.val) : ℝ) : EReal)
  h10 : ∀ (k : Fin 8) (h : Fin 4) (t : Fin 256), arg10.view.read (Elt Ideal) X_arg10 (ix3 k t ⟨h.val, by omega⟩)
    = ((D.ig h (256 * k.val + t.val) - (A (D.lf h) (256 * k.val + t.val + 1) - A (D.lf h) (256 * k.val)) : ℝ) : EReal)

/-- The output's block as one function. -/
def outBlk (D : Seqs) (y : S1x2048x512.Idx) : EReal :=
  D.out (arg4.view.read (Elt Ideal) X_arg4 y) (arg6.view.read (Elt Ideal) X_arg6 (ix2 (y 2) 0)) ⟨(y 2).val / 128, by have : (y 2).val < 512 := (y 2).isLt; omega⟩ (y 1).val
    ⟨(y 2).val % 128, by omega⟩

/-- The carried states, scaled by the running maxima. -/
structure States (D : Seqs) (n : ℕ) (M : Fin 4 → ℝ) (f8 : BufTy.Contents (Elt Ideal) arg8.view.ty) : Prop where
  hC : ∀ (h : Fin 4) (e c : Fin 128), arg8.view.read (Elt Ideal) f8 (ix3 h ⟨e.val, by omega⟩ c)
    = ((Real.exp (-M h) * S (D.lf h) (D.ig h) n (D.vr h e * fun s => D.kr h s c) : ℝ) : EReal)
  hN : ∀ (h : Fin 4) (c : Fin 128), arg8.view.read (Elt Ideal) f8 (ix3 h 128 c)
    = ((Real.exp (-M h) * S (D.lf h) (D.ig h) n (fun s => D.kr h s c) : ℝ) : EReal)

/-- The running maxima are these real numbers. -/
def Maxes (M : Fin 4 → ℝ) (acc : FVec Ideal S1x1 .f32 × FVec Ideal S1x1 .f32 × FVec Ideal S1x1 .f32 × FVec Ideal S1x1 .f32) : Prop :=
  acc.1 (ix2 0 0) = (M 0 : EReal) ∧ acc.2.1 (ix2 0 0) = (M 1 : EReal) ∧ acc.2.2.1 (ix2 0 0) = (M 2 : EReal) ∧ acc.2.2.2 (ix2 0 0) = (M 3 : EReal)

theorem read_state (w0 w1 w2 w3) (f8 : BufTy.Contents (Elt Ideal) arg8.view.ty) (h : Fin 4) (e : Fin 144) (c : Fin 128) :
    arg8.view.read (Elt Ideal) (arg8.view.writes (Elt Ideal) f8
      [⟨Rect.unit (s := S4x144x128) ![3, 0, 0] S1x144x128.size inb_S4x144x128_S1x144x128_3_0_0, w3⟩, ⟨Rect.unit (s := S4x144x128) ![2, 0, 0] S1x144x128.size inb_S4x144x128_S1x144x128_2_0_0, w2⟩,
       ⟨Rect.unit (s := S4x144x128) ![1, 0, 0] S1x144x128.size inb_S4x144x128_S1x144x128_1_0_0, w1⟩, ⟨Rect.unit (s := S4x144x128) ![0, 0, 0] S1x144x128.size inb_S4x144x128_S1x144x128_0_0_0, w0⟩]) (ix3 h e c)
      = (![w0, w1, w2, w3] : Fin 4 → Vec Ideal S1x144x128 .f32) h (ix3 0 e c) := by
  fin_cases h
  · rw [View.read_writes_cons_unit_of_not_mem (s := S4x144x128) (off' := ![3, 0, 0]) _ _ _ _ _ _ rfl (0 : Fin 3) (Or.inl (by show (0 : ℕ) < 3; decide))]
    rw [View.read_writes_cons_unit_of_not_mem (s := S4x144x128) (off' := ![2, 0, 0]) _ _ _ _ _ _ rfl (0 : Fin 3) (Or.inl (by show (0 : ℕ) < 2; decide))]
    rw [View.read_writes_cons_unit_of_not_mem (s := S4x144x128) (off' := ![1, 0, 0]) _ _ _ _ _ _ rfl (0 : Fin 3) (Or.inl (by show (0 : ℕ) < 1; decide))]
    exact View.read_writes_cons_unit_of_mem (s := S4x144x128) (off' := ![0, 0, 0]) _ _ _ _ _ _ (ix3 0 e c : S1x144x128.Idx) rfl (fun a => by fin_cases a <;> simp)
  · rw [View.read_writes_cons_unit_of_not_mem (s := S4x144x128) (off' := ![3, 0, 0]) _ _ _ _ _ _ rfl (0 : Fin 3) (Or.inl (by show (1 : ℕ) < 3; decide))]
    rw [View.read_writes_cons_unit_of_not_mem (s := S4x144x128) (off' := ![2, 0, 0]) _ _ _ _ _ _ rfl (0 : Fin 3) (Or.inl (by show (1 : ℕ) < 2; decide))]
    exact View.read_writes_cons_unit_of_mem (s := S4x144x128) (off' := ![1, 0, 0]) _ _ _ _ _ _ (ix3 0 e c : S1x144x128.Idx) rfl (fun a => by fin_cases a <;> simp)
  · rw [View.read_writes_cons_unit_of_not_mem (s := S4x144x128) (off' := ![3, 0, 0]) _ _ _ _ _ _ rfl (0 : Fin 3) (Or.inl (by show (2 : ℕ) < 3; decide))]
    exact View.read_writes_cons_unit_of_mem (s := S4x144x128) (off' := ![2, 0, 0]) _ _ _ _ _ _ (ix3 0 e c : S1x144x128.Idx) rfl (fun a => by fin_cases a <;> simp)
  · exact View.read_writes_cons_unit_of_mem (s := S4x144x128) (off' := ![3, 0, 0]) _ _ _ _ _ _ (ix3 0 e c : S1x144x128.Idx) rfl (fun a => by fin_cases a <;> simp)

theorem row_out (D : Seqs) (k : Fin k0_t1_loop.trips) (h : Fin 4) {off : Fin 3 → ℕ} (hh) (h' : off = ![0, 256 * k.val, 128 * h.val]) (hh6)
    (w : FVec Ideal S1x256x128 .bf16)
    (hw : ∀ (s : Fin 256) (e : Fin 128), w (ix3 0 s e) = outv (ld arg4 X_arg4 off hh (ix3 0 s e))
      (fun e => (hval (D.lf h) (D.ig h) (D.kr h) (D.vr h e) (D.qr h (256 * k.val + s.val)) (256 * k.val + (s.val + 1)) : EReal)) (ld6 arg6 X_arg6 ![128 * h.val, 0] hh6 (ix2 e 0)) e)
    (x : S1x256x128.Idx) : w x = outBlk arg4 arg6 X_arg4 X_arg6 D ((Rect.unit (s := S1x2048x512) off S1x256x128.size hh).emb x) := by
  have hk8 : k.val < 8 := trips_eq ▸ k.isLt
  obtain ⟨t, e, rfl⟩ : ∃ (t : Fin 256) (e : Fin 128), x = (ix3 0 t e : S1x256x128.Idx) := by
    refine ⟨x 1, x 2, funext fun a => Fin.ext ?_⟩
    fin_cases a
    · have : (x 0).val < 1 := (x 0).isLt
      show (x 0).val = 0
      omega
    · rfl
    · rfl
  have hemb : (Rect.unit (s := S1x2048x512) off S1x256x128.size hh).emb (ix3 0 t e : S1x256x128.Idx) = (ix3 0 ⟨256 * k.val + t.val, by omega⟩ ⟨128 * h.val + e.val, by omega⟩ : S1x2048x512.Idx) := by
    refine funext fun a => Fin.ext ?_
    subst h'
    rw [Rect.emb_apply]
    fin_cases a <;> simp [Rect.unit]
  rw [hw, hemb, ld_at arg4 X_arg4 hh h' (by omega) (by omega) t e, ld6_at arg6 X_arg6 _ hh6 (by omega) e]
  have e1 : (⟨(128 * h.val + e.val) / 128, by omega⟩ : Fin 4) = h := Fin.ext (by show (128 * h.val + e.val) / 128 = h.val; omega)
  have e2 : (⟨(128 * h.val + e.val) % 128, by omega⟩ : Fin 128) = e := Fin.ext (by show (128 * h.val + e.val) % 128 = e.val; omega)
  show _ = outv _ (D.h ⟨(128 * h.val + e.val) / 128, _⟩ (256 * k.val + t.val)) _ ⟨(128 * h.val + e.val) % 128, _⟩
  rw [e1, e2]
  rfl

theorem trip_inv (D : Seqs) (HD : Holds arg1 arg2 arg3 arg5 arg9 arg10 X_arg1 X_arg2 X_arg3 X_arg5 X_arg9 X_arg10 D) (k : Fin k0_t1_loop.trips) (acc : FVec Ideal S1x1 .f32 × FVec Ideal S1x1 .f32 × FVec Ideal S1x1 .f32 × FVec Ideal S1x1 .f32)
    (f7 : BufTy.Contents (Elt Ideal) arg7.view.ty) (f8 : BufTy.Contents (Elt Ideal) arg8.view.ty) (M : Fin 4 → ℝ) (hM : Maxes M acc) (HS : States arg8 D (256 * k.val) M f8) :
    ∃ M' : Fin 4 → ℝ, Maxes M' (tripR_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 k acc f7 f8)
      ∧ States arg8 D (256 * (k.val + 1)) M' (arg8.view.writes (Elt Ideal) f8 (tripL_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 k acc f7 f8).2)
      ∧ ∀ p ∈ (tripL_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 k acc f7 f8).1, ∀ x : p.1.shape.Idx, p.2 x = outBlk arg4 arg6 X_arg4 X_arg6 D (p.1.emb x) := by
  have hk8 : k.val < 8 := trips_eq ▸ k.isLt
  have s0 := step0 (m := acc.1) (V1 := ld arg1 X_arg1 (k0_off4 k) (k0_off4_inb k)) (V2 := ld arg2 X_arg2 (k0_off4 k) (k0_off4_inb k))
      (V3 := ld arg3 X_arg3 (k0_off4 k) (k0_off4_inb k)) (V5 := ld5 arg5 X_arg5 k) (V8 := ld8 arg8 f8 ![0, 0, 0] inb_S4x144x128_S1x144x128_0_0_0)
      (V9 := ld9 arg9 X_arg9 k) (V10 := ld10 arg10 X_arg10 k) (lf := D.lf 0) (ig := D.ig 0) (qr := D.qr 0) (kr := D.kr 0) (vr := D.vr 0)
      (n := 256 * k.val) (M := M 0) hM.1
      (fun t e => (ld_at arg1 X_arg1 _ (off4 k) (by omega) (by omega) t e).trans (HD.hq 0 _ e)) (fun t e => (ld_at arg2 X_arg2 _ (off4 k) (by omega) (by omega) t e).trans (HD.hk 0 _ e))
      (fun t e => (ld_at arg3 X_arg3 _ (off4 k) (by omega) (by omega) t e).trans (HD.hv 0 _ e)) (fun t => (ld5_at arg5 X_arg5 k 0 t).trans (HD.hg 0 _))
      (fun t => (ld9_at arg9 X_arg9 k 4 t).trans (HD.h9 ⟨k.val, hk8⟩ 0 t)) (fun t => (ld10_at arg10 X_arg10 k t 0).trans (HD.h10 ⟨k.val, hk8⟩ 0 t))
      (fun e x => (ld8_at arg8 f8 0 _ _ x).trans (HS.hC 0 e x)) (fun x => (ld8_at arg8 f8 0 _ _ x).trans (HS.hN 0 x))
  obtain ⟨r0, m0, C0, N0, O0⟩ := s0
  have s1 := step1 (m := acc.2.1) (V1 := ld arg1 X_arg1 (k0_off5 k) (k0_off5_inb k)) (V2 := ld arg2 X_arg2 (k0_off5 k) (k0_off5_inb k))
      (V3 := ld arg3 X_arg3 (k0_off5 k) (k0_off5_inb k)) (V5 := ld5 arg5 X_arg5 k) (V8 := ld8 arg8 f8 ![1, 0, 0] inb_S4x144x128_S1x144x128_1_0_0)
      (V9 := ld9 arg9 X_arg9 k) (V10 := ld10 arg10 X_arg10 k) (lf := D.lf 1) (ig := D.ig 1) (qr := D.qr 1) (kr := D.kr 1) (vr := D.vr 1)
      (n := 256 * k.val) (M := M 1) hM.2.1
      (fun t e => (ld_at arg1 X_arg1 _ (off5 k) (by omega) (by omega) t e).trans (HD.hq 1 _ e)) (fun t e => (ld_at arg2 X_arg2 _ (off5 k) (by omega) (by omega) t e).trans (HD.hk 1 _ e))
      (fun t e => (ld_at arg3 X_arg3 _ (off5 k) (by omega) (by omega) t e).trans (HD.hv 1 _ e)) (fun t => (ld5_at arg5 X_arg5 k 1 t).trans (HD.hg 1 _))
      (fun t => (ld9_at arg9 X_arg9 k 5 t).trans (HD.h9 ⟨k.val, hk8⟩ 1 t)) (fun t => (ld10_at arg10 X_arg10 k t 1).trans (HD.h10 ⟨k.val, hk8⟩ 1 t))
      (fun e x => (ld8_at arg8 f8 1 _ _ x).trans (HS.hC 1 e x)) (fun x => (ld8_at arg8 f8 1 _ _ x).trans (HS.hN 1 x))
  obtain ⟨r1, m1, C1, N1, O1⟩ := s1
  have s2 := step2 (m := acc.2.2.1) (V1 := ld arg1 X_arg1 (k0_off6 k) (k0_off6_inb k)) (V2 := ld arg2 X_arg2 (k0_off6 k) (k0_off6_inb k))
      (V3 := ld arg3 X_arg3 (k0_off6 k) (k0_off6_inb k)) (V5 := ld5 arg5 X_arg5 k) (V8 := ld8 arg8 f8 ![2, 0, 0] inb_S4x144x128_S1x144x128_2_0_0)
      (V9 := ld9 arg9 X_arg9 k) (V10 := ld10 arg10 X_arg10 k) (lf := D.lf 2) (ig := D.ig 2) (qr := D.qr 2) (kr := D.kr 2) (vr := D.vr 2)
      (n := 256 * k.val) (M := M 2) hM.2.2.1
      (fun t e => (ld_at arg1 X_arg1 _ (off6 k) (by omega) (by omega) t e).trans (HD.hq 2 _ e)) (fun t e => (ld_at arg2 X_arg2 _ (off6 k) (by omega) (by omega) t e).trans (HD.hk 2 _ e))
      (fun t e => (ld_at arg3 X_arg3 _ (off6 k) (by omega) (by omega) t e).trans (HD.hv 2 _ e)) (fun t => (ld5_at arg5 X_arg5 k 2 t).trans (HD.hg 2 _))
      (fun t => (ld9_at arg9 X_arg9 k 6 t).trans (HD.h9 ⟨k.val, hk8⟩ 2 t)) (fun t => (ld10_at arg10 X_arg10 k t 2).trans (HD.h10 ⟨k.val, hk8⟩ 2 t))
      (fun e x => (ld8_at arg8 f8 2 _ _ x).trans (HS.hC 2 e x)) (fun x => (ld8_at arg8 f8 2 _ _ x).trans (HS.hN 2 x))
  obtain ⟨r2, m2, C2, N2, O2⟩ := s2
  have s3 := step3 (m := acc.2.2.2) (V1 := ld arg1 X_arg1 (k0_off7 k) (k0_off7_inb k)) (V2 := ld arg2 X_arg2 (k0_off7 k) (k0_off7_inb k))
      (V3 := ld arg3 X_arg3 (k0_off7 k) (k0_off7_inb k)) (V5 := ld5 arg5 X_arg5 k) (V8 := ld8 arg8 f8 ![3, 0, 0] inb_S4x144x128_S1x144x128_3_0_0)
      (V9 := ld9 arg9 X_arg9 k) (V10 := ld10 arg10 X_arg10 k) (lf := D.lf 3) (ig := D.ig 3) (qr := D.qr 3) (kr := D.kr 3) (vr := D.vr 3)
      (n := 256 * k.val) (M := M 3) hM.2.2.2
      (fun t e => (ld_at arg1 X_arg1 _ (off7 k) (by omega) (by omega) t e).trans (HD.hq 3 _ e)) (fun t e => (ld_at arg2 X_arg2 _ (off7 k) (by omega) (by omega) t e).trans (HD.hk 3 _ e))
      (fun t e => (ld_at arg3 X_arg3 _ (off7 k) (by omega) (by omega) t e).trans (HD.hv 3 _ e)) (fun t => (ld5_at arg5 X_arg5 k 3 t).trans (HD.hg 3 _))
      (fun t => (ld9_at arg9 X_arg9 k 7 t).trans (HD.h9 ⟨k.val, hk8⟩ 3 t)) (fun t => (ld10_at arg10 X_arg10 k t 3).trans (HD.h10 ⟨k.val, hk8⟩ 3 t))
      (fun e x => (ld8_at arg8 f8 3 _ _ x).trans (HS.hC 3 e x)) (fun x => (ld8_at arg8 f8 3 _ _ x).trans (HS.hN 3 x))
  obtain ⟨r3, m3, C3, N3, O3⟩ := s3
  rw [trip_next, trip_states, trip_rows]
  refine ⟨![r0, r1, r2, r3], ⟨m0, m1, m2, m3⟩, ⟨fun h e x => ?_, fun h x => ?_⟩, fun p hp => ?_⟩
  · rw [read_state]
    fin_cases h
    · exact C0 e x
    · exact C1 e x
    · exact C2 e x
    · exact C3 e x
  · rw [read_state]
    fin_cases h
    · exact N0 x
    · exact N1 x
    · exact N2 x
    · exact N3 x
  · simp only [List.mem_cons, List.not_mem_nil, or_false] at hp
    rcases hp with rfl | rfl | rfl | rfl
    · exact row_out arg4 arg6 X_arg4 X_arg6 D k 3 (k0_off7_inb k) (off7 k) inb_S512x1_S128x1_384_0 _ (O3 _ _)
    · exact row_out arg4 arg6 X_arg4 X_arg6 D k 2 (k0_off6_inb k) (off6 k) inb_S512x1_S128x1_256_0 _ (O2 _ _)
    · exact row_out arg4 arg6 X_arg4 X_arg6 D k 1 (k0_off5_inb k) (off5 k) inb_S512x1_S128x1_128_0 _ (O1 _ _)
    · exact row_out arg4 arg6 X_arg4 X_arg6 D k 0 (k0_off4_inb k) (off4 k) inb_S512x1_S128x1_0_0 _ (O0 _ _)

/-- Before trip `n`, by induction over the trips: the maxima, the states and the rows written. -/
theorem loop_inv (D : Seqs) (HD : Holds arg1 arg2 arg3 arg5 arg9 arg10 X_arg1 X_arg2 X_arg3 X_arg5 X_arg9 X_arg10 D)
    (G7 : BufTy.Contents (Elt Ideal) arg7.view.ty) (G8 : BufTy.Contents (Elt Ideal) arg8.view.ty) (init : FVec Ideal S1x1 .f32 × FVec Ideal S1x1 .f32 × FVec Ideal S1x1 .f32 × FVec Ideal S1x1 .f32)
    (hi : Maxes (fun _ => 0) init) (h8 : ∀ h e x, arg8.view.read (Elt Ideal) G8 (ix3 h e x) = ((0 : ℝ) : EReal)) (n : ℕ) (hn : n ≤ k0_t1_loop.trips) :
    ∃ M : Fin 4 → ℝ, Maxes M (st_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 G7 G8 init n).1
      ∧ States arg8 D (256 * n) M (arg8.view.writes (Elt Ideal) G8 (st_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 G7 G8 init n).2.2)
      ∧ ∀ p ∈ (st_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 G7 G8 init n).2.1, ∀ x : p.1.shape.Idx, p.2 x = outBlk arg4 arg6 X_arg4 X_arg6 D (p.1.emb x) := by
  induction n with
  | zero =>
    refine ⟨fun _ => 0, hi, ⟨fun h e x => (h8 _ _ _).trans ?_, fun h x => (h8 _ _ _).trans ?_⟩, fun p hp => absurd hp List.not_mem_nil⟩
    · rw [Nat.mul_zero, S_zero, mul_zero]
    · rw [Nat.mul_zero, S_zero, mul_zero]
  | succ n ih =>
    obtain ⟨M, hM, hS, hL⟩ := ih (by omega)
    obtain ⟨M', hM', hS', hL'⟩ := trip_inv 𝒱 c bd i arg1 harg1 arg2 harg2 arg3 harg3 arg4 harg4 arg5 harg5 arg6 harg6 arg7 harg7 arg8 harg8 arg9 harg9 arg10 harg10 X_arg1 X_arg2 X_arg3 X_arg4 X_arg5 X_arg6 X_arg9 X_arg10 D HD ⟨n, hn⟩ _ (arg7.view.writes (Elt Ideal) G7 (st_k0_t1 (F := Ideal) 𝒱 c bd i arg1 harg1 arg2 harg2 arg3 harg3 arg4 harg4 arg5 harg5 arg6 harg6 arg7 harg7 arg8 harg8 arg9 harg9 arg10 harg10 k0_pay72 k0_pay74 X_arg1 X_arg2 X_arg3 X_arg4 X_arg5 X_arg6 X_arg9 X_arg10 G7 G8 init n).2.1) _ M hM hS
    rw [st_k0_t1_succ (k := ⟨n, hn⟩)]
    refine ⟨M', hM', ?_, fun p hp => ?_⟩
    · rw [View.writes_append]
      exact hS'
    · rcases List.mem_append.mp hp with h | h
      · exact hL' p h
      · exact hL p h

end

end Cert.MlstmIdeal.Hand

end
-- ==== Proof.MlTable.lean ====
/- The tables the recurrence kernel fills before its loop: each chunk's running sums of the forget gates' logarithms, and
   the input gates less them, laid out as columns. -/
module

public import proofs.«01_k».proof.Proof.MlLoop

@[expose] public section

set_option maxRecDepth 16384

noncomputable section

namespace Cert.MlstmIdeal.Hand

open Cert.MlstmIdeal Cert.MlstmIdeal.Gen Cert.MlMath
open Idealize.ShloMosaic Idealize.ShloMosaic.TcCoe Idealize.SL.Sem
open Finset

theorem sel_le0 (s t : Fin 256) (a : EReal) :
    Scalar.select (IntOp.cmpi .sle (BitVec.ofNat 32 s.val) (BitVec.ofNat 32 t.val)) a 0 = if s.val ≤ t.val then a else 0 := by
  have h := WordCmp.cmpi_sle_ofNat_eq_one_iff (w := 32) (a := s.val) (b := t.val) (by omega) (by omega)
  by_cases hst : s.val ≤ t.val
  · rw [if_pos hst]; exact if_pos (h.2 hst)
  · rw [if_neg hst]; exact if_neg fun h' => hst (h.1 h')

section
variable (w0 w1 w2 w3 w4 w5 w6 w7 : Vec Ideal S1x8x256 .f32) (v14 v16 v18 v20 v22 v24 v26 : FVec Ideal S8x256 .f32) (P T : FVec Ideal S64x256 .f32)

abbrev tabP : FVec Ideal S64x256 .f32 := k0_pay83 (k0_pay76 w0) (k0_pay77 w1) (k0_pay78 w2) (k0_pay79 w3) (k0_pay80 w4) (k0_pay81 w5) (k0_pay82 w6) w7
abbrev tabT : FVec Ideal S64x256 .f32 := k0_pay84 k0_pay73 (k0_pay76 w0) (k0_pay77 w1) (k0_pay78 w2) (k0_pay79 w3) (k0_pay80 w4) (k0_pay81 w5) (k0_pay82 w6) w7

theorem rows0 (r : Fin 8) (x : Fin 256) : tabP w0 w1 w2 w3 w4 w5 w6 w7 (ix2 ⟨0 + r.val, by omega⟩ x) = w0 (ix3 0 r x) := by
  pointwise [k0_pay76, k0_pay77, k0_pay78, k0_pay79, k0_pay80, k0_pay81, k0_pay82, k0_pay83]
theorem rows1 (r : Fin 8) (x : Fin 256) : tabP w0 w1 w2 w3 w4 w5 w6 w7 (ix2 ⟨8 + r.val, by omega⟩ x) = w1 (ix3 0 r x) := by
  pointwise [k0_pay76, k0_pay77, k0_pay78, k0_pay79, k0_pay80, k0_pay81, k0_pay82, k0_pay83]
theorem rows2 (r : Fin 8) (x : Fin 256) : tabP w0 w1 w2 w3 w4 w5 w6 w7 (ix2 ⟨16 + r.val, by omega⟩ x) = w2 (ix3 0 r x) := by
  pointwise [k0_pay76, k0_pay77, k0_pay78, k0_pay79, k0_pay80, k0_pay81, k0_pay82, k0_pay83]
  rw [dif_neg (by omega), dif_neg (by omega), dif_pos (by omega)]
  exact congrArg (fun z => w2 (ix3 0 z x)) (Fin.ext (by simp; omega))
theorem rows3 (r : Fin 8) (x : Fin 256) : tabP w0 w1 w2 w3 w4 w5 w6 w7 (ix2 ⟨24 + r.val, by omega⟩ x) = w3 (ix3 0 r x) := by
  pointwise [k0_pay76, k0_pay77, k0_pay78, k0_pay79, k0_pay80, k0_pay81, k0_pay82, k0_pay83]
  rw [dif_neg (by omega), dif_neg (by omega), dif_neg (by omega), dif_pos (by omega)]
  exact congrArg (fun z => w3 (ix3 0 z x)) (Fin.ext (by simp; omega))
theorem rows4 (r : Fin 8) (x : Fin 256) : tabP w0 w1 w2 w3 w4 w5 w6 w7 (ix2 ⟨32 + r.val, by omega⟩ x) = w4 (ix3 0 r x) := by
  pointwise [k0_pay76, k0_pay77, k0_pay78, k0_pay79, k0_pay80, k0_pay81, k0_pay82, k0_pay83]
  rw [dif_neg (by omega), dif_neg (by omega), dif_neg (by omega), dif_neg (by omega), dif_pos (by omega)]
  exact congrArg (fun z => w4 (ix3 0 z x)) (Fin.ext (by simp; omega))
theorem rows5 (r : Fin 8) (x : Fin 256) : tabP w0 w1 w2 w3 w4 w5 w6 w7 (ix2 ⟨40 + r.val, by omega⟩ x) = w5 (ix3 0 r x) := by
  pointwise [k0_pay76, k0_pay77, k0_pay78, k0_pay79, k0_pay80, k0_pay81, k0_pay82, k0_pay83]
  rw [dif_neg (by omega), dif_neg (by omega), dif_neg (by omega), dif_neg (by omega), dif_neg (by omega), dif_pos (by omega)]
  exact congrArg (fun z => w5 (ix3 0 z x)) (Fin.ext (by simp; omega))
theorem rows6 (r : Fin 8) (x : Fin 256) : tabP w0 w1 w2 w3 w4 w5 w6 w7 (ix2 ⟨48 + r.val, by omega⟩ x) = w6 (ix3 0 r x) := by
  pointwise [k0_pay76, k0_pay77, k0_pay78, k0_pay79, k0_pay80, k0_pay81, k0_pay82, k0_pay83]
  rw [dif_neg (by omega), dif_neg (by omega), dif_neg (by omega), dif_neg (by omega), dif_neg (by omega), dif_neg (by omega), dif_pos (by omega)]
  exact congrArg (fun z => w6 (ix3 0 z x)) (Fin.ext (by simp; omega))
theorem rows7 (r : Fin 8) (x : Fin 256) : tabP w0 w1 w2 w3 w4 w5 w6 w7 (ix2 ⟨56 + r.val, by omega⟩ x) = w7 (ix3 0 r x) := by
  pointwise [k0_pay76, k0_pay77, k0_pay78, k0_pay79, k0_pay80, k0_pay81, k0_pay82, k0_pay83]
  rw [dif_neg (by omega), dif_neg (by omega), dif_neg (by omega), dif_neg (by omega), dif_neg (by omega), dif_neg (by omega), dif_neg (by omega)]
  exact congrArg (fun z => w7 (ix3 0 z x)) (Fin.ext (by simp; omega))

theorem sums (s : Fin 64) (t : Fin 256) : tabT w0 w1 w2 w3 w4 w5 w6 w7 (ix2 s t) = ∑ x : Fin 256, if x.val ≤ t.val then tabP w0 w1 w2 w3 w4 w5 w6 w7 (ix2 s x) else 0 := by
  pointwise [k0_pay84, k0_pay73, k0_pay72]
  simp only [sel_le0, mul_ite, mul_one, mul_zero]

theorem sums' (s : Fin 64) (t : Fin 256) : (k0_pay85 k0_pay73 v14 v16 v18 v20 v22 v24 v26 w7 : FVec Ideal S64x256 .f32) (ix2 s t) = (k0_pay84 k0_pay73 v14 v16 v18 v20 v22 v24 v26 w7 : FVec Ideal S64x256 .f32) (ix2 s t) := by
  pointwise [k0_pay85]

theorem cols0 (s : Fin 256) (h : Fin 4) : (k0_pay86 k0_pay73 v14 v16 v18 v20 v22 v24 v26 w7 : FVec Ideal S1x256x128 .f32) (ix3 0 s ⟨h.val, by omega⟩) = (k0_pay83 v14 v16 v18 v20 v22 v24 v26 w7 : FVec Ideal S64x256 .f32) (ix2 ⟨0 + h.val, by omega⟩ s) - (k0_pay84 k0_pay73 v14 v16 v18 v20 v22 v24 v26 w7 : FVec Ideal S64x256 .f32) (ix2 ⟨4 + h.val, by omega⟩ s) := by
  pointwise [k0_pay86]

theorem cols1 (s : Fin 256) (h : Fin 4) : (k0_pay87 k0_pay73 v14 v16 v18 v20 v22 v24 v26 w7 : FVec Ideal S1x256x128 .f32) (ix3 0 s ⟨h.val, by omega⟩) = (k0_pay83 v14 v16 v18 v20 v22 v24 v26 w7 : FVec Ideal S64x256 .f32) (ix2 ⟨8 + h.val, by omega⟩ s) - (k0_pay84 k0_pay73 v14 v16 v18 v20 v22 v24 v26 w7 : FVec Ideal S64x256 .f32) (ix2 ⟨12 + h.val, by omega⟩ s) := by
  pointwise [k0_pay87]

theorem cols2 (s : Fin 256) (h : Fin 4) : (k0_pay88 k0_pay73 v14 v16 v18 v20 v22 v24 v26 w7 : FVec Ideal S1x256x128 .f32) (ix3 0 s ⟨h.val, by omega⟩) = (k0_pay83 v14 v16 v18 v20 v22 v24 v26 w7 : FVec Ideal S64x256 .f32) (ix2 ⟨16 + h.val, by omega⟩ s) - (k0_pay84 k0_pay73 v14 v16 v18 v20 v22 v24 v26 w7 : FVec Ideal S64x256 .f32) (ix2 ⟨20 + h.val, by omega⟩ s) := by
  pointwise [k0_pay88]

theorem cols3 (s : Fin 256) (h : Fin 4) : (k0_pay90 (k0_pay89 k0_pay73 v14 v16 v18 v20 v22 v24 v26 w7) : FVec Ideal S1x256x128 .f32) (ix3 0 s ⟨h.val, by omega⟩) = (k0_pay83 v14 v16 v18 v20 v22 v24 v26 w7 : FVec Ideal S64x256 .f32) (ix2 ⟨24 + h.val, by omega⟩ s) - (k0_pay84 k0_pay73 v14 v16 v18 v20 v22 v24 v26 w7 : FVec Ideal S64x256 .f32) (ix2 ⟨28 + h.val, by omega⟩ s) := by
  pointwise [k0_pay89, k0_pay90]

theorem cols4 (s : Fin 256) (h : Fin 4) : (k0_pay91 P T : FVec Ideal S1x256x128 .f32) (ix3 0 s ⟨h.val, by omega⟩) = P (ix2 ⟨32 + h.val, by omega⟩ s) - T (ix2 ⟨36 + h.val, by omega⟩ s) := by
  pointwise [k0_pay91]

theorem cols5 (s : Fin 256) (h : Fin 4) : (k0_pay92 P T : FVec Ideal S1x256x128 .f32) (ix3 0 s ⟨h.val, by omega⟩) = P (ix2 ⟨40 + h.val, by omega⟩ s) - T (ix2 ⟨44 + h.val, by omega⟩ s) := by
  pointwise [k0_pay92]

theorem cols6 (s : Fin 256) (h : Fin 4) : (k0_pay93 P T : FVec Ideal S1x256x128 .f32) (ix3 0 s ⟨h.val, by omega⟩) = P (ix2 ⟨48 + h.val, by omega⟩ s) - T (ix2 ⟨52 + h.val, by omega⟩ s) := by
  pointwise [k0_pay93]

theorem cols7 (s : Fin 256) (h : Fin 4) : (k0_pay1 (k0_pay94 P T) : FVec Ideal S1x256x128 .f32) (ix3 0 s ⟨h.val, by omega⟩) = P (ix2 ⟨56 + h.val, by omega⟩ s) - T (ix2 ⟨60 + h.val, by omega⟩ s) := by
  pointwise [k0_pay1, k0_pay94]

end

theorem A_sub (lf : ℕ → ℝ) (n m : ℕ) : ∑ j ∈ range m, lf (n + j) = A lf (n + m) - A lf n := by
  unfold A
  rw [sum_range_add]
  ring

section
variable (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x2048x512 .bf16) (harg3 : arg3.IsWhole) (arg4 : Memref sig .tc .vmem S1x2048x512 .f32) (harg4 : arg4.IsWhole) (arg5 : Memref sig .tc .vmem S1x8x2048 .f32) (harg5 : arg5.IsWhole) (arg6 : Memref sig .tc .vmem S512x1 .f32) (harg6 : arg6.IsWhole) (arg7 : Memref sig .tc .vmem S1x2048x512 .bf16) (harg7 : arg7.IsWhole) (arg8 : Memref sig .tc .vmem S4x144x128 .f32) (harg8 : arg8.IsWhole) (arg9 : Memref sig .tc .vmem S64x256 .f32) (harg9 : arg9.IsWhole) (arg10 : Memref sig .tc .vmem S8x256x128 .f32) (harg10 : arg10.IsWhole)
  (x0 : Vec Ideal S1x2048x512 .bf16) (x1 : Vec Ideal S1x2048x512 .bf16) (x2 : Vec Ideal S1x2048x512 .bf16) (x3 : Vec Ideal S1x2048x512 .f32) (x4 : Vec Ideal S1x8x2048 .f32) (x5 : Vec Ideal S512x1 .f32)

theorem chunk_at (o : ℕ) (hh) (ho : o + 256 ≤ 2048) (r : Fin 8) (x : Fin 256) :
    View.readAt (Elt Ideal) arg5.view (Rect.unit (s := S1x8x2048) ![0, 0, o] S1x8x256.size hh).toLoadRect (harg5.unread x4) (ix3 0 r x) = x4 (ix3 0 r ⟨o + x.val, by omega⟩) := by
  refine (congrFun (harg5.read_unread x4) _).symm.trans ?_ |>.symm
  refine congrArg (arg5.view.read (Elt Ideal) (harg5.unread x4)) (funext fun x => Fin.ext ?_)
  fin_cases x <;> simp [Rect.unit, Rect.toLoadRect]

theorem P_at (k : Fin 8) (r : Fin 8) (x : Fin 256) : bodyRun.sl.r_7 c arg5 harg5 x4 (ix2 ⟨8 * k.val + r.val, by omega⟩ x) = x4 (ix3 0 r ⟨256 * k.val + x.val, by omega⟩) := by
  fin_cases k
  · exact (rows0 _ _ _ _ _ _ _ _ r x).trans (chunk_at arg5 harg5 x4 0 _ (by omega) r x)
  · exact (rows1 _ _ _ _ _ _ _ _ r x).trans (chunk_at arg5 harg5 x4 256 _ (by omega) r x)
  · exact (rows2 _ _ _ _ _ _ _ _ r x).trans (chunk_at arg5 harg5 x4 512 _ (by omega) r x)
  · exact (rows3 _ _ _ _ _ _ _ _ r x).trans (chunk_at arg5 harg5 x4 768 _ (by omega) r x)
  · exact (rows4 _ _ _ _ _ _ _ _ r x).trans (chunk_at arg5 harg5 x4 1024 _ (by omega) r x)
  · exact (rows5 _ _ _ _ _ _ _ _ r x).trans (chunk_at arg5 harg5 x4 1280 _ (by omega) r x)
  · exact (rows6 _ _ _ _ _ _ _ _ r x).trans (chunk_at arg5 harg5 x4 1536 _ (by omega) r x)
  · exact (rows7 _ _ _ _ _ _ _ _ r x).trans (chunk_at arg5 harg5 x4 1792 _ (by omega) r x)

variable (D : Seqs) (hq : ∀ (h : Fin 4) (i : Fin 2048) (e : Fin 128), x0 (ix3 0 i (col h e)) = (D.qr h i e : EReal))
  (hk : ∀ (h : Fin 4) (i : Fin 2048) (e : Fin 128), x1 (ix3 0 i (col h e)) = (D.kr h i e : EReal))
  (hv : ∀ (h : Fin 4) (i : Fin 2048) (e : Fin 128), x2 (ix3 0 i (col h e)) = (D.vr h e i : EReal))
  (hig : ∀ (h : Fin 4) (i : Fin 2048), x4 (ix3 0 (gi h) i) = (D.ig h i : EReal))
  (hlf : ∀ (h : Fin 4) (i : Fin 2048), x4 (ix3 0 (gf h) i) = (D.lf h i : EReal))

include hlf in
theorem T_at (k : Fin 8) (h : Fin 4) (t : Fin 256) : bodyRun.sl.r_8 c arg5 harg5 x4 (ix2 ⟨8 * k.val + (4 + h.val), by omega⟩ t)
    = ((A (D.lf h) (256 * k.val + t.val + 1) - A (D.lf h) (256 * k.val) : ℝ) : EReal) := by
  refine (sums _ _ _ _ _ _ _ _ _ t).trans ?_
  have e : ∀ x : Fin 256, (if x.val ≤ t.val then bodyRun.sl.r_7 c arg5 harg5 x4 (ix2 ⟨8 * k.val + (4 + h.val), by omega⟩ x) else 0)
      = (((if x.val ≤ t.val then D.lf h (256 * k.val + x.val) else 0 : ℝ)) : EReal) := fun x => by
    rw [show bodyRun.sl.r_7 c arg5 harg5 x4 (ix2 ⟨8 * k.val + (4 + h.val), by omega⟩ x) = _ from P_at c arg5 harg5 x4 k (gf h) x, hlf]
    split <;> rfl
  refine (sum_congr rfl fun x _ => e x).trans ?_
  rw [← coe_sum, sum_upto t (fun j => D.lf h (256 * k.val + j)), A_sub, Nat.add_assoc]

include hlf hig in
theorem G_at (k : Fin 8) (h : Fin 4) (t : Fin 256) :
    (bodyRun.sl.r_7 c arg5 harg5 x4 (ix2 ⟨8 * k.val + h.val, by omega⟩ t) - bodyRun.sl.r_8 c arg5 harg5 x4 (ix2 ⟨8 * k.val + (4 + h.val), by omega⟩ t) : EReal)
    = ((D.ig h (256 * k.val + t.val) - (A (D.lf h) (256 * k.val + t.val + 1) - A (D.lf h) (256 * k.val)) : ℝ) : EReal) := by
  rw [T_at c arg5 harg5 x4 D hlf k h t, show bodyRun.sl.r_7 c arg5 harg5 x4 (ix2 ⟨8 * k.val + h.val, by omega⟩ t) = _ from P_at c arg5 harg5 x4 k (gi h) t, hig, ← EReal.coe_sub]

theorem ix8 (k h : ℕ) (hh) (hh') : (⟨8 * k + 4 + h, hh⟩ : Fin 64) = ⟨8 * k + (4 + h), hh'⟩ := Fin.ext (Nat.add_assoc _ _ _)

include hq hk hv hig hlf in
theorem holds (f9 : BufTy.Contents (Elt Ideal) arg9.view.ty) (f10 : BufTy.Contents (Elt Ideal) arg10.view.ty) :
    Holds arg1 arg2 arg3 arg5 arg9 arg10 (harg1.unread x0) (harg2.unread x1) (harg3.unread x2) (harg5.unread x4)
      (arg9.view.writes (Elt Ideal) f9 (bodyRun.sl.HS1_1 c arg5 harg5 x4)) (arg10.view.writes (Elt Ideal) f10 (bodyRun.sl.HS2_8 c arg5 harg5 x4)) D where
  hq h i e := (congrFun (harg1.read_unread x0) _).trans (hq h i e)
  hk h i e := (congrFun (harg2.read_unread x1) _).trans (hk h i e)
  hv h i e := (congrFun (harg3.read_unread x2) _).trans (hv h i e)
  hg h i := (congrFun (harg5.read_unread x4) _).trans (hig h i)
  h9 k h t := by
    unfold bodyRun.sl.HS1_1
    refine Eq.trans (View.read_writes_cons_unit_of_mem (s := S64x256) (off' := ![0, 0]) _ _ _ _ _ _ (ix2 ⟨8 * k.val + (4 + h.val), by omega⟩ t : S64x256.Idx) rfl (fun a => by fin_cases a <;> simp)) ?_
    exact (sums' _ _ _ _ _ _ _ _ _ t).trans (T_at c arg5 harg5 x4 D hlf k h t)
  h10 k h t := by
    unfold bodyRun.sl.HS2_8
    fin_cases k
    · rw [View.read_writes_cons_unit_of_not_mem (s := S8x256x128) (off' := ![7, 0, 0]) _ _ _ _ _ _ rfl (0 : Fin 3) (Or.inl (by show (0 : ℕ) < 7; decide))]
      rw [View.read_writes_cons_unit_of_not_mem (s := S8x256x128) (off' := ![6, 0, 0]) _ _ _ _ _ _ rfl (0 : Fin 3) (Or.inl (by show (0 : ℕ) < 6; decide))]
      rw [View.read_writes_cons_unit_of_not_mem (s := S8x256x128) (off' := ![5, 0, 0]) _ _ _ _ _ _ rfl (0 : Fin 3) (Or.inl (by show (0 : ℕ) < 5; decide))]
      rw [View.read_writes_cons_unit_of_not_mem (s := S8x256x128) (off' := ![4, 0, 0]) _ _ _ _ _ _ rfl (0 : Fin 3) (Or.inl (by show (0 : ℕ) < 4; decide))]
      rw [View.read_writes_cons_unit_of_not_mem (s := S8x256x128) (off' := ![3, 0, 0]) _ _ _ _ _ _ rfl (0 : Fin 3) (Or.inl (by show (0 : ℕ) < 3; decide))]
      rw [View.read_writes_cons_unit_of_not_mem (s := S8x256x128) (off' := ![2, 0, 0]) _ _ _ _ _ _ rfl (0 : Fin 3) (Or.inl (by show (0 : ℕ) < 2; decide))]
      rw [View.read_writes_cons_unit_of_not_mem (s := S8x256x128) (off' := ![1, 0, 0]) _ _ _ _ _ _ rfl (0 : Fin 3) (Or.inl (by show (0 : ℕ) < 1; decide))]
      refine Eq.trans (View.read_writes_cons_unit_of_mem (s := S8x256x128) (off' := ![0, 0, 0]) _ _ _ _ _ _ (ix3 0 t ⟨h.val, by omega⟩ : S1x256x128.Idx) rfl (fun a => by fin_cases a <;> simp)) ?_
      refine (cols0 _ _ _ _ _ _ _ _ t h).trans ?_
      rw [ix8 0 h.val _ (by omega)]
      exact G_at c arg5 harg5 x4 D hig hlf 0 h t
    · rw [View.read_writes_cons_unit_of_not_mem (s := S8x256x128) (off' := ![7, 0, 0]) _ _ _ _ _ _ rfl (0 : Fin 3) (Or.inl (by show (1 : ℕ) < 7; decide))]
      rw [View.read_writes_cons_unit_of_not_mem (s := S8x256x128) (off' := ![6, 0, 0]) _ _ _ _ _ _ rfl (0 : Fin 3) (Or.inl (by show (1 : ℕ) < 6; decide))]
      rw [View.read_writes_cons_unit_of_not_mem (s := S8x256x128) (off' := ![5, 0, 0]) _ _ _ _ _ _ rfl (0 : Fin 3) (Or.inl (by show (1 : ℕ) < 5; decide))]
      rw [View.read_writes_cons_unit_of_not_mem (s := S8x256x128) (off' := ![4, 0, 0]) _ _ _ _ _ _ rfl (0 : Fin 3) (Or.inl (by show (1 : ℕ) < 4; decide))]
      rw [View.read_writes_cons_unit_of_not_mem (s := S8x256x128) (off' := ![3, 0, 0]) _ _ _ _ _ _ rfl (0 : Fin 3) (Or.inl (by show (1 : ℕ) < 3; decide))]
      rw [View.read_writes_cons_unit_of_not_mem (s := S8x256x128) (off' := ![2, 0, 0]) _ _ _ _ _ _ rfl (0 : Fin 3) (Or.inl (by show (1 : ℕ) < 2; decide))]
      refine Eq.trans (View.read_writes_cons_unit_of_mem (s := S8x256x128) (off' := ![1, 0, 0]) _ _ _ _ _ _ (ix3 0 t ⟨h.val, by omega⟩ : S1x256x128.Idx) rfl (fun a => by fin_cases a <;> simp)) ?_
      refine (cols1 _ _ _ _ _ _ _ _ t h).trans ?_
      rw [ix8 1 h.val _ (by omega)]
      exact G_at c arg5 harg5 x4 D hig hlf 1 h t
    · rw [View.read_writes_cons_unit_of_not_mem (s := S8x256x128) (off' := ![7, 0, 0]) _ _ _ _ _ _ rfl (0 : Fin 3) (Or.inl (by show (2 : ℕ) < 7; decide))]
      rw [View.read_writes_cons_unit_of_not_mem (s := S8x256x128) (off' := ![6, 0, 0]) _ _ _ _ _ _ rfl (0 : Fin 3) (Or.inl (by show (2 : ℕ) < 6; decide))]
      rw [View.read_writes_cons_unit_of_not_mem (s := S8x256x128) (off' := ![5, 0, 0]) _ _ _ _ _ _ rfl (0 : Fin 3) (Or.inl (by show (2 : ℕ) < 5; decide))]
      rw [View.read_writes_cons_unit_of_not_mem (s := S8x256x128) (off' := ![4, 0, 0]) _ _ _ _ _ _ rfl (0 : Fin 3) (Or.inl (by show (2 : ℕ) < 4; decide))]
      rw [View.read_writes_cons_unit_of_not_mem (s := S8x256x128) (off' := ![3, 0, 0]) _ _ _ _ _ _ rfl (0 : Fin 3) (Or.inl (by show (2 : ℕ) < 3; decide))]
      refine Eq.trans (View.read_writes_cons_unit_of_mem (s := S8x256x128) (off' := ![2, 0, 0]) _ _ _ _ _ _ (ix3 0 t ⟨h.val, by omega⟩ : S1x256x128.Idx) rfl (fun a => by fin_cases a <;> simp)) ?_
      refine (cols2 _ _ _ _ _ _ _ _ t h).trans ?_
      rw [ix8 2 h.val _ (by omega)]
      exact G_at c arg5 harg5 x4 D hig hlf 2 h t
    · rw [View.read_writes_cons_unit_of_not_mem (s := S8x256x128) (off' := ![7, 0, 0]) _ _ _ _ _ _ rfl (0 : Fin 3) (Or.inl (by show (3 : ℕ) < 7; decide))]
      rw [View.read_writes_cons_unit_of_not_mem (s := S8x256x128) (off' := ![6, 0, 0]) _ _ _ _ _ _ rfl (0 : Fin 3) (Or.inl (by show (3 : ℕ) < 6; decide))]
      rw [View.read_writes_cons_unit_of_not_mem (s := S8x256x128) (off' := ![5, 0, 0]) _ _ _ _ _ _ rfl (0 : Fin 3) (Or.inl (by show (3 : ℕ) < 5; decide))]
      rw [View.read_writes_cons_unit_of_not_mem (s := S8x256x128) (off' := ![4, 0, 0]) _ _ _ _ _ _ rfl (0 : Fin 3) (Or.inl (by show (3 : ℕ) < 4; decide))]
      refine Eq.trans (View.read_writes_cons_unit_of_mem (s := S8x256x128) (off' := ![3, 0, 0]) _ _ _ _ _ _ (ix3 0 t ⟨h.val, by omega⟩ : S1x256x128.Idx) rfl (fun a => by fin_cases a <;> simp)) ?_
      refine (cols3 _ _ _ _ _ _ _ _ t h).trans ?_
      rw [ix8 3 h.val _ (by omega)]
      exact G_at c arg5 harg5 x4 D hig hlf 3 h t
    · rw [View.read_writes_cons_unit_of_not_mem (s := S8x256x128) (off' := ![7, 0, 0]) _ _ _ _ _ _ rfl (0 : Fin 3) (Or.inl (by show (4 : ℕ) < 7; decide))]
      rw [View.read_writes_cons_unit_of_not_mem (s := S8x256x128) (off' := ![6, 0, 0]) _ _ _ _ _ _ rfl (0 : Fin 3) (Or.inl (by show (4 : ℕ) < 6; decide))]
      rw [View.read_writes_cons_unit_of_not_mem (s := S8x256x128) (off' := ![5, 0, 0]) _ _ _ _ _ _ rfl (0 : Fin 3) (Or.inl (by show (4 : ℕ) < 5; decide))]
      refine Eq.trans (View.read_writes_cons_unit_of_mem (s := S8x256x128) (off' := ![4, 0, 0]) _ _ _ _ _ _ (ix3 0 t ⟨h.val, by omega⟩ : S1x256x128.Idx) rfl (fun a => by fin_cases a <;> simp)) ?_
      refine (cols4 _ _ t h).trans ?_
      rw [ix8 4 h.val _ (by omega)]
      exact G_at c arg5 harg5 x4 D hig hlf 4 h t
    · rw [View.read_writes_cons_unit_of_not_mem (s := S8x256x128) (off' := ![7, 0, 0]) _ _ _ _ _ _ rfl (0 : Fin 3) (Or.inl (by show (5 : ℕ) < 7; decide))]
      rw [View.read_writes_cons_unit_of_not_mem (s := S8x256x128) (off' := ![6, 0, 0]) _ _ _ _ _ _ rfl (0 : Fin 3) (Or.inl (by show (5 : ℕ) < 6; decide))]
      refine Eq.trans (View.read_writes_cons_unit_of_mem (s := S8x256x128) (off' := ![5, 0, 0]) _ _ _ _ _ _ (ix3 0 t ⟨h.val, by omega⟩ : S1x256x128.Idx) rfl (fun a => by fin_cases a <;> simp)) ?_
      refine (cols5 _ _ t h).trans ?_
      rw [ix8 5 h.val _ (by omega)]
      exact G_at c arg5 harg5 x4 D hig hlf 5 h t
    · rw [View.read_writes_cons_unit_of_not_mem (s := S8x256x128) (off' := ![7, 0, 0]) _ _ _ _ _ _ rfl (0 : Fin 3) (Or.inl (by show (6 : ℕ) < 7; decide))]
      refine Eq.trans (View.read_writes_cons_unit_of_mem (s := S8x256x128) (off' := ![6, 0, 0]) _ _ _ _ _ _ (ix3 0 t ⟨h.val, by omega⟩ : S1x256x128.Idx) rfl (fun a => by fin_cases a <;> simp)) ?_
      refine (cols6 _ _ t h).trans ?_
      rw [ix8 6 h.val _ (by omega)]
      exact G_at c arg5 harg5 x4 D hig hlf 6 h t
    · refine Eq.trans (View.read_writes_cons_unit_of_mem (s := S8x256x128) (off' := ![7, 0, 0]) _ _ _ _ _ _ (ix3 0 t ⟨h.val, by omega⟩ : S1x256x128.Idx) rfl (fun a => by fin_cases a <;> simp)) ?_
      refine (cols7 _ _ t h).trans ?_
      rw [ix8 7 h.val _ (by omega)]
      exact G_at c arg5 harg5 x4 D hig hlf 7 h t

theorem zeros (f8 : BufTy.Contents (Elt Ideal) arg8.view.ty) (h : Fin 4) (e : Fin 144) (x : Fin 128) :
    arg8.view.read (Elt Ideal) (arg8.view.writes (Elt Ideal) f8 (bodyRun.sl.HS0_1 (F := Ideal))) (ix3 h e x) = ((0 : ℝ) : EReal) := by
  unfold bodyRun.sl.HS0_1
  refine Eq.trans (View.read_writes_cons_unit_of_mem (s := S4x144x128) (off' := ![0, 0, 0]) _ _ _ _ _ _ (ix3 h e x : S4x144x128.Idx) rfl (fun a => by fin_cases a <;> simp)) ?_
  pointwise [k0_pay75]
  rfl

theorem start : Maxes (fun _ => 0) (k0_pay2 (F := Ideal), k0_pay3 (F := Ideal), k0_pay4 (F := Ideal), k0_pay5 (F := Ideal)) := by
  refine ⟨?_, ?_, ?_, ?_⟩
  · show (k0_pay2 (F := Ideal)) (ix2 0 0) = _
    pointwise [k0_pay2]
    rfl
  · show (k0_pay3 (F := Ideal)) (ix2 0 0) = _
    pointwise [k0_pay3]
    rfl
  · show (k0_pay4 (F := Ideal)) (ix2 0 0) = _
    pointwise [k0_pay4]
    rfl
  · show (k0_pay5 (F := Ideal)) (ix2 0 0) = _
    pointwise [k0_pay5]
    rfl

include hq hk hv hig hlf in
/-- The body's result block over finite inputs. -/
theorem out_val (y : S1x2048x512.Idx) : out0_A_6 (F := Ideal) c i arg1 harg1 arg2 harg2 arg3 harg3 arg4 harg4 arg5 harg5 arg6 harg6 arg7 harg7 arg8 harg8 arg9 harg9 arg10 harg10 x0 x1 x2 x3 x4 x5 y
    = D.at (x3 y) (x5 (ix2 (y 2) 0)) (y 1) (y 2) := by
  have HD := holds c arg1 harg1 arg2 harg2 arg3 harg3 arg5 harg5 arg9 arg10 x0 x1 x2 x4 D hq hk hv hig hlf arg9.view.junk arg10.view.junk
  obtain ⟨M, -, -, hL⟩ := loop_inv Variants.none c none i arg1 harg1 arg2 harg2 arg3 harg3 arg4 harg4 arg5 harg5 arg6 harg6 arg7 harg7 arg8 harg8 arg9 harg9 arg10 harg10 _ _ _ (harg4.unread x3) _ (harg6.unread x5) _ _ D HD arg7.view.junk
    (arg8.view.writes (Elt Ideal) arg8.view.junk (bodyRun.sl.HS0_1 (F := Ideal))) _ start (zeros arg8 _) _ le_rfl
  unfold out0_A_6
  refine (View.read_writes_apply_of_pieces _ _ (outBlk arg4 arg6 (harg4.unread x3) (harg6.unread x5) D) _ hL y (cover0_A_6 (F := Ideal) c i arg1 harg1 arg2 harg2 arg3 harg3 arg4 harg4 arg5 harg5 arg6 harg6 arg7 harg7 arg8 harg8 arg9 harg9 arg10 harg10 x0 x1 x2 x3 x4 x5 y)).trans ?_
  unfold outBlk
  rw [harg4.read_unread, harg6.read_unread]
  rfl

end

end Cert.MlstmIdeal.Hand

end
-- ==== Proof.MlKern.lean ====
/- The recurrence kernel's final array over finite inputs. -/
module

public import proofs.«01_k».proof.Proof.MlTable
public import Idealize.ShloMosaic.Lib.Pipeline.ValueKit

@[expose] public section

set_option maxRecDepth 16384

noncomputable section

namespace Cert.MlstmIdeal.Hand

open Cert.MlstmIdeal Cert.MlstmIdeal.Gen Cert.MlMath
open Idealize.ShloMosaic Idealize.ShloMosaic.TcCoe Idealize.SL.Sem
open Idealize.ShloMosaic.Pipeline (Dat)

/-- Where every window of a grid point lies. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![t.val, 0, 0]
    ∧ t.val < 16 := (by decide +kernel : ∀ t : Fin grid0.N, _)

variable (m : (ℓ : Loc nD τ sig) → Buf (Elt Ideal) ℓ)

/-- The batch entry that point `t` works on. -/
def bat (t : Fin cfg0.N) : Fin 16 := ⟨t.val, (idx t).2.2.2.2.2.2.2⟩

/-- The queries, keys, values, output gates, gates and norm weights the kernel is given. -/
def aq (c : Dev nD) (b : Fin 16) (i : Fin 2048) (j : Fin 512) : EReal := m ((c.tc : Thread nD τ).loc main_arg0) (ix3 b i j)
def ak (c : Dev nD) (b : Fin 16) (i : Fin 2048) (j : Fin 512) : EReal := m ((c.tc : Thread nD τ).loc main_arg1) (ix3 b i j)
def av (c : Dev nD) (b : Fin 16) (i : Fin 2048) (j : Fin 512) : EReal := m ((c.tc : Thread nD τ).loc main_arg2) (ix3 b i j)
def ao (c : Dev nD) (b : Fin 16) (i : Fin 2048) (j : Fin 512) : EReal := m ((c.tc : Thread nD τ).loc main_arg3) (ix3 b i j)
def ag (c : Dev nD) (b : Fin 16) (r : Fin 8) (i : Fin 2048) : EReal := m ((c.tc : Thread nD τ).loc main_arg4) (ix3 b r i)
def aw (c : Dev nD) (j : Fin 512) : EReal := m ((c.tc : Thread nD τ).loc main_arg5) (ix1 j)

/-- The layer's output as an array. -/
def OUT (c : Dev nD) : FVec Ideal S16x2048x512 .bf16 := fun y =>
  layer (aq m c (y 0)) (ak m c (y 0)) (av m c (y 0)) (ag m c (y 0)) (ao m c (y 0) (y 1) (y 2)) (aw m c (y 2)) (y 1) (y 2)

theorem blk0 (c : Dev nD) (t : Fin cfg0.N) (i : Fin 2048) (j : Fin 512) : (iblk m c 0 t : FVec Ideal S1x2048x512 .bf16) (ix3 0 i j) = aq m c (bat t) i j := by
  unfold aq; blk_ext [iblk, V, idx t, bat]
theorem blk1 (c : Dev nD) (t : Fin cfg0.N) (i : Fin 2048) (j : Fin 512) : (iblk m c 1 t : FVec Ideal S1x2048x512 .bf16) (ix3 0 i j) = ak m c (bat t) i j := by
  unfold ak; blk_ext [iblk, V, idx t, bat]
theorem blk2 (c : Dev nD) (t : Fin cfg0.N) (i : Fin 2048) (j : Fin 512) : (iblk m c 2 t : FVec Ideal S1x2048x512 .bf16) (ix3 0 i j) = av m c (bat t) i j := by
  unfold av; blk_ext [iblk, V, idx t, bat]
theorem blk3 (c : Dev nD) (t : Fin cfg0.N) (i : Fin 2048) (j : Fin 512) : (iblk m c 3 t : FVec Ideal S1x2048x512 .f32) (ix3 0 i j) = ao m c (bat t) i j := by
  unfold ao; blk_ext [iblk, V, idx t, bat]
theorem blk4 (c : Dev nD) (t : Fin cfg0.N) (r : Fin 8) (i : Fin 2048) : (iblk m c 4 t : FVec Ideal S1x8x2048 .f32) (ix3 0 r i) = ag m c (bat t) r i := by
  unfold ag; blk_ext [iblk, V, idx t, bat]
theorem blk5 (c : Dev nD) (t : Fin cfg0.N) (j : Fin 512) : (iblk m c 5 t : FVec Ideal S512x1 .f32) (ix2 j 0) = aw m c j := by
  unfold aw; blk_simp [iblk, idx t]; entry_read; pointwise []; blk_ext [idx t]

/-- The block that point `t` writes is the layer's output at its place. -/
theorem point (c : Dev nD) (hF : Finite (aq m c) (ak m c) (av m c) (ag m c)) (t : Fin cfg0.N) (y : S1x2048x512.Idx) :
    outsAt0 (F := Ideal) m c t y = OUT m c (((cfg0.win 6).blk t).view.emb y) := by
  obtain ⟨i, j, rfl⟩ : ∃ (i : Fin 2048) (j : Fin 512), y = ix3 0 i j :=
    ⟨y 1, y 2, by funext a; match a with | ⟨0, _⟩ => exact Subsingleton.elim (α := Fin 1) _ _ | ⟨1, _⟩ => rfl | ⟨2, _⟩ => rfl⟩
  have he : ((cfg0.win 6).blk t).view.emb (ix3 0 i j) = (ix3 (bat t) i j : S16x2048x512.Idx) := by
    blk_ext [idx t, bat]
  rw [he]
  unfold outsAt0
  refine (out_val _ _ _ _ _ _ _ _ _ _ _ _ _ _ _ _ _ _ _ _ _ _ _ _ _ _ _ _ (seqs (aq m c (bat t)) (ak m c (bat t)) (av m c (bat t)) (ag m c (bat t)))
    (fun h i e => (blk0 m c t _ _).trans (ext_at (fun i => aq m c (bat t) i (col h e)) i (hF.q _ _ _)).symm)
    (fun h i e => (blk1 m c t _ _).trans (ext_at (fun i => ak m c (bat t) i (col h e)) i (hF.k _ _ _)).symm)
    (fun h i e => (blk2 m c t _ _).trans (ext_at (fun i => av m c (bat t) i (col h e)) i (hF.v _ _ _)).symm)
    (fun h i => (blk4 m c t _ _).trans (ext_at (ag m c (bat t) (gi h)) i (hF.g _ _ _)).symm)
    (fun h i => (blk4 m c t _ _).trans (ext_at (ag m c (bat t) (gf h)) i (hF.g _ _ _)).symm) (ix3 0 i j)).trans ?_
  rw [blk3 m c t i j]
  exact congrArg (fun w => Seqs.at _ (ao m c (bat t) i j) w i j) (blk5 m c t j)

/-- The kernel's final array. -/
theorem final (c : Dev nD) (hF : Finite (aq m c) (ak m c) (av m c) (ag m c)) : (dats m 0 c).arrAt 6 (cfgs 0).N = OUT m c := by
  refine (dats m 0 c).arrAt_eq_of_covers 6 _ (by decide +kernel) fun t _ y => ?_
  blk_simp
  rw [after0_6]
  exact point m c hF t y

end Cert.MlstmIdeal.Hand

end
-- ==== Proof.MlRefRun.lean ====
/- The reference's run over the steps of its generated step function: `proofs.«01_k».proof.Proof.Gen.MlstmRefIdeal.StepRun` with the proof
   of one field's step (`step_10`) written by hand. -/
module

public import proofs.«01_k».proof.Proof.Gen.MlstmRefIdeal.Run
public import proofs.«01_k».proof.Proof.Gen.MlstmRefIdeal.Step

@[expose] public section

noncomputable section

namespace Cert.MlstmRefIdeal.Iter

open Idealize.ShloMosaic Idealize.ShloMosaic.TcCoe Idealize.SL.Sem Idealize.ShloMosaic.StableHlo
open Cert.MlstmRefIdeal Cert.MlstmRefIdeal.Gen Cert.MlstmRefIdeal.Value
open Cert.MlstmRefIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v28_7) = s.main_v28_7
  f_8 : V0 (Proc.devRef .tc main_v28_8) = s.main_v28_8
  f_9 : V0 (Proc.devRef .tc main_v28_9) = s.main_v28_9
  f_10 : V0 (Proc.devRef .tc main_v28_10) = s.main_v28_10
  f_0 : V0 (Proc.devRef .tc main_v28_0) = s.main_v28_0
  f_1 : V0 (Proc.devRef .tc main_v28_1) = s.main_v28_1
  f_2 : V0 (Proc.devRef .tc main_v28_2) = s.main_v28_2
  f_3 : V0 (Proc.devRef .tc main_v28_3) = s.main_v28_3
  f_4 : V0 (Proc.devRef .tc main_v28_4) = s.main_v28_4
  n_6 : V0 (Proc.devRef .tc main_v28_6) = constantI S_ 32 (BitVec.ofNat 32 j)
  k_5 : V0 (Proc.devRef .tc main_v28_5) = Cert.MlstmRefIdeal.Step.K_main_v23 (F := F)

variable {V0 s j}

set_option maxRecDepth 8192 in
theorem al_0 (h : Holds V0 s j) : (constantI S_ 32 0#32 : (Proc.devRef .tc main_while0b_call2_c : DevRef τ sig).ty.Contents (Elt F)) = Cert.MlstmRefIdeal.Step.b0 j s := by
  unfold Cert.MlstmRefIdeal.Step.b0
  rfl
set_option maxRecDepth 8192 in
theorem al_1 (h : Holds V0 s j) : (constantI S_ 32 0#32 : (Proc.devRef .tc main_while0b_call2_c_0 : DevRef τ sig).ty.Contents (Elt F)) = Cert.MlstmRefIdeal.Step.b1 j s := by
  unfold Cert.MlstmRefIdeal.Step.b1
  rfl
set_option maxRecDepth 8192 in
theorem al_2 (h : Holds V0 s j) : (constantI S_ 32 0#32 : (Proc.devRef .tc main_while0b_call2_c_1 : DevRef τ sig).ty.Contents (Elt F)) = Cert.MlstmRefIdeal.Step.b2 j s := by
  unfold Cert.MlstmRefIdeal.Step.b2
  rfl
set_option maxRecDepth 8192 in
theorem al_3 (h : Holds V0 s j) : (constantI S_ 32 0#32 : (Proc.devRef .tc main_while0b_call2_c_2 : DevRef τ sig).ty.Contents (Elt F)) = Cert.MlstmRefIdeal.Step.b3 j s := by
  unfold Cert.MlstmRefIdeal.Step.b3
  rfl
set_option maxRecDepth 8192 in
theorem al_4 (h : Holds V0 s j) : (Host.dynamicSlice S1x16x4x64x128 (V0 (Proc.devRef .tc main_v28_0)) (fun k => (((![V0 (Proc.devRef .tc main_v28_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128 : (Proc.devRef .tc main_while0b_call2_v0 : DevRef τ sig).ty.Contents (Elt F)) = Cert.MlstmRefIdeal.Step.b4 j s := by
  unfold Cert.MlstmRefIdeal.Step.b4
  rw [← al_0 h, ← al_1 h, ← al_2 h, ← al_3 h, h.f_0, h.n_6]
  try rfl
set_option maxRecDepth 8192 in
theorem al_5 (h : Holds V0 s j) : (res_main_while0b_v56 V0 : (Proc.devRef .tc main_while0b_v56 : DevRef τ sig).ty.Contents (Elt F)) = Cert.MlstmRefIdeal.Step.b5 j s := by
  unfold res_main_while0b_v56 Cert.MlstmRefIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.MlstmRefIdeal.Step.b6 j s := by
  unfold Cert.MlstmRefIdeal.Step.b6
  rfl
set_option maxRecDepth 8192 in
theorem al_7 (h : Holds V0 s j) : (constantI S_ 32 0#32 : (Proc.devRef .tc main_while0b_call3_c_0 : DevRef τ sig).ty.Contents (Elt F)) = Cert.MlstmRefIdeal.Step.b7 j s := by
  unfold Cert.MlstmRefIdeal.Step.b7
  rfl
set_option maxRecDepth 8192 in
theorem al_8 (h : Holds V0 s j) : (constantI S_ 32 0#32 : (Proc.devRef .tc main_while0b_call3_c_1 : DevRef τ sig).ty.Contents (Elt F)) = Cert.MlstmRefIdeal.Step.b8 j s := by
  unfold Cert.MlstmRefIdeal.Step.b8
  rfl
set_option maxRecDepth 8192 in
theorem al_9 (h : Holds V0 s j) : (constantI S_ 32 0#32 : (Proc.devRef .tc main_while0b_call3_c_2 : DevRef τ sig).ty.Contents (Elt F)) = Cert.MlstmRefIdeal.Step.b9 j s := by
  unfold Cert.MlstmRefIdeal.Step.b9
  rfl
set_option maxRecDepth 8192 in
theorem al_10 (h : Holds V0 s j) : (Host.dynamicSlice S1x16x4x64x128 (V0 (Proc.devRef .tc main_v28_1)) (fun k => (((![V0 (Proc.devRef .tc main_v28_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128 : (Proc.devRef .tc main_while0b_call3_v0 : DevRef τ sig).ty.Contents (Elt F)) = Cert.MlstmRefIdeal.Step.b10 j s := by
  unfold Cert.MlstmRefIdeal.Step.b10
  rw [← al_6 h, ← al_7 h, ← al_8 h, ← al_9 h, h.f_1, h.n_6]
  try rfl
set_option maxRecDepth 8192 in
theorem al_11 (h : Holds V0 s j) : (res_main_while0b_v57 V0 : (Proc.devRef .tc main_while0b_v57 : DevRef τ sig).ty.Contents (Elt F)) = Cert.MlstmRefIdeal.Step.b11 j s := by
  unfold res_main_while0b_v57 Cert.MlstmRefIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.MlstmRefIdeal.Step.b12 j s := by
  unfold Cert.MlstmRefIdeal.Step.b12
  rfl
set_option maxRecDepth 8192 in
theorem al_13 (h : Holds V0 s j) : (constantI S_ 32 0#32 : (Proc.devRef .tc main_while0b_call4_c_0 : DevRef τ sig).ty.Contents (Elt F)) = Cert.MlstmRefIdeal.Step.b13 j s := by
  unfold Cert.MlstmRefIdeal.Step.b13
  rfl
set_option maxRecDepth 8192 in
theorem al_14 (h : Holds V0 s j) : (constantI S_ 32 0#32 : (Proc.devRef .tc main_while0b_call4_c_1 : DevRef τ sig).ty.Contents (Elt F)) = Cert.MlstmRefIdeal.Step.b14 j s := by
  unfold Cert.MlstmRefIdeal.Step.b14
  rfl
set_option maxRecDepth 8192 in
theorem al_15 (h : Holds V0 s j) : (constantI S_ 32 0#32 : (Proc.devRef .tc main_while0b_call4_c_2 : DevRef τ sig).ty.Contents (Elt F)) = Cert.MlstmRefIdeal.Step.b15 j s := by
  unfold Cert.MlstmRefIdeal.Step.b15
  rfl
set_option maxRecDepth 8192 in
theorem al_16 (h : Holds V0 s j) : (Host.dynamicSlice S1x16x4x64x128 (V0 (Proc.devRef .tc main_v28_2)) (fun k => (((![V0 (Proc.devRef .tc main_v28_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x4x64x128_S1x16x4x64x128 : (Proc.devRef .tc main_while0b_call4_v0 : DevRef τ sig).ty.Contents (Elt F)) = Cert.MlstmRefIdeal.Step.b16 j s := by
  unfold Cert.MlstmRefIdeal.Step.b16
  rw [← al_12 h, ← al_13 h, ← al_14 h, ← al_15 h, h.f_2, h.n_6]
  try rfl
set_option maxRecDepth 8192 in
theorem al_17 (h : Holds V0 s j) : (res_main_while0b_v58 V0 : (Proc.devRef .tc main_while0b_v58 : DevRef τ sig).ty.Contents (Elt F)) = Cert.MlstmRefIdeal.Step.b17 j s := by
  unfold res_main_while0b_v58 Cert.MlstmRefIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.MlstmRefIdeal.Step.b18 j s := by
  unfold Cert.MlstmRefIdeal.Step.b18
  rfl
set_option maxRecDepth 8192 in
theorem al_19 (h : Holds V0 s j) : (constantI S_ 32 0#32 : (Proc.devRef .tc main_while0b_call5_c_0 : DevRef τ sig).ty.Contents (Elt F)) = Cert.MlstmRefIdeal.Step.b19 j s := by
  unfold Cert.MlstmRefIdeal.Step.b19
  rfl
set_option maxRecDepth 8192 in
theorem al_20 (h : Holds V0 s j) : (constantI S_ 32 0#32 : (Proc.devRef .tc main_while0b_call5_c_1 : DevRef τ sig).ty.Contents (Elt F)) = Cert.MlstmRefIdeal.Step.b20 j s := by
  unfold Cert.MlstmRefIdeal.Step.b20
  rfl
set_option maxRecDepth 8192 in
theorem al_21 (h : Holds V0 s j) : (Host.dynamicSlice S1x16x4x64 (V0 (Proc.devRef .tc main_v28_3)) (fun k => (((![V0 (Proc.devRef .tc main_v28_6), constantI S_ 32 0#32, constantI S_ 32 0#32, constantI S_ 32 0#32] : Fin 4 → (⟨S_, .i32⟩ : BufTy).Contents (Elt F))) k (Shape.Idx.first h_S_)).toInt) sliceFits_S32x16x4x64_S1x16x4x64 : (Proc.devRef .tc main_while0b_call5_v0 : DevRef τ sig).ty.Contents (Elt F)) = Cert.MlstmRefIdeal.Step.b21 j s := by
  unfold Cert.MlstmRefIdeal.Step.b21
  rw [← al_18 h, ← al_19 h, ← al_20 h, h.f_3, h.n_6]
  try rfl
set_option maxRecDepth 8192 in
theorem al_22 (h : Holds V0 s j) : (res_main_while0b_v59 V0 : (Proc.devRef .tc main_while0b_v59 : DevRef τ sig).ty.Contents (Elt F)) = Cert.MlstmRefIdeal.Step.b22 j s := by
  unfold res_main_while0b_v59 Cert.MlstmRefIdeal.Step.b22
  rw [← al_21 h]
  try rfl
set_option maxRecDepth 8192 in
theorem al_23 (h : Holds V0 s j) : (constantI S_ 32 0#32 : (Proc.devRef .tc main_while0b_call6_c : DevRef τ sig).ty.Contents (Elt F)) = Cert.MlstmRefIdeal.Step.b23 j s := by
  unfold Cert.MlstmRefIdeal.Step.b23
  rfl
set_option maxRecDepth 8192 in
theorem al_24 (h : Holds V0 s j) : (constantI S_ 32 0#32 : (Proc.devRef .tc main_while0b_call6_c_0 : DevRef τ sig).ty.Contents (Elt F)) = Cert.MlstmRefIdeal.Step.b24 j s := by
  unfold Cert.MlstmRefIdeal.Step.b24
  rfl
set_option maxRecDepth 8192 in
theorem al_25 (h : Holds V0 s j) : (constantI S_ 32 0#32 : (Proc.devRef .tc main_while0b_call6_c_1 : DevRef τ sig).ty.Contents (Elt F)) = Cert.MlstmRefIdeal.Step.b25 j s := by
  unfold Cert.MlstmRefIdeal.Step.b25
  rfl
set_option maxRecDepth 8192 in
theorem al_26 (h : Holds V0 s j) : (Host.dynamicSlice S1x16x4x64 (V0 (Proc.devRef .tc main_v28_4)) (fun k => (((![V0 (Proc.devRef .tc main_v28_6), constantI S_ 32 0#32, constantI S_ 32 0#32, constantI S_ 32 0#32] : Fin 4 → (⟨S_, .i32⟩ : BufTy).Contents (Elt F))) k (Shape.Idx.first h_S_)).toInt) sliceFits_S32x16x4x64_S1x16x4x64 : (Proc.devRef .tc main_while0b_call6_v0 : DevRef τ sig).ty.Contents (Elt F)) = Cert.MlstmRefIdeal.Step.b26 j s := by
  unfold Cert.MlstmRefIdeal.Step.b26
  rw [← al_23 h, ← al_24 h, ← al_25 h, h.f_4, h.n_6]
  try rfl
set_option maxRecDepth 8192 in
theorem al_27 (h : Holds V0 s j) : (res_main_while0b_v60 V0 : (Proc.devRef .tc main_while0b_v60 : DevRef τ sig).ty.Contents (Elt F)) = Cert.MlstmRefIdeal.Step.b27 j s := by
  unfold res_main_while0b_v60 Cert.MlstmRefIdeal.Step.b27
  rw [← al_26 h]
  try rfl
set_option maxRecDepth 8192 in
theorem al_28 (h : Holds V0 s j) : (broadcastInDim S16x4x64x1 ![0, 1, 2] bcast_S16x4x64_S16x4x64x1_0_1_2 (res_main_while0b_v60 V0) : (Proc.devRef .tc main_while0b_v61 : DevRef τ sig).ty.Contents (Elt F)) = Cert.MlstmRefIdeal.Step.b28 j s := by
  unfold Cert.MlstmRefIdeal.Step.b28
  rw [← al_27 h]
  try rfl
set_option maxRecDepth 8192 in
theorem al_29 (h : Holds V0 s j) : (broadcastInDim S16x4x1x64 ![0, 1, 3] bcast_S16x4x64_S16x4x1x64_0_1_3 (res_main_while0b_v60 V0) : (Proc.devRef .tc main_while0b_v62 : DevRef τ sig).ty.Contents (Elt F)) = Cert.MlstmRefIdeal.Step.b29 j s := by
  unfold Cert.MlstmRefIdeal.Step.b29
  rw [← al_27 h]
  try rfl
set_option maxRecDepth 8192 in
theorem al_30 (h : Holds V0 s j) : (broadcastInDim S16x4x64x64 ![0, 1, 2, 3] bcast_S16x4x64x1_S16x4x64x64_0_1_2_3 (broadcastInDim S16x4x64x1 ![0, 1, 2] bcast_S16x4x64_S16x4x64x1_0_1_2 (res_main_while0b_v60 V0)) : (Proc.devRef .tc main_while0b_v63 : DevRef τ sig).ty.Contents (Elt F)) = Cert.MlstmRefIdeal.Step.b30 j s := by
  unfold Cert.MlstmRefIdeal.Step.b30
  rw [← al_28 h]
  try rfl
set_option maxRecDepth 8192 in
theorem al_31 (h : Holds V0 s j) : (broadcastInDim S16x4x64x64 ![0, 1, 2, 3] bcast_S16x4x1x64_S16x4x64x64_0_1_2_3 (broadcastInDim S16x4x1x64 ![0, 1, 3] bcast_S16x4x64_S16x4x1x64_0_1_3 (res_main_while0b_v60 V0)) : (Proc.devRef .tc main_while0b_v64 : DevRef τ sig).ty.Contents (Elt F)) = Cert.MlstmRefIdeal.Step.b31 j s := by
  unfold Cert.MlstmRefIdeal.Step.b31
  rw [← al_29 h]
  try rfl
set_option maxRecDepth 8192 in
theorem al_32 (h : Holds V0 s j) : (subf (broadcastInDim S16x4x64x64 ![0, 1, 2, 3] bcast_S16x4x64x1_S16x4x64x64_0_1_2_3 (broadcastInDim S16x4x64x1 ![0, 1, 2] bcast_S16x4x64_S16x4x64x1_0_1_2 (res_main_while0b_v60 V0))) (broadcastInDim S16x4x64x64 ![0, 1, 2, 3] bcast_S16x4x1x64_S16x4x64x64_0_1_2_3 (broadcastInDim S16x4x1x64 ![0, 1, 3] bcast_S16x4x64_S16x4x1x64_0_1_3 (res_main_while0b_v60 V0))) : (Proc.devRef .tc main_while0b_v65 : DevRef τ sig).ty.Contents (Elt F)) = Cert.MlstmRefIdeal.Step.b32 j s := by
  unfold Cert.MlstmRefIdeal.Step.b32
  rw [← al_30 h, ← al_31 h]
  try rfl
set_option maxRecDepth 8192 in
theorem al_33 (h : Holds V0 s j) : (broadcastInDim S16x4x1x64 ![0, 1, 3] bcast_S16x4x64_S16x4x1x64_0_1_3 (res_main_while0b_v59 V0) : (Proc.devRef .tc main_while0b_v66 : DevRef τ sig).ty.Contents (Elt F)) = Cert.MlstmRefIdeal.Step.b33 j s := by
  unfold Cert.MlstmRefIdeal.Step.b33
  rw [← al_22 h]
  try rfl
set_option maxRecDepth 8192 in
theorem al_34 (h : Holds V0 s j) : (broadcastInDim S16x4x64x64 ![0, 1, 2, 3] bcast_S16x4x1x64_S16x4x64x64_0_1_2_3 (broadcastInDim S16x4x1x64 ![0, 1, 3] bcast_S16x4x64_S16x4x1x64_0_1_3 (res_main_while0b_v59 V0)) : (Proc.devRef .tc main_while0b_v67 : DevRef τ sig).ty.Contents (Elt F)) = Cert.MlstmRefIdeal.Step.b34 j s := by
  unfold Cert.MlstmRefIdeal.Step.b34
  rw [← al_33 h]
  try rfl
set_option maxRecDepth 8192 in
theorem al_35 (h : Holds V0 s j) : (addf (subf (broadcastInDim S16x4x64x64 ![0, 1, 2, 3] bcast_S16x4x64x1_S16x4x64x64_0_1_2_3 (broadcastInDim S16x4x64x1 ![0, 1, 2] bcast_S16x4x64_S16x4x64x1_0_1_2 (res_main_while0b_v60 V0))) (broadcastInDim S16x4x64x64 ![0, 1, 2, 3] bcast_S16x4x1x64_S16x4x64x64_0_1_2_3 (broadcastInDim S16x4x1x64 ![0, 1, 3] bcast_S16x4x64_S16x4x1x64_0_1_3 (res_main_while0b_v60 V0)))) (broadcastInDim S16x4x64x64 ![0, 1, 2, 3] bcast_S16x4x1x64_S16x4x64x64_0_1_2_3 (broadcastInDim S16x4x1x64 ![0, 1, 3] bcast_S16x4x64_S16x4x1x64_0_1_3 (res_main_while0b_v59 V0))) : (Proc.devRef .tc main_while0b_v68 : DevRef τ sig).ty.Contents (Elt F)) = Cert.MlstmRefIdeal.Step.b35 j s := by
  unfold Cert.MlstmRefIdeal.Step.b35
  rw [← al_32 h, ← al_34 h]
  try rfl
set_option maxRecDepth 8192 in
theorem al_36 (h : Holds V0 s j) : (constant S_ .f32 0xFF800000#32 : (Proc.devRef .tc main_while0b_cst_19 : DevRef τ sig).ty.Contents (Elt F)) = Cert.MlstmRefIdeal.Step.b36 j s := by
  unfold Cert.MlstmRefIdeal.Step.b36
  rfl
set_option maxRecDepth 8192 in
theorem al_37 (h : Holds V0 s j) : (id (constant S_ .f32 0xFF800000#32) : (Proc.devRef .tc main_while0b_call7_v0 : DevRef τ sig).ty.Contents (Elt F)) = Cert.MlstmRefIdeal.Step.b37 j s := by
  unfold Cert.MlstmRefIdeal.Step.b37
  rw [← al_36 h]
  try rfl
set_option maxRecDepth 8192 in
theorem al_38 (h : Holds V0 s j) : (broadcastInDim S16x4x64x64 ![2, 3] bcast_S64x64_S16x4x64x64_2_3 (V0 (Proc.devRef .tc main_v28_5)) : (Proc.devRef .tc main_while0b_call7_v1 : DevRef τ sig).ty.Contents (Elt F)) = Cert.MlstmRefIdeal.Step.b38 j s := by
  unfold Cert.MlstmRefIdeal.Step.b38
  rw [h.k_5]
  try rfl
set_option maxRecDepth 8192 in
theorem al_39 (h : Holds V0 s j) : (broadcastInDim S16x4x64x64 ![] bcast_S_S16x4x64x64 (id (constant S_ .f32 0xFF800000#32)) : (Proc.devRef .tc main_while0b_call7_v2 : DevRef τ sig).ty.Contents (Elt F)) = Cert.MlstmRefIdeal.Step.b39 j s := by
  unfold Cert.MlstmRefIdeal.Step.b39
  rw [← al_37 h]
  try rfl
set_option maxRecDepth 8192 in
theorem al_40 (h : Holds V0 s j) : (res_main_while0b_v69 V0 : (Proc.devRef .tc main_while0b_v69 : DevRef τ sig).ty.Contents (Elt F)) = Cert.MlstmRefIdeal.Step.b40 j s := by
  unfold res_main_while0b_v69 Cert.MlstmRefIdeal.Step.b40
  rw [← al_38 h, ← al_35 h, ← al_39 h]
  try rfl
set_option maxRecDepth 8192 in
theorem al_41 (h : Holds V0 s j) : (broadcastInDim S16x4x1 ![0, 1] bcast_S16x4_S16x4x1_0_1 (V0 (Proc.devRef .tc main_v28_9)) : (Proc.devRef .tc main_while0b_v70 : DevRef τ sig).ty.Contents (Elt F)) = Cert.MlstmRefIdeal.Step.b41 j s := by
  unfold Cert.MlstmRefIdeal.Step.b41
  rw [h.f_9]
  try rfl
set_option maxRecDepth 8192 in
theorem al_42 (h : Holds V0 s j) : (broadcastInDim S16x4x64 ![0, 1, 2] bcast_S16x4x1_S16x4x64_0_1_2 (broadcastInDim S16x4x1 ![0, 1] bcast_S16x4_S16x4x1_0_1 (V0 (Proc.devRef .tc main_v28_9))) : (Proc.devRef .tc main_while0b_v71 : DevRef τ sig).ty.Contents (Elt F)) = Cert.MlstmRefIdeal.Step.b42 j s := by
  unfold Cert.MlstmRefIdeal.Step.b42
  rw [← al_41 h]
  try rfl
set_option maxRecDepth 8192 in
theorem al_43 (h : Holds V0 s j) : (res_main_while0b_v72 V0 : (Proc.devRef .tc main_while0b_v72 : DevRef τ sig).ty.Contents (Elt F)) = Cert.MlstmRefIdeal.Step.b43 j s := by
  unfold res_main_while0b_v72 Cert.MlstmRefIdeal.Step.b43
  rw [← al_27 h, ← al_42 h]
  try rfl
set_option maxRecDepth 8192 in
theorem al_44 (h : Holds V0 s j) : (constant S_ .f32 0xFF800000#32 : (Proc.devRef .tc main_while0b_cst_20 : DevRef τ sig).ty.Contents (Elt F)) = Cert.MlstmRefIdeal.Step.b44 j s := by
  unfold Cert.MlstmRefIdeal.Step.b44
  rfl
set_option maxRecDepth 8192 in
theorem al_45 (h : Holds V0 s j) : (Host.reduce FloatOps.maximumf (res_main_while0b_v69 V0) (constant S_ .f32 0xFF800000#32) reducesTo_S16x4x64x64_S16x4x64_d3 h_S_ : (Proc.devRef .tc main_while0b_v73 : DevRef τ sig).ty.Contents (Elt F)) = Cert.MlstmRefIdeal.Step.b45 j s := by
  unfold Cert.MlstmRefIdeal.Step.b45
  rw [← al_40 h, ← al_44 h]
  try rfl
set_option maxRecDepth 8192 in
theorem al_46 (h : Holds V0 s j) : (res_main_while0b_v74 V0 : (Proc.devRef .tc main_while0b_v74 : DevRef τ sig).ty.Contents (Elt F)) = Cert.MlstmRefIdeal.Step.b46 j s := by
  unfold res_main_while0b_v74 Cert.MlstmRefIdeal.Step.b46
  rw [← al_43 h, ← al_45 h]
  try rfl
set_option maxRecDepth 8192 in
theorem al_47 (h : Holds V0 s j) : (broadcastInDim S16x4x64x1 ![0, 1, 2] bcast_S16x4x64_S16x4x64x1_0_1_2 (res_main_while0b_v74 V0) : (Proc.devRef .tc main_while0b_v75 : DevRef τ sig).ty.Contents (Elt F)) = Cert.MlstmRefIdeal.Step.b47 j s := by
  unfold Cert.MlstmRefIdeal.Step.b47
  rw [← al_46 h]
  try rfl
set_option maxRecDepth 8192 in
theorem al_48 (h : Holds V0 s j) : (broadcastInDim S16x4x64x64 ![0, 1, 2, 3] bcast_S16x4x64x1_S16x4x64x64_0_1_2_3 (broadcastInDim S16x4x64x1 ![0, 1, 2] bcast_S16x4x64_S16x4x64x1_0_1_2 (res_main_while0b_v74 V0)) : (Proc.devRef .tc main_while0b_v76 : DevRef τ sig).ty.Contents (Elt F)) = Cert.MlstmRefIdeal.Step.b48 j s := by
  unfold Cert.MlstmRefIdeal.Step.b48
  rw [← al_47 h]
  try rfl
set_option maxRecDepth 8192 in
theorem al_49 (h : Holds V0 s j) : (subf (res_main_while0b_v69 V0) (broadcastInDim S16x4x64x64 ![0, 1, 2, 3] bcast_S16x4x64x1_S16x4x64x64_0_1_2_3 (broadcastInDim S16x4x64x1 ![0, 1, 2] bcast_S16x4x64_S16x4x64x1_0_1_2 (res_main_while0b_v74 V0))) : (Proc.devRef .tc main_while0b_v77 : DevRef τ sig).ty.Contents (Elt F)) = Cert.MlstmRefIdeal.Step.b49 j s := by
  unfold Cert.MlstmRefIdeal.Step.b49
  rw [← al_40 h, ← al_48 h]
  try rfl
set_option maxRecDepth 8192 in
theorem al_50 (h : Holds V0 s j) : (Host.exp (subf (res_main_while0b_v69 V0) (broadcastInDim S16x4x64x64 ![0, 1, 2, 3] bcast_S16x4x64x1_S16x4x64x64_0_1_2_3 (broadcastInDim S16x4x64x1 ![0, 1, 2] bcast_S16x4x64_S16x4x64x1_0_1_2 (res_main_while0b_v74 V0)))) : (Proc.devRef .tc main_while0b_v78 : DevRef τ sig).ty.Contents (Elt F)) = Cert.MlstmRefIdeal.Step.b50 j s := by
  unfold Cert.MlstmRefIdeal.Step.b50
  rw [← al_49 h]
  try rfl
set_option maxRecDepth 8192 in
theorem al_51 (h : Holds V0 s j) : (subf (res_main_while0b_v72 V0) (res_main_while0b_v74 V0) : (Proc.devRef .tc main_while0b_v79 : DevRef τ sig).ty.Contents (Elt F)) = Cert.MlstmRefIdeal.Step.b51 j s := by
  unfold Cert.MlstmRefIdeal.Step.b51
  rw [← al_43 h, ← al_46 h]
  try rfl
set_option maxRecDepth 8192 in
theorem al_52 (h : Holds V0 s j) : (res_main_while0b_v80 V0 : (Proc.devRef .tc main_while0b_v80 : DevRef τ sig).ty.Contents (Elt F)) = Cert.MlstmRefIdeal.Step.b52 j s := by
  unfold res_main_while0b_v80 Cert.MlstmRefIdeal.Step.b52
  rw [← al_51 h]
  try rfl
set_option maxRecDepth 8192 in
theorem al_53 (h : Holds V0 s j) : (Host.dotGeneral dot_S16x4x64x128_S16x4x64x128_S16x4x64x64_3_3_2_2_01_01 none (res_main_while0b_v56 V0) (res_main_while0b_v57 V0) : (Proc.devRef .tc main_while0b_v81 : DevRef τ sig).ty.Contents (Elt F)) = Cert.MlstmRefIdeal.Step.b53 j s := by
  unfold Cert.MlstmRefIdeal.Step.b53
  rw [← al_5 h, ← al_11 h]
  try rfl
set_option maxRecDepth 8192 in
theorem al_54 (h : Holds V0 s j) : (res_main_while0b_v82 V0 : (Proc.devRef .tc main_while0b_v82 : DevRef τ sig).ty.Contents (Elt F)) = Cert.MlstmRefIdeal.Step.b54 j s := by
  unfold res_main_while0b_v82 Cert.MlstmRefIdeal.Step.b54
  rw [← al_53 h, ← al_50 h]
  try rfl
set_option maxRecDepth 8192 in
theorem al_55 (h : Holds V0 s j) : (Host.dotGeneral dot_S16x4x64x64_S16x4x64x128_S16x4x64x128_3_2_2_3_01_01 none (res_main_while0b_v82 V0) (res_main_while0b_v58 V0) : (Proc.devRef .tc main_while0b_v83 : DevRef τ sig).ty.Contents (Elt F)) = Cert.MlstmRefIdeal.Step.b55 j s := by
  unfold Cert.MlstmRefIdeal.Step.b55
  rw [← al_54 h, ← al_17 h]
  try rfl
set_option maxRecDepth 8192 in
theorem al_56 (h : Holds V0 s j) : (broadcastInDim S16x4x64x1 ![0, 1, 2] bcast_S16x4x64_S16x4x64x1_0_1_2 (res_main_while0b_v80 V0) : (Proc.devRef .tc main_while0b_v84 : DevRef τ sig).ty.Contents (Elt F)) = Cert.MlstmRefIdeal.Step.b56 j s := by
  unfold Cert.MlstmRefIdeal.Step.b56
  rw [← al_52 h]
  try rfl
set_option maxRecDepth 8192 in
theorem al_57 (h : Holds V0 s j) : (Host.dotGeneral dot_S16x4x64x128_S16x4x128x128_S16x4x64x128_3_2_2_3_01_01 none (res_main_while0b_v56 V0) (V0 (Proc.devRef .tc main_v28_7)) : (Proc.devRef .tc main_while0b_v85 : DevRef τ sig).ty.Contents (Elt F)) = Cert.MlstmRefIdeal.Step.b57 j s := by
  unfold Cert.MlstmRefIdeal.Step.b57
  rw [← al_5 h, h.f_7]
  try rfl
set_option maxRecDepth 8192 in
theorem al_58 (h : Holds V0 s j) : (broadcastInDim S16x4x64x128 ![0, 1, 2, 3] bcast_S16x4x64x1_S16x4x64x128_0_1_2_3 (broadcastInDim S16x4x64x1 ![0, 1, 2] bcast_S16x4x64_S16x4x64x1_0_1_2 (res_main_while0b_v80 V0)) : (Proc.devRef .tc main_while0b_v86 : DevRef τ sig).ty.Contents (Elt F)) = Cert.MlstmRefIdeal.Step.b58 j s := by
  unfold Cert.MlstmRefIdeal.Step.b58
  rw [← al_56 h]
  try rfl
set_option maxRecDepth 8192 in
theorem al_59 (h : Holds V0 s j) : (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v80 V0))) (Host.dotGeneral dot_S16x4x64x128_S16x4x128x128_S16x4x64x128_3_2_2_3_01_01 none (res_main_while0b_v56 V0) (V0 (Proc.devRef .tc main_v28_7))) : (Proc.devRef .tc main_while0b_v87 : DevRef τ sig).ty.Contents (Elt F)) = Cert.MlstmRefIdeal.Step.b59 j s := by
  unfold Cert.MlstmRefIdeal.Step.b59
  rw [← al_58 h, ← al_57 h]
  try rfl
set_option maxRecDepth 8192 in
theorem al_60 (h : Holds V0 s j) : (addf (Host.dotGeneral dot_S16x4x64x64_S16x4x64x128_S16x4x64x128_3_2_2_3_01_01 none (res_main_while0b_v82 V0) (res_main_while0b_v58 V0)) (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v80 V0))) (Host.dotGeneral dot_S16x4x64x128_S16x4x128x128_S16x4x64x128_3_2_2_3_01_01 none (res_main_while0b_v56 V0) (V0 (Proc.devRef .tc main_v28_7)))) : (Proc.devRef .tc main_while0b_v88 : DevRef τ sig).ty.Contents (Elt F)) = Cert.MlstmRefIdeal.Step.b60 j s := by
  unfold Cert.MlstmRefIdeal.Step.b60
  rw [← al_55 h, ← al_59 h]
  try rfl
set_option maxRecDepth 8192 in
theorem al_61 (h : Holds V0 s j) : (constant S_ .f32 0x00000000#32 : (Proc.devRef .tc main_while0b_cst_21 : DevRef τ sig).ty.Contents (Elt F)) = Cert.MlstmRefIdeal.Step.b61 j s := by
  unfold Cert.MlstmRefIdeal.Step.b61
  rfl
set_option maxRecDepth 8192 in
theorem al_62 (h : Holds V0 s j) : (Host.reduceAdd (res_main_while0b_v82 V0) (constant S_ .f32 0x00000000#32) reducesTo_S16x4x64x64_S16x4x64_d3 h_S_ : (Proc.devRef .tc main_while0b_v89 : DevRef τ sig).ty.Contents (Elt F)) = Cert.MlstmRefIdeal.Step.b62 j s := by
  unfold Cert.MlstmRefIdeal.Step.b62
  rw [← al_54 h, ← al_61 h]
  try rfl
set_option maxRecDepth 8192 in
theorem al_63 (h : Holds V0 s j) : (Host.dotGeneral dot_S16x4x64x128_S16x4x128_S16x4x64_3_2_2_n_01_01 none (res_main_while0b_v56 V0) (V0 (Proc.devRef .tc main_v28_8)) : (Proc.devRef .tc main_while0b_v90 : DevRef τ sig).ty.Contents (Elt F)) = Cert.MlstmRefIdeal.Step.b63 j s := by
  unfold Cert.MlstmRefIdeal.Step.b63
  rw [← al_5 h, h.f_8]
  try rfl
set_option maxRecDepth 8192 in
theorem al_64 (h : Holds V0 s j) : (mulf (res_main_while0b_v80 V0) (Host.dotGeneral dot_S16x4x64x128_S16x4x128_S16x4x64_3_2_2_n_01_01 none (res_main_while0b_v56 V0) (V0 (Proc.devRef .tc main_v28_8))) : (Proc.devRef .tc main_while0b_v91 : DevRef τ sig).ty.Contents (Elt F)) = Cert.MlstmRefIdeal.Step.b64 j s := by
  unfold Cert.MlstmRefIdeal.Step.b64
  rw [← al_52 h, ← al_63 h]
  try rfl
set_option maxRecDepth 8192 in
theorem al_65 (h : Holds V0 s j) : (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8)))) : (Proc.devRef .tc main_while0b_v92 : DevRef τ sig).ty.Contents (Elt F)) = Cert.MlstmRefIdeal.Step.b65 j s := by
  unfold Cert.MlstmRefIdeal.Step.b65
  rw [← al_62 h, ← al_64 h]
  try rfl
set_option maxRecDepth 8192 in
theorem al_66 (h : Holds V0 s j) : (Host.absf (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8))))) : (Proc.devRef .tc main_while0b_v93 : DevRef τ sig).ty.Contents (Elt F)) = Cert.MlstmRefIdeal.Step.b66 j s := by
  unfold Cert.MlstmRefIdeal.Step.b66
  rw [← al_65 h]
  try rfl
set_option maxRecDepth 8192 in
theorem al_67 (h : Holds V0 s j) : (Host.negf (res_main_while0b_v74 V0) : (Proc.devRef .tc main_while0b_v94 : DevRef τ sig).ty.Contents (Elt F)) = Cert.MlstmRefIdeal.Step.b67 j s := by
  unfold Cert.MlstmRefIdeal.Step.b67
  rw [← al_46 h]
  try rfl
set_option maxRecDepth 8192 in
theorem al_68 (h : Holds V0 s j) : (Host.exp (Host.negf (res_main_while0b_v74 V0)) : (Proc.devRef .tc main_while0b_v95 : DevRef τ sig).ty.Contents (Elt F)) = Cert.MlstmRefIdeal.Step.b68 j s := by
  unfold Cert.MlstmRefIdeal.Step.b68
  rw [← al_67 h]
  try rfl
set_option maxRecDepth 8192 in
theorem al_69 (h : Holds V0 s j) : (maximumf (Host.absf (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8)))))) (Host.exp (Host.negf (res_main_while0b_v74 V0))) : (Proc.devRef .tc main_while0b_v96 : DevRef τ sig).ty.Contents (Elt F)) = Cert.MlstmRefIdeal.Step.b69 j s := by
  unfold Cert.MlstmRefIdeal.Step.b69
  rw [← al_66 h, ← al_68 h]
  try rfl
set_option maxRecDepth 8192 in
theorem al_70 (h : Holds V0 s j) : (broadcastInDim S16x4x64x1 ![0, 1, 2] bcast_S16x4x64_S16x4x64x1_0_1_2 (maximumf (Host.absf (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8)))))) (Host.exp (Host.negf (res_main_while0b_v74 V0)))) : (Proc.devRef .tc main_while0b_v97 : DevRef τ sig).ty.Contents (Elt F)) = Cert.MlstmRefIdeal.Step.b70 j s := by
  unfold Cert.MlstmRefIdeal.Step.b70
  rw [← al_69 h]
  try rfl
set_option maxRecDepth 8192 in
theorem al_71 (h : Holds V0 s j) : (broadcastInDim S16x4x64x128 ![0, 1, 2, 3] bcast_S16x4x64x1_S16x4x64x128_0_1_2_3 (broadcastInDim S16x4x64x1 ![0, 1, 2] bcast_S16x4x64_S16x4x64x1_0_1_2 (maximumf (Host.absf (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8)))))) (Host.exp (Host.negf (res_main_while0b_v74 V0))))) : (Proc.devRef .tc main_while0b_v98 : DevRef τ sig).ty.Contents (Elt F)) = Cert.MlstmRefIdeal.Step.b71 j s := by
  unfold Cert.MlstmRefIdeal.Step.b71
  rw [← al_70 h]
  try rfl
set_option maxRecDepth 8192 in
theorem al_72 (h : Holds V0 s j) : (Host.divf (addf (Host.dotGeneral dot_S16x4x64x64_S16x4x64x128_S16x4x64x128_3_2_2_3_01_01 none (res_main_while0b_v82 V0) (res_main_while0b_v58 V0)) (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v80 V0))) (Host.dotGeneral dot_S16x4x64x128_S16x4x128x128_S16x4x64x128_3_2_2_3_01_01 none (res_main_while0b_v56 V0) (V0 (Proc.devRef .tc main_v28_7))))) (broadcastInDim S16x4x64x128 ![0, 1, 2, 3] bcast_S16x4x64x1_S16x4x64x128_0_1_2_3 (broadcastInDim S16x4x64x1 ![0, 1, 2] bcast_S16x4x64_S16x4x64x1_0_1_2 (maximumf (Host.absf (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8)))))) (Host.exp (Host.negf (res_main_while0b_v74 V0)))))) : (Proc.devRef .tc main_while0b_v99 : DevRef τ sig).ty.Contents (Elt F)) = Cert.MlstmRefIdeal.Step.b72 j s := by
  unfold Cert.MlstmRefIdeal.Step.b72
  rw [← al_60 h, ← al_71 h]
  try rfl
set_option maxRecDepth 8192 in
theorem al_73 (h : Holds V0 s j) : (extractStridedSlice S16x4x1 ![0, 0, 63] (res_main_while0b_v60 V0) slices_S16x4x64_S16x4x1_0_0_63 : (Proc.devRef .tc main_while0b_v100 : DevRef τ sig).ty.Contents (Elt F)) = Cert.MlstmRefIdeal.Step.b73 j s := by
  unfold Cert.MlstmRefIdeal.Step.b73
  rw [← al_27 h]
  try rfl
set_option maxRecDepth 8192 in
theorem al_74 (h : Holds V0 s j) : (res_main_while0b_v101 V0 : (Proc.devRef .tc main_while0b_v101 : DevRef τ sig).ty.Contents (Elt F)) = Cert.MlstmRefIdeal.Step.b74 j s := by
  unfold res_main_while0b_v101 Cert.MlstmRefIdeal.Step.b74
  rw [← al_73 h]
  try rfl
set_option maxRecDepth 8192 in
theorem al_75 (h : Holds V0 s j) : (broadcastInDim S16x4x1 ![0, 1] bcast_S16x4_S16x4x1_0_1 (res_main_while0b_v101 V0) : (Proc.devRef .tc main_while0b_v102 : DevRef τ sig).ty.Contents (Elt F)) = Cert.MlstmRefIdeal.Step.b75 j s := by
  unfold Cert.MlstmRefIdeal.Step.b75
  rw [← al_74 h]
  try rfl
set_option maxRecDepth 8192 in
theorem al_76 (h : Holds V0 s j) : (broadcastInDim S16x4x64 ![0, 1, 2] bcast_S16x4x1_S16x4x64_0_1_2 (broadcastInDim S16x4x1 ![0, 1] bcast_S16x4_S16x4x1_0_1 (res_main_while0b_v101 V0)) : (Proc.devRef .tc main_while0b_v103 : DevRef τ sig).ty.Contents (Elt F)) = Cert.MlstmRefIdeal.Step.b76 j s := by
  unfold Cert.MlstmRefIdeal.Step.b76
  rw [← al_75 h]
  try rfl
set_option maxRecDepth 8192 in
theorem al_77 (h : Holds V0 s j) : (subf (broadcastInDim S16x4x64 ![0, 1, 2] bcast_S16x4x1_S16x4x64_0_1_2 (broadcastInDim S16x4x1 ![0, 1] bcast_S16x4_S16x4x1_0_1 (res_main_while0b_v101 V0))) (res_main_while0b_v60 V0) : (Proc.devRef .tc main_while0b_v104 : DevRef τ sig).ty.Contents (Elt F)) = Cert.MlstmRefIdeal.Step.b77 j s := by
  unfold Cert.MlstmRefIdeal.Step.b77
  rw [← al_76 h, ← al_27 h]
  try rfl
set_option maxRecDepth 8192 in
theorem al_78 (h : Holds V0 s j) : (res_main_while0b_v105 V0 : (Proc.devRef .tc main_while0b_v105 : DevRef τ sig).ty.Contents (Elt F)) = Cert.MlstmRefIdeal.Step.b78 j s := by
  unfold res_main_while0b_v105 Cert.MlstmRefIdeal.Step.b78
  rw [← al_77 h, ← al_22 h]
  try rfl
set_option maxRecDepth 8192 in
theorem al_79 (h : Holds V0 s j) : (addf (res_main_while0b_v101 V0) (V0 (Proc.devRef .tc main_v28_9)) : (Proc.devRef .tc main_while0b_v106 : DevRef τ sig).ty.Contents (Elt F)) = Cert.MlstmRefIdeal.Step.b79 j s := by
  unfold Cert.MlstmRefIdeal.Step.b79
  rw [← al_74 h, h.f_9]
  try rfl
set_option maxRecDepth 8192 in
theorem al_80 (h : Holds V0 s j) : (constant S_ .f32 0xFF800000#32 : (Proc.devRef .tc main_while0b_cst_22 : DevRef τ sig).ty.Contents (Elt F)) = Cert.MlstmRefIdeal.Step.b80 j s := by
  unfold Cert.MlstmRefIdeal.Step.b80
  rfl
set_option maxRecDepth 8192 in
theorem al_81 (h : Holds V0 s j) : (Host.reduce FloatOps.maximumf (res_main_while0b_v105 V0) (constant S_ .f32 0xFF800000#32) reducesTo_S16x4x64_S16x4_d2 h_S_ : (Proc.devRef .tc main_while0b_v107 : DevRef τ sig).ty.Contents (Elt F)) = Cert.MlstmRefIdeal.Step.b81 j s := by
  unfold Cert.MlstmRefIdeal.Step.b81
  rw [← al_78 h, ← al_80 h]
  try rfl
set_option maxRecDepth 8192 in
theorem al_82 (h : Holds V0 s j) : (res_main_while0b_v108 V0 : (Proc.devRef .tc main_while0b_v108 : DevRef τ sig).ty.Contents (Elt F)) = Cert.MlstmRefIdeal.Step.b82 j s := by
  unfold res_main_while0b_v108 Cert.MlstmRefIdeal.Step.b82
  rw [← al_79 h, ← al_81 h]
  try rfl
set_option maxRecDepth 8192 in
theorem al_83 (h : Holds V0 s j) : (addf (res_main_while0b_v101 V0) (V0 (Proc.devRef .tc main_v28_9)) : (Proc.devRef .tc main_while0b_v109 : DevRef τ sig).ty.Contents (Elt F)) = Cert.MlstmRefIdeal.Step.b83 j s := by
  unfold Cert.MlstmRefIdeal.Step.b83
  rw [← al_74 h, h.f_9]
  try rfl
set_option maxRecDepth 8192 in
theorem al_84 (h : Holds V0 s j) : (subf (addf (res_main_while0b_v101 V0) (V0 (Proc.devRef .tc main_v28_9))) (res_main_while0b_v108 V0) : (Proc.devRef .tc main_while0b_v110 : DevRef τ sig).ty.Contents (Elt F)) = Cert.MlstmRefIdeal.Step.b84 j s := by
  unfold Cert.MlstmRefIdeal.Step.b84
  rw [← al_83 h, ← al_82 h]
  try rfl
set_option maxRecDepth 8192 in
theorem al_85 (h : Holds V0 s j) : (res_main_while0b_v111 V0 : (Proc.devRef .tc main_while0b_v111 : DevRef τ sig).ty.Contents (Elt F)) = Cert.MlstmRefIdeal.Step.b85 j s := by
  unfold res_main_while0b_v111 Cert.MlstmRefIdeal.Step.b85
  rw [← al_84 h]
  try rfl
set_option maxRecDepth 8192 in
theorem al_86 (h : Holds V0 s j) : (broadcastInDim S16x4x1 ![0, 1] bcast_S16x4_S16x4x1_0_1 (res_main_while0b_v108 V0) : (Proc.devRef .tc main_while0b_v112 : DevRef τ sig).ty.Contents (Elt F)) = Cert.MlstmRefIdeal.Step.b86 j s := by
  unfold Cert.MlstmRefIdeal.Step.b86
  rw [← al_82 h]
  try rfl
set_option maxRecDepth 8192 in
theorem al_87 (h : Holds V0 s j) : (broadcastInDim S16x4x64 ![0, 1, 2] bcast_S16x4x1_S16x4x64_0_1_2 (broadcastInDim S16x4x1 ![0, 1] bcast_S16x4_S16x4x1_0_1 (res_main_while0b_v108 V0)) : (Proc.devRef .tc main_while0b_v113 : DevRef τ sig).ty.Contents (Elt F)) = Cert.MlstmRefIdeal.Step.b87 j s := by
  unfold Cert.MlstmRefIdeal.Step.b87
  rw [← al_86 h]
  try rfl
set_option maxRecDepth 8192 in
theorem al_88 (h : Holds V0 s j) : (subf (res_main_while0b_v105 V0) (broadcastInDim S16x4x64 ![0, 1, 2] bcast_S16x4x1_S16x4x64_0_1_2 (broadcastInDim S16x4x1 ![0, 1] bcast_S16x4_S16x4x1_0_1 (res_main_while0b_v108 V0))) : (Proc.devRef .tc main_while0b_v114 : DevRef τ sig).ty.Contents (Elt F)) = Cert.MlstmRefIdeal.Step.b88 j s := by
  unfold Cert.MlstmRefIdeal.Step.b88
  rw [← al_78 h, ← al_87 h]
  try rfl
set_option maxRecDepth 8192 in
theorem al_89 (h : Holds V0 s j) : (res_main_while0b_v115 V0 : (Proc.devRef .tc main_while0b_v115 : DevRef τ sig).ty.Contents (Elt F)) = Cert.MlstmRefIdeal.Step.b89 j s := by
  unfold res_main_while0b_v115 Cert.MlstmRefIdeal.Step.b89
  rw [← al_88 h]
  try rfl
set_option maxRecDepth 8192 in
theorem al_90 (h : Holds V0 s j) : (broadcastInDim S16x4x1x1 ![0, 1] bcast_S16x4_S16x4x1x1_0_1 (res_main_while0b_v111 V0) : (Proc.devRef .tc main_while0b_v116 : DevRef τ sig).ty.Contents (Elt F)) = Cert.MlstmRefIdeal.Step.b90 j s := by
  unfold Cert.MlstmRefIdeal.Step.b90
  rw [← al_85 h]
  try rfl
set_option maxRecDepth 8192 in
theorem al_91 (h : Holds V0 s j) : (broadcastInDim S16x4x128x128 ![0, 1, 2, 3] bcast_S16x4x1x1_S16x4x128x128_0_1_2_3 (broadcastInDim S16x4x1x1 ![0, 1] bcast_S16x4_S16x4x1x1_0_1 (res_main_while0b_v111 V0)) : (Proc.devRef .tc main_while0b_v117 : DevRef τ sig).ty.Contents (Elt F)) = Cert.MlstmRefIdeal.Step.b91 j s := by
  unfold Cert.MlstmRefIdeal.Step.b91
  rw [← al_90 h]
  try rfl
set_option maxRecDepth 8192 in
theorem al_92 (h : Holds V0 s j) : (mulf (broadcastInDim S16x4x128x128 ![0, 1, 2, 3] bcast_S16x4x1x1_S16x4x128x128_0_1_2_3 (broadcastInDim S16x4x1x1 ![0, 1] bcast_S16x4_S16x4x1x1_0_1 (res_main_while0b_v111 V0))) (V0 (Proc.devRef .tc main_v28_7)) : (Proc.devRef .tc main_while0b_v118 : DevRef τ sig).ty.Contents (Elt F)) = Cert.MlstmRefIdeal.Step.b92 j s := by
  unfold Cert.MlstmRefIdeal.Step.b92
  rw [← al_91 h, h.f_7]
  try rfl
set_option maxRecDepth 8192 in
theorem al_93 (h : Holds V0 s j) : (broadcastInDim S16x4x64x1 ![0, 1, 2] bcast_S16x4x64_S16x4x64x1_0_1_2 (res_main_while0b_v115 V0) : (Proc.devRef .tc main_while0b_v119 : DevRef τ sig).ty.Contents (Elt F)) = Cert.MlstmRefIdeal.Step.b93 j s := by
  unfold Cert.MlstmRefIdeal.Step.b93
  rw [← al_89 h]
  try rfl
set_option maxRecDepth 8192 in
theorem al_94 (h : Holds V0 s j) : (broadcastInDim S16x4x64x128 ![0, 1, 2, 3] bcast_S16x4x64x1_S16x4x64x128_0_1_2_3 (broadcastInDim S16x4x64x1 ![0, 1, 2] bcast_S16x4x64_S16x4x64x1_0_1_2 (res_main_while0b_v115 V0)) : (Proc.devRef .tc main_while0b_v120 : DevRef τ sig).ty.Contents (Elt F)) = Cert.MlstmRefIdeal.Step.b94 j s := by
  unfold Cert.MlstmRefIdeal.Step.b94
  rw [← al_93 h]
  try rfl
set_option maxRecDepth 8192 in
theorem al_95 (h : Holds V0 s j) : (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v115 V0))) (res_main_while0b_v57 V0) : (Proc.devRef .tc main_while0b_v121 : DevRef τ sig).ty.Contents (Elt F)) = Cert.MlstmRefIdeal.Step.b95 j s := by
  unfold Cert.MlstmRefIdeal.Step.b95
  rw [← al_94 h, ← al_11 h]
  try rfl
set_option maxRecDepth 8192 in
theorem al_96 (h : Holds V0 s j) : (Host.dotGeneral dot_S16x4x64x128_S16x4x64x128_S16x4x128x128_2_2_3_3_01_01 none (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v115 V0))) (res_main_while0b_v57 V0)) (res_main_while0b_v58 V0) : (Proc.devRef .tc main_while0b_v122 : DevRef τ sig).ty.Contents (Elt F)) = Cert.MlstmRefIdeal.Step.b96 j s := by
  unfold Cert.MlstmRefIdeal.Step.b96
  rw [← al_95 h, ← al_17 h]
  try rfl
set_option maxRecDepth 8192 in
theorem al_97 (h : Holds V0 s j) : (addf (mulf (broadcastInDim S16x4x128x128 ![0, 1, 2, 3] bcast_S16x4x1x1_S16x4x128x128_0_1_2_3 (broadcastInDim S16x4x1x1 ![0, 1] bcast_S16x4_S16x4x1x1_0_1 (res_main_while0b_v111 V0))) (V0 (Proc.devRef .tc main_v28_7))) (Host.dotGeneral dot_S16x4x64x128_S16x4x64x128_S16x4x128x128_2_2_3_3_01_01 none (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v115 V0))) (res_main_while0b_v57 V0)) (res_main_while0b_v58 V0)) : (Proc.devRef .tc main_while0b_v123 : DevRef τ sig).ty.Contents (Elt F)) = Cert.MlstmRefIdeal.Step.b97 j s := by
  unfold Cert.MlstmRefIdeal.Step.b97
  rw [← al_92 h, ← al_96 h]
  try rfl
set_option maxRecDepth 8192 in
theorem al_98 (h : Holds V0 s j) : (broadcastInDim S16x4x1 ![0, 1] bcast_S16x4_S16x4x1_0_1 (res_main_while0b_v111 V0) : (Proc.devRef .tc main_while0b_v124 : DevRef τ sig).ty.Contents (Elt F)) = Cert.MlstmRefIdeal.Step.b98 j s := by
  unfold Cert.MlstmRefIdeal.Step.b98
  rw [← al_85 h]
  try rfl
set_option maxRecDepth 8192 in
theorem al_99 (h : Holds V0 s j) : (broadcastInDim S16x4x128 ![0, 1, 2] bcast_S16x4x1_S16x4x128_0_1_2 (broadcastInDim S16x4x1 ![0, 1] bcast_S16x4_S16x4x1_0_1 (res_main_while0b_v111 V0)) : (Proc.devRef .tc main_while0b_v125 : DevRef τ sig).ty.Contents (Elt F)) = Cert.MlstmRefIdeal.Step.b99 j s := by
  unfold Cert.MlstmRefIdeal.Step.b99
  rw [← al_98 h]
  try rfl
set_option maxRecDepth 8192 in
theorem al_100 (h : Holds V0 s j) : (mulf (broadcastInDim S16x4x128 ![0, 1, 2] bcast_S16x4x1_S16x4x128_0_1_2 (broadcastInDim S16x4x1 ![0, 1] bcast_S16x4_S16x4x1_0_1 (res_main_while0b_v111 V0))) (V0 (Proc.devRef .tc main_v28_8)) : (Proc.devRef .tc main_while0b_v126 : DevRef τ sig).ty.Contents (Elt F)) = Cert.MlstmRefIdeal.Step.b100 j s := by
  unfold Cert.MlstmRefIdeal.Step.b100
  rw [← al_99 h, h.f_8]
  try rfl
set_option maxRecDepth 8192 in
theorem al_101 (h : Holds V0 s j) : (Host.dotGeneral dot_S16x4x64_S16x4x64x128_S16x4x128_2_2_n_3_01_01 none (res_main_while0b_v115 V0) (res_main_while0b_v57 V0) : (Proc.devRef .tc main_while0b_v127 : DevRef τ sig).ty.Contents (Elt F)) = Cert.MlstmRefIdeal.Step.b101 j s := by
  unfold Cert.MlstmRefIdeal.Step.b101
  rw [← al_89 h, ← al_11 h]
  try rfl
set_option maxRecDepth 8192 in
theorem al_102 (h : Holds V0 s j) : (addf (mulf (broadcastInDim S16x4x128 ![0, 1, 2] bcast_S16x4x1_S16x4x128_0_1_2 (broadcastInDim S16x4x1 ![0, 1] bcast_S16x4_S16x4x1_0_1 (res_main_while0b_v111 V0))) (V0 (Proc.devRef .tc main_v28_8))) (Host.dotGeneral dot_S16x4x64_S16x4x64x128_S16x4x128_2_2_n_3_01_01 none (res_main_while0b_v115 V0) (res_main_while0b_v57 V0)) : (Proc.devRef .tc main_while0b_v128 : DevRef τ sig).ty.Contents (Elt F)) = Cert.MlstmRefIdeal.Step.b102 j s := by
  unfold Cert.MlstmRefIdeal.Step.b102
  rw [← al_100 h, ← al_101 h]
  try rfl
set_option maxRecDepth 8192 in
theorem al_103 (h : Holds V0 s j) : (broadcastInDim S1x16x4x64x128 ![1, 2, 3, 4] bcast_S16x4x64x128_S1x16x4x64x128_1_2_3_4 (Host.divf (addf (Host.dotGeneral dot_S16x4x64x64_S16x4x64x128_S16x4x64x128_3_2_2_3_01_01 none (res_main_while0b_v82 V0) (res_main_while0b_v58 V0)) (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v80 V0))) (Host.dotGeneral dot_S16x4x64x128_S16x4x128x128_S16x4x64x128_3_2_2_3_01_01 none (res_main_while0b_v56 V0) (V0 (Proc.devRef .tc main_v28_7))))) (broadcastInDim S16x4x64x128 ![0, 1, 2, 3] bcast_S16x4x64x1_S16x4x64x128_0_1_2_3 (broadcastInDim S16x4x64x1 ![0, 1, 2] bcast_S16x4x64_S16x4x64x1_0_1_2 (maximumf (Host.absf (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8)))))) (Host.exp (Host.negf (res_main_while0b_v74 V0))))))) : (Proc.devRef .tc main_while0b_call8_v0 : DevRef τ sig).ty.Contents (Elt F)) = Cert.MlstmRefIdeal.Step.b103 j s := by
  unfold Cert.MlstmRefIdeal.Step.b103
  rw [← al_72 h]
  try rfl
set_option maxRecDepth 8192 in
theorem al_104 (h : Holds V0 s j) : (constantI S_ 32 0#32 : (Proc.devRef .tc main_while0b_call8_c : DevRef τ sig).ty.Contents (Elt F)) = Cert.MlstmRefIdeal.Step.b104 j s := by
  unfold Cert.MlstmRefIdeal.Step.b104
  rfl
set_option maxRecDepth 8192 in
theorem al_105 (h : Holds V0 s j) : (constantI S_ 32 0#32 : (Proc.devRef .tc main_while0b_call8_c_0 : DevRef τ sig).ty.Contents (Elt F)) = Cert.MlstmRefIdeal.Step.b105 j s := by
  unfold Cert.MlstmRefIdeal.Step.b105
  rfl
set_option maxRecDepth 8192 in
theorem al_106 (h : Holds V0 s j) : (constantI S_ 32 0#32 : (Proc.devRef .tc main_while0b_call8_c_1 : DevRef τ sig).ty.Contents (Elt F)) = Cert.MlstmRefIdeal.Step.b106 j s := by
  unfold Cert.MlstmRefIdeal.Step.b106
  rfl
set_option maxRecDepth 8192 in
theorem al_107 (h : Holds V0 s j) : (constantI S_ 32 0#32 : (Proc.devRef .tc main_while0b_call8_c_2 : DevRef τ sig).ty.Contents (Elt F)) = Cert.MlstmRefIdeal.Step.b107 j s := by
  unfold Cert.MlstmRefIdeal.Step.b107
  rfl
set_option maxRecDepth 8192 in
theorem al_108 (h : Holds V0 s j) : (Host.dynamicUpdateSlice (V0 (Proc.devRef .tc main_v28_10)) (broadcastInDim S1x16x4x64x128 ![1, 2, 3, 4] bcast_S16x4x64x128_S1x16x4x64x128_1_2_3_4 (Host.divf (addf (Host.dotGeneral dot_S16x4x64x64_S16x4x64x128_S16x4x64x128_3_2_2_3_01_01 none (res_main_while0b_v82 V0) (res_main_while0b_v58 V0)) (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v80 V0))) (Host.dotGeneral dot_S16x4x64x128_S16x4x128x128_S16x4x64x128_3_2_2_3_01_01 none (res_main_while0b_v56 V0) (V0 (Proc.devRef .tc main_v28_7))))) (broadcastInDim S16x4x64x128 ![0, 1, 2, 3] bcast_S16x4x64x1_S16x4x64x128_0_1_2_3 (broadcastInDim S16x4x64x1 ![0, 1, 2] bcast_S16x4x64_S16x4x64x1_0_1_2 (maximumf (Host.absf (addf (Host.reduceAdd (res_main_while0b_v82 V0) (constant S_ .f32 0x00000000#32) reducesTo_S16x4x64x64_S16x4x64_d3 h_S_) (mulf (res_main_while0b_v80 V0) (Host.dotGeneral dot_S16x4x64x128_S16x4x128_S16x4x64_3_2_2_n_01_01 none (res_main_while0b_v56 V0) (V0 (Proc.devRef .tc main_v28_8)))))) (Host.exp (Host.negf (res_main_while0b_v74 V0)))))))) (fun k => (((![V0 (Proc.devRef .tc main_v28_6), constantI S_ 32 0#32, constantI S_ 32 0#32, constantI S_ 32 0#32, constantI S_ 32 0#32] : Fin 5 → (⟨S_, .i32⟩ : BufTy).Contents (Elt F))) k (Shape.Idx.first h_S_)).toInt) updateFits_S32x16x4x64x128_S1x16x4x64x128 : (Proc.devRef .tc main_while0b_v129 : DevRef τ sig).ty.Contents (Elt F)) = Cert.MlstmRefIdeal.Step.b108 j s := by
  unfold Cert.MlstmRefIdeal.Step.b108
  rw [← al_103 h, ← al_104 h, ← al_105 h, ← al_106 h, ← al_107 h, h.f_10, h.n_6]
  try rfl

/-! One trip's step of the carried values is `step`, field by field; a counter steps to the next number. -/

theorem step_7 (h : Holds V0 s j) : step_main_v28_7 V0 = (step j s).main_v28_7 := by
  unfold step_main_v28_7 Cert.MlstmRefIdeal.Step.step
  show id (addf (mulf (broadcastInDim S16x4x128x128 ![0, 1, 2, 3] bcast_S16x4x1x1_S16x4x128x128_0_1_2_3 (broadcastInDim S16x4x1x1 ![0, 1] bcast_S16x4_S16x4x1x1_0_1 (res_main_while0b_v111 V0))) (V0 (Proc.devRef .tc main_v28_7))) (Host.dotGeneral dot_S16x4x64x128_S16x4x64x128_S16x4x128x128_2_2_3_3_01_01 none (mulf (broadcastInDim S16x4x64x128 ![0, 1, 2, 3] bcast_S16x4x64x1_S16x4x64x128_0_1_2_3 (broadcastInDim S16x4x64x1 ![0, 1, 2] bcast_S16x4x64_S16x4x64x1_0_1_2 (res_main_while0b_v115 V0))) (res_main_while0b_v57 V0)) (res_main_while0b_v58 V0))) = _
  rw [al_97 h]
  try rfl
theorem step_8 (h : Holds V0 s j) : step_main_v28_8 V0 = (step j s).main_v28_8 := by
  unfold step_main_v28_8 Cert.MlstmRefIdeal.Step.step
  show id (addf (mulf (broadcastInDim S16x4x128 ![0, 1, 2] bcast_S16x4x1_S16x4x128_0_1_2 (broadcastInDim S16x4x1 ![0, 1] bcast_S16x4_S16x4x1_0_1 (res_main_while0b_v111 V0))) (V0 (Proc.devRef .tc main_v28_8))) (Host.dotGeneral dot_S16x4x64_S16x4x64x128_S16x4x128_2_2_n_3_01_01 none (res_main_while0b_v115 V0) (res_main_while0b_v57 V0))) = _
  rw [al_102 h]
  try rfl
theorem step_9 (h : Holds V0 s j) : step_main_v28_9 V0 = (step j s).main_v28_9 := by
  unfold step_main_v28_9 Cert.MlstmRefIdeal.Step.step
  show id (res_main_while0b_v108 V0) = _
  rw [al_82 h]
  try rfl
theorem step_10 (h : Holds V0 s j) : step_main_v28_10 V0 = (step j s).main_v28_10 := by
  unfold step_main_v28_10 Cert.MlstmRefIdeal.Step.step
  exact al_108 h
theorem step_6 (h : Holds V0 s j) : step_main_v28_6 V0 = constantI S_ 32 (BitVec.ofNat 32 (j + 1)) := by
  unfold step_main_v28_6
  rw [h.n_6]
  funext i
  show BitVec.ofNat 32 j + 1#32 = BitVec.ofNat 32 (j + 1)
  simp only [BitVec.ofNat_add]

set_option maxRecDepth 8192 in
theorem out_main_v55_holds (h : Holds V0 s j) {x_main_arg3 : (⟨S16x2048x512, .f32⟩ : BufTy).Contents (Elt F)} (h_main_arg3 : V0 (Proc.devRef .tc main_arg3) = x_main_arg3) {x_main_arg5 : (⟨S512, .f32⟩ : BufTy).Contents (Elt F)} (h_main_arg5 : V0 (Proc.devRef .tc main_arg5) = x_main_arg5) : out_main_v55 V0 = Cert.MlstmRefIdeal.Step.R_main_v55 s x_main_arg3 x_main_arg5 := by
  unfold out_main_v55 Cert.MlstmRefIdeal.Step.R_main_v55
  rw [h.f_10, h_main_arg3, h_main_arg5]
  try rfl

/-- One trip keeps the valuation holding: `step` of the state, the same set-up values, the next number. -/
theorem holds_step (h : Holds V0 s j) : Holds (STEP V0) (step j s) (j + 1) where
  f_7 := (STEP_main_v28_7 V0).trans (step_7 h)
  f_8 := (STEP_main_v28_8 V0).trans (step_8 h)
  f_9 := (STEP_main_v28_9 V0).trans (step_9 h)
  f_10 := (STEP_main_v28_10 V0).trans (step_10 h)
  n_6 := (STEP_main_v28_6 V0).trans (step_6 h)
  k_5 := (STEP_main_v28_5 V0).trans h.k_5
  f_0 := (STEP_main_v28_0 V0).trans h.f_0
  f_1 := (STEP_main_v28_1 V0).trans h.f_1
  f_2 := (STEP_main_v28_2 V0).trans h.f_2
  f_3 := (STEP_main_v28_3 V0).trans h.f_3
  f_4 := (STEP_main_v28_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg4))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MlstmRefIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v55) = Cert.MlstmRefIdeal.Step.R_main_v55 (it c 32) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 32
    ⟨(h c).1.trans (out_main_v55_holds hk (iter_main_arg3 m c 32) (iter_main_arg5 m c 32)), (h c).2.1, (h c).2.2.1, (h c).2.2.2.1, (h c).2.2.2.2.1, (h c).2.2.2.2.2.1, (h c).2.2.2.2.2.2⟩) (Value.run m ρ)

end Cert.MlstmRefIdeal.Iter

end
-- ==== Proof.MlRefRow.lean ====
/- One trip of the reference's recurrence over a chunk of 64 steps, read one entry at a time at the plain formulas. -/
module

public import proofs.«01_k».proof.Proof.MlRefRun
public import proofs.«01_k».proof.Proof.MlData
public import Idealize.ShloMosaic.Lib.Pointwise
public import Idealize.ShloMosaic.Lib.WordCmp

@[expose] public section

set_option maxRecDepth 16384

noncomputable section

namespace Cert.MlstmRefIdeal.Step

open Cert.MlstmRefIdeal Cert.MlstmRefIdeal.Gen Cert.MlMath
open Idealize.ShloMosaic Idealize.ShloMosaic.TcCoe

variable (j : Fin 32) (s : State Ideal) (b : Fin 16) (h : Fin 4)

/-! ## The chunk's inputs -/

theorem num (k : ℕ) (hk : k < 32) : (BitVec.ofNat 32 k).toInt = k := by
  rw [BitVec.toInt_ofNat', Int.bmod_eq_of_le] <;> omega

theorem b5_at (t : Fin 64) (c : Fin 128) : b5 j.val s (ix4 b h t c) = s.main_v28_0 (ix5 j b h t c) := by
  have := num j.val j.isLt
  pointwise [b5, b4, b0, b1, b2, b3, this]
  refine congrArg s.main_v28_0 (funext fun x => Fin.ext ?_)
  fin_cases x <;> simp [Host.clampedStart, constantI, this]
  all_goals omega

theorem b11_at (t : Fin 64) (c : Fin 128) : b11 j.val s (ix4 b h t c) = s.main_v28_1 (ix5 j b h t c) := by
  have := num j.val j.isLt
  pointwise [b11, b10, b6, b7, b8, b9, this]
  refine congrArg s.main_v28_1 (funext fun x => Fin.ext ?_)
  fin_cases x <;> simp [Host.clampedStart, constantI, this]
  all_goals omega

theorem b17_at (t : Fin 64) (c : Fin 128) : b17 j.val s (ix4 b h t c) = s.main_v28_2 (ix5 j b h t c) := by
  have := num j.val j.isLt
  pointwise [b17, b16, b12, b13, b14, b15, this]
  refine congrArg s.main_v28_2 (funext fun x => Fin.ext ?_)
  fin_cases x <;> simp [Host.clampedStart, constantI, this]
  all_goals omega

theorem b22_at (t : Fin 64) : b22 j.val s (ix3 b h t) = s.main_v28_3 (ix4 j b h t) := by
  have := num j.val j.isLt
  pointwise [b22, b21, b18, b19, b20, this]
  refine congrArg s.main_v28_3 (funext fun x => Fin.ext ?_)
  fin_cases x <;> simp [Host.clampedStart, constantI, this]
  all_goals omega

theorem b27_at (t : Fin 64) : b27 j.val s (ix3 b h t) = s.main_v28_4 (ix4 j b h t) := by
  have := num j.val j.isLt
  pointwise [b27, b26, b23, b24, b25, this]
  refine congrArg s.main_v28_4 (funext fun x => Fin.ext ?_)
  fin_cases x <;> simp [Host.clampedStart, constantI, this]
  all_goals omega

/-- The chunk's queries, keys, values, input gates and summed forget gates. -/
def cq (t : Fin 64) (c : Fin 128) : EReal := s.main_v28_0 (ix5 j b h t c)
def ck (t : Fin 64) (c : Fin 128) : EReal := s.main_v28_1 (ix5 j b h t c)
def cv (t : Fin 64) (c : Fin 128) : EReal := s.main_v28_2 (ix5 j b h t c)
def cg (t : Fin 64) : EReal := s.main_v28_3 (ix4 j b h t)
def cb (t : Fin 64) : EReal := s.main_v28_4 (ix4 j b h t)

/-- The running maximum and the states the chunk starts from. -/
def cM : EReal := s.main_v28_9 (ix2 b h)
def cC (d e : Fin 128) : EReal := s.main_v28_7 (ix4 b h d e)
def cn (d : Fin 128) : EReal := s.main_v28_8 (ix3 b h d)

/-- What step `u` weighs in row `t`, as a logarithm. -/
def cd (u t : Fin 64) : EReal := if u.val ≤ t.val then cb j s b h t - cb j s b h u + cg j s b h u else ⊥

/-- What step `u` weighs in the next state, as a logarithm. -/
def cw (u : Fin 64) : EReal := cb j s b h 63 - cb j s b h u + cg j s b h u

theorem ninf : Ideal.ofBits .f32 0xFF800000#32 = ⊥ := by simp [Ideal.ofBits, Ideal.ieee]

/-! ## The rows -/

theorem tril (t u : Fin 64) : K_main_v23 (F := Ideal) (ix2 t u) = BitVec.ofBool (decide (u.val ≤ t.val)) := by
  pointwise [K_main_v23, K_main_call1_v4, K_main_call1_v2, K_main_call1_v0, K_main_call1_v1, K_main_call1_c, K_main_call1_v3, K_main_v22, K_main_c, K_main_call1_v5, K_main_call1_c_0]
  revert t u
  decide +kernel

theorem b40_at (t u : Fin 64) : b40 j.val s (ix4 b h t u) = cd j s b h u t := by
  pointwise [b40, b38, b39, b37, b36, b35, b34, b33, b32, b31, b30, b29, b28, b27_at, b22_at, tril, ninf]
  rfl

theorem b46_at (t : Fin 64) : b46 j.val s (ix3 b h t) = mrow (cd j s b h) (cb j s b h) (cM s b h) t := by
  pointwise [b46, b45, b44, b43, b42, b41, b40_at, b27_at, ninf]
  rfl

theorem b54_at (t u : Fin 64) :
    b54 j.val s (ix4 b h t u) = sc (cq j s b h) (ck j s b h) (cd j s b h) (cb j s b h) (cM s b h) u t := by
  pointwise [b54, b53, b50, b49, b48, b47, b46_at, b40_at, b5_at, b11_at]
  unfold sc
  congr 1
  exact Finset.sum_congr rfl fun c _ => mul_comm _ _

theorem b52_at (t : Fin 64) :
    b52 j.val s (ix3 b h t) = Ideal.exp (cb j s b h t + cM s b h - mrow (cd j s b h) (cb j s b h) (cM s b h) t) := by
  pointwise [b52, b51, b46_at, b43, b42, b41, b27_at]
  rfl

theorem b60_at (t : Fin 64) (e : Fin 128) :
    b60 j.val s (ix4 b h t e)
      = acc (cq j s b h) (ck j s b h) (cd j s b h) (cb j s b h) (cM s b h) (fun u => cv j s b h u e) (fun d => cC s b h d e) t := by
  pointwise [b60, b59, b58, b57, b56, b55, b54_at, b52_at, b5_at, b17_at]
  unfold acc
  congr 1
  · exact Finset.sum_congr rfl fun u _ => mul_comm _ _
  · congr 1
    exact Finset.sum_congr rfl fun c _ => mul_comm _ _

theorem b65_at (t : Fin 64) :
    b65 j.val s (ix3 b h t)
      = acc (cq j s b h) (ck j s b h) (cd j s b h) (cb j s b h) (cM s b h) (fun _ => 1) (cn s b h) t := by
  pointwise [b65, b64, b63, b62, b61, b54_at, b52_at, b5_at]
  unfold acc
  congr 1
  · exact Finset.sum_congr rfl fun u _ => (one_mul _).symm
  · congr 1
    exact Finset.sum_congr rfl fun c _ => mul_comm _ _

theorem b72_at (t : Fin 64) (e : Fin 128) :
    b72 j.val s (ix4 b h t e)
      = hrow (cq j s b h) (ck j s b h) (cd j s b h) (cb j s b h) (cM s b h) (fun u => cv j s b h u e) (fun d => cC s b h d e) (cn s b h) t := by
  pointwise [b72, b71, b70, b69, b68, b67, b66, b65_at, b60_at, b46_at]
  rfl

/-! ## The next state -/

theorem b74_at : b74 j.val s (ix2 b h) = cb j s b h 63 := by
  pointwise [b74, b73, b27_at]
  rfl

theorem b78_at (u : Fin 64) : b78 j.val s (ix3 b h u) = cw j s b h u := by
  pointwise [b78, b77, b76, b75, b74_at, b27_at, b22_at]
  rfl

theorem b82_at : b82 j.val s (ix2 b h) = mnew (cw j s b h) (cb j s b h 63) (cM s b h) := by
  pointwise [b82, b81, b80, b79, b78_at, b74_at, ninf]
  rfl

theorem b97_at (d e : Fin 128) :
    b97 j.val s (ix4 b h d e)
      = snew (cw j s b h) (cb j s b h 63) (cM s b h) (fun u => cv j s b h u e) (fun u => ck j s b h u d) (cC s b h d e) := by
  pointwise [b97, b96, b95, b94, b93, b92, b91, b90, b89, b88, b87, b86, b85, b84, b83, b82_at, b78_at, b74_at, b11_at, b17_at]
  unfold snew
  congr 1
  refine Finset.sum_congr rfl fun u _ => ?_
  rw [mul_comm (cv j s b h u e)]
  exact mul_right_comm _ _ _

theorem b102_at (d : Fin 128) :
    b102 j.val s (ix3 b h d)
      = snew (cw j s b h) (cb j s b h 63) (cM s b h) (fun _ => 1) (fun u => ck j s b h u d) (cn s b h d) := by
  pointwise [b102, b101, b100, b99, b98, b89, b88, b87, b86, b85, b84, b83, b82_at, b78_at, b74_at, b11_at]
  unfold snew
  congr 1
  exact Finset.sum_congr rfl fun u _ => by rw [one_mul]; rfl

end Cert.MlstmRefIdeal.Step

end
-- ==== Proof.MlRefIn.lean ====
/- What the reference's loop starts from and what it makes of the loop's last state, read one entry at a time. -/
module

public import proofs.«01_k».proof.Proof.MlRefRow

@[expose] public section

set_option maxRecDepth 16384

noncomputable section

namespace Cert.MlstmRefIdeal.Step

open Cert.MlstmRefIdeal Cert.MlstmRefIdeal.Gen Cert.MlMath
open Idealize.ShloMosaic Idealize.ShloMosaic.TcCoe

/-! ## The sum of a chunk's forget gates -/

theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window of one row of 64 is its last coordinate. -/
def rowEquiv : (⟨4, ![1, 1, 1, 64]⟩ : Shape).Idx ≃ Fin 64 where
  toFun y := y 3
  invFun w := ix4 0 0 0 w
  left_inv y := by
    have h0 : (0 : Fin 1) = y 0 := Subsingleton.elim _ _
    have h1 : (0 : Fin 1) = y 1 := Subsingleton.elim _ _
    have h2 : (0 : Fin 1) = y 2 := Subsingleton.elim _ _
    funext x
    fin_cases x
    · exact h0
    · exact h1
    · exact h2
    · rfl
  right_inv w := rfl

theorem window_sum (t : ℕ) (ht : t < 64) (F : ℕ → EReal) :
    ∑ w : Fin 64, (if 63 ≤ t + w.val then F (t + w.val - 63) else 0) = ∑ i ∈ Finset.range (t + 1), F i := by
  rw [Fin.sum_univ_eq_sum_range (fun w => if 63 ≤ t + w then F (t + w - 63) else 0) 64]
  have e : 64 = (63 - t) + (t + 1) := by omega
  rw [e, Finset.sum_range_add, Finset.sum_eq_zero, zero_add]
  · refine Finset.sum_congr rfl fun k _ => ?_
    rw [if_pos (by omega)]
    congr 1
    omega
  · intro w hw
    have := Finset.mem_range.1 hw
    exact if_neg (by omega)

theorem cumsum (x : FVec Ideal S32x16x4x64 .f32) (init : FVec Ideal S_ .f32) (h0 : ∀ i, init i = (0 : EReal)) (hw) (hu)
    (j : Fin 32) (b : Fin 16) (h : Fin 4) (t : Fin 64) (F : ℕ → EReal) (hF : ∀ i : Fin 64, x (ix4 j b h i) = F i.val) :
    Host.reduceWindowAdd (F := Ideal) (s := S32x16x4x64) (t := S32x16x4x64) ![1, 1, 1, 64] ![1, 1, 1, 1] ![0, 0, 0, 63] ![0, 0, 0, 0] x init hw hu (ix4 j b h t)
      = ∑ i ∈ Finset.range (t.val + 1), F i := by
  show Host.reduceWindow (α := EReal) (s := S32x16x4x64) (· + ·) _ _ _ _ x (fun _ : (⟨0, ![]⟩ : Shape).Idx => init (Shape.Idx.first hu)) hw (by decide) (ix4 j b h t) = _
  unfold Host.reduceWindow
  simp only [h0]
  rw [foldl_sum, zero_add, ← Fin.sum_univ_def]
  refine Eq.trans ?_ (window_sum t.val t.isLt F)
  refine Fintype.sum_equiv ((Shape.rowMajor (⟨4, ![1, 1, 1, 64]⟩ : Shape)).symm.trans rowEquiv) _ _ fun n => ?_
  show _ = if 63 ≤ t.val + (Shape.rowMajor (⟨4, ![1, 1, 1, 64]⟩ : Shape)).symm n 3 then F (t.val + ((Shape.rowMajor (⟨4, ![1, 1, 1, 64]⟩ : Shape)).symm n 3).val - 63) else 0
  have y0 : ((Shape.rowMajor (⟨4, ![1, 1, 1, 64]⟩ : Shape)).symm n 0).val = 0 := Nat.lt_one_iff.1 ((Shape.rowMajor (⟨4, ![1, 1, 1, 64]⟩ : Shape)).symm n 0).isLt
  have y1 : ((Shape.rowMajor (⟨4, ![1, 1, 1, 64]⟩ : Shape)).symm n 1).val = 0 := Nat.lt_one_iff.1 ((Shape.rowMajor (⟨4, ![1, 1, 1, 64]⟩ : Shape)).symm n 1).isLt
  have y2 : ((Shape.rowMajor (⟨4, ![1, 1, 1, 64]⟩ : Shape)).symm n 2).val = 0 := Nat.lt_one_iff.1 ((Shape.rowMajor (⟨4, ![1, 1, 1, 64]⟩ : Shape)).symm n 2).isLt
  have y3 : ((Shape.rowMajor (⟨4, ![1, 1, 1, 64]⟩ : Shape)).symm n 3).val < 64 := ((Shape.rowMajor (⟨4, ![1, 1, 1, 64]⟩ : Shape)).symm n 3).isLt
  have ht := t.isLt
  by_cases hc : 63 ≤ t.val + ((Shape.rowMajor (⟨4, ![1, 1, 1, 64]⟩ : Shape)).symm n 3).val
  · rw [if_pos hc]
    refine Eq.trans (dif_pos ?_) ?_
    · intro a
      fin_cases a <;> simp [y0, y1, y2]
      omega
    · refine Eq.trans (congrArg x (funext fun a => Fin.ext ?_)) (hF ⟨t.val + ((Shape.rowMajor (⟨4, ![1, 1, 1, 64]⟩ : Shape)).symm n 3).val - 63, by omega⟩)
      fin_cases a <;> simp [y0, y1, y2]
  · rw [if_neg hc]
    refine dif_neg fun hin => hc ?_
    have := (hin 3).1
    simpa using this

/-! ## The chunks of the arguments -/

variable (x0 x1 x2 : FVec Ideal S16x2048x512 .bf16) (x4 : FVec Ideal S16x8x2048 .f32)

/-- Step `t` of chunk `j`. -/
def at64 (j : Fin 32) (t : Fin 64) : Fin 2048 := ⟨64 * j.val + t.val, by omega⟩

theorem at64_eq (j : Fin 32) (t : Fin 64) (h) : (⟨j.val * 64 + t.val, h⟩ : Fin 2048) = at64 j t := Fin.ext (by show j.val * 64 + t.val = 64 * j.val + t.val; omega)

theorem col_eq (k : Fin 4) (c : Fin 128) (h) : (⟨k.val * 128 + c.val, h⟩ : Fin 512) = col k c := Fin.ext (by show k.val * 128 + c.val = 128 * k.val + c.val; omega)

theorem v12_at (j : Fin 32) (b : Fin 16) (h : Fin 4) (t : Fin 64) (c : Fin 128) :
    A_main_v12 (F := Ideal) x0 x1 x2 x4 (ix5 j b h t c) = x0 (ix3 b (at64 j t) (col h c)) := by
  pointwise [A_main_v12, A_main_v11, A_main_v4, A_main_v3, A_main_v2]
  rw [at64_eq, col_eq]

theorem v14_at (j : Fin 32) (b : Fin 16) (h : Fin 4) (t : Fin 64) (c : Fin 128) :
    A_main_v14 (F := Ideal) x0 x1 x2 x4 (ix5 j b h t c) = x1 (ix3 b (at64 j t) (col h c)) := by
  pointwise [A_main_v14, A_main_v13, A_main_v7, A_main_v6, A_main_v5]
  rw [at64_eq, col_eq]

theorem v16_at (j : Fin 32) (b : Fin 16) (h : Fin 4) (t : Fin 64) (c : Fin 128) :
    A_main_v16 (F := Ideal) x0 x1 x2 x4 (ix5 j b h t c) = x2 (ix3 b (at64 j t) (col h c)) := by
  pointwise [A_main_v16, A_main_v15, A_main_v10, A_main_v9, A_main_v8]
  rw [at64_eq, col_eq]

theorem v18_at (j : Fin 32) (b : Fin 16) (h : Fin 4) (t : Fin 64) :
    A_main_v18 (F := Ideal) x0 x1 x2 x4 (ix4 j b h t) = x4 (ix3 b (gi h) (at64 j t)) := by
  pointwise [A_main_v18, A_main_v17, A_main_v0]
  rw [at64_eq]
  rfl

theorem v20_at (j : Fin 32) (b : Fin 16) (h : Fin 4) (t : Fin 64) :
    A_main_v20 (F := Ideal) x0 x1 x2 x4 (ix4 j b h t) = x4 (ix3 b (gf h) (at64 j t)) := by
  pointwise [A_main_v20, A_main_v19, A_main_v1]
  rw [at64_eq]
  rfl

theorem v21_at (j : Fin 32) (b : Fin 16) (h : Fin 4) (t : Fin 64) (lf : ℕ → ℝ)
    (hlf : ∀ i : Fin 2048, x4 (ix3 b (gf h) i) = (lf i.val : EReal)) :
    A_main_v21 (F := Ideal) x0 x1 x2 x4 (ix4 j b h t) = ((A lf (64 * j.val + t.val + 1) - A lf (64 * j.val) : ℝ) : EReal) := by
  have h0 : ∀ i : S_.Idx, (K_main_call0_call0_v0 (F := Ideal) : FVec Ideal S_ .f32) i = (0 : EReal) := fun i => by
    unfold K_main_call0_call0_v0 K_main_call0_call0_cst
    simp [broadcastInDim, constant]
  have hF : ∀ i : Fin 64, A_main_v20 (F := Ideal) x0 x1 x2 x4 (ix4 j b h i) = (lf (64 * j.val + i.val) : EReal) := fun i =>
    (v20_at x0 x1 x2 x4 j b h i).trans (hlf _)
  have e := cumsum (A_main_v20 (F := Ideal) x0 x1 x2 x4) (K_main_call0_call0_v0 (F := Ideal) : FVec Ideal S_ .f32) h0
    reduceWindows_S32x16x4x64_S32x16x4x64_w1s1p0_0_w1s1p0_0_w1s1p0_0_w64s1p63_0 h_S_ j b h t (fun i => (lf (64 * j.val + i) : EReal)) hF
  unfold A_main_v21
  refine e.trans ?_
  rw [← coe_sum]
  congr 1
  unfold A
  rw [add_assoc (64 * j.val), Finset.sum_range_add lf (64 * j.val) (t.val + 1), add_sub_cancel_left]

/-! ## The result -/

/-- Step `i` is step `i % 64` of chunk `i / 64`. -/
def chunk (i : Fin 2048) : Fin 32 := ⟨i.val / 64, by omega⟩
def inChunk (i : Fin 2048) : Fin 64 := ⟨i.val % 64, by omega⟩
def headOf (y : Fin 512) : Fin 4 := ⟨y.val / 128, by omega⟩
def inHead (y : Fin 512) : Fin 128 := ⟨y.val % 128, by omega⟩

theorem R_at (s : State Ideal) (x3 : FVec Ideal S16x2048x512 .f32) (x5 : FVec Ideal S512 .f32) (b : Fin 16) (i : Fin 2048) (y : Fin 512) :
    R_main_v55 (F := Ideal) s x3 x5 (ix3 b i y)
      = outv (x3 (ix3 b i y)) (fun e => s.main_v28_10 (ix5 (chunk i) b (headOf y) (inChunk i) e)) (x5 (ix1 y)) (inHead y) := by
  pointwise [R_main_v55]
  unfold outv Ideal.logistic
  rw [← mul_assoc, ← mul_assoc]
  rfl

end Cert.MlstmRefIdeal.Step

end
-- ==== Proof.MlRefVal.lean ====
/- The reference's loop over finite inputs: before each trip the running maxima are real numbers, the carried states are the
   recurrence's closed sums scaled by them, and every chunk written so far is the recurrence's output. -/
module

public import proofs.«01_k».proof.Proof.MlRefIn

@[expose] public section

set_option maxRecDepth 16384

noncomputable section

namespace Cert.MlstmRefIdeal.Step

open Cert.MlstmRefIdeal Cert.MlstmRefIdeal.Gen Cert.MlMath
open Idealize.ShloMosaic Idealize.ShloMosaic.TcCoe

/-- Before trip `n` the state holds the recurrence of the sequences `D`. -/
structure Holds (D : Fin 16 → Seqs) (n : ℕ) (s : State Ideal) : Prop where
  q : ∀ (j : Fin 32) b h t c, cq j s b h t c = ((D b).qr h (64 * j.val + t.val) c : EReal)
  k : ∀ (j : Fin 32) b h t c, ck j s b h t c = ((D b).kr h (64 * j.val + t.val) c : EReal)
  v : ∀ (j : Fin 32) b h t c, cv j s b h t c = ((D b).vr h c (64 * j.val + t.val) : EReal)
  g : ∀ (j : Fin 32) b h t, cg j s b h t = ((D b).ig h (64 * j.val + t.val) : EReal)
  f : ∀ (j : Fin 32) b h t, cb j s b h t = ((A ((D b).lf h) (64 * j.val + t.val + 1) - A ((D b).lf h) (64 * j.val) : ℝ) : EReal)
  st : ∀ b h, ∃ M : ℝ, cM s b h = M
    ∧ (∀ d e, cC s b h d e = ((Real.exp (-M) * S ((D b).lf h) ((D b).ig h) (64 * n) (fun i => (D b).vr h e i * (D b).kr h i d) : ℝ) : EReal))
    ∧ (∀ d, cn s b h d = ((Real.exp (-M) * S ((D b).lf h) ((D b).ig h) (64 * n) (fun i => (D b).kr h i d) : ℝ) : EReal))
  out : ∀ (j : Fin 32) b h t e, j.val < n → s.main_v28_10 (ix5 j b h t e) = (D b).h h (64 * j.val + t.val) e

section

variable {D : Fin 16 → Seqs} {j : Fin 32} {s : State Ideal} (H : Holds D j.val s) (b : Fin 16) (h : Fin 4)

include H

theorem Holds.chunk : Chunk ((D b).lf h) ((D b).ig h) (64 * j.val) (cd j s b h) (cb j s b h) where
  hB t := H.f j b h t
  hd u t := by
    unfold cd
    split_ifs
    · rw [H.f, H.f, H.g, ← EReal.coe_sub, ← EReal.coe_add]
      congr 2
      ring
    · rfl

theorem Holds.row (t : Fin 64) (e : Fin 128) : b72 j.val s (ix4 b h t e) = (D b).h h (64 * j.val + t.val) e := by
  obtain ⟨M, hM, hC, hn⟩ := H.st b h
  rw [b72_at, hM]
  exact hrow_val (H.chunk b h) M (fun c => H.q j b h t c) (fun u c => H.k j b h u c) (fun u => H.v j b h u e) (fun d => hC d e) hn

theorem Holds.weight (u : Fin 64) :
    cw j s b h u = ((A ((D b).lf h) (64 * j.val + 64) - A ((D b).lf h) (64 * j.val + u.val + 1) + (D b).ig h (64 * j.val + u.val) : ℝ) : EReal) := by
  unfold cw
  rw [H.f, H.f, H.g, ← EReal.coe_sub, ← EReal.coe_add]
  congr 2
  show A ((D b).lf h) (64 * j.val + 63 + 1) - _ - _ = _
  rw [add_assoc (64 * j.val) 63 1]
  ring

theorem Holds.state : ∃ M : ℝ, cM (step j.val s) b h = M
    ∧ (∀ d e, cC (step j.val s) b h d e = ((Real.exp (-M) * S ((D b).lf h) ((D b).ig h) (64 * (j.val + 1)) (fun i => (D b).vr h e i * (D b).kr h i d) : ℝ) : EReal))
    ∧ (∀ d, cn (step j.val s) b h d = ((Real.exp (-M) * S ((D b).lf h) ((D b).ig h) (64 * (j.val + 1)) (fun i => (D b).kr h i d) : ℝ) : EReal)) := by
  obtain ⟨M, hM, hC, hn⟩ := H.st b h
  have hT : cb j s b h 63 = ((A ((D b).lf h) (64 * j.val + 64) - A ((D b).lf h) (64 * j.val) : ℝ) : EReal) := H.f j b h 63
  obtain ⟨r, hr⟩ := mnew_real (H.weight b h) (A ((D b).lf h) (64 * j.val + 64) - A ((D b).lf h) (64 * j.val)) M
  rw [← hT] at hr
  refine ⟨r, ?_, fun d e => ?_, fun d => ?_⟩
  · show (step j.val s).main_v28_9 (ix2 b h) = _
    rw [step_main_v28_9, b82_at, hM, hr]
  · show (step j.val s).main_v28_7 (ix4 b h d e) = _
    rw [step_main_v28_7, b97_at, hM]
    exact snew_val (H.weight b h) hT M hr (fun u => H.k j b h u d) (fun u => H.v j b h u e) (hC d e)
  · show (step j.val s).main_v28_8 (ix3 b h d) = _
    rw [step_main_v28_8, b102_at, hM]
    have e := snew_val (H.weight b h) hT M hr (v := fun _ => 1) (vr := fun _ => 1) (fun u => H.k j b h u d) (fun _ => rfl) (C := cn s b h d) (by simpa using hn d)
    simp only [one_mul] at e
    exact e

end

theorem b108_at (j : Fin 32) (s : State Ideal) (i : Fin 32) (b : Fin 16) (h : Fin 4) (t : Fin 64) (e : Fin 128) :
    b108 j.val s (ix5 i b h t e) = if i.val = j.val then b72 j.val s (ix4 b h t e) else s.main_v28_10 (ix5 i b h t e) := by
  have := num j.val j.isLt
  pointwise [b108, b107, b106, b105, b104, b103]
  have hm : (min (max (j.val : ℤ) 0) 31).toNat = j.val := by omega
  simp [Host.clampedStart, constantI, this, hm]
  refine if_congr ?_ rfl rfl
  omega

theorem Holds.step {D : Fin 16 → Seqs} {j : Fin 32} {s : State Ideal} (H : Holds D j.val s) : Holds D (j.val + 1) (step j.val s) where
  q := H.q
  k := H.k
  v := H.v
  g := H.g
  f := H.f
  st := H.state
  out i b h t e hi := by
    rw [step_main_v28_10, b108_at]
    split_ifs with hij
    · obtain rfl : i = j := Fin.ext hij
      exact H.row b h t e
    · exact H.out i b h t e (by omega)

/-! ## The loop -/

section

variable (x0 x1 x2 : FVec Ideal S16x2048x512 .bf16) (x4 : FVec Ideal S16x8x2048 .f32)

/-- The sequences of the arguments. -/
def data (b : Fin 16) : Seqs :=
  seqs (fun i c => x0 (ix3 b i c)) (fun i c => x1 (ix3 b i c)) (fun i c => x2 (ix3 b i c)) (fun r i => x4 (ix3 b r i))

/-- The arguments are finite numbers. -/
abbrev Fin4 : Prop :=
  Finite (fun b i c => x0 (ix3 b i c)) (fun b i c => x1 (ix3 b i c)) (fun b i c => x2 (ix3 b i c)) (fun b r i => x4 (ix3 b r i))

variable {x0 x1 x2 x4}

theorem holds_init (hF : Fin4 x0 x1 x2 x4) : Holds (data x0 x1 x2 x4) 0 (init (F := Ideal) x0 x1 x2 x4) where
  q j b h t c := (v12_at x0 x1 x2 x4 j b h t c).trans (ext_at (fun i => x0 (ix3 b i (col h c))) (at64 j t) (hF.q b _ _)).symm
  k j b h t c := (v14_at x0 x1 x2 x4 j b h t c).trans (ext_at (fun i => x1 (ix3 b i (col h c))) (at64 j t) (hF.k b _ _)).symm
  v j b h t c := (v16_at x0 x1 x2 x4 j b h t c).trans (ext_at (fun i => x2 (ix3 b i (col h c))) (at64 j t) (hF.v b _ _)).symm
  g j b h t := (v18_at x0 x1 x2 x4 j b h t).trans (ext_at (fun i => x4 (ix3 b (gi h) i)) (at64 j t) (hF.g b _ _)).symm
  f j b h t := v21_at x0 x1 x2 x4 j b h t _ fun i => (ext_at (fun i => x4 (ix3 b (gf h) i)) i (hF.g b _ _)).symm
  st b h := by
    refine ⟨0, ?_, fun d e => ?_, fun d => ?_⟩
    · show K_main_v26 (F := Ideal) (ix2 b h) = _
      pointwise [K_main_v26, K_main_cst_1]
      rfl
    · show K_main_v24 (F := Ideal) (ix4 b h d e) = _
      rw [Nat.mul_zero, S_zero, mul_zero]
      pointwise [K_main_v24, K_main_cst]
      rfl
    · show K_main_v25 (F := Ideal) (ix3 b h d) = _
      rw [Nat.mul_zero, S_zero, mul_zero]
      pointwise [K_main_v25, K_main_cst_0]
      rfl
  out j b h t e hj := absurd hj (Nat.not_lt_zero _)

theorem holds_all (hF : Fin4 x0 x1 x2 x4) (it : ℕ → State Ideal) (h0 : it 0 = init (F := Ideal) x0 x1 x2 x4) (hs : ∀ n, it (n + 1) = step n (it n)) :
    ∀ n, n ≤ 32 → Holds (data x0 x1 x2 x4) n (it n)
  | 0, _ => h0 ▸ holds_init hF
  | n + 1, hn => by
    rw [hs]
    exact Holds.step (j := ⟨n, hn⟩) (holds_all hF it h0 hs n (Nat.le_of_succ_le hn))

/-- The result over finite arguments. -/
theorem result (hF : Fin4 x0 x1 x2 x4) (it : ℕ → State Ideal) (h0 : it 0 = init (F := Ideal) x0 x1 x2 x4) (hs : ∀ n, it (n + 1) = step n (it n))
    (x3 : FVec Ideal S16x2048x512 .f32) (x5 : FVec Ideal S512 .f32) (b : Fin 16) (i : Fin 2048) (y : Fin 512) :
    R_main_v55 (F := Ideal) (it 32) x3 x5 (ix3 b i y)
      = layer (fun i c => x0 (ix3 b i c)) (fun i c => x1 (ix3 b i c)) (fun i c => x2 (ix3 b i c)) (fun r i => x4 (ix3 b r i)) (x3 (ix3 b i y)) (x5 (ix1 y)) i y := by
  have H := holds_all hF it h0 hs 32 le_rfl
  rw [R_at]
  show _ = outv _ (fun e => (data x0 x1 x2 x4 b).h (headOf y) i.val e) _ (inHead y)
  congr 1
  funext e
  rw [H.out (chunk i) b (headOf y) (inChunk i) e (chunk i).isLt]
  congr 1
  exact Nat.div_add_mod i.val 64

end

end Cert.MlstmRefIdeal.Step

end
-- ==== Proof.MlPre.lean ====
/- What the precondition says: the queries, keys, values and gates are finite numbers. -/
module

public import proofs.«01_k».proof.Pre_finite
public import proofs.«01_k».proof.Proof.MlData
public import Idealize.ShloMosaic.Lib.Pointwise
public import Idealize.ShloMosaic.Lib.ReduceAll

@[expose] public section

set_option maxRecDepth 16384

noncomputable section

namespace Cert.Pre_finite

open Cert.MlMath Idealize.ShloMosaic Idealize.ShloMosaic.TcCoe

instance facts : Cert.Pre_finite.Facts where
  bitsLt_bf16_f32 := by decide
  bcast_S_S16x2048x512 := by decide
  reducesTo_S16x2048x512_S_d0_1_2 := by decide
  h_S_ := by decide
  bcast_S_S16x8x2048 := by decide
  reducesTo_S16x8x2048_S_d0_1_2 := by decide

theorem inf : Ideal.ofBits .f32 0x7F800000#32 = ⊤ := by simp [Ideal.ofBits, Ideal.ieee]

theorem abs_lt (x : EReal) (h : Ideal.cmp .olt (max x (-x)) ⊤ = 1#1) : ((x.toReal : ℝ) : EReal) = x := by
  have hl : max x (-x) < ⊤ := by
    by_contra hn
    simp only [Ideal.cmp, hn, decide_false] at h
    exact absurd h (by decide)
  refine EReal.coe_toReal (lt_of_le_of_lt (le_max_left _ _) hl).ne fun hb => ?_
  subst hb
  simp at hl

instance : Subsingleton S_.Idx := ⟨fun a b => funext fun x => x.elim0⟩

theorem finite_of (x0 x1 x2 : FVec Ideal S16x2048x512 .bf16) (x3 : FVec Ideal S16x2048x512 .f32) (x4 : FVec Ideal S16x8x2048 .f32) (x5 : FVec Ideal S512 .f32)
    (hp : Cert.Pre_finite.fn (F := Ideal) x0 x1 x2 x3 x4 x5 = fun _ => 1#1) :
    Finite (fun b i c => x0 (ix3 b i c)) (fun b i c => x1 (ix3 b i c)) (fun b i c => x2 (ix3 b i c)) (fun b r i => x4 (ix3 b r i)) := by
  have e := congrFun hp ix0
  simp only [fn, fn_part1] at e
  obtain ⟨e, e4⟩ := IntOp.andi_eq_one.1 e
  obtain ⟨e, e2⟩ := IntOp.andi_eq_one.1 e
  obtain ⟨e0, e1⟩ := IntOp.andi_eq_one.1 e
  refine ⟨fun b i c => abs_lt _ ?_, fun b i c => abs_lt _ ?_, fun b i c => abs_lt _ ?_, fun b r i => abs_lt _ ?_⟩
  · have := Host.reduce_andi_all _ _ _ _ _ e0 (ix3 b i c)
    rw [← inf]
    exact this
  · have := Host.reduce_andi_all _ _ _ _ _ e1 (ix3 b i c)
    rw [← inf]
    exact this
  · have := Host.reduce_andi_all _ _ _ _ _ e2 (ix3 b i c)
    rw [← inf]
    exact this
  · have := Host.reduce_andi_all _ _ _ _ _ e4 (ix3 b r i)
    rw [← inf]
    exact this

end Cert.Pre_finite

end
-- ==== Proof.FfnRow.lean ====
/- One row of the layer's output half, as plain formulas over the extended reals: the output projection, the two
   sandwich norms, the modulated pre-norm and the gated feed-forward. Both programs are read at these formulas. -/
module

public import Idealize.ShloMosaic.Lib.Pointwise

@[expose] public section

noncomputable section

namespace Cert.FfnRow

open Idealize.ShloMosaic

/-- RMS norm of a row of 1024 entries with weight `w`: `v / sqrt (mean v² + 1e-6) * w`. -/
def rms (v w : Fin 1024 → EReal) (n : Fin 1024) : EReal :=
  v n * Ideal.rsqrt (Ideal.div (∑ l, v l * v l) (Ideal.ofBits .f32 0x44800000#32) + Ideal.ofBits .f32 0x358637BD#32) * w n

/-- The mixers' joined output through the output projection. -/
def proj (a h : Fin 512 → EReal) (w : Fin 1024 → Fin 1024 → EReal) (n : Fin 1024) : EReal :=
  (∑ k : Fin 512, a k * w ⟨k.val, by omega⟩ n) + ∑ k : Fin 512, h k * w ⟨512 + k.val, by omega⟩ n

/-- The first residual: the input plus the gated norm of the mixers' output. -/
def res1 (x g y w : Fin 1024 → EReal) (n : Fin 1024) : EReal := x n + g n * rms y w n

/-- The modulated pre-norm of the feed-forward. -/
def pre (x w sc sh : Fin 1024 → EReal) (n : Fin 1024) : EReal := rms x w n * (1 + sc n) + sh n

/-- SwiGLU's hidden unit `j`: `g * sigmoid g * u`, the gates in columns `0..2815`, the values in `2816..5631`. -/
def hid (h : Fin 1024 → EReal) (w : Fin 1024 → Fin 5632 → EReal) (j : Fin 2816) : EReal :=
  (∑ k, h k * w k ⟨j.val, by omega⟩) * Ideal.logistic (∑ k, h k * w k ⟨j.val, by omega⟩) * ∑ k, h k * w k ⟨2816 + j.val, by omega⟩

/-- The feed-forward's down projection. -/
def down (h : Fin 1024 → EReal) (w : Fin 1024 → Fin 5632 → EReal) (d : Fin 2816 → Fin 1024 → EReal) (n : Fin 1024) : EReal :=
  ∑ j, hid h w j * d j n

/-- The hidden axis in the kernel's two stretches, 1536 and 1280. -/
theorem down_split (h : Fin 1024 → EReal) (w : Fin 1024 → Fin 5632 → EReal) (d : Fin 2816 → Fin 1024 → EReal) (n : Fin 1024) :
    down h w d n = (∑ j : Fin 1536, hid h w ⟨j.val, by omega⟩ * d ⟨j.val, by omega⟩ n)
      + ∑ j : Fin 1280, hid h w ⟨1536 + j.val, by omega⟩ * d ⟨1536 + j.val, by omega⟩ n :=
  Fin.sum_univ_two_halves 1536 1280 rfl _

/-- One row of the layer's output: the two gated residuals. -/
def out (a h : Fin 512 → EReal) (x : Fin 1024 → EReal) (mod : Fin 6 → Fin 1024 → EReal) (wo : Fin 1024 → Fin 1024 → EReal) (np fp : Fin 1024 → EReal)
    (w : Fin 1024 → Fin 5632 → EReal) (d : Fin 2816 → Fin 1024 → EReal) (fq : Fin 1024 → EReal) (n : Fin 1024) : EReal :=
  res1 (res1 x (mod 2) (proj a h wo) np) (mod 5) (down (pre (res1 x (mod 2) (proj a h wo) np) fp (mod 4) (mod 3)) w d) fq n

end Cert.FfnRow

end
-- ==== Proof.FfnKern.lean ====
/- The feed-forward kernel's tile, read one row at a time. -/
module

public import proofs.«01_k».proof.Proof.FfnRow
public import proofs.«01_k».proof.Proof.Gen.FfnIdeal.Value
public import Idealize.ShloMosaic.Lib.Pipeline.ValueKit

@[expose] public section

set_option maxRecDepth 16384

noncomputable section

namespace Cert.FfnIdeal.Tile

open Cert.FfnIdeal Cert.FfnIdeal.Gen Cert.FfnRow Idealize.ShloMosaic Idealize.ShloMosaic.TcCoe Idealize.SL.Sem

theorem pay5_at (v8 : FVec Ideal S1x512x512 .bf16) (v10 : FVec Ideal S1x512x1024 .bf16) (v13 : FVec Ideal S1x512x512 .bf16)
    (v15 : FVec Ideal S1x512x1024 .bf16) (w : Fin 1024 → Fin 1024 → EReal)
    (h0 : ∀ (k : Fin 512) n, v10 (ix3 0 k n) = w ⟨k.val, by omega⟩ n) (h1 : ∀ (k : Fin 512) n, v15 (ix3 0 k n) = w ⟨512 + k.val, by omega⟩ n)
    (r : Fin 512) (n : Fin 1024) :
    k0_pay5 (F := Ideal) v8 v10 v13 v15 (ix2 r n) = proj (fun k => v8 (ix3 0 r k)) (fun k => v13 (ix3 0 r k)) w n := by
  pointwise [k0_pay5]
  simp only [h0, h1]
  rfl

theorem pay8_at (v8 : FVec Ideal S1x512x512 .bf16) (v10 : FVec Ideal S1x512x1024 .bf16) (v13 : FVec Ideal S1x512x512 .bf16)
    (v15 : FVec Ideal S1x512x1024 .bf16) (r : Fin 512) :
    k0_pay8 (F := Ideal) v8 v10 v13 v15 (ix2 r 0)
      = ∑ l, k0_pay5 (F := Ideal) v8 v10 v13 v15 (ix2 r l) * k0_pay5 (F := Ideal) v8 v10 v13 v15 (ix2 r l) := by
  pointwise [k0_pay8]

theorem pay9_at (v1 : FVec Ideal S1x1024 .f32) (v18 v20 : FVec Ideal S512x1024 .f32) (v22 : FVec Ideal S1x1024 .f32)
    (v25 : FVec Ideal S512x1 .f32) (r : Fin 512) (h : v25 (ix2 r 0) = ∑ l, v18 (ix2 r l) * v18 (ix2 r l)) (n : Fin 1024) :
    k0_pay9 (F := Ideal) v1 v18 v20 v22 v25 (ix2 r n)
      = res1 (fun l => v20 (ix2 r l)) (fun l => v1 (ix2 0 l)) (fun l => v18 (ix2 r l)) (fun l => v22 (ix2 0 l)) n := by
  pointwise [k0_pay9, res1, rms, h]

theorem pay10_at (v1 v3 v5 : FVec Ideal S1x1024 .f32) (v18 v20 : FVec Ideal S512x1024 .f32) (v22 : FVec Ideal S1x1024 .f32)
    (v25 : FVec Ideal S512x1 .f32) (v38 : FVec Ideal S1x1024 .f32) (r : Fin 512) (n : Fin 1024) :
    k0_pay10 (F := Ideal) v1 v3 v5 v18 v20 v22 v25 v38 (ix2 r n)
      = pre (fun l => k0_pay9 (F := Ideal) v1 v18 v20 v22 v25 (ix2 r l)) (fun l => v38 (ix2 0 l)) (fun l => v5 (ix2 0 l)) (fun l => v3 (ix2 0 l)) n := by
  pointwise [k0_pay10, pre, rms]

theorem pay11_at (v1 v3 v5 : FVec Ideal S1x1024 .f32) (v18 v20 : FVec Ideal S512x1024 .f32) (v22 : FVec Ideal S1x1024 .f32)
    (v25 : FVec Ideal S512x1 .f32) (v38 : FVec Ideal S1x1024 .f32) (v59 v62 : FVec Ideal S1x1024x1536 .bf16) (w : Fin 1024 → Fin 5632 → EReal)
    (h0 : ∀ k (j : Fin 1536), v59 (ix3 0 k j) = w k ⟨j.val, by omega⟩) (h1 : ∀ k (j : Fin 1536), v62 (ix3 0 k j) = w k ⟨2816 + j.val, by omega⟩)
    (r : Fin 512) (j : Fin 1536) :
    k0_pay11 (F := Ideal) v1 v3 v5 v18 v20 v22 v25 v38 v59 v62 (ix2 r j)
      = hid (fun l => k0_pay10 (F := Ideal) v1 v3 v5 v18 v20 v22 v25 v38 (ix2 r l)) w ⟨j.val, by omega⟩ := by
  pointwise [k0_pay11, hid]
  simp only [h0, h1]

theorem pay12_at (v7 : FVec Ideal S1x1024 .f32) (v37 : FVec Ideal S512x1024 .f32) (v58 : FVec Ideal S512x1024 .bf16)
    (v68 : FVec Ideal S512x1536 .bf16) (v69 : FVec Ideal S1x1536x1024 .bf16) (v72 v75 : FVec Ideal S1x1024x1280 .bf16)
    (v82 : FVec Ideal S1x1280x1024 .bf16) (v86 : FVec Ideal S1x1024 .f32) (w : Fin 1024 → Fin 5632 → EReal) (d : Fin 2816 → Fin 1024 → EReal)
    (r : Fin 512) (h68 : ∀ j : Fin 1536, v68 (ix2 r j) = hid (fun l => v58 (ix2 r l)) w ⟨j.val, by omega⟩)
    (h72 : ∀ k (j : Fin 1280), v72 (ix3 0 k j) = w k ⟨1536 + j.val, by omega⟩) (h75 : ∀ k (j : Fin 1280), v75 (ix3 0 k j) = w k ⟨2816 + (1536 + j.val), by omega⟩)
    (h69 : ∀ (j : Fin 1536) n, v69 (ix3 0 j n) = d ⟨j.val, by omega⟩ n) (h82 : ∀ (j : Fin 1280) n, v82 (ix3 0 j n) = d ⟨1536 + j.val, by omega⟩ n)
    (n : Fin 1024) :
    k0_pay12 (F := Ideal) v7 v37 v58 v68 v69 v72 v75 v82 v86 (ix3 0 r n)
      = res1 (fun l => v37 (ix2 r l)) (fun l => v7 (ix2 0 l)) (down (fun l => v58 (ix2 r l)) w d) (fun l => v86 (ix2 0 l)) n := by
  have e : ∀ l, down (fun l => v58 (ix2 r l)) w d l = _ := fun l => down_split _ w d l
  pointwise [k0_pay12, res1, rms, e, hid, h68, h72, h75, h69, h82]

end Cert.FfnIdeal.Tile

end
-- ==== Proof.FfnRef.lean ====
/- The feed-forward half of the reference: its host operations, the stages of its result as named terms, and its run,
   which ends with the result at those stages. (The generated run states the result as one unnamed term, which is long.) -/
module

public import proofs.«01_k».proof.Proof.Gen.FfnRefIdeal
public import proofs.«01_k».proof.Proof.FfnRow
public import Idealize.ShloMosaic.Lib.StableHlo.Run
public import Idealize.ShloMosaic.Lib.Pointwise

@[expose] public section

noncomputable section

namespace Cert.FfnRefIdeal.Hand

open Cert.FfnRefIdeal Cert.FfnRefIdeal.Gen Idealize.ShloMosaic Idealize.ShloMosaic.TcCoe Idealize.SL.Sem Idealize.ShloMosaic.StableHlo

variable {F : FTy → Type} [FloatOps F]

/-- The function of the operation that writes `main_v10`, named. It packs its operands into a list of dependent pairs
    whose shapes a later argument's type mentions, so `simp` cannot rewrite an operand where it stands; applied by
    name, the operands are plain arguments, which `run`'s simp pass rewrites before the name unfolds. -/
def fn_main_v10 : (⟨S16x2048x512, .f32⟩ : BufTy).Contents (Elt F) → (⟨S16x2048x512, .f32⟩ : BufTy).Contents (Elt F) → (⟨S16x2048x1024, .f32⟩ : BufTy).Contents (Elt F) :=
  (fun a b => concatenate S16x2048x1024 2 [⟨S16x2048x512, a⟩, ⟨S16x2048x512, b⟩] concatenates_S16x2048x512_S16x2048x512_S16x2048x1024_d2)

/-- @main's 103 operations, in order (a called function's operations stand in its call's place, spelt `TRef.…`). -/
abbrev ops : List (HloOp τ sig (Elt F)) :=
  [ unary main_arg3 main_v0 ((extractStridedSlice S16x1x1024 ![0, 2, 0] · slices_S16x6x1024_S16x1x1024_0_2_0) : (⟨S16x6x1024, .f32⟩ : BufTy).Contents (Elt F) → (⟨S16x1x1024, .f32⟩ : BufTy).Contents (Elt F)),
    reshape main_v0 main_v1 (rfl : (.f32 : EltTy) = .f32) shapeCasts_S16x1x1024_S16x1024,
    unary main_arg3 main_v2 ((extractStridedSlice S16x1x1024 ![0, 3, 0] · slices_S16x6x1024_S16x1x1024_0_3_0) : (⟨S16x6x1024, .f32⟩ : BufTy).Contents (Elt F) → (⟨S16x1x1024, .f32⟩ : BufTy).Contents (Elt F)),
    reshape main_v2 main_v3 (rfl : (.f32 : EltTy) = .f32) shapeCasts_S16x1x1024_S16x1024,
    unary main_arg3 main_v4 ((extractStridedSlice S16x1x1024 ![0, 4, 0] · slices_S16x6x1024_S16x1x1024_0_4_0) : (⟨S16x6x1024, .f32⟩ : BufTy).Contents (Elt F) → (⟨S16x1x1024, .f32⟩ : BufTy).Contents (Elt F)),
    reshape main_v4 main_v5 (rfl : (.f32 : EltTy) = .f32) shapeCasts_S16x1x1024_S16x1024,
    unary main_arg3 main_v6 ((extractStridedSlice S16x1x1024 ![0, 5, 0] · slices_S16x6x1024_S16x1x1024_0_5_0) : (⟨S16x6x1024, .f32⟩ : BufTy).Contents (Elt F) → (⟨S16x1x1024, .f32⟩ : BufTy).Contents (Elt F)),
    reshape main_v6 main_v7 (rfl : (.f32 : EltTy) = .f32) shapeCasts_S16x1x1024_S16x1024,
    unary main_arg0 main_v8 ((extf .f32 · bitsLt_bf16_f32) : (⟨S16x2048x512, .bf16⟩ : BufTy).Contents (Elt F) → (⟨S16x2048x512, .f32⟩ : BufTy).Contents (Elt F)),
    unary main_arg1 main_v9 ((extf .f32 · bitsLt_bf16_f32) : (⟨S16x2048x512, .bf16⟩ : BufTy).Contents (Elt F) → (⟨S16x2048x512, .f32⟩ : BufTy).Contents (Elt F)),
    binary main_v8 main_v9 main_v10 (fn_main_v10 (F := F)),
    unary main_arg4 main_v11 ((extractStridedSlice S1x1024x1024 ![0, 0, 0] · slices_S2x1024x1024_S1x1024x1024_0_0_0) : (⟨S2x1024x1024, .f32⟩ : BufTy).Contents (Elt F) → (⟨S1x1024x1024, .f32⟩ : BufTy).Contents (Elt F)),
    reshape main_v11 main_v12 (rfl : (.f32 : EltTy) = .f32) shapeCasts_S1x1024x1024_S1024x1024,
    binary main_v10 main_v12 main_v13 ((fun l r => Host.dotGeneral dot_S16x2048x1024_S1024x1024_S16x2048x1024_2_0_01_1_n_n none l r) : (⟨S16x2048x1024, .f32⟩ : BufTy).Contents (Elt F) → (⟨S1024x1024, .f32⟩ : BufTy).Contents (Elt F) → (⟨S16x2048x1024, .f32⟩ : BufTy).Contents (Elt F)),
    unary main_v1 main_v14 (broadcastInDim S16x1x1024 ![0, 2] bcast_S16x1024_S16x1x1024_0_2 : (⟨S16x1024, .f32⟩ : BufTy).Contents (Elt F) → (⟨S16x1x1024, .f32⟩ : BufTy).Contents (Elt F)),
    unary main_arg5 main_v15 ((extractStridedSlice S1x1024 ![0, 0] · slices_S2x1024_S1x1024_0_0) : (⟨S2x1024, .f32⟩ : BufTy).Contents (Elt F) → (⟨S1x1024, .f32⟩ : BufTy).Contents (Elt F)),
    reshape main_v15 main_v16 (rfl : (.f32 : EltTy) = .f32) shapeCasts_S1x1024_S1024,
    binary main_v13 main_v13 main_v17 (mulf : (⟨S16x2048x1024, .f32⟩ : BufTy).Contents (Elt F) → (⟨S16x2048x1024, .f32⟩ : BufTy).Contents (Elt F) → (⟨S16x2048x1024, .f32⟩ : BufTy).Contents (Elt F)),
    nullary main_cst (constant S_ .f32 0x00000000#32),
    binary main_v17 main_cst main_v18 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
    unary main_v18 main_v19 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_0 (constant S_ .f32 0x44800000#32),
    unary main_cst_0 main_v20 (broadcastInDim S16x2048x1 ![] bcast_S_S16x2048x1 : (⟨S_, .f32⟩ : BufTy).Contents (Elt F) → (⟨S16x2048x1, .f32⟩ : BufTy).Contents (Elt F)),
    binary main_v19 main_v20 main_v21 (Host.divf : (⟨S16x2048x1, .f32⟩ : BufTy).Contents (Elt F) → (⟨S16x2048x1, .f32⟩ : BufTy).Contents (Elt F) → (⟨S16x2048x1, .f32⟩ : BufTy).Contents (Elt F)),
    nullary main_cst_1 (constant S_ .f32 0x358637BD#32),
    unary main_cst_1 main_v22 (broadcastInDim S16x2048x1 ![] bcast_S_S16x2048x1 : (⟨S_, .f32⟩ : BufTy).Contents (Elt F) → (⟨S16x2048x1, .f32⟩ : BufTy).Contents (Elt F)),
    binary main_v21 main_v22 main_v23 (addf : (⟨S16x2048x1, .f32⟩ : BufTy).Contents (Elt F) → (⟨S16x2048x1, .f32⟩ : BufTy).Contents (Elt F) → (⟨S16x2048x1, .f32⟩ : BufTy).Contents (Elt F)),
    unary main_v23 main_v24 (Host.rsqrt : (⟨S16x2048x1, .f32⟩ : BufTy).Contents (Elt F) → (⟨S16x2048x1, .f32⟩ : BufTy).Contents (Elt F)),
    unary main_v24 main_v25 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
    binary main_v13 main_v25 main_v26 (mulf : (⟨S16x2048x1024, .f32⟩ : BufTy).Contents (Elt F) → (⟨S16x2048x1024, .f32⟩ : BufTy).Contents (Elt F) → (⟨S16x2048x1024, .f32⟩ : BufTy).Contents (Elt F)),
    unary main_v16 main_v27 (broadcastInDim S1x1x1024 ![2] bcast_S1024_S1x1x1024_2 : (⟨S1024, .f32⟩ : BufTy).Contents (Elt F) → (⟨S1x1x1024, .f32⟩ : BufTy).Contents (Elt F)),
    unary main_v27 main_v28 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
    binary main_v26 main_v28 main_v29 (mulf : (⟨S16x2048x1024, .f32⟩ : BufTy).Contents (Elt F) → (⟨S16x2048x1024, .f32⟩ : BufTy).Contents (Elt F) → (⟨S16x2048x1024, .f32⟩ : BufTy).Contents (Elt F)),
    unary main_v14 main_v30 (broadcastInDim S16x2048x1024 ![0, 1, 2] bcast_S16x1x1024_S16x2048x1024_0_1_2 : (⟨S16x1x1024, .f32⟩ : BufTy).Contents (Elt F) → (⟨S16x2048x1024, .f32⟩ : BufTy).Contents (Elt F)),
    binary main_v30 main_v29 main_v31 (mulf : (⟨S16x2048x1024, .f32⟩ : BufTy).Contents (Elt F) → (⟨S16x2048x1024, .f32⟩ : BufTy).Contents (Elt F) → (⟨S16x2048x1024, .f32⟩ : BufTy).Contents (Elt F)),
    binary main_arg2 main_v31 main_v32 (addf : (⟨S16x2048x1024, .f32⟩ : BufTy).Contents (Elt F) → (⟨S16x2048x1024, .f32⟩ : BufTy).Contents (Elt F) → (⟨S16x2048x1024, .f32⟩ : BufTy).Contents (Elt F)),
    unary main_arg6 main_v33 ((extractStridedSlice S1x1024 ![0, 0] · slices_S2x1024_S1x1024_0_0) : (⟨S2x1024, .f32⟩ : BufTy).Contents (Elt F) → (⟨S1x1024, .f32⟩ : BufTy).Contents (Elt F)),
    reshape main_v33 main_v34 (rfl : (.f32 : EltTy) = .f32) shapeCasts_S1x1024_S1024,
    binary main_v32 main_v32 main_v35 (mulf : (⟨S16x2048x1024, .f32⟩ : BufTy).Contents (Elt F) → (⟨S16x2048x1024, .f32⟩ : BufTy).Contents (Elt F) → (⟨S16x2048x1024, .f32⟩ : BufTy).Contents (Elt F)),
    nullary main_cst_2 (constant S_ .f32 0x00000000#32),
    binary main_v35 main_cst_2 main_v36 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
    unary main_v36 main_v37 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_3 (constant S_ .f32 0x44800000#32),
    unary main_cst_3 main_v38 (broadcastInDim S16x2048x1 ![] bcast_S_S16x2048x1 : (⟨S_, .f32⟩ : BufTy).Contents (Elt F) → (⟨S16x2048x1, .f32⟩ : BufTy).Contents (Elt F)),
    binary main_v37 main_v38 main_v39 (Host.divf : (⟨S16x2048x1, .f32⟩ : BufTy).Contents (Elt F) → (⟨S16x2048x1, .f32⟩ : BufTy).Contents (Elt F) → (⟨S16x2048x1, .f32⟩ : BufTy).Contents (Elt F)),
    nullary main_cst_4 (constant S_ .f32 0x358637BD#32),
    unary main_cst_4 main_v40 (broadcastInDim S16x2048x1 ![] bcast_S_S16x2048x1 : (⟨S_, .f32⟩ : BufTy).Contents (Elt F) → (⟨S16x2048x1, .f32⟩ : BufTy).Contents (Elt F)),
    binary main_v39 main_v40 main_v41 (addf : (⟨S16x2048x1, .f32⟩ : BufTy).Contents (Elt F) → (⟨S16x2048x1, .f32⟩ : BufTy).Contents (Elt F) → (⟨S16x2048x1, .f32⟩ : BufTy).Contents (Elt F)),
    unary main_v41 main_v42 (Host.rsqrt : (⟨S16x2048x1, .f32⟩ : BufTy).Contents (Elt F) → (⟨S16x2048x1, .f32⟩ : BufTy).Contents (Elt F)),
    unary main_v42 main_v43 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
    binary main_v32 main_v43 main_v44 (mulf : (⟨S16x2048x1024, .f32⟩ : BufTy).Contents (Elt F) → (⟨S16x2048x1024, .f32⟩ : BufTy).Contents (Elt F) → (⟨S16x2048x1024, .f32⟩ : BufTy).Contents (Elt F)),
    unary main_v34 main_v45 (broadcastInDim S1x1x1024 ![2] bcast_S1024_S1x1x1024_2 : (⟨S1024, .f32⟩ : BufTy).Contents (Elt F) → (⟨S1x1x1024, .f32⟩ : BufTy).Contents (Elt F)),
    unary main_v45 main_v46 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
    binary main_v44 main_v46 main_v47 (mulf : (⟨S16x2048x1024, .f32⟩ : BufTy).Contents (Elt F) → (⟨S16x2048x1024, .f32⟩ : BufTy).Contents (Elt F) → (⟨S16x2048x1024, .f32⟩ : BufTy).Contents (Elt F)),
    unary main_v5 main_v48 (broadcastInDim S16x1x1024 ![0, 2] bcast_S16x1024_S16x1x1024_0_2 : (⟨S16x1024, .f32⟩ : BufTy).Contents (Elt F) → (⟨S16x1x1024, .f32⟩ : BufTy).Contents (Elt F)),
    nullary main_cst_5 (constant S_ .f32 0x3F800000#32),
    unary main_cst_5 main_v49 (broadcastInDim S16x1x1024 ![] bcast_S_S16x1x1024 : (⟨S_, .f32⟩ : BufTy).Contents (Elt F) → (⟨S16x1x1024, .f32⟩ : BufTy).Contents (Elt F)),
    binary main_v49 main_v48 main_v50 (addf : (⟨S16x1x1024, .f32⟩ : BufTy).Contents (Elt F) → (⟨S16x1x1024, .f32⟩ : BufTy).Contents (Elt F) → (⟨S16x1x1024, .f32⟩ : BufTy).Contents (Elt F)),
    unary main_v50 main_v51 (broadcastInDim S16x2048x1024 ![0, 1, 2] bcast_S16x1x1024_S16x2048x1024_0_1_2 : (⟨S16x1x1024, .f32⟩ : BufTy).Contents (Elt F) → (⟨S16x2048x1024, .f32⟩ : BufTy).Contents (Elt F)),
    binary main_v47 main_v51 main_v52 (mulf : (⟨S16x2048x1024, .f32⟩ : BufTy).Contents (Elt F) → (⟨S16x2048x1024, .f32⟩ : BufTy).Contents (Elt F) → (⟨S16x2048x1024, .f32⟩ : BufTy).Contents (Elt F)),
    unary main_v3 main_v53 (broadcastInDim S16x1x1024 ![0, 2] bcast_S16x1024_S16x1x1024_0_2 : (⟨S16x1024, .f32⟩ : BufTy).Contents (Elt F) → (⟨S16x1x1024, .f32⟩ : BufTy).Contents (Elt F)),
    unary main_v53 main_v54 (broadcastInDim S16x2048x1024 ![0, 1, 2] bcast_S16x1x1024_S16x2048x1024_0_1_2 : (⟨S16x1x1024, .f32⟩ : BufTy).Contents (Elt F) → (⟨S16x2048x1024, .f32⟩ : BufTy).Contents (Elt F)),
    binary main_v52 main_v54 main_v55 (addf : (⟨S16x2048x1024, .f32⟩ : BufTy).Contents (Elt F) → (⟨S16x2048x1024, .f32⟩ : BufTy).Contents (Elt F) → (⟨S16x2048x1024, .f32⟩ : BufTy).Contents (Elt F)),
    unary main_arg7 main_v56 ((extractStridedSlice S1x1024x5632 ![0, 0, 0] · slices_S2x1024x5632_S1x1024x5632_0_0_0) : (⟨S2x1024x5632, .f32⟩ : BufTy).Contents (Elt F) → (⟨S1x1024x5632, .f32⟩ : BufTy).Contents (Elt F)),
    reshape main_v56 main_v57 (rfl : (.f32 : EltTy) = .f32) shapeCasts_S1x1024x5632_S1024x5632,
    unary main_arg8 main_v58 ((extractStridedSlice S1x2816x1024 ![0, 0, 0] · slices_S2x2816x1024_S1x2816x1024_0_0_0) : (⟨S2x2816x1024, .f32⟩ : BufTy).Contents (Elt F) → (⟨S1x2816x1024, .f32⟩ : BufTy).Contents (Elt F)),
    reshape main_v58 main_v59 (rfl : (.f32 : EltTy) = .f32) shapeCasts_S1x2816x1024_S2816x1024,
    binary main_v55 main_v57 main_v60 ((fun l r => Host.dotGeneral dot_S16x2048x1024_S1024x5632_S16x2048x5632_2_0_01_1_n_n none l r) : (⟨S16x2048x1024, .f32⟩ : BufTy).Contents (Elt F) → (⟨S1024x5632, .f32⟩ : BufTy).Contents (Elt F) → (⟨S16x2048x5632, .f32⟩ : BufTy).Contents (Elt F)),
    unary main_v60 main_v61 ((extractStridedSlice S16x2048x2816 ![0, 0, 0] · slices_S16x2048x5632_S16x2048x2816_0_0_0) : (⟨S16x2048x5632, .f32⟩ : BufTy).Contents (Elt F) → (⟨S16x2048x2816, .f32⟩ : BufTy).Contents (Elt F)),
    unary main_v60 main_v62 ((extractStridedSlice S16x2048x2816 ![0, 0, 2816] · slices_S16x2048x5632_S16x2048x2816_0_0_2816) : (⟨S16x2048x5632, .f32⟩ : BufTy).Contents (Elt F) → (⟨S16x2048x2816, .f32⟩ : BufTy).Contents (Elt F)),
    TRef.unary (TRef.of (T := ⟨S16x2048x2816, .f32⟩) main_v61) (TRef.of (T := ⟨S16x2048x2816, .f32⟩) main_call0_v0) Host.negf,
    TRef.unary (TRef.of (T := ⟨S16x2048x2816, .f32⟩) main_call0_v0) (TRef.of (T := ⟨S16x2048x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16x2048x2816, .f32⟩) main_call0_v2) (broadcastInDim S16x2048x2816 ![] bcast_S_S16x2048x2816),
    TRef.binary (TRef.of (T := ⟨S16x2048x2816, .f32⟩) main_call0_v2) (TRef.of (T := ⟨S16x2048x2816, .f32⟩) main_call0_v1) (TRef.of (T := ⟨S16x2048x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16x2048x2816, .f32⟩) main_call0_v4) (broadcastInDim S16x2048x2816 ![] bcast_S_S16x2048x2816),
    TRef.binary (TRef.of (T := ⟨S16x2048x2816, .f32⟩) main_call0_v4) (TRef.of (T := ⟨S16x2048x2816, .f32⟩) main_call0_v3) (TRef.of (T := ⟨S16x2048x2816, .f32⟩) main_call0_v5) Host.divf,
    TRef.binary (TRef.of (T := ⟨S16x2048x2816, .f32⟩) main_v61) (TRef.of (T := ⟨S16x2048x2816, .f32⟩) main_call0_v5) (TRef.of (T := ⟨S16x2048x2816, .f32⟩) main_v63) mulf,
    binary main_v63 main_v62 main_v64 (mulf : (⟨S16x2048x2816, .f32⟩ : BufTy).Contents (Elt F) → (⟨S16x2048x2816, .f32⟩ : BufTy).Contents (Elt F) → (⟨S16x2048x2816, .f32⟩ : BufTy).Contents (Elt F)),
    binary main_v64 main_v59 main_v65 ((fun l r => Host.dotGeneral dot_S16x2048x2816_S2816x1024_S16x2048x1024_2_0_01_1_n_n none l r) : (⟨S16x2048x2816, .f32⟩ : BufTy).Contents (Elt F) → (⟨S2816x1024, .f32⟩ : BufTy).Contents (Elt F) → (⟨S16x2048x1024, .f32⟩ : BufTy).Contents (Elt F)),
    unary main_v7 main_v66 (broadcastInDim S16x1x1024 ![0, 2] bcast_S16x1024_S16x1x1024_0_2 : (⟨S16x1024, .f32⟩ : BufTy).Contents (Elt F) → (⟨S16x1x1024, .f32⟩ : BufTy).Contents (Elt F)),
    unary main_arg9 main_v67 ((extractStridedSlice S1x1024 ![0, 0] · slices_S2x1024_S1x1024_0_0) : (⟨S2x1024, .f32⟩ : BufTy).Contents (Elt F) → (⟨S1x1024, .f32⟩ : BufTy).Contents (Elt F)),
    reshape main_v67 main_v68 (rfl : (.f32 : EltTy) = .f32) shapeCasts_S1x1024_S1024,
    binary main_v65 main_v65 main_v69 (mulf : (⟨S16x2048x1024, .f32⟩ : BufTy).Contents (Elt F) → (⟨S16x2048x1024, .f32⟩ : BufTy).Contents (Elt F) → (⟨S16x2048x1024, .f32⟩ : BufTy).Contents (Elt F)),
    nullary main_cst_6 (constant S_ .f32 0x00000000#32),
    binary main_v69 main_cst_6 main_v70 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
    unary main_v70 main_v71 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_7 (constant S_ .f32 0x44800000#32),
    unary main_cst_7 main_v72 (broadcastInDim S16x2048x1 ![] bcast_S_S16x2048x1 : (⟨S_, .f32⟩ : BufTy).Contents (Elt F) → (⟨S16x2048x1, .f32⟩ : BufTy).Contents (Elt F)),
    binary main_v71 main_v72 main_v73 (Host.divf : (⟨S16x2048x1, .f32⟩ : BufTy).Contents (Elt F) → (⟨S16x2048x1, .f32⟩ : BufTy).Contents (Elt F) → (⟨S16x2048x1, .f32⟩ : BufTy).Contents (Elt F)),
    nullary main_cst_8 (constant S_ .f32 0x358637BD#32),
    unary main_cst_8 main_v74 (broadcastInDim S16x2048x1 ![] bcast_S_S16x2048x1 : (⟨S_, .f32⟩ : BufTy).Contents (Elt F) → (⟨S16x2048x1, .f32⟩ : BufTy).Contents (Elt F)),
    binary main_v73 main_v74 main_v75 (addf : (⟨S16x2048x1, .f32⟩ : BufTy).Contents (Elt F) → (⟨S16x2048x1, .f32⟩ : BufTy).Contents (Elt F) → (⟨S16x2048x1, .f32⟩ : BufTy).Contents (Elt F)),
    unary main_v75 main_v76 (Host.rsqrt : (⟨S16x2048x1, .f32⟩ : BufTy).Contents (Elt F) → (⟨S16x2048x1, .f32⟩ : BufTy).Contents (Elt F)),
    unary main_v76 main_v77 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
    binary main_v65 main_v77 main_v78 (mulf : (⟨S16x2048x1024, .f32⟩ : BufTy).Contents (Elt F) → (⟨S16x2048x1024, .f32⟩ : BufTy).Contents (Elt F) → (⟨S16x2048x1024, .f32⟩ : BufTy).Contents (Elt F)),
    unary main_v68 main_v79 (broadcastInDim S1x1x1024 ![2] bcast_S1024_S1x1x1024_2 : (⟨S1024, .f32⟩ : BufTy).Contents (Elt F) → (⟨S1x1x1024, .f32⟩ : BufTy).Contents (Elt F)),
    unary main_v79 main_v80 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
    binary main_v78 main_v80 main_v81 (mulf : (⟨S16x2048x1024, .f32⟩ : BufTy).Contents (Elt F) → (⟨S16x2048x1024, .f32⟩ : BufTy).Contents (Elt F) → (⟨S16x2048x1024, .f32⟩ : BufTy).Contents (Elt F)),
    unary main_v66 main_v82 (broadcastInDim S16x2048x1024 ![0, 1, 2] bcast_S16x1x1024_S16x2048x1024_0_1_2 : (⟨S16x1x1024, .f32⟩ : BufTy).Contents (Elt F) → (⟨S16x2048x1024, .f32⟩ : BufTy).Contents (Elt F)),
    binary main_v82 main_v81 main_v83 (mulf : (⟨S16x2048x1024, .f32⟩ : BufTy).Contents (Elt F) → (⟨S16x2048x1024, .f32⟩ : BufTy).Contents (Elt F) → (⟨S16x2048x1024, .f32⟩ : BufTy).Contents (Elt F)),
    binary main_v32 main_v83 main_v84 (addf : (⟨S16x2048x1024, .f32⟩ : BufTy).Contents (Elt F) → (⟨S16x2048x1024, .f32⟩ : BufTy).Contents (Elt F) → (⟨S16x2048x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., reshape_bufs_sub .., binary_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

/-- RMS norm over the last axis with layer 0's weight. -/
def rmsN (y : FVec F S16x2048x1024 .f32) (w : FVec F S2x1024 .f32) : FVec F S16x2048x1024 .f32 :=
  mulf (mulf y (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf y y) (constant S_ .f32 0x00000000#32) reducesTo_S16x2048x1024_S16x2048_d2 h_S_))
    (broadcastInDim S16x2048x1 ![] bcast_S_S16x2048x1 (constant S_ .f32 0x44800000#32)))
    (broadcastInDim S16x2048x1 ![] bcast_S_S16x2048x1 (constant S_ .f32 0x358637BD#32))))))
   (broadcastInDim S16x2048x1024 ![0, 1, 2] bcast_S1x1x1024_S16x2048x1024_0_1_2 (broadcastInDim S1x1x1024 ![2] bcast_S1024_S1x1x1024_2
     (shapeCast S1024 (extractStridedSlice S1x1024 ![0, 0] w slices_S2x1024_S1x1024_0_0) shapeCasts_S1x1024_S1024)))

/-- The output projection of the joined mixers. -/
def projN (a h : FVec F S16x2048x512 .bf16) (w : FVec F S2x1024x1024 .f32) : FVec F S16x2048x1024 .f32 :=
  Host.dotGeneral dot_S16x2048x1024_S1024x1024_S16x2048x1024_2_0_01_1_n_n none (fn_main_v10 (F := F) (extf .f32 a bitsLt_bf16_f32) (extf .f32 h bitsLt_bf16_f32))
    (shapeCast S1024x1024 (extractStridedSlice S1x1024x1024 ![0, 0, 0] w slices_S2x1024x1024_S1x1024x1024_0_0_0) shapeCasts_S1x1024x1024_S1024x1024)

/-- A residual with its gate. -/
def resN (x : FVec F S16x2048x1024 .f32) (g : FVec F S16x1x1024 .f32) (y : FVec F S16x2048x1024 .f32) (w : FVec F S2x1024 .f32) : FVec F S16x2048x1024 .f32 :=
  addf x (mulf (broadcastInDim S16x2048x1024 ![0, 1, 2] bcast_S16x1x1024_S16x2048x1024_0_1_2
    (broadcastInDim S16x1x1024 ![0, 2] bcast_S16x1024_S16x1x1024_0_2 (shapeCast S16x1024 g shapeCasts_S16x1x1024_S16x1024))) (rmsN y w))

/-- The modulated pre-norm. -/
def preN (x : FVec F S16x2048x1024 .f32) (w : FVec F S2x1024 .f32) (sc sh : FVec F S16x1x1024 .f32) : FVec F S16x2048x1024 .f32 :=
  addf (mulf (rmsN x w) (broadcastInDim S16x2048x1024 ![0, 1, 2] bcast_S16x1x1024_S16x2048x1024_0_1_2
      (addf (broadcastInDim S16x1x1024 ![] bcast_S_S16x1x1024 (constant S_ .f32 0x3F800000#32))
        (broadcastInDim S16x1x1024 ![0, 2] bcast_S16x1024_S16x1x1024_0_2 (shapeCast S16x1024 sc shapeCasts_S16x1x1024_S16x1024)))))
    (broadcastInDim S16x2048x1024 ![0, 1, 2] bcast_S16x1x1024_S16x2048x1024_0_1_2
      (broadcastInDim S16x1x1024 ![0, 2] bcast_S16x1024_S16x1x1024_0_2 (shapeCast S16x1024 sh shapeCasts_S16x1x1024_S16x1024)))

/-- SwiGLU's first product: gates and values side by side. -/
def guN (h : FVec F S16x2048x1024 .f32) (w : FVec F S2x1024x5632 .f32) : FVec F S16x2048x5632 .f32 :=
  Host.dotGeneral dot_S16x2048x1024_S1024x5632_S16x2048x5632_2_0_01_1_n_n none h
    (shapeCast S1024x5632 (extractStridedSlice S1x1024x5632 ![0, 0, 0] w slices_S2x1024x5632_S1x1024x5632_0_0_0) shapeCasts_S1x1024x5632_S1024x5632)

/-- `silu g * u`. -/
def hidN (gu : FVec F S16x2048x5632 .f32) : FVec F S16x2048x2816 .f32 :=
  mulf (mulf (extractStridedSlice S16x2048x2816 ![0, 0, 0] gu slices_S16x2048x5632_S16x2048x2816_0_0_0)
    (Host.divf (broadcastInDim S16x2048x2816 ![] bcast_S_S16x2048x2816 (constant S_ .f32 0x3F800000#32))
      (addf (broadcastInDim S16x2048x2816 ![] bcast_S_S16x2048x2816 (constant S_ .f32 0x3F800000#32))
        (Host.exp (Host.negf (extractStridedSlice S16x2048x2816 ![0, 0, 0] gu slices_S16x2048x5632_S16x2048x2816_0_0_0))))))
    (extractStridedSlice S16x2048x2816 ![0, 0, 2816] gu slices_S16x2048x5632_S16x2048x2816_0_0_2816)

/-- The feed-forward of `h`. -/
def ffnN (h : FVec F S16x2048x1024 .f32) (w : FVec F S2x1024x5632 .f32) (d : FVec F S2x2816x1024 .f32) : FVec F S16x2048x1024 .f32 :=
  Host.dotGeneral dot_S16x2048x2816_S2816x1024_S16x2048x1024_2_0_01_1_n_n none (hidN (guN h w))
    (shapeCast S2816x1024 (extractStridedSlice S1x2816x1024 ![0, 0, 0] d slices_S2x2816x1024_S1x2816x1024_0_0_0) shapeCasts_S1x2816x1024_S2816x1024)

/-- Row `k` of the modulation. -/
def modN (k : ℕ) (mod : FVec F S16x6x1024 .f32) (h : S16x6x1024.Slices ![0, k, 0] S16x1x1024) : FVec F S16x1x1024 .f32 :=
  extractStridedSlice S16x1x1024 ![0, k, 0] mod h

/-- The reference's result. -/
def outN (a h : FVec F S16x2048x512 .bf16) (x : FVec F S16x2048x1024 .f32) (mod : FVec F S16x6x1024 .f32) (wo : FVec F S2x1024x1024 .f32)
    (np fp : FVec F S2x1024 .f32) (wg : FVec F S2x1024x5632 .f32) (wd : FVec F S2x2816x1024 .f32) (fq : FVec F S2x1024 .f32) : FVec F S16x2048x1024 .f32 :=
  have x1 := resN x (modN 2 mod slices_S16x6x1024_S16x1x1024_0_2_0) (projN a h wo) np
  resN x1 (modN 5 mod slices_S16x6x1024_S16x1x1024_0_5_0)
    (ffnN (preN x1 fp (modN 4 mod slices_S16x6x1024_S16x1x1024_0_4_0) (modN 3 mod slices_S16x6x1024_S16x1x1024_0_3_0)) wg wd) fq

set_option maxRecDepth 8192 in
set_option maxHeartbeats 8000000 in
/-- On every device, for any float values, from any memory with zero counters: every weakly fair execution of
    @main terminates with each result at the operations' stages of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v84).trans (by simp only [ops, TRef.binary, TRef.nullary, TRef.unary, TRef.toBuf, TRef.ofBuf, cast_eq]; after_results_simp <;> rfl <;> (rfl)),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl),
      (h c main_arg8).trans (by simp only [ops, TRef.binary, TRef.nullary, TRef.unary, TRef.toBuf, TRef.ofBuf, cast_eq]; after_results_simp <;> rfl),
      (h c main_arg9).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.FfnRefIdeal.Hand

end
-- ==== Proof.FfnRefRow.lean ====
/- The reference's stages, read one row at a time at the plain formulas. -/
module

public import proofs.«01_k».proof.Proof.FfnRef

@[expose] public section

set_option maxRecDepth 16384

noncomputable section

namespace Cert.FfnRefIdeal.Hand

open Cert.FfnRefIdeal Cert.FfnRefIdeal.Gen Cert.FfnRow Idealize.ShloMosaic Idealize.ShloMosaic.TcCoe

theorem rmsN_at (y : FVec Ideal S16x2048x1024 .f32) (w : FVec Ideal S2x1024 .f32) (b : Fin 16) (s : Fin 2048) (n : Fin 1024) :
    rmsN (F := Ideal) y w (ix3 b s n) = rms (fun l => y (ix3 b s l)) (fun l => w (ix2 0 l)) n := by
  pointwise [rmsN, rms]

theorem projN_at (a h : FVec Ideal S16x2048x512 .bf16) (w : FVec Ideal S2x1024x1024 .f32) (b : Fin 16) (s : Fin 2048) (n : Fin 1024) :
    projN (F := Ideal) a h w (ix3 b s n) = proj (fun k => a (ix3 b s k)) (fun k => h (ix3 b s k)) (fun k l => w (ix3 0 k l)) n := by
  pointwise [projN, fn_main_v10]
  rfl

theorem resN_at (x : FVec Ideal S16x2048x1024 .f32) (g : FVec Ideal S16x1x1024 .f32) (y : FVec Ideal S16x2048x1024 .f32) (w : FVec Ideal S2x1024 .f32)
    (b : Fin 16) (s : Fin 2048) (n : Fin 1024) :
    resN (F := Ideal) x g y w (ix3 b s n)
      = res1 (fun l => x (ix3 b s l)) (fun l => g (ix3 b 0 l)) (fun l => y (ix3 b s l)) (fun l => w (ix2 0 l)) n := by
  pointwise [resN, res1, rmsN_at]

theorem preN_at (x : FVec Ideal S16x2048x1024 .f32) (w : FVec Ideal S2x1024 .f32) (sc sh : FVec Ideal S16x1x1024 .f32)
    (b : Fin 16) (s : Fin 2048) (n : Fin 1024) :
    preN (F := Ideal) x w sc sh (ix3 b s n)
      = pre (fun l => x (ix3 b s l)) (fun l => w (ix2 0 l)) (fun l => sc (ix3 b 0 l)) (fun l => sh (ix3 b 0 l)) n := by
  pointwise [preN, pre, rmsN_at]

theorem hidN_at (h : FVec Ideal S16x2048x1024 .f32) (w : FVec Ideal S2x1024x5632 .f32) (b : Fin 16) (s : Fin 2048) (j : Fin 2816) :
    hidN (F := Ideal) (guN h w) (ix3 b s j) = hid (fun l => h (ix3 b s l)) (fun k l => w (ix3 0 k l)) j := by
  pointwise [hidN, guN, hid]
  simp only [Ideal.logistic]

theorem ffnN_at (h : FVec Ideal S16x2048x1024 .f32) (w : FVec Ideal S2x1024x5632 .f32) (d : FVec Ideal S2x2816x1024 .f32)
    (b : Fin 16) (s : Fin 2048) (n : Fin 1024) :
    ffnN (F := Ideal) h w d (ix3 b s n)
      = down (fun l => h (ix3 b s l)) (fun k l => w (ix3 0 k l)) (fun k l => d (ix3 0 k l)) n := by
  pointwise [ffnN, down, hidN_at]

theorem modN_at (k : Fin 6) (mod : FVec Ideal S16x6x1024 .f32) (h) (b : Fin 16) (n : Fin 1024) :
    modN (F := Ideal) k.val mod h (ix3 b 0 n) = mod (ix3 b k n) := by
  pointwise [modN]

/-- Row `s` of batch `b` of the reference's result. -/
theorem outN_at (a h : FVec Ideal S16x2048x512 .bf16) (x : FVec Ideal S16x2048x1024 .f32) (mod : FVec Ideal S16x6x1024 .f32) (wo : FVec Ideal S2x1024x1024 .f32)
    (np fp : FVec Ideal S2x1024 .f32) (wg : FVec Ideal S2x1024x5632 .f32) (wd : FVec Ideal S2x2816x1024 .f32) (fq : FVec Ideal S2x1024 .f32)
    (b : Fin 16) (s : Fin 2048) (n : Fin 1024) :
    outN (F := Ideal) a h x mod wo np fp wg wd fq (ix3 b s n)
      = FfnRow.out (fun k => a (ix3 b s k)) (fun k => h (ix3 b s k)) (fun l => x (ix3 b s l)) (fun k l => mod (ix3 b k l)) (fun k l => wo (ix3 0 k l))
          (fun l => np (ix2 0 l)) (fun l => fp (ix2 0 l)) (fun k l => wg (ix3 0 k l)) (fun k l => wd (ix3 0 k l)) (fun l => fq (ix2 0 l)) n := by
  have e2 : ∀ b n, modN 2 mod slices_S16x6x1024_S16x1x1024_0_2_0 (ix3 b 0 n) = _ := modN_at 2 mod slices_S16x6x1024_S16x1x1024_0_2_0
  have e3 : ∀ b n, modN 3 mod slices_S16x6x1024_S16x1x1024_0_3_0 (ix3 b 0 n) = _ := modN_at 3 mod slices_S16x6x1024_S16x1x1024_0_3_0
  have e4 : ∀ b n, modN 4 mod slices_S16x6x1024_S16x1x1024_0_4_0 (ix3 b 0 n) = _ := modN_at 4 mod slices_S16x6x1024_S16x1x1024_0_4_0
  have e5 : ∀ b n, modN 5 mod slices_S16x6x1024_S16x1x1024_0_5_0 (ix3 b 0 n) = _ := modN_at 5 mod slices_S16x6x1024_S16x1x1024_0_5_0
  simp only [outN, FfnRow.out, resN_at, projN_at, ffnN_at, preN_at, e2, e3, e4, e5]

end Cert.FfnRefIdeal.Hand

end
-- ==== Proof.FfnValue.lean ====
/- The feed-forward kernel's final array is the reference's result. -/
module

public import proofs.«01_k».proof.Proof.FfnKern
public import proofs.«01_k».proof.Proof.FfnRefRow

@[expose] public section

set_option maxRecDepth 16384

noncomputable section

namespace Cert.FfnIdeal.Tile

open Cert.FfnIdeal Cert.FfnIdeal.Gen Cert.FfnRow Idealize.ShloMosaic Idealize.ShloMosaic.TcCoe Idealize.SL.Sem
open Idealize.ShloMosaic.Pipeline (Dat)

/-- The tile's stored value at a row, over the vectors the body loads. -/
theorem tile_core (x0 x1 : FVec Ideal S1x512x512 .bf16) (x2 : FVec Ideal S1x512x1024 .f32) (m2 m3 m4 m5 : FVec Ideal S1x1x1024 .f32)
    (wa wb : FVec Ideal S1x512x1024 .bf16) (x5 x6 x9 : FVec Ideal S1x1024 .f32) (g0 u0 : FVec Ideal S1x1024x1536 .bf16)
    (g1 u1 : FVec Ideal S1x1024x1280 .bf16) (d0 : FVec Ideal S1x1536x1024 .bf16) (d1 : FVec Ideal S1x1280x1024 .bf16)
    (mod : Fin 6 → Fin 1024 → EReal) (wo : Fin 1024 → Fin 1024 → EReal) (w : Fin 1024 → Fin 5632 → EReal) (d : Fin 2816 → Fin 1024 → EReal)
    (hm2 : ∀ l, m2 (ix3 0 0 l) = mod 2 l) (hm3 : ∀ l, m3 (ix3 0 0 l) = mod 3 l) (hm4 : ∀ l, m4 (ix3 0 0 l) = mod 4 l) (hm5 : ∀ l, m5 (ix3 0 0 l) = mod 5 l)
    (hwa : ∀ (k : Fin 512) n, wa (ix3 0 k n) = wo ⟨k.val, by omega⟩ n) (hwb : ∀ (k : Fin 512) n, wb (ix3 0 k n) = wo ⟨512 + k.val, by omega⟩ n)
    (hg0 : ∀ k (j : Fin 1536), g0 (ix3 0 k j) = w k ⟨j.val, by omega⟩) (hu0 : ∀ k (j : Fin 1536), u0 (ix3 0 k j) = w k ⟨2816 + j.val, by omega⟩)
    (hg1 : ∀ k (j : Fin 1280), g1 (ix3 0 k j) = w k ⟨1536 + j.val, by omega⟩) (hu1 : ∀ k (j : Fin 1280), u1 (ix3 0 k j) = w k ⟨2816 + (1536 + j.val), by omega⟩)
    (hd0 : ∀ (j : Fin 1536) n, d0 (ix3 0 j n) = d ⟨j.val, by omega⟩ n) (hd1 : ∀ (j : Fin 1280) n, d1 (ix3 0 j n) = d ⟨1536 + j.val, by omega⟩ n)
    (r : Fin 512) (n : Fin 1024) :
    k0_pay12 (F := Ideal) (k0_pay4 m5)
      (k0_pay9 (k0_pay1 m2) (k0_pay5 x0 wa x1 wb) (k0_pay6 x2) (k0_pay7 x5) (k0_pay8 x0 wa x1 wb))
      (k0_pay10 (k0_pay1 m2) (k0_pay2 m3) (k0_pay3 m4) (k0_pay5 x0 wa x1 wb) (k0_pay6 x2) (k0_pay7 x5) (k0_pay8 x0 wa x1 wb) x6)
      (k0_pay11 (k0_pay1 m2) (k0_pay2 m3) (k0_pay3 m4) (k0_pay5 x0 wa x1 wb) (k0_pay6 x2) (k0_pay7 x5) (k0_pay8 x0 wa x1 wb) x6 g0 u0)
      d0 g1 u1 d1 x9 (ix3 0 r n)
      = FfnRow.out (fun k => x0 (ix3 0 r k)) (fun k => x1 (ix3 0 r k)) (fun l => x2 (ix3 0 r l)) mod wo
          (fun l => x5 (ix2 0 l)) (fun l => x6 (ix2 0 l)) w d (fun l => x9 (ix2 0 l)) n := by
  have e1 : ∀ l, k0_pay1 (F := Ideal) m2 (ix2 0 l) = mod 2 l := fun l => by pointwise [k0_pay1, hm2]
  have e2 : ∀ l, k0_pay2 (F := Ideal) m3 (ix2 0 l) = mod 3 l := fun l => by pointwise [k0_pay2, hm3]
  have e3 : ∀ l, k0_pay3 (F := Ideal) m4 (ix2 0 l) = mod 4 l := fun l => by pointwise [k0_pay3, hm4]
  have e4 : ∀ l, k0_pay4 (F := Ideal) m5 (ix2 0 l) = mod 5 l := fun l => by pointwise [k0_pay4, hm5]
  have e6 : ∀ l, k0_pay6 (F := Ideal) x2 (ix2 r l) = x2 (ix3 0 r l) := fun l => by pointwise [k0_pay6]
  have e7 : ∀ l, k0_pay7 (F := Ideal) x5 (ix2 0 l) = x5 (ix2 0 l) := fun l => by pointwise [k0_pay7]
  rw [pay12_at _ _ _ _ _ _ _ _ _ w d r (pay11_at _ _ _ _ _ _ _ _ _ _ w hg0 hu0 r) hg1 hu1 hd0 hd1 n]
  simp only [pay10_at, pay9_at _ _ _ _ _ r (pay8_at x0 wa x1 wb r), pay5_at x0 wa x1 wb wo hwa hwb, e1, e2, e3, e4, e6, e7]
  rfl

/-- The tile at a row, over the staged blocks. -/
theorem tile_at (x0 x1 : FVec Ideal S1x512x512 .bf16) (x2 : FVec Ideal S1x512x1024 .f32) (x3 : FVec Ideal S1x6x1024 .f32)
    (x4 : FVec Ideal S1x1024x1024 .bf16) (x5 x6 : FVec Ideal S1x1024 .f32) (x7 : FVec Ideal S1x1024x5632 .bf16)
    (x8 : FVec Ideal S1x2816x1024 .bf16) (x9 : FVec Ideal S1x1024 .f32) (r : Fin 512) (n : Fin 1024) :
    out0_10 (F := Ideal) x0 x1 x2 x3 x4 x5 x6 x7 x8 x9 (ix3 0 r n)
      = FfnRow.out (fun k => x0 (ix3 0 r k)) (fun k => x1 (ix3 0 r k)) (fun l => x2 (ix3 0 r l)) (fun k l => x3 (ix3 0 k l)) (fun k l => x4 (ix3 0 k l))
          (fun l => x5 (ix2 0 l)) (fun l => x6 (ix2 0 l)) (fun k l => x7 (ix3 0 k l)) (fun k l => x8 (ix3 0 k l)) (fun l => x9 (ix2 0 l)) n := by
  unfold_out out0_10
  frame_out
  refine tile_core _ _ _ _ _ _ _ _ _ _ _ _ _ _ _ _ _ _ (fun k l => x3 (ix3 0 k l)) (fun k l => x4 (ix3 0 k l)) (fun k l => x7 (ix3 0 k l))
    (fun k l => x8 (ix3 0 k l)) ?_ ?_ ?_ ?_ ?_ ?_ ?_ ?_ ?_ ?_ ?_ ?_ r n <;> intros <;> pointwise []
  all_goals blk_ext []

/-- Where every window of a grid point lies. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![0, 0, 0]
    ∧ win0_5.index t = ![0, 0] ∧ win0_6.index t = ![0, 0] ∧ win0_7.index t = ![0, 0, 0] ∧ win0_8.index t = ![0, 0, 0] ∧ win0_9.index t = ![0, 0]
    ∧ win0_10.index t = ![t.val / 4, t.val % 4, 0] ∧ t.val < 64 := (by decide +kernel : ∀ t : Fin grid0.N, _)

variable (m : (ℓ : Loc nD τ sig) → Buf (Elt Ideal) ℓ)

/-- The reference's result, of the kernel's arguments. -/
def REF (c : Dev nD) : FVec Ideal S16x2048x1024 .f32 :=
  Cert.FfnRefIdeal.Hand.outN (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))

/-- The place of row `r` of the tile that point `t` writes. -/
def row (t : Fin cfg0.N) (r : Fin 512) : Fin 2048 := ⟨t.val % 4 * 512 + r.val, by omega⟩
/-- The batch of the tile that point `t` writes. -/
def bat (t : Fin cfg0.N) : Fin 16 := ⟨t.val / 4, by have := (idx t).2.2.2.2.2.2.2.2.2.2.2; omega⟩

set_option maxHeartbeats 1600000 in
/-- The tile that point `t` writes, at a row. -/
theorem point (c : Dev nD) (t : Fin cfg0.N) (r : Fin 512) (n : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
      = REF m c (ix3 (bat t) (row t r) n) := by
  refine (tile_at _ _ _ _ _ _ _ _ _ _ r n).trans (Eq.trans ?_ (Cert.FfnRefIdeal.Hand.outN_at _ _ _ _ _ _ _ _ _ _ (bat t) (row t r) n).symm)
  have h0 : (fun k : Fin 512 => (iblk m c 0 t : FVec Ideal S1x512x512 .bf16) (ix3 0 r k)) = fun k => m ((c.tc : Thread nD τ).loc main_arg0) (ix3 (bat t) (row t r) k) := by
    funext k; blk_ext [iblk, V, idx t, bat, row]
  have h1 : (fun k : Fin 512 => (iblk m c 1 t : FVec Ideal S1x512x512 .bf16) (ix3 0 r k)) = fun k => m ((c.tc : Thread nD τ).loc main_arg1) (ix3 (bat t) (row t r) k) := by
    funext k; blk_ext [iblk, V, idx t, bat, row]
  have h2 : (fun k : Fin 1024 => (iblk m c 2 t : FVec Ideal S1x512x1024 .f32) (ix3 0 r k)) = fun k => m ((c.tc : Thread nD τ).loc main_arg2) (ix3 (bat t) (row t r) k) := by
    funext k; blk_ext [iblk, V, idx t, bat, row]
  have h3 : (fun (k : Fin 6) (l : Fin 1024) => (iblk m c 3 t : FVec Ideal S1x6x1024 .f32) (ix3 0 k l)) = fun k l => m ((c.tc : Thread nD τ).loc main_arg3) (ix3 (bat t) k l) := by
    funext k l; blk_ext [iblk, V, idx t, bat, row]
  have h4 : (fun (k l : Fin 1024) => (iblk m c 4 t : FVec Ideal S1x1024x1024 .bf16) (ix3 0 k l)) = fun k l => m ((c.tc : Thread nD τ).loc main_arg4) (ix3 0 k l) := by
    funext k l; blk_simp [iblk, idx t]; entry_read; pointwise []; blk_ext [idx t]
  have h5 : (fun (l : Fin 1024) => (iblk m c 5 t : FVec Ideal S1x1024 .f32) (ix2 0 l)) = fun l => m ((c.tc : Thread nD τ).loc main_arg5) (ix2 0 l) := by
    funext l; blk_simp [iblk, idx t]; entry_read; pointwise []; blk_ext [idx t]
  have h6 : (fun (l : Fin 1024) => (iblk m c 6 t : FVec Ideal S1x1024 .f32) (ix2 0 l)) = fun l => m ((c.tc : Thread nD τ).loc main_arg6) (ix2 0 l) := by
    funext l; blk_simp [iblk, idx t]; entry_read; pointwise []; blk_ext [idx t]
  have h7 : (fun (k : Fin 1024) (l : Fin 5632) => (iblk m c 7 t : FVec Ideal S1x1024x5632 .bf16) (ix3 0 k l)) = fun k l => m ((c.tc : Thread nD τ).loc main_arg7) (ix3 0 k l) := by
    funext k l; blk_simp [iblk, idx t]; entry_read; pointwise []; blk_ext [idx t]
  have h8 : (fun (k : Fin 2816) (l : Fin 1024) => (iblk m c 8 t : FVec Ideal S1x2816x1024 .bf16) (ix3 0 k l)) = fun k l => m ((c.tc : Thread nD τ).loc main_arg8) (ix3 0 k l) := by
    funext k l; blk_simp [iblk, idx t]; entry_read; pointwise []; blk_ext [idx t]
  have h9 : (fun (l : Fin 1024) => (iblk m c 9 t : FVec Ideal S1x1024 .f32) (ix2 0 l)) = fun l => m ((c.tc : Thread nD τ).loc main_arg9) (ix2 0 l) := by
    funext l; blk_simp [iblk, idx t]; entry_read; pointwise []; blk_ext [idx t]
  rw [h0, h1, h2, h3, h4, h5, h6, h7, h8, h9]

/-- The tile that point `t` writes is the reference's result at its place. -/
theorem point_emb (c : Dev nD) (t : Fin cfg0.N) (y : S1x512x1024.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = REF m c (((cfg0.win 10).blk t).view.emb y) := by
  have hy : y = ix3 0 (y 1) (y 2) := by funext a; match a with | ⟨0, _⟩ => exact Subsingleton.elim (α := Fin 1) _ _ | ⟨1, _⟩ => rfl | ⟨2, _⟩ => rfl
  rw [hy]
  refine (point m c t (y 1) (y 2)).trans ?_
  blk_ext [idx t, bat, row]

/-- The kernel's final array. -/
theorem final (c : Dev nD) : (dats m 0 c).arrAt 10 (cfgs 0).N = REF m c := by
  refine (dats m 0 c).arrAt_eq_of_covers 10 _ (by decide +kernel) fun t _ y => ?_
  blk_simp
  rw [after0_10]
  exact point_emb m c t y

end Cert.FfnIdeal.Tile

end
-- ==== Proof.InpRow.lean ====
/- One row of the input projection, as plain formulas over the extended reals: the modulated norm, the projected
   columns, the latent query, the rotation, the short convolution and the gates. Both programs are read at these. -/
module

public import proofs.«01_k».proof.Proof.FfnRow
public import Idealize.ShloMosaic.Lib.Pointwise

@[expose] public section

noncomputable section

namespace Cert.InpRow

open Idealize.ShloMosaic

/-- Column `j` of the projection of a row. -/
def col (h : Fin 1024 → EReal) (W : Fin 1024 → Fin 3408 → EReal) (j : Fin 3408) : EReal := ∑ k, h k * W k j

/-- The latent query under its RMS norm. -/
def cqn (h : Fin 1024 → EReal) (W : Fin 1024 → Fin 3408 → EReal) (q : Fin 256 → EReal) (k : Fin 256) : EReal :=
  col h W ⟨k.val, by omega⟩ * Ideal.rsqrt (Ideal.div (∑ l : Fin 256, col h W ⟨l.val, by omega⟩ * col h W ⟨l.val, by omega⟩) (Ideal.ofBits .f32 0x43800000#32) + Ideal.ofBits .f32 0x358637BD#32) * q k

/-- A head column of the latent query's up-projection. -/
def up (h : Fin 1024 → EReal) (W : Fin 1024 → Fin 3408 → EReal) (q : Fin 256 → EReal) (wq : Fin 256 → Fin 512 → EReal) (n : Fin 512) : EReal :=
  ∑ k, cqn h W q k * wq k n

/-- The other half of a head's 64 lanes. -/
def swp (n : ℕ) : ℕ := if n % 64 < 32 then n + 32 else n - 32

theorem swp_lt (n : Fin 512) : swp n.val < 512 := by unfold swp; split <;> omega
theorem swp_lt64 (n : Fin 64) : swp n.val < 64 := by unfold swp; split <;> omega

/-- The rotation of 8 heads of 64 lanes; the tables hold two heads and repeat. -/
def rope (x : Fin 512 → EReal) (c s : Fin 128 → EReal) (n : Fin 512) : EReal :=
  x n * c ⟨n.val % 128, by omega⟩ + x ⟨swp n.val, swp_lt n⟩ * s ⟨n.val % 128, by omega⟩

/-- The rotation of one head. -/
def rope64 (x : Fin 64 → EReal) (c s : Fin 128 → EReal) (n : Fin 64) : EReal :=
  x n * c ⟨n.val, by omega⟩ + x ⟨swp n.val, swp_lt64 n⟩ * s ⟨n.val, by omega⟩

/-- The short causal convolution with its bias: `p t` is the input three minus `t` positions back. -/
def conv (b : EReal) (w p : Fin 4 → EReal) : EReal := b + w 0 * p 0 + w 1 * p 1 + w 2 * p 2 + w 3 * p 3

/-- SiLU. -/
def silu (v : EReal) : EReal := v * Ideal.logistic v

/-- The log-sigmoid: `min x 0 - log (1 + exp (-|x|))`. -/
def logsig (x : EReal) : EReal := min x 0 - Ideal.log1p (Ideal.exp (0 - FloatOps.absf (F := Ideal) (φ := .f32) x))

/-- The arguments that the results read: the first layer's weights, the modulation and the rotation tables. -/
structure Args where
  x : Fin 16 → Fin 2048 → Fin 1024 → EReal
  mo : Fin 16 → Fin 6 → Fin 1024 → EReal
  nw : Fin 1024 → EReal
  w : Fin 1024 → Fin 3408 → EReal
  q : Fin 256 → EReal
  u : Fin 256 → Fin 512 → EReal
  v : Fin 256 → Fin 512 → EReal
  cw : Fin 4 → Fin 1024 → EReal
  cb : Fin 1024 → EReal
  bi : Fin 4 → EReal
  bf : Fin 4 → EReal
  c : Fin 16 → Fin 2048 → Fin 128 → EReal
  s : Fin 16 → Fin 2048 → Fin 128 → EReal

variable (A : Args) (b : Fin 16) (p : Fin 2048)

/-- The modulated pre-norm of a position. -/
def hr : Fin 1024 → EReal := FfnRow.pre (A.x b p) A.nw (A.mo b 1) (A.mo b 0)
/-- A projected column of a position. -/
def pc (j : Fin 3408) : EReal := col (hr A b p) A.w j
/-- The scaled query. -/
def sQ (n : Fin 512) : EReal := rope (up (hr A b p) A.w A.q A.u) (A.c b p) (A.s b p) n * Ideal.ofBits .f32 0x3E38AA3B#32
/-- The indexer's query. -/
def sQI (n : Fin 512) : EReal := rope (up (hr A b p) A.w A.q A.v) (A.c b p) (A.s b p) n
/-- The key. -/
def sK (n : Fin 512) : EReal := rope (fun j => pc A b p ⟨256 + j.val, by omega⟩) (A.c b p) (A.s b p) n
/-- The value. -/
def sV (n : Fin 512) : EReal := pc A b p ⟨768 + n.val, by omega⟩
/-- The indexer's key. -/
def sKI (n : Fin 64) : EReal := rope64 (fun j => pc A b p ⟨1280 + j.val, by omega⟩) (A.c b p) (A.s b p) n
/-- The indexer's head weight. -/
def sW (n : Fin 8) : EReal := pc A b p ⟨1344 + n.val, by omega⟩ * Ideal.ofBits .f32 0x3D3504F3#32
/-- The input gates and the log forget gates. -/
def sG (n : Fin 8) : EReal :=
  if h : n.val < 4 then pc A b p ⟨3400 + n.val, by omega⟩ + A.bi ⟨n.val, h⟩ else logsig (pc A b p ⟨3400 + n.val, by omega⟩ + A.bf ⟨n.val - 4, by omega⟩)
/-- The convolution's input, `3 - t` positions back. -/
def past (n : Fin 1024) (t : Fin 4) : EReal := if h : 3 ≤ p.val + t.val then pc A b ⟨p.val + t.val - 3, by omega⟩ ⟨1352 + n.val, by omega⟩ else 0
/-- The convolution under SiLU. -/
def sC (n : Fin 1024) : EReal := silu (conv (A.cb n) (fun t => A.cw t n) (past A b p n))
/-- The recurrent layer's scaled query. -/
def sQM (n : Fin 512) : EReal := sC A b p ⟨n.val, by omega⟩ * Ideal.ofBits .f32 0x3DB504F3#32
/-- The recurrent layer's key. -/
def sKM (n : Fin 512) : EReal := sC A b p ⟨512 + n.val, by omega⟩
/-- The recurrent layer's value. -/
def sVM (n : Fin 512) : EReal := pc A b p ⟨2376 + n.val, by omega⟩
/-- The recurrent layer's output gate. -/
def sO (n : Fin 512) : EReal := pc A b p ⟨2888 + n.val, by omega⟩
/-- The queries of a tile of positions, two heads to a block-diagonal square. -/
def sT (tl : Fin 4) (g : Fin 4) (e : Fin 128) (j : Fin 1024) : EReal :=
  if e.val / 64 = j.val / 512 then sQ A b ⟨tl.val * 512 + j.val % 512, by omega⟩ ⟨g.val * 128 + e.val, by omega⟩ else 0
/-- The indexer's queries of a tile of positions, head after head. -/
def sTI (tl : Fin 4) (e : Fin 64) (j : Fin 4096) : EReal :=
  sQI A b ⟨tl.val * 512 + j.val % 512, by omega⟩ ⟨j.val / 512 * 64 + e.val, by omega⟩

end Cert.InpRow

end
-- ==== Proof.InpKern.lean ====
/- The input projection's stored values, read one entry at a time. -/
module

public import proofs.«01_k».proof.Proof.InpRow
public import proofs.«01_k».proof.Proof.Gen.InpIdeal.Skeleton
public import Idealize.ShloMosaic.Lib.Pointwise

@[expose] public section

set_option maxRecDepth 16384

noncomputable section

namespace Cert.InpIdeal.Tile

open Cert.InpIdeal Cert.InpIdeal.Gen Cert.InpRow Idealize.ShloMosaic Idealize.ShloMosaic.TcCoe Idealize.SL.Sem

/-- Bit 5 of a lane number says which half of a head it is in. -/
theorem bit5 : ∀ n : Fin 512, IntOp.cmpi .eq (IntOp.andi (BitVec.ofNat 32 n.val) 32#32) 0#32 = if n.val % 64 < 32 then 1#1 else 0#1 := by decide +kernel

theorem sel_half (n : Fin 512) (a b : EReal) : Scalar.select (IntOp.cmpi .eq (IntOp.andi (BitVec.ofNat 32 n.val) 32#32) 0#32) a b = if n.val % 64 < 32 then a else b := by
  rw [bit5]; by_cases h : n.val % 64 < 32 <;> simp [h, Scalar.select]

theorem swap512 (n : Fin 512) (f : Fin 512 → EReal) (h1 : (n.val + 512 - 480) % 512 < 512) (h2 : (n.val + 512 - 32) % 512 < 512) :
    Scalar.select (IntOp.cmpi .eq (IntOp.andi (BitVec.ofNat 32 n.val) 32#32) 0#32) (f ⟨(n.val + 512 - 480) % 512, h1⟩) (f ⟨(n.val + 512 - 32) % 512, h2⟩) = f ⟨swp n.val, swp_lt n⟩ := by
  rw [sel_half]
  by_cases h : n.val % 64 < 32
  · rw [if_pos h]; congr 1; ext; simp only [swp, if_pos h]; omega
  · rw [if_neg h]; congr 1; ext; simp only [swp, if_neg h]; omega

theorem swap64 (n : Fin 64) (f : Fin 128 → EReal) (h1 : (n.val + 128 - 96) % 128 < 128) (h2 : (n.val + 128 - 32) % 128 < 128) :
    Scalar.select (IntOp.cmpi .eq (IntOp.andi (BitVec.ofNat 32 n.val) 32#32) 0#32) (f ⟨(n.val + 128 - 96) % 128, h1⟩) (f ⟨(n.val + 128 - 32) % 128, h2⟩) = f ⟨swp n.val, by have := swp_lt64 n; omega⟩ := by
  rw [sel_half ⟨n.val, by omega⟩]
  by_cases h : n.val % 64 < 32
  · rw [if_pos h]; congr 1; ext; simp only [swp, if_pos h]; omega
  · rw [if_neg h]; congr 1; ext; simp only [swp, if_neg h]; omega

theorem pay3_at (v3 : FVec Ideal S1x512x1024 .f32) (v5 v7 : FVec Ideal S1x1x1024 .f32) (v9 : FVec Ideal S1x1024 .f32) (r : Fin 512) (n : Fin 1024) :
    k0_pay3 (F := Ideal) v3 v5 v7 v9 (ix2 r n)
      = FfnRow.pre (fun l => v3 (ix3 0 r l)) (fun l => v9 (ix2 0 l)) (fun l => v7 (ix3 0 0 l)) (fun l => v5 (ix3 0 0 l)) n := by
  pointwise [k0_pay3, FfnRow.pre, FfnRow.rms]

theorem pay6_at (v : FVec Ideal S1x512x128 .f32) (r n : Fin 512) :
    k0_pay6 (F := Ideal) (k0_pay4 v) (ix2 r n) = v (ix3 0 r ⟨n.val % 128, by omega⟩) := by
  pointwise [k0_pay6, k0_pay4]
  have e : ∀ j (h : j < 128), j = n.val % 128 → v (ix3 0 r ⟨j, h⟩) = v (ix3 0 r ⟨n.val % 128, by omega⟩) := fun j h h' => by subst h'; rfl
  by_cases h1 : n.val < 128
  · rw [dif_pos h1]; exact e _ _ (by omega)
  · rw [dif_neg h1]
    by_cases h2 : n.val - 128 < 128
    · rw [dif_pos h2]; exact e _ _ (by omega)
    · rw [dif_neg h2]
      by_cases h3 : n.val - 128 - 128 < 128
      · rw [dif_pos h3]; exact e _ _ (by omega)
      · rw [dif_neg h3]; exact e _ _ (by omega)

theorem pay7_at (v : FVec Ideal S1x512x128 .f32) (r n : Fin 512) :
    k0_pay7 (F := Ideal) (k0_pay5 v) (ix2 r n) = v (ix3 0 r ⟨n.val % 128, by omega⟩) := pay6_at v r n

theorem pay8_at (h : FVec Ideal S512x1024 .bf16) (w : FVec Ideal S1x1024x256 .bf16) (q : FVec Ideal S1x256 .f32) (wq : FVec Ideal S1x256x1024 .bf16)
    (W : Fin 1024 → Fin 3408 → EReal) (hw : ∀ k (j : Fin 256), w (ix3 0 k j) = W k ⟨j.val, by omega⟩) (r : Fin 512) (n : Fin 1024) :
    k0_pay8 (F := Ideal) h w q wq (ix2 r n) = ∑ k, cqn (fun l => h (ix2 r l)) W (fun k => q (ix2 0 k)) k * wq (ix3 0 k n) := by
  pointwise [k0_pay8, cqn, col, hw]

/-- The queries, scaled, one row for each column of the heads. -/
theorem pay9_at (h : FVec Ideal S512x1024 .bf16) (c s : FVec Ideal S1x512x128 .f32) (w : FVec Ideal S1x1024x256 .bf16) (q : FVec Ideal S1x256 .f32) (wq : FVec Ideal S1x256x1024 .bf16)
    (W : Fin 1024 → Fin 3408 → EReal) (hw : ∀ k (j : Fin 256), w (ix3 0 k j) = W k ⟨j.val, by omega⟩) (U : Fin 256 → Fin 512 → EReal)
    (hU : ∀ k (j : Fin 512), wq (ix3 0 k ⟨j.val, by omega⟩) = U k j) (n r : Fin 512) :
    k0_pay9 (F := Ideal) h (k0_pay4 c) (k0_pay5 s) w q wq (ix2 n r)
      = rope (up (fun l => h (ix2 r l)) W (fun k => q (ix2 0 k)) U) (fun l => c (ix3 0 r l)) (fun l => s (ix3 0 r l)) n * Ideal.ofBits .f32 0x3E38AA3B#32 := by
  pointwise [k0_pay9, pay6_at c r n, pay7_at s r n, pay8_at h w q wq W hw, hU]
  simp only [rope, up, ← hU]
  exact congrArg (fun z => ((∑ k, cqn (fun l => h (ix2 r l)) W (fun k => q (ix2 0 k)) k * wq (ix3 0 k ⟨n.val, by omega⟩)) * c (ix3 0 r ⟨n.val % 128, by omega⟩) + z * s (ix3 0 r ⟨n.val % 128, by omega⟩)) * Ideal.ofBits .f32 0x3E38AA3B#32)
    (swap512 n (fun j => ∑ k, cqn (fun l => h (ix2 r l)) W (fun k => q (ix2 0 k)) k * wq (ix3 0 k ⟨j.val, by omega⟩)) (by omega) (by omega))

theorem pay10_at (h : FVec Ideal S512x1024 .bf16) (w : FVec Ideal S1x1024x256 .bf16) (q : FVec Ideal S1x256 .f32) (wq : FVec Ideal S1x256x1024 .bf16)
    (W : Fin 1024 → Fin 3408 → EReal) (hw : ∀ k (j : Fin 256), w (ix3 0 k j) = W k ⟨j.val, by omega⟩) (U : Fin 256 → Fin 512 → EReal)
    (hU : ∀ k (j : Fin 512), wq (ix3 0 k ⟨512 + j.val, by omega⟩) = U k j) (r n : Fin 512) :
    k0_pay10 (F := Ideal) h w q wq (ix2 r n) = up (fun l => h (ix2 r l)) W (fun k => q (ix2 0 k)) U n := by
  pointwise [k0_pay10, pay8_at h w q wq W hw, hU]
  simp only [up, ← hU]

/-- The indexer's queries. -/
theorem pay11_at (c s : FVec Ideal S1x512x128 .f32) (v : FVec Ideal S512x512 .f32) (n r : Fin 512) :
    k0_pay11 (F := Ideal) (k0_pay6 (k0_pay4 c)) (k0_pay7 (k0_pay5 s)) v (iota .tc S512x512 32 [1] iota_S512x512_d1_w32) 32#32 (ix2 n r)
      = rope (fun j => v (ix2 r j)) (fun l => c (ix3 0 r l)) (fun l => s (ix3 0 r l)) n := by
  pointwise [k0_pay11, pay6_at c r n, pay7_at s r n]
  exact congrArg (fun z => v (ix2 r n) * c (ix3 0 r ⟨n.val % 128, by omega⟩) + z * s (ix3 0 r ⟨n.val % 128, by omega⟩)) (swap512 n (fun j => v (ix2 r j)) (by omega) (by omega))

/-- The keys. -/
theorem pay31_at (h : FVec Ideal S512x1024 .bf16) (c s : FVec Ideal S1x512x128 .f32) (w : FVec Ideal S1x1024x512 .bf16)
    (W : Fin 1024 → Fin 3408 → EReal) (hw : ∀ k (j : Fin 512), w (ix3 0 k j) = W k ⟨256 + j.val, by omega⟩) (r n : Fin 512) :
    k0_pay31 (F := Ideal) h (k0_pay6 (k0_pay4 c)) (k0_pay7 (k0_pay5 s)) w (ix3 0 r n)
      = rope (fun j => col (fun l => h (ix2 r l)) W ⟨256 + j.val, by omega⟩) (fun l => c (ix3 0 r l)) (fun l => s (ix3 0 r l)) n := by
  pointwise [k0_pay31, pay6_at c r n, pay7_at s r n]
  rw [show (fun j : Fin 512 => col (fun l => h (ix2 r l)) W ⟨256 + j.val, by omega⟩) = fun j => ∑ x, h (ix2 r x) * w (ix3 0 x j) from funext fun j => by simp only [col, hw]]
  exact congrArg (fun z => (∑ x, h (ix2 r x) * w (ix3 0 x n)) * c (ix3 0 r ⟨n.val % 128, by omega⟩) + z * s (ix3 0 r ⟨n.val % 128, by omega⟩)) (swap512 n (fun j => ∑ x, h (ix2 r x) * w (ix3 0 x j)) (by omega) (by omega))

/-- The values, one row for each column. -/
theorem pay32_at (h : FVec Ideal S512x1024 .bf16) (w : FVec Ideal S1x1024x512 .bf16)
    (W : Fin 1024 → Fin 3408 → EReal) (hw : ∀ k (j : Fin 512), w (ix3 0 k j) = W k ⟨768 + j.val, by omega⟩) (n r : Fin 512) :
    k0_pay32 (F := Ideal) h w (ix3 0 n r) = col (fun l => h (ix2 r l)) W ⟨768 + n.val, by omega⟩ := by
  pointwise [k0_pay32, col, hw]

theorem slt (n : Fin 128) (k : ℕ) (hk : k < 128) (a b : EReal) : Scalar.select (IntOp.cmpi .slt (BitVec.ofNat 32 n.val) (BitVec.ofNat 32 k)) a b = if n.val < k then a else b := by
  have e : ∀ (n k : Fin 128), IntOp.cmpi .slt (BitVec.ofNat 32 n.val) (BitVec.ofNat 32 k.val) = if n.val < k.val then 1#1 else 0#1 := by decide +kernel
  rw [e n ⟨k, hk⟩]; by_cases h : n.val < k <;> simp [h, Scalar.select]

section misc
variable (c s : FVec Ideal S1x512x128 .f32) (h : FVec Ideal S512x1024 .bf16) (w : FVec Ideal S1x1024x128 .bf16) (gb : FVec Ideal S1x128 .f32)

/-- The lanes below 64: the indexer's key. -/
theorem misc_k (r : Fin 512) (n : Fin 64) :
    k0_pay36 (F := Ideal) (k0_pay4 c) (k0_pay5 s) (k0_pay33 h w) (iota .tc S512x128 32 [1] iota_S512x128_d1_w32) k0_pay34 (k0_pay35 h w) 32#32 gb (ix2 r ⟨n.val, by omega⟩)
      = rope64 (fun j => ∑ x, h (ix2 r x) * w (ix3 0 x ⟨j.val, by omega⟩)) (fun l => c (ix3 0 r l)) (fun l => s (ix3 0 r l)) n := by
  pointwise [k0_pay36, k0_pay33, k0_pay34, k0_pay35, k0_pay4, k0_pay5]
  rw [slt ⟨n.val, by omega⟩ 64 (by omega), if_pos (by exact n.isLt)]
  exact congrArg (fun z => (∑ x, h (ix2 r x) * w (ix3 0 x ⟨n.val, by omega⟩)) * c (ix3 0 r ⟨n.val, by omega⟩) + z * s (ix3 0 r ⟨n.val, by omega⟩))
    (swap64 n (fun j => ∑ x, h (ix2 r x) * w (ix3 0 x j)) (by omega) (by omega))

/-- Lanes 64 to 71: the indexer's weights. -/
theorem misc_w (r : Fin 512) (n : Fin 8) :
    k0_pay36 (F := Ideal) (k0_pay4 c) (k0_pay5 s) (k0_pay33 h w) (iota .tc S512x128 32 [1] iota_S512x128_d1_w32) k0_pay34 (k0_pay35 h w) 32#32 gb (ix2 r ⟨64 + n.val, by omega⟩)
      = (∑ x, h (ix2 r x) * w (ix3 0 x ⟨64 + n.val, by omega⟩)) * Ideal.ofBits .f32 0x3D3504F3#32 := by
  pointwise [k0_pay36, k0_pay33, k0_pay34, k0_pay35, k0_pay4, k0_pay5]
  rw [slt ⟨64 + n.val, by omega⟩ 64 (by omega), if_neg (by dsimp only; omega), slt ⟨64 + n.val, by omega⟩ 72 (by omega), if_pos (by dsimp only; omega)]

/-- Lanes 72 to 75: the input gates. -/
theorem misc_i (r : Fin 512) (n : Fin 4) :
    k0_pay36 (F := Ideal) (k0_pay4 c) (k0_pay5 s) (k0_pay33 h w) (iota .tc S512x128 32 [1] iota_S512x128_d1_w32) k0_pay34 (k0_pay35 h w) 32#32 gb (ix2 r ⟨72 + n.val, by omega⟩)
      = (∑ x, h (ix2 r x) * w (ix3 0 x ⟨72 + n.val, by omega⟩)) + gb (ix2 0 ⟨72 + n.val, by omega⟩) := by
  pointwise [k0_pay36, k0_pay33, k0_pay34, k0_pay35, k0_pay4, k0_pay5]
  rw [slt ⟨72 + n.val, by omega⟩ 64 (by omega), if_neg (by dsimp only; omega), slt ⟨72 + n.val, by omega⟩ 72 (by omega), if_neg (by dsimp only; omega),
    slt ⟨72 + n.val, by omega⟩ 76 (by omega), if_pos (by dsimp only; omega)]

/-- Lanes 76 to 79: the log forget gates. -/
theorem misc_f (r : Fin 512) (n : Fin 4) :
    k0_pay36 (F := Ideal) (k0_pay4 c) (k0_pay5 s) (k0_pay33 h w) (iota .tc S512x128 32 [1] iota_S512x128_d1_w32) k0_pay34 (k0_pay35 h w) 32#32 gb (ix2 r ⟨76 + n.val, by omega⟩)
      = logsig ((∑ x, h (ix2 r x) * w (ix3 0 x ⟨76 + n.val, by omega⟩)) + gb (ix2 0 ⟨76 + n.val, by omega⟩)) := by
  pointwise [k0_pay36, k0_pay33, k0_pay34, k0_pay35, k0_pay4, k0_pay5]
  rw [slt ⟨76 + n.val, by omega⟩ 64 (by omega), if_neg (by dsimp only; omega), slt ⟨76 + n.val, by omega⟩ 72 (by omega), if_neg (by dsimp only; omega),
    slt ⟨76 + n.val, by omega⟩ 76 (by omega), if_neg (by dsimp only; omega), slt ⟨76 + n.val, by omega⟩ 80 (by omega), if_pos (by dsimp only; omega)]
  rfl

theorem pay38_at (r : Fin 512) (n : Fin 64) :
    k0_pay38 (F := Ideal) (k0_pay4 c) (k0_pay5 s) (k0_pay33 h w) (iota .tc S512x128 32 [1] iota_S512x128_d1_w32) k0_pay34 (k0_pay35 h w) 32#32 gb (ix3 0 r n)
      = rope64 (fun j => ∑ x, h (ix2 r x) * w (ix3 0 x ⟨j.val, by omega⟩)) (fun l => c (ix3 0 r l)) (fun l => s (ix3 0 r l)) n := by
  refine Eq.trans ?_ (misc_k c s h w gb r n)
  pointwise [k0_pay38]

theorem pay39_at (n : Fin 8) (r : Fin 512) :
    k0_pay39 (F := Ideal) (k0_pay4 c) (k0_pay5 s) (k0_pay33 h w) (iota .tc S512x128 32 [1] iota_S512x128_d1_w32) k0_pay34 (k0_pay35 h w) 32#32 gb (ix3 0 n r)
      = (∑ x, h (ix2 r x) * w (ix3 0 x ⟨64 + n.val, by omega⟩)) * Ideal.ofBits .f32 0x3D3504F3#32 := by
  refine Eq.trans ?_ (misc_w c s h w gb r n)
  pointwise [k0_pay39, k0_pay37]

theorem pay40_at (n : Fin 8) (r : Fin 512) :
    k0_pay40 (F := Ideal) (k0_pay37 (k0_pay4 c) (k0_pay5 s) (k0_pay33 h w) (iota .tc S512x128 32 [1] iota_S512x128_d1_w32) k0_pay34 (k0_pay35 h w) 32#32 gb) (ix3 0 n r)
      = if hn : n.val < 4 then (∑ x, h (ix2 r x) * w (ix3 0 x ⟨72 + n.val, by omega⟩)) + gb (ix2 0 ⟨72 + n.val, by omega⟩)
        else logsig ((∑ x, h (ix2 r x) * w (ix3 0 x ⟨72 + n.val, by omega⟩)) + gb (ix2 0 ⟨72 + n.val, by omega⟩)) := by
  have e : k0_pay40 (F := Ideal) (k0_pay37 (k0_pay4 c) (k0_pay5 s) (k0_pay33 h w) (iota .tc S512x128 32 [1] iota_S512x128_d1_w32) k0_pay34 (k0_pay35 h w) 32#32 gb) (ix3 0 n r)
      = k0_pay36 (F := Ideal) (k0_pay4 c) (k0_pay5 s) (k0_pay33 h w) (iota .tc S512x128 32 [1] iota_S512x128_d1_w32) k0_pay34 (k0_pay35 h w) 32#32 gb (ix2 r ⟨72 + n.val, by omega⟩) := by
    pointwise [k0_pay40, k0_pay37]
  rw [e]
  by_cases hn : n.val < 4
  · rw [dif_pos hn]; exact misc_i c s h w gb r ⟨n.val, hn⟩
  · rw [dif_neg hn]
    have e2 : (⟨72 + n.val, by omega⟩ : Fin 128) = ⟨76 + (n.val - 4), by omega⟩ := by ext; dsimp only; omega
    rw [e2]
    exact misc_f c s h w gb r ⟨n.val - 4, by omega⟩
end misc

/-- The convolution's input columns. -/
theorem pay41_at (h : FVec Ideal S512x1024 .bf16) (w : FVec Ideal S1x1024x1024 .bf16)
    (W : Fin 1024 → Fin 3408 → EReal) (hw : ∀ k (j : Fin 1024), w (ix3 0 k j) = W k ⟨1352 + j.val, by omega⟩) (r : Fin 512) (n : Fin 1024) :
    k0_pay41 (F := Ideal) h w (ix2 r n) = col (fun l => h (ix2 r l)) W ⟨1352 + n.val, by omega⟩ := by
  pointwise [k0_pay41, col, hw]

/-- The convolution under SiLU, over the kept rows. -/
theorem pay44_at (cb w0 w1 w2 w3 : FVec Ideal S1x1024 .f32) (hist : FVec Ideal S520x1024 .f32) (w : Fin 4 → EReal) (p : Fin 4 → EReal) (r : Fin 512) (n : Fin 1024)
    (h0 : w0 (ix2 0 n) = w 0) (h1 : w1 (ix2 0 n) = w 1) (h2 : w2 (ix2 0 n) = w 2) (h3 : w3 (ix2 0 n) = w 3)
    (hp : ∀ t : Fin 4, hist (ix2 ⟨5 + r.val + t.val, by omega⟩ n) = p t) :
    k0_pay44 (F := Ideal) hist (k0_pay42 cb hist w0 w1 w2) w3 (ix2 r n) = silu (conv (cb (ix2 0 n)) w p) := by
  pointwise [k0_pay44, k0_pay42, h0, h1, h2, h3]
  have e : ∀ (t : Fin 4) j (h : j < 520), j = 5 + r.val + t.val → hist (ix2 ⟨j, h⟩ n) = p t := fun t j h h' => by subst h'; exact hp t
  rw [e 0 _ _ (by dsimp only [Fin.val_zero]; omega), e 1 _ _ (by show _ = 5 + r.val + 1; omega), e 2 _ _ (by show _ = 5 + r.val + 2; omega), e 3 _ _ (by show _ = 5 + r.val + 3; omega)]
  rfl

theorem pay45_at (hist : FVec Ideal S520x1024 .f32) (v : FVec Ideal S512x1024 .f32) (w : FVec Ideal S1x1024 .f32) (r n : Fin 512) :
    k0_pay45 (F := Ideal) hist v w (ix3 0 r n) = k0_pay44 (F := Ideal) hist v w (ix2 r ⟨n.val, by omega⟩) * Ideal.ofBits .f32 0x3DB504F3#32 := by
  pointwise [k0_pay45]

theorem pay46_at (hist : FVec Ideal S520x1024 .f32) (v : FVec Ideal S512x1024 .f32) (w : FVec Ideal S1x1024 .f32) (r n : Fin 512) :
    k0_pay46 (F := Ideal) hist v w (ix3 0 r n) = k0_pay44 (F := Ideal) hist v w (ix2 r ⟨512 + n.val, by omega⟩) := by
  pointwise [k0_pay46]

theorem pay47_at (h : FVec Ideal S512x1024 .bf16) (w : FVec Ideal S1x1024x512 .bf16)
    (W : Fin 1024 → Fin 3408 → EReal) (hw : ∀ k (j : Fin 512), w (ix3 0 k j) = W k ⟨2376 + j.val, by omega⟩) (r n : Fin 512) :
    k0_pay47 (F := Ideal) h w (ix3 0 r n) = col (fun l => h (ix2 r l)) W ⟨2376 + n.val, by omega⟩ := by
  pointwise [k0_pay47, col, hw]

theorem pay1_at (h : FVec Ideal S512x1024 .bf16) (w : FVec Ideal S1024x512 .bf16)
    (W : Fin 1024 → Fin 3408 → EReal) (hw : ∀ k (j : Fin 512), w (ix2 k j) = W k ⟨2888 + j.val, by omega⟩) (r n : Fin 512) :
    k0_pay1 (F := Ideal) h w (ix3 0 r n) = col (fun l => h (ix2 r l)) W ⟨2888 + n.val, by omega⟩ := by
  pointwise [k0_pay1, col, hw]

end Cert.InpIdeal.Tile

end
-- ==== Proof.InpHost.lean ====
/- What the input projection's kernel finds in its blocks: the arguments at the places of a grid point, and the host line's
   rearranged weights and gate biases. -/
module

public import proofs.«01_k».proof.Proof.InpKern
public import proofs.«01_k».proof.Proof.Gen.InpIdeal.Frame
public import Idealize.ShloMosaic.Lib.Pipeline.ValueKit
public import Idealize.ShloMosaic.Lib.Routing.OpsPair

@[expose] public section

set_option maxRecDepth 16384

noncomputable section

namespace Cert.InpIdeal.Tile

open Cert.InpIdeal Cert.InpIdeal.Gen Cert.InpRow Idealize.ShloMosaic Idealize.ShloMosaic.TcCoe Idealize.SL.Sem

theorem idx : ∀ t : Fin cfg0.N, win0_0.index t = ![t.val / 4, t.val % 4, 0] ∧ win0_1.index t = ![t.val / 4, 0, 0]
    ∧ win0_2.index t = ![0, 0] ∧ win0_3.index t = ![0, 0, 0] ∧ win0_4.index t = ![0, 0]
    ∧ win0_5.index t = ![0, 0, 0] ∧ win0_6.index t = ![0, 0] ∧ win0_7.index t = ![0, 0] ∧ win0_8.index t = ![0, 0]
    ∧ win0_9.index t = ![t.val / 4, t.val % 4, 0] ∧ win0_10.index t = ![t.val / 4, t.val % 4, 0] ∧ t.val < 64 := (by decide +kernel : ∀ t : Fin grid0.N, _)
theorem idx' : ∀ t : Fin cfg0.N, win0_11.index t = ![t.val / 4, t.val % 4, 0, 0, 0] ∧ win0_12.index t = ![t.val / 4, t.val % 4, 0, 0]
    ∧ win0_13.index t = ![t.val / 4, t.val % 4, 0] ∧ win0_14.index t = ![t.val / 4, 0, t.val % 4] ∧ win0_15.index t = ![t.val / 4, t.val % 4, 0]
    ∧ win0_16.index t = ![t.val / 4, 0, t.val % 4] ∧ win0_17.index t = ![t.val / 4, 0, t.val % 4] ∧ win0_18.index t = ![t.val / 4, t.val % 4, 0]
    ∧ win0_19.index t = ![t.val / 4, t.val % 4, 0] ∧ win0_20.index t = ![t.val / 4, t.val % 4, 0] ∧ win0_21.index t = ![t.val / 4, t.val % 4, 0] := (by decide +kernel : ∀ t : Fin grid0.N, _)

variable (m : (ℓ : Loc nD τ sig) → Buf (Elt Ideal) ℓ)

/-- The place of row `r` of the tile that point `t` writes. -/
def row (t : Fin cfg0.N) (r : Fin 512) : Fin 2048 := ⟨t.val % 4 * 512 + r.val, by omega⟩
/-- The batch of the tile that point `t` writes. -/
def bat (t : Fin cfg0.N) : Fin 16 := ⟨t.val / 4, by have := (idx t).2.2.2.2.2.2.2.2.2.2.2; omega⟩

theorem b0 (c : Dev nD) (t : Fin cfg0.N) (r : Fin 512) (l : Fin 1024) : (iblk m c 0 t : FVec Ideal S1x512x1024 .f32) (ix3 0 r l) = m ((c.tc : Thread nD τ).loc main_arg0) (ix3 (bat t) (row t r) l) := by
  blk_ext [iblk, V, idx t, bat, row]
theorem b1 (c : Dev nD) (t : Fin cfg0.N) (r : Fin 6) (l : Fin 1024) : (iblk m c 1 t : FVec Ideal S1x6x1024 .f32) (ix3 0 r l) = m ((c.tc : Thread nD τ).loc main_arg1) (ix3 (bat t) r l) := by
  blk_ext [iblk, V, idx t, bat, row]
theorem b2 (c : Dev nD) (t : Fin cfg0.N) (l : Fin 1024) : (iblk m c 2 t : FVec Ideal S1x1024 .f32) (ix2 0 l) = m ((c.tc : Thread nD τ).loc main_arg2) (ix2 0 l) := by
  blk_simp [iblk, idx t]; entry_read; pointwise []; blk_ext [idx t]
theorem b4 (c : Dev nD) (t : Fin cfg0.N) (l : Fin 256) : (iblk m c 4 t : FVec Ideal S1x256 .f32) (ix2 0 l) = m ((c.tc : Thread nD τ).loc main_arg4) (ix2 0 l) := by
  blk_simp [iblk, idx t]; entry_read; pointwise []; blk_ext [idx t]
theorem b7 (c : Dev nD) (t : Fin cfg0.N) (l : Fin 1024) : (iblk m c 7 t : FVec Ideal S1x1024 .f32) (ix2 0 l) = m ((c.tc : Thread nD τ).loc main_arg8) (ix2 0 l) := by
  blk_simp [iblk, idx t]; entry_read; pointwise []; blk_ext [idx t]
theorem b9 (c : Dev nD) (t : Fin cfg0.N) (r : Fin 512) (l : Fin 128) : (iblk m c 9 t : FVec Ideal S1x512x128 .f32) (ix3 0 r l) = m ((c.tc : Thread nD τ).loc main_arg11) (ix3 (bat t) (row t r) l) := by
  blk_ext [iblk, V, idx t, bat, row]
theorem b10 (c : Dev nD) (t : Fin cfg0.N) (r : Fin 512) (l : Fin 128) : (iblk m c 10 t : FVec Ideal S1x512x128 .f32) (ix3 0 r l) = m ((c.tc : Thread nD τ).loc main_arg12) (ix3 (bat t) (row t r) l) := by
  blk_ext [iblk, V, idx t, bat, row]
theorem b6 (c : Dev nD) (t : Fin cfg0.N) (k : Fin 4) (l : Fin 1024) : (iblk m c 6 t : FVec Ideal S4x1024 .f32) (ix2 k l) = m ((c.tc : Thread nD τ).loc main_arg7) (ix3 0 k l) := by
  blk_simp [iblk, idx t]; entry_read; pointwise []; blk_ext [idx t]
theorem b5 (c : Dev nD) (t : Fin cfg0.N) (k : Fin 256) (l : Fin 1024) : (iblk m c 5 t : FVec Ideal S1x256x1024 .bf16) (ix3 0 k l) = V m c main_v16 (ix3 0 k l) := by
  blk_ext [iblk, idx t]
theorem b3 (c : Dev nD) (t : Fin cfg0.N) (k : Fin 1024) (l : Fin 3456) : (iblk m c 3 t : FVec Ideal S1x1024x3456 .bf16) (ix3 0 k l) = V m c main_v14 (ix3 0 k l) := by
  blk_ext [iblk, idx t]
theorem b8 (c : Dev nD) (t : Fin cfg0.N) (l : Fin 128) : (iblk m c 8 t : FVec Ideal S1x128 .f32) (ix2 0 l) = V m c main_v29 (ix2 0 l) := by
  blk_ext [iblk, idx t]
theorem b5a (c : Dev nD) (k : Fin 256) (l : Fin 512) : V m c main_v16 (ix3 0 k ⟨l.val, by omega⟩) = m ((c.tc : Thread nD τ).loc main_arg5) (ix3 0 k l) := by
  entry_read; pointwise []
theorem b5b (c : Dev nD) (k : Fin 256) (l : Fin 512) : V m c main_v16 (ix3 0 k ⟨512 + l.val, by omega⟩) = m ((c.tc : Thread nD τ).loc main_arg6) (ix3 0 k l) := by
  entry_read; pointwise []

/-- The columns the kernel's host line gathers for its narrow block. -/
def cat5 (a : FVec Ideal S2x1024x3408 .f32) : FVec Ideal S2x1024x128 .f32 :=
  concatenate S2x1024x128 2 [⟨S2x1024x64, extractStridedSlice S2x1024x64 ![0, 0, 1280] a slices_S2x1024x3408_S2x1024x64_0_0_1280⟩,
    ⟨S2x1024x8, extractStridedSlice S2x1024x8 ![0, 0, 1344] a slices_S2x1024x3408_S2x1024x8_0_0_1344⟩,
    ⟨S2x1024x4, extractStridedSlice S2x1024x4 ![0, 0, 3400] a slices_S2x1024x3408_S2x1024x4_0_0_3400⟩,
    ⟨S2x1024x4, extractStridedSlice S2x1024x4 ![0, 0, 3404] a slices_S2x1024x3408_S2x1024x4_0_0_3404⟩,
    ⟨S2x1024x48, broadcastInDim S2x1024x48 ![] bcast_S_S2x1024x48 (constant S_ FTy.f32 0#32)⟩] concatenates_S2x1024x64_S2x1024x8_S2x1024x4_S2x1024x4_S2x1024x48_S2x1024x128_d2

/-- The columns of the projection in the order of the kernel's weight block. -/
def cat8 (a : FVec Ideal S2x1024x3408 .f32) (b : FVec Ideal S2x1024x128 .f32) : FVec Ideal S2x1024x3456 .f32 :=
  concatenate S2x1024x3456 2 [⟨S2x1024x256, extractStridedSlice S2x1024x256 ![0, 0, 0] a slices_S2x1024x3408_S2x1024x256_0_0_0⟩,
    ⟨S2x1024x512, extractStridedSlice S2x1024x512 ![0, 0, 256] a slices_S2x1024x3408_S2x1024x512_0_0_256⟩,
    ⟨S2x1024x512, extractStridedSlice S2x1024x512 ![0, 0, 768] a slices_S2x1024x3408_S2x1024x512_0_0_768⟩,
    ⟨S2x1024x128, b⟩,
    ⟨S2x1024x512, extractStridedSlice S2x1024x512 ![0, 0, 1352] a slices_S2x1024x3408_S2x1024x512_0_0_1352⟩,
    ⟨S2x1024x512, extractStridedSlice S2x1024x512 ![0, 0, 1864] a slices_S2x1024x3408_S2x1024x512_0_0_1864⟩,
    ⟨S2x1024x512, extractStridedSlice S2x1024x512 ![0, 0, 2376] a slices_S2x1024x3408_S2x1024x512_0_0_2376⟩,
    ⟨S2x1024x512, extractStridedSlice S2x1024x512 ![0, 0, 2888] a slices_S2x1024x3408_S2x1024x512_0_0_2888⟩] concatenates_S2x1024x256_S2x1024x512_S2x1024x512_S2x1024x128_S2x1024x512_S2x1024x512_S2x1024x512_S2x1024x512_S2x1024x3456_d2

theorem v14r (c : Dev nD) : V m c main_v14 = truncf .bf16 (cat8 (m ((c.tc : Thread nD τ).loc main_arg3)) (cat5 (m ((c.tc : Thread nD τ).loc main_arg3)))) bitsLt_bf16_f32 := rfl

theorem v29r (c : Dev nD) : V m c main_v29 = Host.scatter scatter_S1x128_S2_S4_0_0_01_0 (fun x b => b)
      (Host.scatter scatter_S1x128_S2_S4_0_0_01_0 (fun x b => b)
        (broadcastInDim S1x128 ![] bcast_S_S1x128 (constant (F := Ideal) S_ FTy.f32 0#32))
        (concatenate S2 0
          [⟨S1, broadcastInDim S1 ![] bcast_S_S1 (constantI S_ 32 0#32)⟩,
            ⟨S1, broadcastInDim S1 ![] bcast_S_S1 (constantI S_ 32 72#32)⟩]
          concatenates_S1_S1_S2_d0)
        (shapeCast S4 (extractStridedSlice S1x4 ![0, 0] (m ((c.tc : Thread nD τ).loc main_arg9)) slices_S2x4_S1x4_0_0) shapeCasts_S1x4_S4))
      (concatenate S2 0
        [⟨S1, broadcastInDim S1 ![] bcast_S_S1 (constantI S_ 32 0#32)⟩,
          ⟨S1, broadcastInDim S1 ![] bcast_S_S1 (constantI S_ 32 76#32)⟩]
        concatenates_S1_S1_S2_d0)
      (shapeCast S4 (extractStridedSlice S1x4 ![0, 0] (m ((c.tc : Thread nD τ).loc main_arg10)) slices_S2x4_S1x4_0_0) shapeCasts_S1x4_S4) := rfl

theorem cat5_k (a : FVec Ideal S2x1024x3408 .f32) (k : Fin 1024) (l : Fin 64) : cat5 a (ix3 0 k ⟨l.val, by omega⟩) = a (ix3 0 k ⟨1280 + l.val, by omega⟩) := by
  pointwise [cat5]
  all_goals split_ifs <;> first | omega | exact congrArg (fun j => a (ix3 0 k j)) (Fin.ext (by dsimp only; omega))
theorem cat5_w (a : FVec Ideal S2x1024x3408 .f32) (k : Fin 1024) (l : Fin 8) : cat5 a (ix3 0 k ⟨64 + l.val, by omega⟩) = a (ix3 0 k ⟨1344 + l.val, by omega⟩) := by
  pointwise [cat5]
  all_goals split_ifs <;> first | omega | exact congrArg (fun j => a (ix3 0 k j)) (Fin.ext (by dsimp only; omega))
theorem cat5_g (a : FVec Ideal S2x1024x3408 .f32) (k : Fin 1024) (l : Fin 8) : cat5 a (ix3 0 k ⟨72 + l.val, by omega⟩) = a (ix3 0 k ⟨3400 + l.val, by omega⟩) := by
  pointwise [cat5]
  all_goals split_ifs <;> first | omega | exact congrArg (fun j => a (ix3 0 k j)) (Fin.ext (by dsimp only; omega))

theorem cat8_0 (a : FVec Ideal S2x1024x3408 .f32) (b : FVec Ideal S2x1024x128 .f32) (k : Fin 1024) (l : Fin 1280) : cat8 a b (ix3 0 k ⟨l.val, by omega⟩) = a (ix3 0 k ⟨l.val, by omega⟩) := by
  pointwise [cat8]
  all_goals split_ifs <;> first | omega | exact congrArg (fun j => a (ix3 0 k j)) (Fin.ext (by first | (dsimp only; omega) | rfl)) | exact congrArg (fun j => b (ix3 0 k j)) (Fin.ext (by dsimp only; omega))
theorem cat8_3 (a : FVec Ideal S2x1024x3408 .f32) (b : FVec Ideal S2x1024x128 .f32) (k : Fin 1024) (l : Fin 128) : cat8 a b (ix3 0 k ⟨1280 + l.val, by omega⟩) = b (ix3 0 k l) := by
  pointwise [cat8]
  all_goals split_ifs <;> first | omega | exact congrArg (fun j => a (ix3 0 k j)) (Fin.ext (by first | (dsimp only; omega) | rfl)) | exact congrArg (fun j => b (ix3 0 k j)) (Fin.ext (by dsimp only; omega))
theorem cat8_4 (a : FVec Ideal S2x1024x3408 .f32) (b : FVec Ideal S2x1024x128 .f32) (k : Fin 1024) (l : Fin 1024) : cat8 a b (ix3 0 k ⟨1408 + l.val, by omega⟩) = a (ix3 0 k ⟨1352 + l.val, by omega⟩) := by
  pointwise [cat8]
  all_goals split_ifs <;> first | omega | exact congrArg (fun j => a (ix3 0 k j)) (Fin.ext (by first | (dsimp only; omega) | rfl)) | exact congrArg (fun j => b (ix3 0 k j)) (Fin.ext (by dsimp only; omega))
theorem cat8_6 (a : FVec Ideal S2x1024x3408 .f32) (b : FVec Ideal S2x1024x128 .f32) (k : Fin 1024) (l : Fin 512) : cat8 a b (ix3 0 k ⟨2432 + l.val, by omega⟩) = a (ix3 0 k ⟨2376 + l.val, by omega⟩) := by
  pointwise [cat8]
  all_goals split_ifs <;> first | omega | exact congrArg (fun j => a (ix3 0 k j)) (Fin.ext (by first | (dsimp only; omega) | rfl)) | exact congrArg (fun j => b (ix3 0 k j)) (Fin.ext (by dsimp only; omega))
theorem cat8_7 (a : FVec Ideal S2x1024x3408 .f32) (b : FVec Ideal S2x1024x128 .f32) (k : Fin 1024) (l : Fin 512) : cat8 a b (ix3 0 k ⟨2944 + l.val, by omega⟩) = a (ix3 0 k ⟨2888 + l.val, by omega⟩) := by
  pointwise [cat8]
  all_goals split_ifs <;> first | omega | exact congrArg (fun j => a (ix3 0 k j)) (Fin.ext (by first | (dsimp only; omega) | rfl)) | exact congrArg (fun j => b (ix3 0 k j)) (Fin.ext (by dsimp only; omega))

/-- A lookup that a scatter of four adjacent entries answers. -/
theorem land (p : BitVec 32) : p = 72#32 ∨ p = 76#32 → ∀ q : Fin S4.numel, scatter_S1x128_S2_S4_0_0_01_0.resultIdx? (S4.rowMajor.symm q) (concatenate S2 0 [⟨S1, broadcastInDim S1 ![] bcast_S_S1 (constantI S_ 32 0#32)⟩, ⟨S1, broadcastInDim S1 ![] bcast_S_S1 (constantI S_ 32 p)⟩] concatenates_S1_S1_S2_d0)
      = some (ix2 (0 : Fin 1) (⟨(p.toNat + q.val) % 128, Nat.mod_lt _ (by decide)⟩ : Fin 128)) := by
  rintro (rfl | rfl) <;> decide +kernel

theorem rm4 : ∀ q : Fin S4.numel, S4.rowMajor.symm q = ix1 (⟨q.val, q.isLt⟩ : Fin 4) := by decide +kernel

theorem fold4 (P : Fin 4 → Prop) [DecidablePred P] (f : Fin 4 → EReal) (a : EReal) :
    (List.finRange 4).foldl (fun a q => if P q then f q else a) a = if P 3 then f 3 else if P 2 then f 2 else if P 1 then f 1 else if P 0 then f 0 else a := by
  rw [show List.finRange 4 = [0, 1, 2, 3] from by decide]; rfl

/-- A scatter of four adjacent entries, read at a lane. -/
theorem scat (p : BitVec 32) (hp : p = 72#32 ∨ p = 76#32) (x : FVec Ideal S1x128 .f32) (u : FVec Ideal S4 .f32) (n : Fin 128) :
    Host.scatter scatter_S1x128_S2_S4_0_0_01_0 (fun x b => b) x (concatenate S2 0 [⟨S1, broadcastInDim S1 ![] bcast_S_S1 (constantI S_ 32 0#32)⟩, ⟨S1, broadcastInDim S1 ![] bcast_S_S1 (constantI S_ 32 p)⟩] concatenates_S1_S1_S2_d0) u (ix2 0 n)
      = if h : p.toNat ≤ n.val ∧ n.val < p.toNat + 4 then u (ix1 ⟨n.val - p.toNat, by omega⟩) else x (ix2 0 n) := by
  rw [Routing.scatter_at]
  simp only [land p hp]
  simp only [rm4]
  have e : ∀ q : Fin 4, (some (ix2 (0 : Fin 1) (⟨(p.toNat + q.val) % 128, Nat.mod_lt _ (by decide)⟩ : Fin 128)) = some (ix2 0 n)) ↔ n.val = p.toNat + q.val := by
    intro q
    have hq : (p.toNat + q.val) % 128 = p.toNat + q.val := by rcases hp with rfl | rfl <;> simp <;> omega
    rw [Option.some.injEq, ix2_inj]
    constructor
    · intro h; have := congrArg Fin.val h.2; dsimp only at this; omega
    · intro h; exact ⟨rfl, Fin.ext (by dsimp only; omega)⟩
  refine (fold4 (fun q => some (ix2 (0 : Fin 1) (⟨(p.toNat + q.val) % 128, Nat.mod_lt _ (by decide)⟩ : Fin 128)) = some (ix2 0 n)) (fun q => u (ix1 q)) _).trans ?_
  simp only [e]
  have v0 : (0 : Fin 4).val = 0 := rfl
  have v1 : (1 : Fin 4).val = 1 := rfl
  have v2 : (2 : Fin 4).val = 2 := rfl
  have v3 : (3 : Fin 4).val = 3 := rfl
  rw [v0, v1, v2, v3]
  split_ifs <;> first | omega | exact congrArg (fun j => u (ix1 j)) (Fin.ext (by dsimp only; omega)) | rfl

theorem gb_i (c : Dev nD) (n : Fin 4) : V m c main_v29 (ix2 0 ⟨72 + n.val, by omega⟩) = m ((c.tc : Thread nD τ).loc main_arg9) (ix2 0 n) := by
  rw [v29r, scat _ (Or.inr rfl), dif_neg (by simp; omega), scat _ (Or.inl rfl), dif_pos (by simp; omega)]
  pointwise []
theorem gb_f (c : Dev nD) (n : Fin 4) : V m c main_v29 (ix2 0 ⟨76 + n.val, by omega⟩) = m ((c.tc : Thread nD τ).loc main_arg10) (ix2 0 n) := by
  rw [v29r, scat _ (Or.inr rfl), dif_pos (by simp; omega)]
  pointwise []

end Cert.InpIdeal.Tile

end
-- ==== Proof.InpHist.lean ====
/- The kept rows of the input projection's scratch, read one entry at a time. -/
module

public import proofs.«01_k».proof.Proof.InpHost
public import Idealize.ShloMosaic.Lib.VecWindow

@[expose] public section

set_option maxRecDepth 16384

noncomputable section

namespace Cert.InpIdeal.Tile

open Cert.InpIdeal Cert.InpIdeal.Gen Cert.InpRow Idealize.ShloMosaic Idealize.ShloMosaic.TcCoe Idealize.SL.Sem

/-- Rows 8 to 519 stored over earlier contents. -/
theorem put8 (x : FVec Ideal S520x1024 .f32) (w : FVec Ideal S512x1024 .f32) (i : Fin 520) (n : Fin 1024) :
    VecWindow.put (s := S520x1024) x ![8, 0] ![512, 1024] w (ix2 i n) = if h : 8 ≤ i.val then w (ix2 ⟨i.val - 8, by omega⟩ n) else x (ix2 i n) := by
  unfold VecWindow.put
  by_cases h : 8 ≤ i.val
  · rw [dif_pos h, dif_pos (by intro a; match a with | ⟨0, _⟩ => exact ⟨h, i.isLt⟩ | ⟨1, _⟩ => exact ⟨Nat.zero_le _, n.isLt⟩)]
    exact congrArg w (by funext a; match a with | ⟨0, _⟩ => rfl | ⟨1, _⟩ => exact Fin.ext (Nat.sub_zero _))
  · rw [dif_neg h, dif_neg (by intro hh; exact h (hh 0).1)]

/-- Rows 0 to 7 stored over earlier contents. -/
theorem put0 (x : FVec Ideal S520x1024 .f32) (w : FVec Ideal S8x1024 .f32) (i : Fin 520) (n : Fin 1024) :
    VecWindow.put (s := S520x1024) x ![0, 0] ![8, 1024] w (ix2 i n) = if h : i.val < 8 then w (ix2 ⟨i.val, h⟩ n) else x (ix2 i n) := by
  unfold VecWindow.put
  by_cases h : i.val < 8
  · rw [dif_pos h, dif_pos (by intro a; match a with | ⟨0, _⟩ => exact ⟨Nat.zero_le _, by show i.val < 0 + 8; omega⟩ | ⟨1, _⟩ => exact ⟨Nat.zero_le _, by show n.val < 0 + 1024; omega⟩)]
    exact congrArg w (by funext a; match a with | ⟨0, _⟩ => rfl | ⟨1, _⟩ => rfl)
  · rw [dif_neg h, dif_neg (by intro hh; exact h (by have := (hh 0).2; exact (Nat.zero_add 8 ▸ this)))]

/-- All kept rows, after both stores. -/
theorem cov_all (P1 : FVec Ideal S512x1024 .f32) (P0 : FVec Ideal S8x1024 .f32) (i : Fin 520) (n : Fin 1024) :
    View.readCov (Val := Elt Ideal) (View.whole cc0_scratch0) [⟨Rect.unit ![8, 0] ![512, 1024] inb_S520x1024_S512x1024_8_0, P1⟩, ⟨Rect.unit ![0, 0] ![8, 1024] inb_S520x1024_S8x1024_0_0, P0⟩]
        (Rect.unit (s := S520x1024) ![0, 0] ![520, 1024] inb_S520x1024_S520x1024_0_0).toLoadRect (ix2 i n)
      = if h : 8 ≤ i.val then P1 (ix2 ⟨i.val - 8, by omega⟩ n) else P0 (ix2 ⟨i.val, by omega⟩ n) := by
  unfold View.readCov
  refine (congrFun (View.readAt_full (View.whole cc0_scratch0) _ inb_S520x1024_S520x1024_0_0) (ix2 i n)).trans ?_
  rw [View.read_writes_cons_put _ _ _ _ _ rfl]
  refine (put8 _ _ i n).trans ?_
  by_cases h : 8 ≤ i.val
  · rw [dif_pos h, dif_pos h]
  · rw [dif_neg h, dif_neg h, View.read_writes_cons_put _ _ _ _ _ rfl]
    exact (put0 _ _ i n).trans (dif_pos (by omega))

/-- All kept rows, after the tile's store over earlier contents. -/
theorem over_all (g : FVec Ideal S520x1024 .f32) (f) (hf : View.read (Elt Ideal) (View.whole cc0_scratch0) f = g) (P1 : FVec Ideal S512x1024 .f32) (i : Fin 520) (n : Fin 1024) :
    View.read (Elt Ideal) (View.whole cc0_scratch0) ((View.whole cc0_scratch0).writes (Elt Ideal) f [⟨Rect.unit ![8, 0] ![512, 1024] inb_S520x1024_S512x1024_8_0, P1⟩]) (ix2 i n)
      = if h : 8 ≤ i.val then P1 (ix2 ⟨i.val - 8, by omega⟩ n) else g (ix2 i n) := by
  rw [View.read_writes_cons_put _ _ _ _ _ rfl, View.writes_nil, hf]
  exact put8 _ _ i n

/-- The last eight kept rows, after the tile's store. -/
theorem cov_last (P1 : FVec Ideal S512x1024 .f32) (L) (r : Fin 8) (n : Fin 1024) :
    View.readCov (Val := Elt Ideal) (View.whole cc0_scratch0) (⟨Rect.unit ![8, 0] ![512, 1024] inb_S520x1024_S512x1024_8_0, P1⟩ :: L)
        (Rect.unit (s := S520x1024) ![512, 0] ![8, 1024] inb_S520x1024_S8x1024_512_0).toLoadRect (ix2 r n)
      = P1 (ix2 ⟨504 + r.val, by omega⟩ n) := by
  have e : (Rect.unit (s := S520x1024) ![512, 0] ![8, 1024] inb_S520x1024_S8x1024_512_0).toLoadRect.idx (ix2 r n) = ix2 (⟨512 + r.val, by omega⟩ : Fin 520) n := by
    funext a
    match a with
    | ⟨0, _⟩ => exact Fin.ext (by show 512 + 1 * r.val = 512 + r.val; omega)
    | ⟨1, _⟩ => exact Fin.ext (by show 0 + 1 * n.val = n.val; omega)
  unfold View.readCov
  rw [View.readAt_apply]
  refine (congrArg (View.read (Elt Ideal) (View.whole cc0_scratch0) _) e).trans ?_
  rw [View.read_writes_cons_put _ _ _ _ _ rfl]
  refine (put8 _ _ _ n).trans ((dif_pos (by dsimp only; omega)).trans ?_)
  exact congrArg (fun j => P1 (ix2 j n)) (Fin.ext (by dsimp only; omega))

/-- The first eight kept rows, after all stores. -/
theorem canon_first (P : FVec Ideal S8x1024 .f32) (L) (r : Fin 8) (n : Fin 1024) :
    View.canon (Val := Elt Ideal) (s := S520x1024) (e := .f32) (⟨Rect.unit ![0, 0] ![8, 1024] inb_S520x1024_S8x1024_0_0, P⟩ :: L) (ix2 ⟨r.val, by omega⟩ n) = P (ix2 r n) := by
  rw [← View.read_writes_junk_apply_eq_canon (View.whole cc0_scratch0), View.read_writes_cons_put _ _ _ _ _ rfl]
  exact (put0 _ _ _ n).trans (dif_pos r.isLt)

variable (m : (ℓ : Loc nD τ sig) → Buf (Elt Ideal) ℓ)

/-- The arguments, as the results read them. -/
def A (c : Dev nD) : Args where
  x b p l := m ((c.tc : Thread nD τ).loc main_arg0) (ix3 b p l)
  mo b k l := m ((c.tc : Thread nD τ).loc main_arg1) (ix3 b k l)
  nw l := m ((c.tc : Thread nD τ).loc main_arg2) (ix2 0 l)
  w k j := m ((c.tc : Thread nD τ).loc main_arg3) (ix3 0 k j)
  q l := m ((c.tc : Thread nD τ).loc main_arg4) (ix2 0 l)
  u k j := m ((c.tc : Thread nD τ).loc main_arg5) (ix3 0 k j)
  v k j := m ((c.tc : Thread nD τ).loc main_arg6) (ix3 0 k j)
  cw k l := m ((c.tc : Thread nD τ).loc main_arg7) (ix3 0 k l)
  cb l := m ((c.tc : Thread nD τ).loc main_arg8) (ix2 0 l)
  bi l := m ((c.tc : Thread nD τ).loc main_arg9) (ix2 0 l)
  bf l := m ((c.tc : Thread nD τ).loc main_arg10) (ix2 0 l)
  c b p l := m ((c.tc : Thread nD τ).loc main_arg11) (ix3 b p l)
  s b p l := m ((c.tc : Thread nD τ).loc main_arg12) (ix3 b p l)

/-- The modulated norm of a row of a tile. -/
theorem hrow (c : Dev nD) (t : Fin cfg0.N) (v5 v7 : FVec Ideal S1x1x1024 .f32) (h5 : ∀ l, v5 (ix3 0 0 l) = (iblk m c 1 t : FVec Ideal S1x6x1024 .f32) (ix3 0 0 l))
    (h7 : ∀ l, v7 (ix3 0 0 l) = (iblk m c 1 t : FVec Ideal S1x6x1024 .f32) (ix3 0 1 l)) (r : Fin 512) :
    (fun l => k0_pay3 (F := Ideal) (iblk m c 0 t) v5 v7 (iblk m c 2 t) (ix2 r l)) = hr (A m c) (bat t) (row t r) := by
  funext l
  rw [pay3_at]
  simp only [h5, h7]
  unfold hr
  congr 1
  · funext l; exact b0 m c t r l
  · funext l; exact b2 m c t l
  · funext l; exact b1 m c t 1 l
  · funext l; exact b1 m c t 0 l

theorem crow (c : Dev nD) (t : Fin cfg0.N) (r : Fin 512) : (fun l => (iblk m c 9 t : FVec Ideal S1x512x128 .f32) (ix3 0 r l)) = (A m c).c (bat t) (row t r) := funext fun l => b9 m c t r l
theorem srow (c : Dev nD) (t : Fin cfg0.N) (r : Fin 512) : (fun l => (iblk m c 10 t : FVec Ideal S1x512x128 .f32) (ix3 0 r l)) = (A m c).s (bat t) (row t r) := funext fun l => b10 m c t r l
theorem qrow (c : Dev nD) (t : Fin cfg0.N) : (fun l => (iblk m c 4 t : FVec Ideal S1x256 .f32) (ix2 0 l)) = (A m c).q := funext fun l => b4 m c t l

/-- The first columns of the weight block. -/
theorem w0 (c : Dev nD) (t : Fin cfg0.N) (k : Fin 1024) (l : Fin 1280) : (iblk m c 3 t : FVec Ideal S1x1024x3456 .bf16) (ix3 0 k ⟨l.val, by omega⟩) = (A m c).w k ⟨l.val, by omega⟩ :=
  (b3 m c t k _).trans ((congrFun (v14r m c) _).trans (cat8_0 _ _ k l))
theorem w3k (c : Dev nD) (t : Fin cfg0.N) (k : Fin 1024) (l : Fin 64) : (iblk m c 3 t : FVec Ideal S1x1024x3456 .bf16) (ix3 0 k ⟨1280 + l.val, by omega⟩) = (A m c).w k ⟨1280 + l.val, by omega⟩ :=
  (b3 m c t k _).trans ((congrFun (v14r m c) _).trans ((cat8_3 _ _ k ⟨l.val, by omega⟩).trans (cat5_k _ k l)))
theorem w3w (c : Dev nD) (t : Fin cfg0.N) (k : Fin 1024) (l : Fin 8) : (iblk m c 3 t : FVec Ideal S1x1024x3456 .bf16) (ix3 0 k ⟨1280 + (64 + l.val), by omega⟩) = (A m c).w k ⟨1344 + l.val, by omega⟩ :=
  (b3 m c t k _).trans ((congrFun (v14r m c) _).trans ((cat8_3 _ _ k ⟨64 + l.val, by omega⟩).trans (cat5_w _ k l)))
theorem w3g (c : Dev nD) (t : Fin cfg0.N) (k : Fin 1024) (l : Fin 8) : (iblk m c 3 t : FVec Ideal S1x1024x3456 .bf16) (ix3 0 k ⟨1280 + (72 + l.val), by omega⟩) = (A m c).w k ⟨3400 + l.val, by omega⟩ :=
  (b3 m c t k _).trans ((congrFun (v14r m c) _).trans ((cat8_3 _ _ k ⟨72 + l.val, by omega⟩).trans (cat5_g _ k l)))
theorem w4 (c : Dev nD) (t : Fin cfg0.N) (k : Fin 1024) (l : Fin 1024) : (iblk m c 3 t : FVec Ideal S1x1024x3456 .bf16) (ix3 0 k ⟨1408 + l.val, by omega⟩) = (A m c).w k ⟨1352 + l.val, by omega⟩ :=
  (b3 m c t k _).trans ((congrFun (v14r m c) _).trans (cat8_4 _ _ k l))
theorem w6 (c : Dev nD) (t : Fin cfg0.N) (k : Fin 1024) (l : Fin 512) : (iblk m c 3 t : FVec Ideal S1x1024x3456 .bf16) (ix3 0 k ⟨2432 + l.val, by omega⟩) = (A m c).w k ⟨2376 + l.val, by omega⟩ :=
  (b3 m c t k _).trans ((congrFun (v14r m c) _).trans (cat8_6 _ _ k l))
theorem w7 (c : Dev nD) (t : Fin cfg0.N) (k : Fin 1024) (l : Fin 512) : (iblk m c 3 t : FVec Ideal S1x1024x3456 .bf16) (ix3 0 k ⟨2944 + l.val, by omega⟩) = (A m c).w k ⟨2888 + l.val, by omega⟩ :=
  (b3 m c t k _).trans ((congrFun (v14r m c) _).trans (cat8_7 _ _ k l))
theorem ua (c : Dev nD) (t : Fin cfg0.N) (k : Fin 256) (l : Fin 512) : (iblk m c 5 t : FVec Ideal S1x256x1024 .bf16) (ix3 0 k ⟨l.val, by omega⟩) = (A m c).u k l := (b5 m c t k _).trans (b5a m c k l)
theorem ub (c : Dev nD) (t : Fin cfg0.N) (k : Fin 256) (l : Fin 512) : (iblk m c 5 t : FVec Ideal S1x256x1024 .bf16) (ix3 0 k ⟨512 + l.val, by omega⟩) = (A m c).v k l := (b5 m c t k _).trans (b5b m c k l)
theorem gi (c : Dev nD) (t : Fin cfg0.N) (n : Fin 4) : (iblk m c 8 t : FVec Ideal S1x128 .f32) (ix2 0 ⟨72 + n.val, by omega⟩) = (A m c).bi n := (b8 m c t _).trans (gb_i m c n)
theorem gf (c : Dev nD) (t : Fin cfg0.N) (n : Fin 4) : (iblk m c 8 t : FVec Ideal S1x128 .f32) (ix2 0 ⟨76 + n.val, by omega⟩) = (A m c).bf n := (b8 m c t _).trans (gb_f m c n)

/-- The convolution's input columns of a tile. -/
theorem pre41 (c : Dev nD) (t : Fin cfg0.N) (v5 v7 : FVec Ideal S1x1x1024 .f32) (h5 : ∀ l, v5 (ix3 0 0 l) = (iblk m c 1 t : FVec Ideal S1x6x1024 .f32) (ix3 0 0 l))
    (h7 : ∀ l, v7 (ix3 0 0 l) = (iblk m c 1 t : FVec Ideal S1x6x1024 .f32) (ix3 0 1 l)) (w : FVec Ideal S1x1024x1024 .bf16)
    (hw : ∀ k (j : Fin 1024), w (ix3 0 k j) = (iblk m c 3 t : FVec Ideal S1x1024x3456 .bf16) (ix3 0 k ⟨1408 + j.val, by omega⟩)) (r : Fin 512) (n : Fin 1024) :
    k0_pay41 (F := Ideal) (k0_pay3 (iblk m c 0 t) v5 v7 (iblk m c 2 t)) w (ix2 r n) = pc (A m c) (bat t) (row t r) ⟨1352 + n.val, by omega⟩ := by
  rw [pay41_at _ _ (A m c).w (fun k j => (hw k j).trans (w4 m c t k j)) r n, hrow m c t v5 v7 h5 h7 r]
  rfl

/-- The first eight kept rows after a grid point: the last rows of its tile. -/
theorem kept (c : Dev nD) (t : Fin cfg0.N) (r : Fin 8) (n : Fin 1024) :
    (outsAt0 (F := Ideal) m c t.val t.isLt).2.2.2.2.2.2.2.2.2.2.2 (ix2 ⟨r.val, by omega⟩ n) = pc (A m c) (bat t) (row t ⟨504 + r.val, by omega⟩) ⟨1352 + n.val, by omega⟩ := by
  by_cases h0 : t.val % 4 = 0
  · rw [outsAt0_A m c t h0]; frame_out
    refine (canon_first _ _ r n).trans ?_
    pointwise [k0_pay43]
    refine (cov_last _ _ r n).trans (pre41 m c t _ _ ?_ ?_ _ ?_ _ _)
    · intro l; pointwise []; blk_ext []
    · intro l; pointwise []; blk_ext []
    · intro k j; pointwise []; blk_ext []
  · rw [outsAt0_B m c t h0]; frame_out
    refine (canon_first _ _ r n).trans ?_
    pointwise [k0_pay43]
    refine (cov_last _ _ r n).trans (pre41 m c t _ _ ?_ ?_ _ ?_ _ _)
    · intro l; pointwise []; blk_ext []
    · intro l; pointwise []; blk_ext []
    · intro k j; pointwise []; blk_ext []

end Cert.InpIdeal.Tile

end
-- ==== Proof.InpTile.lean ====
/- What a grid point of the input projection's kernel writes, read at the places of its blocks. -/
module

public import proofs.«01_k».proof.Proof.InpHist

@[expose] public section

set_option maxRecDepth 16384

noncomputable section

namespace Cert.InpIdeal.Tile

open Cert.InpIdeal Cert.InpIdeal.Gen Cert.InpRow Idealize.ShloMosaic Idealize.ShloMosaic.TcCoe Idealize.SL.Sem

variable (m : (ℓ : Loc nD τ sig) → Buf (Elt Ideal) ℓ)

/-- A projected column as the narrow block's sum. -/
theorem summ (c : Dev nD) (t : Fin cfg0.N) (h : FVec Ideal S512x1024 .bf16) (w : FVec Ideal S1x1024x128 .bf16) (r : Fin 512)
    (H : (fun l => h (ix2 r l)) = hr (A m c) (bat t) (row t r)) (j : Fin 128) (i : Fin 3408) (hw : ∀ k, w (ix3 0 k j) = (A m c).w k i) :
    (∑ x, h (ix2 r x) * w (ix3 0 x j)) = pc (A m c) (bat t) (row t r) i := by
  unfold pc col
  exact Finset.sum_congr rfl fun x _ => by rw [hw x, ← H]

/-- The positions before a row that lie in its own tile. -/
theorem past_in (a : Args) (t : Fin cfg0.N) (r : Fin 512) (q : Fin 4) (n : Fin 1024) (h : 8 ≤ 5 + r.val + q.val) :
    pc a (bat t) (row t ⟨5 + r.val + q.val - 8, by omega⟩) ⟨1352 + n.val, by omega⟩ = past a (bat t) (row t r) n q := by
  unfold past
  rw [dif_pos (by simp only [row]; omega)]
  exact congrArg (fun p => pc a (bat t) p ⟨1352 + n.val, by omega⟩) (Fin.ext (by simp only [row]; omega))

/-- Before the first tile of a sequence there is nothing. -/
theorem past_first (a : Args) (t : Fin cfg0.N) (h0 : t.val % 4 = 0) (r : Fin 512) (q : Fin 4) (n : Fin 1024) (h : ¬ 8 ≤ 5 + r.val + q.val) :
    0 = past a (bat t) (row t r) n q := by
  unfold past
  rw [dif_neg (by simp only [row]; omega)]

/-- The positions before a row that lie in the previous tile. -/
theorem past_prev (a : Args) (t : Fin cfg0.N) (h0 : ¬ t.val % 4 = 0) (h1 : t.val - 1 < cfg0.N) (r : Fin 512) (q : Fin 4) (n : Fin 1024) (h : ¬ 8 ≤ 5 + r.val + q.val) :
    pc a (bat ⟨t.val - 1, h1⟩) (row ⟨t.val - 1, h1⟩ ⟨504 + (5 + r.val + q.val), by omega⟩) ⟨1352 + n.val, by omega⟩ = past a (bat t) (row t r) n q := by
  unfold past
  rw [dif_pos (by simp only [row]; omega)]
  have e1 : bat ⟨t.val - 1, h1⟩ = bat t := Fin.ext (by simp only [bat]; omega)
  rw [e1]
  exact congrArg (fun p => pc a (bat t) p ⟨1352 + n.val, by omega⟩) (Fin.ext (by simp only [row]; omega))

/-- A key of a tile. -/
theorem o13 (c : Dev nD) (t : Fin cfg0.N) (r n : Fin 512) : (outsAt0 (F := Ideal) m c t.val t.isLt).2.2.1 (ix3 0 r n) = sK (A m c) (bat t) (row t r) n := by
  by_cases h0 : t.val % 4 = 0
  · rw [outsAt0_A m c t h0]; frame_out
    refine (pay31_at _ _ _ _ (A m c).w ?_ r n).trans ?_
    · intro k j; refine Eq.trans ?_ (w0 m c t k ⟨256 + j.val, by omega⟩); pointwise []; blk_ext []
    rw [hrow m c t _ _ ?_ ?_ r]
    · simp only [crow, srow]; rfl
    · intro l; pointwise []; blk_ext []
    · intro l; pointwise []; blk_ext []
  · rw [outsAt0_B m c t h0]; frame_out
    refine (pay31_at _ _ _ _ (A m c).w ?_ r n).trans ?_
    · intro k j; refine Eq.trans ?_ (w0 m c t k ⟨256 + j.val, by omega⟩); pointwise []; blk_ext []
    rw [hrow m c t _ _ ?_ ?_ r]
    · simp only [crow, srow]; rfl
    · intro l; pointwise []; blk_ext []
    · intro l; pointwise []; blk_ext []

/-- A value of a tile. -/
theorem o14 (c : Dev nD) (t : Fin cfg0.N) (n r : Fin 512) : (outsAt0 (F := Ideal) m c t.val t.isLt).2.2.2.1 (ix3 0 n r) = sV (A m c) (bat t) (row t r) n := by
  by_cases h0 : t.val % 4 = 0
  · rw [outsAt0_A m c t h0]; frame_out
    refine (pay32_at _ _ (A m c).w ?_ n r).trans ?_
    · intro k j; refine Eq.trans ?_ (w0 m c t k ⟨768 + j.val, by omega⟩); pointwise []; blk_ext []
    rw [hrow m c t _ _ ?_ ?_ r]
    · rfl
    · intro l; pointwise []; blk_ext []
    · intro l; pointwise []; blk_ext []
  · rw [outsAt0_B m c t h0]; frame_out
    refine (pay32_at _ _ (A m c).w ?_ n r).trans ?_
    · intro k j; refine Eq.trans ?_ (w0 m c t k ⟨768 + j.val, by omega⟩); pointwise []; blk_ext []
    rw [hrow m c t _ _ ?_ ?_ r]
    · rfl
    · intro l; pointwise []; blk_ext []
    · intro l; pointwise []; blk_ext []

/-- The indexer's key of a tile. -/
theorem o15 (c : Dev nD) (t : Fin cfg0.N) (r : Fin 512) (n : Fin 64) : (outsAt0 (F := Ideal) m c t.val t.isLt).2.2.2.2.1 (ix3 0 r n) = sKI (A m c) (bat t) (row t r) n := by
  by_cases h0 : t.val % 4 = 0
  · rw [outsAt0_A m c t h0]; frame_out
    have H := hrow m c t (View.ld (iblk m c 1 t) (Rect.unit ![0, 0, 0] ![1, 1, 1024] inb_S1x6x1024_S1x1x1024_0_0_0)) (View.ld (iblk m c 1 t) (Rect.unit ![0, 1, 0] ![1, 1, 1024] inb_S1x6x1024_S1x1x1024_0_1_0)) (by intro l; pointwise []; blk_ext []) (by intro l; pointwise []; blk_ext []) r
    refine (pay38_at _ _ _ _ _ r n).trans ?_
    simp only [crow, srow]
    unfold sKI
    refine congrArg (fun z => rope64 z _ _ n) (funext fun j => ?_)
    refine summ m c t _ _ r H _ _ ?_
    intro k; refine Eq.trans ?_ (w3k m c t k j); pointwise []; blk_ext []
  · rw [outsAt0_B m c t h0]; frame_out
    have H := hrow m c t (View.ld (iblk m c 1 t) (Rect.unit ![0, 0, 0] ![1, 1, 1024] inb_S1x6x1024_S1x1x1024_0_0_0)) (View.ld (iblk m c 1 t) (Rect.unit ![0, 1, 0] ![1, 1, 1024] inb_S1x6x1024_S1x1x1024_0_1_0)) (by intro l; pointwise []; blk_ext []) (by intro l; pointwise []; blk_ext []) r
    refine (pay38_at _ _ _ _ _ r n).trans ?_
    simp only [crow, srow]
    unfold sKI
    refine congrArg (fun z => rope64 z _ _ n) (funext fun j => ?_)
    refine summ m c t _ _ r H _ _ ?_
    intro k; refine Eq.trans ?_ (w3k m c t k j); pointwise []; blk_ext []

/-- The indexer's head weight of a tile. -/
theorem o16 (c : Dev nD) (t : Fin cfg0.N) (n : Fin 8) (r : Fin 512) : (outsAt0 (F := Ideal) m c t.val t.isLt).2.2.2.2.2.1 (ix3 0 n r) = sW (A m c) (bat t) (row t r) n := by
  by_cases h0 : t.val % 4 = 0
  · rw [outsAt0_A m c t h0]; frame_out
    have H := hrow m c t (View.ld (iblk m c 1 t) (Rect.unit ![0, 0, 0] ![1, 1, 1024] inb_S1x6x1024_S1x1x1024_0_0_0)) (View.ld (iblk m c 1 t) (Rect.unit ![0, 1, 0] ![1, 1, 1024] inb_S1x6x1024_S1x1x1024_0_1_0)) (by intro l; pointwise []; blk_ext []) (by intro l; pointwise []; blk_ext []) r
    refine (pay39_at _ _ _ _ _ n r).trans ?_
    unfold sW
    refine congrArg (· * _) ?_
    refine summ m c t _ _ r H _ _ ?_
    intro k; refine Eq.trans ?_ (w3w m c t k n); pointwise []; blk_ext []
  · rw [outsAt0_B m c t h0]; frame_out
    have H := hrow m c t (View.ld (iblk m c 1 t) (Rect.unit ![0, 0, 0] ![1, 1, 1024] inb_S1x6x1024_S1x1x1024_0_0_0)) (View.ld (iblk m c 1 t) (Rect.unit ![0, 1, 0] ![1, 1, 1024] inb_S1x6x1024_S1x1x1024_0_1_0)) (by intro l; pointwise []; blk_ext []) (by intro l; pointwise []; blk_ext []) r
    refine (pay39_at _ _ _ _ _ n r).trans ?_
    unfold sW
    refine congrArg (· * _) ?_
    refine summ m c t _ _ r H _ _ ?_
    intro k; refine Eq.trans ?_ (w3w m c t k n); pointwise []; blk_ext []

/-- A gate of a tile. -/
theorem o17 (c : Dev nD) (t : Fin cfg0.N) (n : Fin 8) (r : Fin 512) : (outsAt0 (F := Ideal) m c t.val t.isLt).2.2.2.2.2.2.1 (ix3 0 n r) = sG (A m c) (bat t) (row t r) n := by
  by_cases h0 : t.val % 4 = 0
  · rw [outsAt0_A m c t h0]; frame_out
    have H := hrow m c t (View.ld (iblk m c 1 t) (Rect.unit ![0, 0, 0] ![1, 1, 1024] inb_S1x6x1024_S1x1x1024_0_0_0)) (View.ld (iblk m c 1 t) (Rect.unit ![0, 1, 0] ![1, 1, 1024] inb_S1x6x1024_S1x1x1024_0_1_0)) (by intro l; pointwise []; blk_ext []) (by intro l; pointwise []; blk_ext []) r
    refine (pay40_at _ _ _ _ _ n r).trans ?_
    unfold sG
    by_cases hn : n.val < 4
    · rw [dif_pos hn, dif_pos hn]
      refine congrArg₂ (· + ·) (summ m c t _ _ r H _ _ ?_) (gi m c t ⟨n.val, hn⟩)
      intro k; refine Eq.trans ?_ (w3g m c t k n); pointwise []; blk_ext []
    · rw [dif_neg hn, dif_neg hn]
      refine congrArg logsig (congrArg₂ (· + ·) (summ m c t _ _ r H _ _ ?_) (Eq.trans ?_ (gf m c t ⟨n.val - 4, by omega⟩)))
      · intro k; refine Eq.trans ?_ (w3g m c t k n); pointwise []; blk_ext []
      · exact congrArg (fun j => (iblk m c 8 t : FVec Ideal S1x128 .f32) (ix2 0 j)) (Fin.ext (by dsimp only; omega))
  · rw [outsAt0_B m c t h0]; frame_out
    have H := hrow m c t (View.ld (iblk m c 1 t) (Rect.unit ![0, 0, 0] ![1, 1, 1024] inb_S1x6x1024_S1x1x1024_0_0_0)) (View.ld (iblk m c 1 t) (Rect.unit ![0, 1, 0] ![1, 1, 1024] inb_S1x6x1024_S1x1x1024_0_1_0)) (by intro l; pointwise []; blk_ext []) (by intro l; pointwise []; blk_ext []) r
    refine (pay40_at _ _ _ _ _ n r).trans ?_
    unfold sG
    by_cases hn : n.val < 4
    · rw [dif_pos hn, dif_pos hn]
      refine congrArg₂ (· + ·) (summ m c t _ _ r H _ _ ?_) (gi m c t ⟨n.val, hn⟩)
      intro k; refine Eq.trans ?_ (w3g m c t k n); pointwise []; blk_ext []
    · rw [dif_neg hn, dif_neg hn]
      refine congrArg logsig (congrArg₂ (· + ·) (summ m c t _ _ r H _ _ ?_) (Eq.trans ?_ (gf m c t ⟨n.val - 4, by omega⟩)))
      · intro k; refine Eq.trans ?_ (w3g m c t k n); pointwise []; blk_ext []
      · exact congrArg (fun j => (iblk m c 8 t : FVec Ideal S1x128 .f32) (ix2 0 j)) (Fin.ext (by dsimp only; omega))

/-- The recurrent query of a tile. -/
theorem o18 (c : Dev nD) (t : Fin cfg0.N) (r n : Fin 512) : (outsAt0 (F := Ideal) m c t.val t.isLt).2.2.2.2.2.2.2.1 (ix3 0 r n) = sQM (A m c) (bat t) (row t r) n := by
  by_cases h0 : t.val % 4 = 0
  · rw [outsAt0_A m c t h0]; frame_out
    refine (pay45_at _ _ _ r n).trans (congrArg (· * Ideal.ofBits .f32 0x3DB504F3#32) ?_)
    refine (pay44_at _ _ _ _ _ _ (fun k => (A m c).cw k (⟨n.val, by omega⟩ : Fin 1024)) (past (A m c) (bat t) (row t r) (⟨n.val, by omega⟩ : Fin 1024)) r (⟨n.val, by omega⟩ : Fin 1024) ?_ ?_ ?_ ?_ ?_).trans ?_
    · refine Eq.trans ?_ (b6 m c t 0 (⟨n.val, by omega⟩ : Fin 1024)); pointwise []; blk_ext []
    · refine Eq.trans ?_ (b6 m c t 1 (⟨n.val, by omega⟩ : Fin 1024)); pointwise []; blk_ext []
    · refine Eq.trans ?_ (b6 m c t 2 (⟨n.val, by omega⟩ : Fin 1024)); pointwise []; blk_ext []
    · refine Eq.trans ?_ (b6 m c t 3 (⟨n.val, by omega⟩ : Fin 1024)); pointwise []; blk_ext []
    · intro q
      refine (cov_all _ _ _ _).trans ?_
      by_cases h : 8 ≤ 5 + r.val + q.val
      · rw [dif_pos h]
        refine (pre41 m c t _ _ ?_ ?_ _ ?_ _ _).trans (past_in (A m c) t r q (⟨n.val, by omega⟩ : Fin 1024) h)
        · intro l; pointwise []; blk_ext []
        · intro l; pointwise []; blk_ext []
        · intro k j; pointwise []; blk_ext []
      · rw [dif_neg h]
        refine Eq.trans ?_ (past_first (A m c) t h0 r q (⟨n.val, by omega⟩ : Fin 1024) h)
        pointwise [k0_pay2]
    · exact congrArg (fun z => silu (conv z _ _)) (b7 m c t (⟨n.val, by omega⟩ : Fin 1024))
  · rw [outsAt0_B m c t h0]; frame_out
    refine (pay45_at _ _ _ r n).trans (congrArg (· * Ideal.ofBits .f32 0x3DB504F3#32) ?_)
    refine (pay44_at _ _ _ _ _ _ (fun k => (A m c).cw k (⟨n.val, by omega⟩ : Fin 1024)) (past (A m c) (bat t) (row t r) (⟨n.val, by omega⟩ : Fin 1024)) r (⟨n.val, by omega⟩ : Fin 1024) ?_ ?_ ?_ ?_ ?_).trans ?_
    · refine Eq.trans ?_ (b6 m c t 0 (⟨n.val, by omega⟩ : Fin 1024)); pointwise []; blk_ext []
    · refine Eq.trans ?_ (b6 m c t 1 (⟨n.val, by omega⟩ : Fin 1024)); pointwise []; blk_ext []
    · refine Eq.trans ?_ (b6 m c t 2 (⟨n.val, by omega⟩ : Fin 1024)); pointwise []; blk_ext []
    · refine Eq.trans ?_ (b6 m c t 3 (⟨n.val, by omega⟩ : Fin 1024)); pointwise []; blk_ext []
    · intro q
      refine (over_all _ _ (Memref.IsWhole.read_unread _ _) _ _ _).trans ?_
      by_cases h : 8 ≤ 5 + r.val + q.val
      · rw [dif_pos h]
        refine (pre41 m c t _ _ ?_ ?_ _ ?_ _ _).trans (past_in (A m c) t r q (⟨n.val, by omega⟩ : Fin 1024) h)
        · intro l; pointwise []; blk_ext []
        · intro l; pointwise []; blk_ext []
        · intro k j; pointwise []; blk_ext []
      · rw [dif_neg h]
        exact (kept m c ⟨t.val - 1, by omega⟩ ⟨5 + r.val + q.val, by omega⟩ (⟨n.val, by omega⟩ : Fin 1024)).trans (past_prev (A m c) t h0 _ r q (⟨n.val, by omega⟩ : Fin 1024) h)
    · exact congrArg (fun z => silu (conv z _ _)) (b7 m c t (⟨n.val, by omega⟩ : Fin 1024))

/-- The recurrent key of a tile. -/
theorem o19 (c : Dev nD) (t : Fin cfg0.N) (r n : Fin 512) : (outsAt0 (F := Ideal) m c t.val t.isLt).2.2.2.2.2.2.2.2.1 (ix3 0 r n) = sKM (A m c) (bat t) (row t r) n := by
  by_cases h0 : t.val % 4 = 0
  · rw [outsAt0_A m c t h0]; frame_out
    refine (pay46_at _ _ _ r n).trans ?_
    refine (pay44_at _ _ _ _ _ _ (fun k => (A m c).cw k (⟨512 + n.val, by omega⟩ : Fin 1024)) (past (A m c) (bat t) (row t r) (⟨512 + n.val, by omega⟩ : Fin 1024)) r (⟨512 + n.val, by omega⟩ : Fin 1024) ?_ ?_ ?_ ?_ ?_).trans ?_
    · refine Eq.trans ?_ (b6 m c t 0 (⟨512 + n.val, by omega⟩ : Fin 1024)); pointwise []; blk_ext []
    · refine Eq.trans ?_ (b6 m c t 1 (⟨512 + n.val, by omega⟩ : Fin 1024)); pointwise []; blk_ext []
    · refine Eq.trans ?_ (b6 m c t 2 (⟨512 + n.val, by omega⟩ : Fin 1024)); pointwise []; blk_ext []
    · refine Eq.trans ?_ (b6 m c t 3 (⟨512 + n.val, by omega⟩ : Fin 1024)); pointwise []; blk_ext []
    · intro q
      refine (cov_all _ _ _ _).trans ?_
      by_cases h : 8 ≤ 5 + r.val + q.val
      · rw [dif_pos h]
        refine (pre41 m c t _ _ ?_ ?_ _ ?_ _ _).trans (past_in (A m c) t r q (⟨512 + n.val, by omega⟩ : Fin 1024) h)
        · intro l; pointwise []; blk_ext []
        · intro l; pointwise []; blk_ext []
        · intro k j; pointwise []; blk_ext []
      · rw [dif_neg h]
        refine Eq.trans ?_ (past_first (A m c) t h0 r q (⟨512 + n.val, by omega⟩ : Fin 1024) h)
        pointwise [k0_pay2]
    · exact congrArg (fun z => silu (conv z _ _)) (b7 m c t (⟨512 + n.val, by omega⟩ : Fin 1024))
  · rw [outsAt0_B m c t h0]; frame_out
    refine (pay46_at _ _ _ r n).trans ?_
    refine (pay44_at _ _ _ _ _ _ (fun k => (A m c).cw k (⟨512 + n.val, by omega⟩ : Fin 1024)) (past (A m c) (bat t) (row t r) (⟨512 + n.val, by omega⟩ : Fin 1024)) r (⟨512 + n.val, by omega⟩ : Fin 1024) ?_ ?_ ?_ ?_ ?_).trans ?_
    · refine Eq.trans ?_ (b6 m c t 0 (⟨512 + n.val, by omega⟩ : Fin 1024)); pointwise []; blk_ext []
    · refine Eq.trans ?_ (b6 m c t 1 (⟨512 + n.val, by omega⟩ : Fin 1024)); pointwise []; blk_ext []
    · refine Eq.trans ?_ (b6 m c t 2 (⟨512 + n.val, by omega⟩ : Fin 1024)); pointwise []; blk_ext []
    · refine Eq.trans ?_ (b6 m c t 3 (⟨512 + n.val, by omega⟩ : Fin 1024)); pointwise []; blk_ext []
    · intro q
      refine (over_all _ _ (Memref.IsWhole.read_unread _ _) _ _ _).trans ?_
      by_cases h : 8 ≤ 5 + r.val + q.val
      · rw [dif_pos h]
        refine (pre41 m c t _ _ ?_ ?_ _ ?_ _ _).trans (past_in (A m c) t r q (⟨512 + n.val, by omega⟩ : Fin 1024) h)
        · intro l; pointwise []; blk_ext []
        · intro l; pointwise []; blk_ext []
        · intro k j; pointwise []; blk_ext []
      · rw [dif_neg h]
        exact (kept m c ⟨t.val - 1, by omega⟩ ⟨5 + r.val + q.val, by omega⟩ (⟨512 + n.val, by omega⟩ : Fin 1024)).trans (past_prev (A m c) t h0 _ r q (⟨512 + n.val, by omega⟩ : Fin 1024) h)
    · exact congrArg (fun z => silu (conv z _ _)) (b7 m c t (⟨512 + n.val, by omega⟩ : Fin 1024))

/-- The recurrent value of a tile. -/
theorem o20 (c : Dev nD) (t : Fin cfg0.N) (r n : Fin 512) : (outsAt0 (F := Ideal) m c t.val t.isLt).2.2.2.2.2.2.2.2.2.1 (ix3 0 r n) = sVM (A m c) (bat t) (row t r) n := by
  by_cases h0 : t.val % 4 = 0
  · rw [outsAt0_A m c t h0]; frame_out
    refine (pay47_at _ _ (A m c).w ?_ r n).trans ?_
    · intro k j; refine Eq.trans ?_ (w6 m c t k j); pointwise []; blk_ext []
    rw [hrow m c t _ _ ?_ ?_ r]
    · rfl
    · intro l; pointwise []; blk_ext []
    · intro l; pointwise []; blk_ext []
  · rw [outsAt0_B m c t h0]; frame_out
    refine (pay47_at _ _ (A m c).w ?_ r n).trans ?_
    · intro k j; refine Eq.trans ?_ (w6 m c t k j); pointwise []; blk_ext []
    rw [hrow m c t _ _ ?_ ?_ r]
    · rfl
    · intro l; pointwise []; blk_ext []
    · intro l; pointwise []; blk_ext []

/-- The output gate of a tile. -/
theorem o21 (c : Dev nD) (t : Fin cfg0.N) (r n : Fin 512) : (outsAt0 (F := Ideal) m c t.val t.isLt).2.2.2.2.2.2.2.2.2.2.1 (ix3 0 r n) = sO (A m c) (bat t) (row t r) n := by
  by_cases h0 : t.val % 4 = 0
  · rw [outsAt0_A m c t h0]; frame_out
    refine (pay1_at _ _ (A m c).w ?_ r n).trans ?_
    · intro k j; refine Eq.trans ?_ (w7 m c t k j); pointwise [k0_pay48]; blk_ext []
    rw [hrow m c t _ _ ?_ ?_ r]
    · rfl
    · intro l; pointwise []; blk_ext []
    · intro l; pointwise []; blk_ext []
  · rw [outsAt0_B m c t h0]; frame_out
    refine (pay1_at _ _ (A m c).w ?_ r n).trans ?_
    · intro k j; refine Eq.trans ?_ (w7 m c t k j); pointwise [k0_pay48]; blk_ext []
    rw [hrow m c t _ _ ?_ ?_ r]
    · rfl
    · intro l; pointwise []; blk_ext []
    · intro l; pointwise []; blk_ext []

end Cert.InpIdeal.Tile

end
-- ==== Proof.InpStore.lean ====
/- The stores of a tile's queries, head after head, read at an index. -/
module
public import proofs.«01_k».proof.Proof.InpHist
@[expose] public section
set_option maxRecDepth 16384
noncomputable section
namespace Cert.InpIdeal.Tile
open Cert.InpIdeal Cert.InpIdeal.Gen Cert.InpRow Idealize.ShloMosaic Idealize.ShloMosaic.TcCoe Idealize.SL.Sem

/-- One store over earlier ones, read at an index. -/
theorem canon_put {s : Shape} {e : EltTy} (off size : Fin s.rank → ℕ) (inb : ∀ a, off a + size a ≤ s.size a) (v : (Rect.unit off size inb).shape.Idx → Elt Ideal e) (L) (y : s.Idx) :
    View.canon (Val := Elt Ideal) (s := s) (e := e) (⟨Rect.unit off size inb, v⟩ :: L) y
      = if h : ∀ a, off a ≤ (y a).val ∧ (y a).val < off a + size a then v (fun a => ⟨(y a).val - off a, by have := h a; show (y a).val - off a < size a; omega⟩) else View.canon (Val := Elt Ideal) (s := s) (e := e) L y := by
  by_cases h : ∀ a, off a ≤ (y a).val ∧ (y a).val < off a + size a
  · rw [dif_pos h]
    have hi : y = (Rect.unit off size inb).emb (fun a => ⟨(y a).val - off a, by have := h a; show (y a).val - off a < size a; omega⟩) := by
      funext a
      refine Fin.ext ?_
      have := h a
      show (y a).val = off a + 1 * ((y a).val - off a)
      omega
    refine (congrArg _ hi).trans ?_
    exact View.canon_cons_emb _ v L _
  · rw [dif_neg h]
    exact View.canon_cons_of_not_mem _ L (fun hh => h ((Rect.mem_set_unit (inb := inb)).1 hh))

/-- A head's queries stored in their square over what was stored before. -/
theorem qstep (a b d : ℕ) (inb : ∀ i : Fin 5, (![0, 0, a, b, d] : Fin 5 → ℕ) i + (![1, 1, 1, 64, 512] : Fin 5 → ℕ) i ≤ S1x1x4x128x1024.size i) (v : FVec Ideal S1x1x1x64x512 .bf16) (L) (g : Fin 4) (e : Fin 128) (j : Fin 1024) :
    View.canon (Val := Elt Ideal) (s := S1x1x4x128x1024) (e := .bf16) (⟨Rect.unit (s := S1x1x4x128x1024) ![0, 0, a, b, d] ![1, 1, 1, 64, 512] inb, v⟩ :: L) (ix5 0 0 g e j)
      = if h : g.val = a ∧ b ≤ e.val ∧ e.val < b + 64 ∧ d ≤ j.val ∧ j.val < d + 512 then v (ix5 0 0 0 ⟨e.val - b, by omega⟩ ⟨j.val - d, by omega⟩)
        else View.canon (Val := Elt Ideal) (s := S1x1x4x128x1024) (e := .bf16) L (ix5 0 0 g e j) := by
  have H := canon_put (s := S1x1x4x128x1024) (e := .bf16) ![0, 0, a, b, d] ![1, 1, 1, 64, 512] inb v L (ix5 0 0 g e j)
  refine H.trans ?_
  clear H
  by_cases h : g.val = a ∧ b ≤ e.val ∧ e.val < b + 64 ∧ d ≤ j.val ∧ j.val < d + 512
  · rw [dif_pos h]
    refine (dif_pos ?_).trans (congrArg v ?_)
    · intro i
      match i with
      | ⟨0, _⟩ => exact ⟨Nat.zero_le _, by show 0 < 0 + 1; omega⟩
      | ⟨1, _⟩ => exact ⟨Nat.zero_le _, by show 0 < 0 + 1; omega⟩
      | ⟨2, _⟩ => exact ⟨by show a ≤ g.val; omega, by show g.val < a + 1; omega⟩
      | ⟨3, _⟩ => exact ⟨h.2.1, h.2.2.1⟩
      | ⟨4, _⟩ => exact ⟨h.2.2.2.1, h.2.2.2.2⟩
    · funext i
      match i with
      | ⟨0, _⟩ => rfl
      | ⟨1, _⟩ => rfl
      | ⟨2, _⟩ => exact Subsingleton.elim (α := Fin 1) _ _
      | ⟨3, _⟩ => rfl
      | ⟨4, _⟩ => rfl
  · rw [dif_neg h]
    refine dif_neg ?_
    intro hh
    have h2 : a ≤ g.val ∧ g.val < a + 1 := hh 2
    have h3 : b ≤ e.val ∧ e.val < b + 64 := hh 3
    have h4 : d ≤ j.val ∧ j.val < d + 512 := hh 4
    exact h (by omega)
/-- All the stores of a tile's queries. -/
theorem canon_q (P : FVec Ideal S512x512 .bf16) (g : Fin 4) (e : Fin 128) (j : Fin 1024) :
    View.canon (Val := Elt Ideal) (s := S1x1x4x128x1024) (e := .bf16)
      [⟨Rect.unit (s := S1x1x4x128x1024) ![0, 0, 3, 64, 512] ![1, 1, 1, 64, 512] inb_S1x1x4x128x1024_S1x1x1x64x512_0_0_3_64_512, k0_pay21 P⟩,
       ⟨Rect.unit (s := S1x1x4x128x1024) ![0, 0, 3, 0, 0] ![1, 1, 1, 64, 512] inb_S1x1x4x128x1024_S1x1x1x64x512_0_0_3_0_0, k0_pay20 P⟩,
       ⟨Rect.unit (s := S1x1x4x128x1024) ![0, 0, 2, 64, 512] ![1, 1, 1, 64, 512] inb_S1x1x4x128x1024_S1x1x1x64x512_0_0_2_64_512, k0_pay19 P⟩,
       ⟨Rect.unit (s := S1x1x4x128x1024) ![0, 0, 2, 0, 0] ![1, 1, 1, 64, 512] inb_S1x1x4x128x1024_S1x1x1x64x512_0_0_2_0_0, k0_pay18 P⟩,
       ⟨Rect.unit (s := S1x1x4x128x1024) ![0, 0, 1, 64, 512] ![1, 1, 1, 64, 512] inb_S1x1x4x128x1024_S1x1x1x64x512_0_0_1_64_512, k0_pay17 (k0_pay16 P)⟩,
       ⟨Rect.unit (s := S1x1x4x128x1024) ![0, 0, 1, 0, 0] ![1, 1, 1, 64, 512] inb_S1x1x4x128x1024_S1x1x1x64x512_0_0_1_0_0, k0_pay15 P⟩,
       ⟨Rect.unit (s := S1x1x4x128x1024) ![0, 0, 0, 64, 512] ![1, 1, 1, 64, 512] inb_S1x1x4x128x1024_S1x1x1x64x512_0_0_0_64_512, k0_pay14 P⟩,
       ⟨Rect.unit (s := S1x1x4x128x1024) ![0, 0, 0, 0, 0] ![1, 1, 1, 64, 512] inb_S1x1x4x128x1024_S1x1x1x64x512_0_0_0_0_0, k0_pay13 P⟩,
       ⟨Rect.unit (s := S1x1x4x128x1024) ![0, 0, 0, 0, 0] ![1, 1, 4, 128, 1024] inb_S1x1x4x128x1024_S1x1x4x128x1024_0_0_0_0_0, k0_pay12 (F := Ideal)⟩] (ix5 0 0 g e j)
      = if e.val / 64 = j.val / 512 then P (ix2 ⟨g.val * 128 + e.val, by omega⟩ ⟨j.val % 512, by omega⟩) else 0 := by
  refine (qstep 3 64 512 _ _ _ g e j).trans ?_
  by_cases h0 : g.val = 3 ∧ 64 ≤ e.val ∧ e.val < 64 + 64 ∧ 512 ≤ j.val ∧ j.val < 512 + 512
  · rw [dif_pos h0, if_pos (by omega)]
    refine Eq.trans (b := P (ix2 ⟨448 + (e.val - 64), by omega⟩ ⟨j.val - 512, by omega⟩)) (by pointwise [k0_pay21]) ?_
    exact congrArg₂ (fun a b => P (ix2 a b)) (Fin.ext (by dsimp only; omega)) (Fin.ext (by dsimp only; omega))
  rw [dif_neg h0]
  refine (qstep 3 0 0 _ _ _ g e j).trans ?_
  by_cases h1 : g.val = 3 ∧ 0 ≤ e.val ∧ e.val < 0 + 64 ∧ 0 ≤ j.val ∧ j.val < 0 + 512
  · rw [dif_pos h1, if_pos (by omega)]
    refine Eq.trans (b := P (ix2 ⟨384 + (e.val - 0), by omega⟩ ⟨j.val - 0, by omega⟩)) (by pointwise [k0_pay20]) ?_
    exact congrArg₂ (fun a b => P (ix2 a b)) (Fin.ext (by dsimp only; omega)) (Fin.ext (by dsimp only; omega))
  rw [dif_neg h1]
  refine (qstep 2 64 512 _ _ _ g e j).trans ?_
  by_cases h2 : g.val = 2 ∧ 64 ≤ e.val ∧ e.val < 64 + 64 ∧ 512 ≤ j.val ∧ j.val < 512 + 512
  · rw [dif_pos h2, if_pos (by omega)]
    refine Eq.trans (b := P (ix2 ⟨320 + (e.val - 64), by omega⟩ ⟨j.val - 512, by omega⟩)) (by pointwise [k0_pay19]) ?_
    exact congrArg₂ (fun a b => P (ix2 a b)) (Fin.ext (by dsimp only; omega)) (Fin.ext (by dsimp only; omega))
  rw [dif_neg h2]
  refine (qstep 2 0 0 _ _ _ g e j).trans ?_
  by_cases h3 : g.val = 2 ∧ 0 ≤ e.val ∧ e.val < 0 + 64 ∧ 0 ≤ j.val ∧ j.val < 0 + 512
  · rw [dif_pos h3, if_pos (by omega)]
    refine Eq.trans (b := P (ix2 ⟨256 + (e.val - 0), by omega⟩ ⟨j.val - 0, by omega⟩)) (by pointwise [k0_pay18]) ?_
    exact congrArg₂ (fun a b => P (ix2 a b)) (Fin.ext (by dsimp only; omega)) (Fin.ext (by dsimp only; omega))
  rw [dif_neg h3]
  refine (qstep 1 64 512 _ _ _ g e j).trans ?_
  by_cases h4 : g.val = 1 ∧ 64 ≤ e.val ∧ e.val < 64 + 64 ∧ 512 ≤ j.val ∧ j.val < 512 + 512
  · rw [dif_pos h4, if_pos (by omega)]
    refine Eq.trans (b := P (ix2 ⟨192 + (e.val - 64), by omega⟩ ⟨j.val - 512, by omega⟩)) (by pointwise [k0_pay17, k0_pay16]) ?_
    exact congrArg₂ (fun a b => P (ix2 a b)) (Fin.ext (by dsimp only; omega)) (Fin.ext (by dsimp only; omega))
  rw [dif_neg h4]
  refine (qstep 1 0 0 _ _ _ g e j).trans ?_
  by_cases h5 : g.val = 1 ∧ 0 ≤ e.val ∧ e.val < 0 + 64 ∧ 0 ≤ j.val ∧ j.val < 0 + 512
  · rw [dif_pos h5, if_pos (by omega)]
    refine Eq.trans (b := P (ix2 ⟨128 + (e.val - 0), by omega⟩ ⟨j.val - 0, by omega⟩)) (by pointwise [k0_pay15]) ?_
    exact congrArg₂ (fun a b => P (ix2 a b)) (Fin.ext (by dsimp only; omega)) (Fin.ext (by dsimp only; omega))
  rw [dif_neg h5]
  refine (qstep 0 64 512 _ _ _ g e j).trans ?_
  by_cases h6 : g.val = 0 ∧ 64 ≤ e.val ∧ e.val < 64 + 64 ∧ 512 ≤ j.val ∧ j.val < 512 + 512
  · rw [dif_pos h6, if_pos (by omega)]
    refine Eq.trans (b := P (ix2 ⟨64 + (e.val - 64), by omega⟩ ⟨j.val - 512, by omega⟩)) (by pointwise [k0_pay14]) ?_
    exact congrArg₂ (fun a b => P (ix2 a b)) (Fin.ext (by dsimp only; omega)) (Fin.ext (by dsimp only; omega))
  rw [dif_neg h6]
  refine (qstep 0 0 0 _ _ _ g e j).trans ?_
  by_cases h7 : g.val = 0 ∧ 0 ≤ e.val ∧ e.val < 0 + 64 ∧ 0 ≤ j.val ∧ j.val < 0 + 512
  · rw [dif_pos h7, if_pos (by omega)]
    refine Eq.trans (b := P (ix2 ⟨0 + (e.val - 0), by omega⟩ ⟨j.val - 0, by omega⟩)) (by pointwise [k0_pay13]) ?_
    exact congrArg₂ (fun a b => P (ix2 a b)) (Fin.ext (by dsimp only; omega)) (Fin.ext (by dsimp only; omega))
  rw [dif_neg h7]
  have H := canon_put (s := S1x1x4x128x1024) (e := .bf16) ![0, 0, 0, 0, 0] ![1, 1, 4, 128, 1024] inb_S1x1x4x128x1024_S1x1x4x128x1024_0_0_0_0_0 (k0_pay12 (F := Ideal)) [] (ix5 0 0 g e j)
  rw [if_neg (by omega)]
  refine H.trans ((dif_pos ?_).trans ?_)
  · intro i
    match i with
    | ⟨0, _⟩ => exact ⟨Nat.zero_le _, by show 0 < 0 + 1; omega⟩
    | ⟨1, _⟩ => exact ⟨Nat.zero_le _, by show 0 < 0 + 1; omega⟩
    | ⟨2, _⟩ => exact ⟨Nat.zero_le _, by show g.val < 0 + 4; omega⟩
    | ⟨3, _⟩ => exact ⟨Nat.zero_le _, by show e.val < 0 + 128; omega⟩
    | ⟨4, _⟩ => exact ⟨Nat.zero_le _, by show j.val < 0 + 1024; omega⟩
  · exact Ideal.ofBits_zero .bf16

/-- A head's indexer queries stored beside what was stored before. -/
theorem istep (d : ℕ) (inb : ∀ i : Fin 4, (![0, 0, 0, d] : Fin 4 → ℕ) i + (![1, 1, 64, 512] : Fin 4 → ℕ) i ≤ S1x1x64x4096.size i) (v : FVec Ideal S1x1x64x512 .bf16) (L) (e : Fin 64) (j : Fin 4096) :
    View.canon (Val := Elt Ideal) (s := S1x1x64x4096) (e := .bf16) (⟨Rect.unit (s := S1x1x64x4096) ![0, 0, 0, d] ![1, 1, 64, 512] inb, v⟩ :: L) (ix4 0 0 e j)
      = if h : d ≤ j.val ∧ j.val < d + 512 then v (ix4 0 0 e ⟨j.val - d, by omega⟩)
        else View.canon (Val := Elt Ideal) (s := S1x1x64x4096) (e := .bf16) L (ix4 0 0 e j) := by
  have H := canon_put (s := S1x1x64x4096) (e := .bf16) ![0, 0, 0, d] ![1, 1, 64, 512] inb v L (ix4 0 0 e j)
  refine H.trans ?_
  clear H
  by_cases h : d ≤ j.val ∧ j.val < d + 512
  · rw [dif_pos h]
    refine (dif_pos ?_).trans (congrArg v ?_)
    · intro i
      match i with
      | ⟨0, _⟩ => exact ⟨Nat.zero_le _, by show 0 < 0 + 1; omega⟩
      | ⟨1, _⟩ => exact ⟨Nat.zero_le _, by show 0 < 0 + 1; omega⟩
      | ⟨2, _⟩ => exact ⟨Nat.zero_le _, by show e.val < 0 + 64; omega⟩
      | ⟨3, _⟩ => exact h
    · funext i
      match i with
      | ⟨0, _⟩ => rfl
      | ⟨1, _⟩ => rfl
      | ⟨2, _⟩ => rfl
      | ⟨3, _⟩ => rfl
  · rw [dif_neg h]
    refine dif_neg ?_
    intro hh
    have h4 : d ≤ j.val ∧ j.val < d + 512 := hh 3
    exact h h4

/-- All the stores of a tile's indexer queries. -/
theorem canon_i (P : FVec Ideal S512x512 .bf16) (e : Fin 64) (j : Fin 4096) :
    View.canon (Val := Elt Ideal) (s := S1x1x64x4096) (e := .bf16)
      [⟨Rect.unit (s := S1x1x64x4096) ![0, 0, 0, 3584] ![1, 1, 64, 512] inb_S1x1x64x4096_S1x1x64x512_0_0_0_3584, k0_pay30 P⟩,
       ⟨Rect.unit (s := S1x1x64x4096) ![0, 0, 0, 3072] ![1, 1, 64, 512] inb_S1x1x64x4096_S1x1x64x512_0_0_0_3072, k0_pay29 P⟩,
       ⟨Rect.unit (s := S1x1x64x4096) ![0, 0, 0, 2560] ![1, 1, 64, 512] inb_S1x1x64x4096_S1x1x64x512_0_0_0_2560, k0_pay28 P⟩,
       ⟨Rect.unit (s := S1x1x64x4096) ![0, 0, 0, 2048] ![1, 1, 64, 512] inb_S1x1x64x4096_S1x1x64x512_0_0_0_2048, k0_pay27 P⟩,
       ⟨Rect.unit (s := S1x1x64x4096) ![0, 0, 0, 1536] ![1, 1, 64, 512] inb_S1x1x64x4096_S1x1x64x512_0_0_0_1536, k0_pay26 P⟩,
       ⟨Rect.unit (s := S1x1x64x4096) ![0, 0, 0, 1024] ![1, 1, 64, 512] inb_S1x1x64x4096_S1x1x64x512_0_0_0_1024, k0_pay25 P⟩,
       ⟨Rect.unit (s := S1x1x64x4096) ![0, 0, 0, 512] ![1, 1, 64, 512] inb_S1x1x64x4096_S1x1x64x512_0_0_0_512, k0_pay24 (k0_pay23 P)⟩,
       ⟨Rect.unit (s := S1x1x64x4096) ![0, 0, 0, 0] ![1, 1, 64, 512] inb_S1x1x64x4096_S1x1x64x512_0_0_0_0, k0_pay22 P⟩] (ix4 0 0 e j)
      = P (ix2 ⟨j.val / 512 * 64 + e.val, by omega⟩ ⟨j.val % 512, by omega⟩) := by
  refine (istep 3584 _ _ _ e j).trans ?_
  by_cases h0 : 3584 ≤ j.val ∧ j.val < 3584 + 512
  · rw [dif_pos h0]
    refine Eq.trans (b := P (ix2 ⟨448 + e.val, by omega⟩ ⟨j.val - 3584, by omega⟩)) (by pointwise [k0_pay30]) ?_
    exact congrArg₂ (fun a b => P (ix2 a b)) (Fin.ext (by dsimp only; omega)) (Fin.ext (by dsimp only; omega))
  rw [dif_neg h0]
  refine (istep 3072 _ _ _ e j).trans ?_
  by_cases h1 : 3072 ≤ j.val ∧ j.val < 3072 + 512
  · rw [dif_pos h1]
    refine Eq.trans (b := P (ix2 ⟨384 + e.val, by omega⟩ ⟨j.val - 3072, by omega⟩)) (by pointwise [k0_pay29]) ?_
    exact congrArg₂ (fun a b => P (ix2 a b)) (Fin.ext (by dsimp only; omega)) (Fin.ext (by dsimp only; omega))
  rw [dif_neg h1]
  refine (istep 2560 _ _ _ e j).trans ?_
  by_cases h2 : 2560 ≤ j.val ∧ j.val < 2560 + 512
  · rw [dif_pos h2]
    refine Eq.trans (b := P (ix2 ⟨320 + e.val, by omega⟩ ⟨j.val - 2560, by omega⟩)) (by pointwise [k0_pay28]) ?_
    exact congrArg₂ (fun a b => P (ix2 a b)) (Fin.ext (by dsimp only; omega)) (Fin.ext (by dsimp only; omega))
  rw [dif_neg h2]
  refine (istep 2048 _ _ _ e j).trans ?_
  by_cases h3 : 2048 ≤ j.val ∧ j.val < 2048 + 512
  · rw [dif_pos h3]
    refine Eq.trans (b := P (ix2 ⟨256 + e.val, by omega⟩ ⟨j.val - 2048, by omega⟩)) (by pointwise [k0_pay27]) ?_
    exact congrArg₂ (fun a b => P (ix2 a b)) (Fin.ext (by dsimp only; omega)) (Fin.ext (by dsimp only; omega))
  rw [dif_neg h3]
  refine (istep 1536 _ _ _ e j).trans ?_
  by_cases h4 : 1536 ≤ j.val ∧ j.val < 1536 + 512
  · rw [dif_pos h4]
    refine Eq.trans (b := P (ix2 ⟨192 + e.val, by omega⟩ ⟨j.val - 1536, by omega⟩)) (by pointwise [k0_pay26]) ?_
    exact congrArg₂ (fun a b => P (ix2 a b)) (Fin.ext (by dsimp only; omega)) (Fin.ext (by dsimp only; omega))
  rw [dif_neg h4]
  refine (istep 1024 _ _ _ e j).trans ?_
  by_cases h5 : 1024 ≤ j.val ∧ j.val < 1024 + 512
  · rw [dif_pos h5]
    refine Eq.trans (b := P (ix2 ⟨128 + e.val, by omega⟩ ⟨j.val - 1024, by omega⟩)) (by pointwise [k0_pay25]) ?_
    exact congrArg₂ (fun a b => P (ix2 a b)) (Fin.ext (by dsimp only; omega)) (Fin.ext (by dsimp only; omega))
  rw [dif_neg h5]
  refine (istep 512 _ _ _ e j).trans ?_
  by_cases h6 : 512 ≤ j.val ∧ j.val < 512 + 512
  · rw [dif_pos h6]
    refine Eq.trans (b := P (ix2 ⟨64 + e.val, by omega⟩ ⟨j.val - 512, by omega⟩)) (by pointwise [k0_pay24, k0_pay23]) ?_
    exact congrArg₂ (fun a b => P (ix2 a b)) (Fin.ext (by dsimp only; omega)) (Fin.ext (by dsimp only; omega))
  rw [dif_neg h6]
  refine (istep 0 _ _ _ e j).trans ?_
  by_cases h7 : 0 ≤ j.val ∧ j.val < 0 + 512
  · rw [dif_pos h7]
    refine Eq.trans (b := P (ix2 ⟨0 + e.val, by omega⟩ ⟨j.val - 0, by omega⟩)) (by pointwise [k0_pay22]) ?_
    exact congrArg₂ (fun a b => P (ix2 a b)) (Fin.ext (by dsimp only; omega)) (Fin.ext (by dsimp only; omega))
  rw [dif_neg h7]
  exact absurd j.isLt (by omega)

end Cert.InpIdeal.Tile
end
-- ==== Proof.InpQuery.lean ====
/- The queries that a grid point of the input projection's kernel writes. -/
module

public import proofs.«01_k».proof.Proof.InpHist
public import proofs.«01_k».proof.Proof.InpStore

@[expose] public section

set_option maxRecDepth 16384

noncomputable section

namespace Cert.InpIdeal.Tile

open Cert.InpIdeal Cert.InpIdeal.Gen Cert.InpRow Idealize.ShloMosaic Idealize.ShloMosaic.TcCoe Idealize.SL.Sem

variable (m : (ℓ : Loc nD τ sig) → Buf (Elt Ideal) ℓ)

/-- A scaled query of a tile, before it is stored. -/
theorem q_tile (c : Dev nD) (t : Fin cfg0.N) (v5 v7 : FVec Ideal S1x1x1024 .f32) (h5 : ∀ l, v5 (ix3 0 0 l) = (iblk m c 1 t : FVec Ideal S1x6x1024 .f32) (ix3 0 0 l))
    (h7 : ∀ l, v7 (ix3 0 0 l) = (iblk m c 1 t : FVec Ideal S1x6x1024 .f32) (ix3 0 1 l)) (w : FVec Ideal S1x1024x256 .bf16)
    (hw : ∀ (k : Fin 1024) (j : Fin 256), w (ix3 0 k j) = (iblk m c 3 t : FVec Ideal S1x1024x3456 .bf16) (ix3 0 k ⟨j.val, by omega⟩)) (n r : Fin 512) :
    k0_pay9 (F := Ideal) (k0_pay3 (iblk m c 0 t) v5 v7 (iblk m c 2 t)) (k0_pay4 (iblk m c 9 t)) (k0_pay5 (iblk m c 10 t)) w (iblk m c 4 t) (iblk m c 5 t) (ix2 n r)
      = sQ (A m c) (bat t) (row t r) n := by
  refine (pay9_at _ _ _ w _ _ (A m c).w ?_ (A m c).u ?_ n r).trans ?_
  · intro k j; exact (hw k j).trans (w0 m c t k ⟨j.val, by omega⟩)
  · intro k j; exact ua m c t k j
  rw [hrow m c t v5 v7 h5 h7 r, crow, srow, qrow]
  rfl

/-- An indexer's query of a tile, before it is stored. -/
theorem qi_tile (c : Dev nD) (t : Fin cfg0.N) (v5 v7 : FVec Ideal S1x1x1024 .f32) (h5 : ∀ l, v5 (ix3 0 0 l) = (iblk m c 1 t : FVec Ideal S1x6x1024 .f32) (ix3 0 0 l))
    (h7 : ∀ l, v7 (ix3 0 0 l) = (iblk m c 1 t : FVec Ideal S1x6x1024 .f32) (ix3 0 1 l)) (w : FVec Ideal S1x1024x256 .bf16)
    (hw : ∀ (k : Fin 1024) (j : Fin 256), w (ix3 0 k j) = (iblk m c 3 t : FVec Ideal S1x1024x3456 .bf16) (ix3 0 k ⟨j.val, by omega⟩)) (n r : Fin 512) :
    k0_pay11 (F := Ideal) (k0_pay6 (k0_pay4 (iblk m c 9 t))) (k0_pay7 (k0_pay5 (iblk m c 10 t)))
        (k0_pay10 (k0_pay3 (iblk m c 0 t) v5 v7 (iblk m c 2 t)) w (iblk m c 4 t) (iblk m c 5 t)) (iota .tc S512x512 32 [1] iota_S512x512_d1_w32) 32#32 (ix2 n r)
      = sQI (A m c) (bat t) (row t r) n := by
  refine (pay11_at _ _ _ n r).trans ?_
  have e : (fun j : Fin 512 => k0_pay10 (F := Ideal) (k0_pay3 (iblk m c 0 t) v5 v7 (iblk m c 2 t)) w (iblk m c 4 t) (iblk m c 5 t) (ix2 r j))
      = up (hr (A m c) (bat t) (row t r)) (A m c).w (A m c).q (A m c).v := by
    funext j
    refine (pay10_at _ w _ _ (A m c).w ?_ (A m c).v ?_ r j).trans ?_
    · intro k j; exact (hw k j).trans (w0 m c t k ⟨j.val, by omega⟩)
    · intro k j; exact ub m c t k j
    rw [hrow m c t v5 v7 h5 h7 r, qrow]
  rw [e, crow, srow]
  rfl

/-- The scaled queries of a tile. -/
theorem o11 (c : Dev nD) (t : Fin cfg0.N) (g : Fin 4) (e : Fin 128) (j : Fin 1024) : (outsAt0 (F := Ideal) m c t.val t.isLt).1 (ix5 0 0 g e j) = sT (A m c) (bat t) ⟨t.val % 4, by omega⟩ g e j := by
  by_cases h0 : t.val % 4 = 0
  · rw [outsAt0_A m c t h0]; frame_out
    refine (canon_q _ g e j).trans ?_
    refine ite_congr rfl (fun _ => ?_) (fun _ => rfl)
    refine (q_tile m c t _ _ ?_ ?_ _ ?_ _ _).trans rfl
    · intro l; pointwise []; blk_ext []
    · intro l; pointwise []; blk_ext []
    · intro k j; pointwise []; blk_ext []
  · rw [outsAt0_B m c t h0]; frame_out
    refine (canon_q _ g e j).trans ?_
    refine ite_congr rfl (fun _ => ?_) (fun _ => rfl)
    refine (q_tile m c t _ _ ?_ ?_ _ ?_ _ _).trans rfl
    · intro l; pointwise []; blk_ext []
    · intro l; pointwise []; blk_ext []
    · intro k j; pointwise []; blk_ext []

/-- The indexer's queries of a tile. -/
theorem o12 (c : Dev nD) (t : Fin cfg0.N) (e : Fin 64) (j : Fin 4096) : (outsAt0 (F := Ideal) m c t.val t.isLt).2.1 (ix4 0 0 e j) = sTI (A m c) (bat t) ⟨t.val % 4, by omega⟩ e j := by
  by_cases h0 : t.val % 4 = 0
  · rw [outsAt0_A m c t h0]; frame_out
    refine (canon_i _ e j).trans ?_
    refine (qi_tile m c t _ _ ?_ ?_ _ ?_ _ _).trans rfl
    · intro l; pointwise []; blk_ext []
    · intro l; pointwise []; blk_ext []
    · intro k j; pointwise []; blk_ext []
  · rw [outsAt0_B m c t h0]; frame_out
    refine (canon_i _ e j).trans ?_
    refine (qi_tile m c t _ _ ?_ ?_ _ ?_ _ _).trans rfl
    · intro l; pointwise []; blk_ext []
    · intro l; pointwise []; blk_ext []
    · intro k j; pointwise []; blk_ext []

end Cert.InpIdeal.Tile

end
-- ==== Proof.InpRef.lean ====
/- The reference of the input projection: its stages, as the run names them, read one position at a time at the plain
   formulas. -/
module

public import proofs.«01_k».proof.Proof.Gen.InpRefIdeal.Run
public import proofs.«01_k».proof.Proof.InpRow
public import Idealize.ShloMosaic.Lib.Pointwise
public import Idealize.ShloMosaic.Lib.WordCmp

@[expose] public section

set_option maxRecDepth 16384

noncomputable section

namespace Cert.InpRefIdeal.Hand

open Cert.InpRefIdeal Cert.InpRefIdeal.Gen Cert.InpRefIdeal.Value Cert.InpRow Idealize.ShloMosaic Idealize.ShloMosaic.TcCoe Idealize.SL.Sem
open Idealize.ShloMosaic.StableHlo

variable (V : Valuation τ sig (Elt Ideal))

/-- The arguments as the formulas take them. -/
def AR : Args where
  x b p l := V (Proc.devRef .tc main_arg0) (ix3 b p l)
  mo b k l := V (Proc.devRef .tc main_arg1) (ix3 b k l)
  nw l := V (Proc.devRef .tc main_arg2) (ix2 0 l)
  w k j := V (Proc.devRef .tc main_arg3) (ix3 0 k j)
  q k := V (Proc.devRef .tc main_arg4) (ix2 0 k)
  u k j := V (Proc.devRef .tc main_arg5) (ix3 0 k j)
  v k j := V (Proc.devRef .tc main_arg6) (ix3 0 k j)
  cw k l := V (Proc.devRef .tc main_arg7) (ix3 0 k l)
  cb l := V (Proc.devRef .tc main_arg8) (ix2 0 l)
  bi k := V (Proc.devRef .tc main_arg9) (ix2 0 k)
  bf k := V (Proc.devRef .tc main_arg10) (ix2 0 k)
  c b p l := V (Proc.devRef .tc main_arg11) (ix3 b p l)
  s b p l := V (Proc.devRef .tc main_arg12) (ix3 b p l)

theorem v29_at (b : Fin 16) (p : Fin 2048) (j : Fin 3408) : res_main_v29 V (ix3 b p j) = pc (AR V) b p j := by
  pointwise [res_main_v29, pc, col, hr, FfnRow.pre, FfnRow.rms, AR]

theorem v57_at (b : Fin 16) (p : Fin 2048) (k : Fin 256) : res_main_v57 V (ix3 b p k) = cqn (hr (AR V) b p) (AR V).w (AR V).q k := by
  pointwise [res_main_v57, res_main_v30, cqn, v29_at, pc]
  rfl

theorem v61_at (b : Fin 16) (p : Fin 2048) (g : Fin 4) (h : Fin 2) (e : Fin 64) :
    res_main_v61 V (ix5 b p g h e) = up (hr (AR V) b p) (AR V).w (AR V).q (AR V).u ⟨g.val * 128 + h.val * 64 + e.val, by omega⟩ := by
  pointwise [res_main_v61, up, v57_at]
  rfl

theorem v84_at (b : Fin 16) (p : Fin 2048) (g : Fin 4) (h : Fin 2) (e : Fin 64) :
    res_main_v84 V (ix5 b p g h e) = pc (AR V) b p ⟨256 + (g.val * 128 + h.val * 64 + e.val), by omega⟩ := by
  pointwise [res_main_v84, v29_at]

theorem v41_at (b : Fin 16) (p : Fin 2048) (h : Fin 2) (e : Fin 64) :
    res_main_v41 V (ix5 b p 0 h e) = (AR V).c b p ⟨h.val * 64 + e.val, by omega⟩ := by
  pointwise [res_main_v41]
  rfl

theorem v42_at (b : Fin 16) (p : Fin 2048) (h : Fin 2) (e : Fin 64) :
    res_main_v42 V (ix5 b p 0 h e) = (AR V).s b p ⟨h.val * 64 + e.val, by omega⟩ := by
  pointwise [res_main_v42]
  rfl

theorem v75_at (b : Fin 16) (p : Fin 2048) (g : Fin 4) (h : Fin 2) (e : Fin 64) :
    res_main_v75 V (ix5 b p g h e) = up (hr (AR V) b p) (AR V).w (AR V).q (AR V).v ⟨g.val * 128 + h.val * 64 + e.val, by omega⟩ := by
  pointwise [res_main_v75, up, v57_at]
  rfl

/-- The rotation of a head of two, as the reference writes it. -/
def ropeN (x : FVec Ideal S16x2048x4x2x64 .f32) (c s : FVec Ideal S16x2048x1x2x64 .f32) : FVec Ideal S16x2048x4x2x64 .f32 :=
  addf (mulf x (broadcastInDim S16x2048x4x2x64 ![0, 1, 2, 3, 4] bcast_S16x2048x1x2x64_S16x2048x4x2x64_0_1_2_3_4 c)) (mulf (concatenate S16x2048x4x2x64 4 [⟨S16x2048x4x2x32, (extractStridedSlice S16x2048x4x2x32 ![0, 0, 0, 0, 32] x slices_S16x2048x4x2x64_S16x2048x4x2x32_0_0_0_0_32)⟩, ⟨S16x2048x4x2x32, (extractStridedSlice S16x2048x4x2x32 ![0, 0, 0, 0, 0] x slices_S16x2048x4x2x64_S16x2048x4x2x32_0_0_0_0_0)⟩] concatenates_S16x2048x4x2x32_S16x2048x4x2x32_S16x2048x4x2x64_d4) (broadcastInDim S16x2048x4x2x64 ![0, 1, 2, 3, 4] bcast_S16x2048x1x2x64_S16x2048x4x2x64_0_1_2_3_4 s))

theorem ropeN_at (x : FVec Ideal S16x2048x4x2x64 .f32) (c s : FVec Ideal S16x2048x1x2x64 .f32) (X : Fin 512 → EReal) (C S : Fin 128 → EReal) (b : Fin 16) (p : Fin 2048)
    (hx : ∀ (g : Fin 4) (h : Fin 2) (e : Fin 64), x (ix5 b p g h e) = X ⟨g.val * 128 + h.val * 64 + e.val, by omega⟩)
    (hc : ∀ (h : Fin 2) (e : Fin 64), c (ix5 b p 0 h e) = C ⟨h.val * 64 + e.val, by omega⟩)
    (hs : ∀ (h : Fin 2) (e : Fin 64), s (ix5 b p 0 h e) = S ⟨h.val * 64 + e.val, by omega⟩)
    (g : Fin 4) (h : Fin 2) (e : Fin 64) :
    ropeN x c s (ix5 b p g h e) = rope X C S ⟨g.val * 128 + h.val * 64 + e.val, by omega⟩ := by
  pointwise [ropeN]
  unfold rope
  have e1 : (⟨g.val * 128 + h.val * 64 + e.val, by omega⟩ : Fin 512).val % 128 = h.val * 64 + e.val := by dsimp only; omega
  refine congrArg₂ (· + ·) (congrArg₂ (· * ·) (hx g h e) ((hc h e).trans (congrArg C (Fin.ext e1.symm)))) (congrArg₂ (· * ·) ?_ ((hs h e).trans (congrArg S (Fin.ext e1.symm))))
  split_ifs with h1 h2
  · refine (hx g h _).trans (congrArg X (Fin.ext ?_))
    show g.val * 128 + h.val * 64 + (32 + e.val) = swp (g.val * 128 + h.val * 64 + e.val)
    unfold swp
    rw [if_pos (by omega)]
    omega
  · refine (hx g h _).trans (congrArg X (Fin.ext ?_))
    show g.val * 128 + h.val * 64 + (e.val - 32) = swp (g.val * 128 + h.val * 64 + e.val)
    unfold swp
    rw [if_neg (by omega)]
    omega
  · exact absurd rfl h2

theorem q_at (b : Fin 16) (p : Fin 2048) (g : Fin 4) (h : Fin 2) (e : Fin 64) :
    ropeN (res_main_v61 V) (res_main_v41 V) (res_main_v42 V) (ix5 b p g h e)
      = rope (up (hr (AR V) b p) (AR V).w (AR V).q (AR V).u) ((AR V).c b p) ((AR V).s b p) ⟨g.val * 128 + h.val * 64 + e.val, by omega⟩ :=
  ropeN_at _ _ _ _ _ _ b p (v61_at V b p) (v41_at V b p) (v42_at V b p) g h e

theorem qi_at (b : Fin 16) (p : Fin 2048) (g : Fin 4) (h : Fin 2) (e : Fin 64) :
    ropeN (res_main_v75 V) (res_main_v41 V) (res_main_v42 V) (ix5 b p g h e) = sQI (AR V) b p ⟨g.val * 128 + h.val * 64 + e.val, by omega⟩ :=
  ropeN_at _ _ _ _ _ _ b p (v75_at V b p) (v41_at V b p) (v42_at V b p) g h e

theorem k_at (b : Fin 16) (p : Fin 2048) (g : Fin 4) (h : Fin 2) (e : Fin 64) :
    ropeN (res_main_v84 V) (res_main_v41 V) (res_main_v42 V) (ix5 b p g h e) = sK (AR V) b p ⟨g.val * 128 + h.val * 64 + e.val, by omega⟩ :=
  ropeN_at _ _ _ _ _ _ b p (v84_at V b p) (v41_at V b p) (v42_at V b p) g h e

/-- The key. -/
def kN : FVec Ideal S16x2048x512 .bf16 :=
  truncf .bf16 (shapeCast _ (ropeN (res_main_v84 V) (res_main_v41 V) (res_main_v42 V)) shapeCasts_S16x2048x4x2x64_S16x2048x512) bitsLt_bf16_f32

theorem kN_at (b : Fin 16) (p : Fin 2048) (n : Fin 512) : kN V (ix3 b p n) = sK (AR V) b p n := by
  pointwise [kN, k_at]
  exact congrArg (sK (AR V) b p) (Fin.ext (by dsimp only; omega))

/-- The value. -/
def vN : FVec Ideal S16x512x2048 .bf16 :=
  truncf .bf16 (transpose S16x512x2048 [0, 2, 1] (extractStridedSlice S16x2048x512 ![0, 0, 768] (res_main_v29 V) slices_S16x2048x3408_S16x2048x512_0_0_768) transposes_S16x2048x512_S16x512x2048_0_2_1) bitsLt_bf16_f32

theorem vN_at (b : Fin 16) (n : Fin 512) (p : Fin 2048) : vN V (ix3 b n p) = sV (AR V) b p n := by
  pointwise [vN, v29_at, sV]

/-- The indexer's key. -/
def kiN : FVec Ideal S16x2048x64 .bf16 :=
  truncf .bf16 (addf (mulf (res_main_v33 V) (shapeCast _ (extractStridedSlice S16x2048x1x1x64 ![0, 0, 0, 0, 0] (res_main_v41 V) slices_S16x2048x1x2x64_S16x2048x1x1x64_0_0_0_0_0) shapeCasts_S16x2048x1x1x64_S16x2048x64)) (mulf (concatenate S16x2048x64 2 [⟨S16x2048x32, (extractStridedSlice S16x2048x32 ![0, 0, 32] (res_main_v33 V) slices_S16x2048x64_S16x2048x32_0_0_32)⟩, ⟨S16x2048x32, (extractStridedSlice S16x2048x32 ![0, 0, 0] (res_main_v33 V) slices_S16x2048x64_S16x2048x32_0_0_0)⟩] concatenates_S16x2048x32_S16x2048x32_S16x2048x64_d2) (shapeCast _ (extractStridedSlice S16x2048x1x1x64 ![0, 0, 0, 0, 0] (res_main_v42 V) slices_S16x2048x1x2x64_S16x2048x1x1x64_0_0_0_0_0) shapeCasts_S16x2048x1x1x64_S16x2048x64))) bitsLt_bf16_f32

theorem v33_at (b : Fin 16) (p : Fin 2048) (n : Fin 64) : res_main_v33 V (ix3 b p n) = pc (AR V) b p ⟨1280 + n.val, by omega⟩ := by
  pointwise [res_main_v33, v29_at]

theorem kiN_at (b : Fin 16) (p : Fin 2048) (n : Fin 64) : kiN V (ix3 b p n) = sKI (AR V) b p n := by
  pointwise [kiN, v33_at, v41_at, v42_at, sKI, rope64]
  refine congrArg₂ (· + ·) rfl (congrArg₂ (· * ·) ?_ rfl)
  unfold swp
  by_cases h : n.val < 32
  · refine (dif_pos h).trans (congrArg (pc (AR V) b p) (Fin.ext ?_))
    show 1280 + (32 + n.val) = 1280 + (if n.val % 64 < 32 then n.val + 32 else n.val - 32)
    rw [if_pos (by omega)]; omega
  · refine (dif_neg h).trans (congrArg (pc (AR V) b p) (Fin.ext ?_))
    show 1280 + (n.val - 32) = 1280 + (if n.val % 64 < 32 then n.val + 32 else n.val - 32)
    rw [if_neg (by omega)]

/-- The indexer's head weight. -/
theorem w_at (h) (b : Fin 16) (n : Fin 8) (p : Fin 2048) :
    transpose S16x8x2048 [0, 2, 1] (mulf (extractStridedSlice S16x2048x8 ![0, 0, 1344] (res_main_v29 V) slices_S16x2048x3408_S16x2048x8_0_0_1344) (broadcastInDim S16x2048x8 ![] bcast_S_S16x2048x8 (constant (F := Ideal) S_ .f32 0x3D3504F3#32))) h (ix3 b n p) = sW (AR V) b p n := by
  pointwise [v29_at, sW]

/-- The reference's log-sigmoid, as the kernel writes it. -/
theorem ls (x : EReal) (d : Decidable (-x ≠ -x)) : -(@ite _ (-x ≠ -x) d (-x) <| max (-x) 0 + Ideal.log1p (Ideal.exp (-FloatOps.absf (F := Ideal) (φ := .f32) (-x)))) = logsig x := by
  rw [if_neg (by simp)]
  have e : FloatOps.absf (F := Ideal) (φ := .f32) (-x) = FloatOps.absf (F := Ideal) (φ := .f32) x := by
    show max (-x) (- -x) = max x (-x)
    rw [neg_neg, max_comm]
  unfold logsig
  rw [e, zero_sub]
  have h : max (-x) 0 ≠ ⊤ ∨ Ideal.log1p (Ideal.exp (-FloatOps.absf (F := Ideal) (φ := .f32) x)) ≠ ⊥ := by
    by_cases hx : x = ⊥
    · right
      subst hx
      show Ideal.log1p (Ideal.exp (-(max ⊥ (-⊥)))) ≠ ⊥
      simp only [EReal.neg_bot, bot_le, max_eq_right, EReal.neg_top, Ideal.log1p]
      show Ideal.log (1 + 0) ≠ ⊥
      rw [add_zero]
      show (if (1 : ℝ) ≤ 0 then (⊥ : EReal) else (Real.log 1 : EReal)) ≠ ⊥
      rw [if_neg (by norm_num)]
      exact EReal.coe_ne_bot _
    · left
      rcases le_total (-x) 0 with h | h
      · rw [max_eq_right h]; simp
      · rw [max_eq_left h]; intro hh; exact hx (by simpa using hh)
  have h' : max (-x) 0 ≠ ⊥ := by
    intro hh
    have := le_max_right (-x) 0
    rw [hh] at this
    simp at this
  rw [EReal.neg_add (Or.inl h') h, sub_eq_add_neg, sub_eq_add_neg]
  refine congrArg (· + _) ?_
  rcases le_total x 0 with h | h
  · rw [min_eq_left h, max_eq_left (by simpa using h), neg_neg]
  · rw [min_eq_right h, max_eq_right (by simpa using h), neg_zero]

/-- The gates. -/
def gN : FVec Ideal S16x8x2048 .f32 :=
  concatenate S16x8x2048 1 [⟨S16x4x2048, (transpose S16x4x2048 [0, 2, 1] (addf (extractStridedSlice S16x2048x4 ![0, 0, 3400] (res_main_v29 V) slices_S16x2048x3408_S16x2048x4_0_0_3400) (broadcastInDim S16x2048x4 ![0, 1, 2] bcast_S1x1x4_S16x2048x4_0_1_2 (broadcastInDim S1x1x4 ![2] bcast_S4_S1x1x4_2 (shapeCast _ (extractStridedSlice S1x4 ![0, 0] (V (Proc.devRef .tc main_arg9)) slices_S2x4_S1x4_0_0) shapeCasts_S1x4_S4)))) transposes_S16x2048x4_S16x4x2048_0_2_1)⟩, ⟨S16x4x2048, (transpose S16x4x2048 [0, 2, 1] (Host.negf (select (cmpf .une (res_main_call2_call0_v3 V) (res_main_call2_call0_v3 V)) (addf (res_main_call2_v0 V) (broadcastInDim S16x2048x4 ![] bcast_S_S16x2048x4 (res_main_call2_call0_cst V))) (addf (maximumf (res_main_call2_v0 V) (broadcastInDim S16x2048x4 ![] bcast_S_S16x2048x4 (res_main_call2_call0_cst V))) (Host.log1p (Host.exp (Host.negf (Host.absf (res_main_call2_call0_v3 V)))))))) transposes_S16x2048x4_S16x4x2048_0_2_1)⟩] concatenates_S16x4x2048_S16x4x2048_S16x8x2048_d1

theorem gN_at (b : Fin 16) (n : Fin 8) (p : Fin 2048) : gN V (ix3 b n p) = sG (AR V) b p n := by
  pointwise [gN, v29_at, res_main_call2_call0_v3, res_main_call2_v0, res_main_call2_call0_cst]
  unfold sG
  by_cases h : n.val < 4
  · simp only [dif_pos h]; rfl
  · simp only [dif_neg h]
    have e : (⟨3404 + (n.val - 4), by omega⟩ : Fin 3408) = ⟨3400 + n.val, by omega⟩ := Fin.ext (by dsimp only; omega)
    refine (ls _ _).trans (congrArg logsig ?_)
    exact congrArg₂ (· + ·) (congrArg (pc (AR V) b p) e) rfl

/-- The padded convolution's input, `3 - t` positions back. -/
theorem v110_at (b : Fin 16) (p : Fin 2048) (t : Fin 4) (n : Fin 1024) :
    res_main_v110 V (ix3 b ⟨p.val + t.val, by omega⟩ n) = past (AR V) b p n t := by
  pointwise [res_main_v110, v29_at]
  unfold past
  by_cases h : 3 ≤ p.val + t.val
  · rw [dif_pos ⟨h, by omega⟩, dif_pos h]
    by_cases h1 : n.val < 512
    · exact dif_pos h1
    · exact (dif_neg h1).trans (congrArg (pc (AR V) b _) (Fin.ext (by dsimp only; omega)))
  · rw [dif_neg (fun hh => h hh.1), dif_neg h]
    show ((((0#32 : BitVec 32).toInt : ℤ) : ℝ) : EReal) = 0
    simp

/-- The convolution's sum in the other order. -/
theorem order (a0 a1 a2 a3 w0 w1 w2 w3 z : EReal) : a0 * w0 + a1 * w1 + a2 * w2 + a3 * w3 + z = z + w0 * a0 + w1 * a1 + w2 * a2 + w3 * a3 := by
  rw [mul_comm a0, mul_comm a1, mul_comm a2, mul_comm a3, add_comm, ← add_assoc, ← add_assoc, ← add_assoc]

theorem v142_at (b : Fin 16) (p : Fin 2048) (n : Fin 1024) :
    res_main_v142 V (ix3 b p n) = conv ((AR V).cb n) (fun t => (AR V).cw t n) (past (AR V) b p n) := by
  pointwise [res_main_v142, res_main_v107]
  have e : ∀ (t : Fin 4) (h : t.val + p.val < 2051), res_main_v110 V (ix3 b ⟨t.val + p.val, h⟩ n) = past (AR V) b p n t := fun t h =>
    Eq.trans (congrArg (fun j => res_main_v110 V (ix3 b j n)) (Fin.ext (Nat.add_comm _ _))) (v110_at V b p t n)
  have e0 : res_main_v110 V (ix3 b ⟨p.val, by omega⟩ n) = past (AR V) b p n 0 := v110_at V b p 0 n
  have e1 : res_main_v110 V (ix3 b ⟨1 + p.val, by omega⟩ n) = past (AR V) b p n 1 := e 1 (by show 1 + p.val < 2051; omega)
  have e2 : res_main_v110 V (ix3 b ⟨2 + p.val, by omega⟩ n) = past (AR V) b p n 2 := e 2 (by show 2 + p.val < 2051; omega)
  have e3 : res_main_v110 V (ix3 b ⟨3 + p.val, by omega⟩ n) = past (AR V) b p n 3 := e 3 (by show 3 + p.val < 2051; omega)
  rw [e0, e1, e2, e3]
  exact order _ _ _ _ _ _ _ _ _

theorem v143_at (b : Fin 16) (p : Fin 2048) (n : Fin 1024) : res_main_v143 V (ix3 b p n) = sC (AR V) b p n := by
  pointwise [res_main_v143, sC, v142_at, silu, Ideal.logistic]

theorem qm_at (b : Fin 16) (p : Fin 2048) (n : Fin 512) :
    truncf (F := Ideal) .bf16 (mulf (extractStridedSlice S16x2048x512 ![0, 0, 0] (res_main_v143 V) slices_S16x2048x1024_S16x2048x512_0_0_0) (broadcastInDim S16x2048x512 ![] bcast_S_S16x2048x512 (constant S_ .f32 0x3DB504F3#32))) bitsLt_bf16_f32 (ix3 b p n) = sQM (AR V) b p n := by
  pointwise [v143_at, sQM]

theorem km_at (b : Fin 16) (p : Fin 2048) (n : Fin 512) :
    truncf (F := Ideal) .bf16 (extractStridedSlice S16x2048x512 ![0, 0, 512] (res_main_v143 V) slices_S16x2048x1024_S16x2048x512_0_0_512) bitsLt_bf16_f32 (ix3 b p n) = sKM (AR V) b p n := by
  pointwise [v143_at, sKM]

theorem vm_at (b : Fin 16) (p : Fin 2048) (n : Fin 512) :
    truncf (F := Ideal) .bf16 (extractStridedSlice S16x2048x512 ![0, 0, 2376] (res_main_v29 V) slices_S16x2048x3408_S16x2048x512_0_0_2376) bitsLt_bf16_f32 (ix3 b p n) = sVM (AR V) b p n := by
  pointwise [v29_at, sVM]

theorem om_at (b : Fin 16) (p : Fin 2048) (n : Fin 512) :
    extractStridedSlice S16x2048x512 ![0, 0, 2888] (res_main_v29 V) slices_S16x2048x3408_S16x2048x512_0_0_2888 (ix3 b p n) = sO (AR V) b p n := by
  pointwise [v29_at, sO]

/-- The indexer's queries. -/
def qiN : FVec Ideal S16x4x64x4096 .bf16 :=
  truncf .bf16 (shapeCast _ (transpose S16x4x64x8x512 [0, 1, 4, 3, 2] (shapeCast _ (ropeN (res_main_v75 V) (res_main_v41 V) (res_main_v42 V)) shapeCasts_S16x2048x4x2x64_S16x4x512x8x64) transposes_S16x4x512x8x64_S16x4x64x8x512_0_1_4_3_2) shapeCasts_S16x4x64x8x512_S16x4x64x4096) bitsLt_bf16_f32

theorem qiN_at (b : Fin 16) (tl : Fin 4) (e : Fin 64) (j : Fin 4096) : qiN V (ix4 b tl e j) = sTI (AR V) b tl e j := by
  pointwise [qiN, qi_at, sTI]
  exact congrArg (sQI (AR V) b _) (Fin.ext (by dsimp only; omega))

/-- The scaled queries, two heads to a block-diagonal square. -/
def qN : FVec Ideal S16x4x4x128x1024 .bf16 :=
  truncf .bf16 (shapeCast _ (select (broadcastInDim S16x4x4x2x64x2x512 ![3, 4, 5, 6] bcast_S2x1x2x1_S16x4x4x2x64x2x512_3_4_5_6 (broadcastInDim S2x1x2x1 ![0, 2] bcast_S2x2_S2x1x2x1_0_2 (cmpi .eq (addi (iotaInDim S2x2 32 0) (broadcastInDim S2x2 ![] bcast_S_S2x2 (constantI S_ 32 0#32))) (iotaInDim S2x2 32 1)))) (broadcastInDim S16x4x4x2x64x2x512 ![0, 1, 2, 3, 4, 5, 6] bcast_S16x4x4x2x64x1x512_S16x4x4x2x64x2x512_0_1_2_3_4_5_6 (broadcastInDim S16x4x4x2x64x1x512 ![0, 1, 2, 3, 4, 6] bcast_S16x4x4x2x64x512_S16x4x4x2x64x1x512_0_1_2_3_4_6 (transpose S16x4x4x2x64x512 [0, 1, 3, 4, 5, 2] (shapeCast _ (mulf (ropeN (res_main_v61 V) (res_main_v41 V) (res_main_v42 V)) (broadcastInDim S16x2048x4x2x64 ![] bcast_S_S16x2048x4x2x64 (constant S_ .f32 0x3E38AA3B#32))) shapeCasts_S16x2048x4x2x64_S16x4x512x4x2x64) transposes_S16x4x512x4x2x64_S16x4x4x2x64x512_0_1_3_4_5_2))) (broadcastInDim S16x4x4x2x64x2x512 ![] bcast_S_S16x4x4x2x64x2x512 (id (constant S_ .f32 0x00000000#32)))) shapeCasts_S16x4x4x2x64x2x512_S16x4x4x128x1024) bitsLt_bf16_f32

theorem qN_at (b : Fin 16) (tl : Fin 4) (g : Fin 4) (e : Fin 128) (j : Fin 1024) : qN V (ix5 b tl g e j) = sT (AR V) b tl g e j := by
  pointwise [qN, q_at, sT, sQ]
  have hE : (⟨g.val * 128 + e.val / 64 * 64 + e.val % 64, by omega⟩ : Fin 512) = ⟨g.val * 128 + e.val, by omega⟩ := Fin.ext (by dsimp only; omega)
  rw [hE]
  have hz : IntOp.addi (BitVec.ofNat 32 (e.val / 64)) 0#32 = BitVec.ofNat 32 (e.val / 64) := BitVec.add_zero _
  rw [hz]
  have hc := WordCmp.cmpi_eq_ofNat_eq_one_iff (w := 32) (a := e.val / 64) (b := j.val / 512) (by omega) (by omega)
  unfold Scalar.select
  by_cases h : e.val / 64 = j.val / 512
  · exact (if_pos (hc.mpr h)).trans (if_pos h).symm
  · refine (if_neg (fun hh => h (hc.mp hh))).trans (Eq.trans ?_ (if_neg h).symm)
    exact Ideal.ofBits_zero .f32

end Cert.InpRefIdeal.Hand

end
-- ==== Proof.InpValue.lean ====
/- The arrays that the input projection's kernel leaves, and those of its reference. -/
module

public import proofs.«01_k».proof.Proof.InpTile
public import proofs.«01_k».proof.Proof.InpQuery
public import proofs.«01_k».proof.Proof.InpRef

@[expose] public section

set_option maxRecDepth 16384

noncomputable section

namespace Cert.InpRow

open Cert.InpIdeal Cert.InpIdeal.Gen Idealize.ShloMosaic Idealize.ShloMosaic.TcCoe Idealize.SL.Sem

/-- All the queries. -/
def aT (a : Args) : FVec Ideal S16x4x4x128x1024 .bf16 := fun i => sT a (i 0) (i 1) (i 2) (i 3) (i 4)
/-- All the indexer's queries. -/
def aTI (a : Args) : FVec Ideal S16x4x64x4096 .bf16 := fun i => sTI a (i 0) (i 1) (i 2) (i 3)
/-- All the keys. -/
def aK (a : Args) : FVec Ideal S16x2048x512 .bf16 := fun i => sK a (i 0) (i 1) (i 2)
/-- All the values. -/
def aV (a : Args) : FVec Ideal S16x512x2048 .bf16 := fun i => sV a (i 0) (i 2) (i 1)
/-- All the indexer's keys. -/
def aKI (a : Args) : FVec Ideal S16x2048x64 .bf16 := fun i => sKI a (i 0) (i 1) (i 2)
/-- All the indexer's head weights. -/
def aW (a : Args) : FVec Ideal S16x8x2048 .f32 := fun i => sW a (i 0) (i 2) (i 1)
/-- All the gates. -/
def aG (a : Args) : FVec Ideal S16x8x2048 .f32 := fun i => sG a (i 0) (i 2) (i 1)
/-- All the recurrent queries. -/
def aQM (a : Args) : FVec Ideal S16x2048x512 .bf16 := fun i => sQM a (i 0) (i 1) (i 2)
/-- All the recurrent keys. -/
def aKM (a : Args) : FVec Ideal S16x2048x512 .bf16 := fun i => sKM a (i 0) (i 1) (i 2)
/-- All the recurrent values. -/
def aVM (a : Args) : FVec Ideal S16x2048x512 .bf16 := fun i => sVM a (i 0) (i 1) (i 2)
/-- All the output gates. -/
def aO (a : Args) : FVec Ideal S16x2048x512 .bf16 := fun i => sO a (i 0) (i 1) (i 2)

end Cert.InpRow

namespace Cert.InpIdeal.Tile

open Cert.InpIdeal Cert.InpIdeal.Gen Cert.InpRow Idealize.ShloMosaic Idealize.ShloMosaic.TcCoe Idealize.SL.Sem

variable (m : (ℓ : Loc nD τ sig) → Buf (Elt Ideal) ℓ)

/-- The kernel's queries. -/
theorem final11 (c : Dev nD) : (dats m 0 c).arrAt 11 (cfgs 0).N = aT (A m c) := by
  refine (dats m 0 c).arrAt_eq_of_covers 11 _ (by decide +kernel) fun t _ y => ?_
  blk_simp
  rw [after0_11]
  have hy : y = ix5 0 0 (y 2) (y 3) (y 4) := by funext a; match a with | ⟨0, _⟩ => exact Subsingleton.elim (α := Fin 1) _ _ | ⟨1, _⟩ => exact Subsingleton.elim (α := Fin 1) _ _ | ⟨2, _⟩ => rfl | ⟨3, _⟩ => rfl | ⟨4, _⟩ => rfl
  rw [hy]
  refine (o11 m c t (y 2) (y 3) (y 4)).trans ?_
  show aT (A m c) (ix5 (bat t) ⟨t.val % 4, by omega⟩ (y 2) (y 3) (y 4)) = _
  blk_ext [idx' t, bat, row]

/-- The kernel's indexer's queries. -/
theorem final12 (c : Dev nD) : (dats m 0 c).arrAt 12 (cfgs 0).N = aTI (A m c) := by
  refine (dats m 0 c).arrAt_eq_of_covers 12 _ (by decide +kernel) fun t _ y => ?_
  blk_simp
  rw [after0_12]
  have hy : y = ix4 0 0 (y 2) (y 3) := by funext a; match a with | ⟨0, _⟩ => exact Subsingleton.elim (α := Fin 1) _ _ | ⟨1, _⟩ => exact Subsingleton.elim (α := Fin 1) _ _ | ⟨2, _⟩ => rfl | ⟨3, _⟩ => rfl
  rw [hy]
  refine (o12 m c t (y 2) (y 3)).trans ?_
  show aTI (A m c) (ix4 (bat t) ⟨t.val % 4, by omega⟩ (y 2) (y 3)) = _
  blk_ext [idx' t, bat, row]

/-- The kernel's keys. -/
theorem final13 (c : Dev nD) : (dats m 0 c).arrAt 13 (cfgs 0).N = aK (A m c) := by
  refine (dats m 0 c).arrAt_eq_of_covers 13 _ (by decide +kernel) fun t _ y => ?_
  blk_simp
  rw [after0_13]
  have hy : y = ix3 0 (y 1) (y 2) := by funext a; match a with | ⟨0, _⟩ => exact Subsingleton.elim (α := Fin 1) _ _ | ⟨1, _⟩ => rfl | ⟨2, _⟩ => rfl
  rw [hy]
  refine (o13 m c t (y 1) (y 2)).trans ?_
  show aK (A m c) (ix3 (bat t) (row t (y 1)) (y 2)) = _
  blk_ext [idx' t, bat, row]

/-- The kernel's values. -/
theorem final14 (c : Dev nD) : (dats m 0 c).arrAt 14 (cfgs 0).N = aV (A m c) := by
  refine (dats m 0 c).arrAt_eq_of_covers 14 _ (by decide +kernel) fun t _ y => ?_
  blk_simp
  rw [after0_14]
  have hy : y = ix3 0 (y 1) (y 2) := by funext a; match a with | ⟨0, _⟩ => exact Subsingleton.elim (α := Fin 1) _ _ | ⟨1, _⟩ => rfl | ⟨2, _⟩ => rfl
  rw [hy]
  refine (o14 m c t (y 1) (y 2)).trans ?_
  show aV (A m c) (ix3 (bat t) (y 1) (row t (y 2))) = _
  blk_ext [idx' t, bat, row]

/-- The kernel's indexer's keys. -/
theorem final15 (c : Dev nD) : (dats m 0 c).arrAt 15 (cfgs 0).N = aKI (A m c) := by
  refine (dats m 0 c).arrAt_eq_of_covers 15 _ (by decide +kernel) fun t _ y => ?_
  blk_simp
  rw [after0_15]
  have hy : y = ix3 0 (y 1) (y 2) := by funext a; match a with | ⟨0, _⟩ => exact Subsingleton.elim (α := Fin 1) _ _ | ⟨1, _⟩ => rfl | ⟨2, _⟩ => rfl
  rw [hy]
  refine (o15 m c t (y 1) (y 2)).trans ?_
  show aKI (A m c) (ix3 (bat t) (row t (y 1)) (y 2)) = _
  blk_ext [idx' t, bat, row]

/-- The kernel's indexer's head weights. -/
theorem final16 (c : Dev nD) : (dats m 0 c).arrAt 16 (cfgs 0).N = aW (A m c) := by
  refine (dats m 0 c).arrAt_eq_of_covers 16 _ (by decide +kernel) fun t _ y => ?_
  blk_simp
  rw [after0_16]
  have hy : y = ix3 0 (y 1) (y 2) := by funext a; match a with | ⟨0, _⟩ => exact Subsingleton.elim (α := Fin 1) _ _ | ⟨1, _⟩ => rfl | ⟨2, _⟩ => rfl
  rw [hy]
  refine (o16 m c t (y 1) (y 2)).trans ?_
  show aW (A m c) (ix3 (bat t) (y 1) (row t (y 2))) = _
  blk_ext [idx' t, bat, row]

/-- The kernel's gates. -/
theorem final17 (c : Dev nD) : (dats m 0 c).arrAt 17 (cfgs 0).N = aG (A m c) := by
  refine (dats m 0 c).arrAt_eq_of_covers 17 _ (by decide +kernel) fun t _ y => ?_
  blk_simp
  rw [after0_17]
  have hy : y = ix3 0 (y 1) (y 2) := by funext a; match a with | ⟨0, _⟩ => exact Subsingleton.elim (α := Fin 1) _ _ | ⟨1, _⟩ => rfl | ⟨2, _⟩ => rfl
  rw [hy]
  refine (o17 m c t (y 1) (y 2)).trans ?_
  show aG (A m c) (ix3 (bat t) (y 1) (row t (y 2))) = _
  blk_ext [idx' t, bat, row]

/-- The kernel's recurrent queries. -/
theorem final18 (c : Dev nD) : (dats m 0 c).arrAt 18 (cfgs 0).N = aQM (A m c) := by
  refine (dats m 0 c).arrAt_eq_of_covers 18 _ (by decide +kernel) fun t _ y => ?_
  blk_simp
  rw [after0_18]
  have hy : y = ix3 0 (y 1) (y 2) := by funext a; match a with | ⟨0, _⟩ => exact Subsingleton.elim (α := Fin 1) _ _ | ⟨1, _⟩ => rfl | ⟨2, _⟩ => rfl
  rw [hy]
  refine (o18 m c t (y 1) (y 2)).trans ?_
  show aQM (A m c) (ix3 (bat t) (row t (y 1)) (y 2)) = _
  blk_ext [idx' t, bat, row]

/-- The kernel's recurrent keys. -/
theorem final19 (c : Dev nD) : (dats m 0 c).arrAt 19 (cfgs 0).N = aKM (A m c) := by
  refine (dats m 0 c).arrAt_eq_of_covers 19 _ (by decide +kernel) fun t _ y => ?_
  blk_simp
  rw [after0_19]
  have hy : y = ix3 0 (y 1) (y 2) := by funext a; match a with | ⟨0, _⟩ => exact Subsingleton.elim (α := Fin 1) _ _ | ⟨1, _⟩ => rfl | ⟨2, _⟩ => rfl
  rw [hy]
  refine (o19 m c t (y 1) (y 2)).trans ?_
  show aKM (A m c) (ix3 (bat t) (row t (y 1)) (y 2)) = _
  blk_ext [idx' t, bat, row]

/-- The kernel's recurrent values. -/
theorem final20 (c : Dev nD) : (dats m 0 c).arrAt 20 (cfgs 0).N = aVM (A m c) := by
  refine (dats m 0 c).arrAt_eq_of_covers 20 _ (by decide +kernel) fun t _ y => ?_
  blk_simp
  rw [after0_20]
  have hy : y = ix3 0 (y 1) (y 2) := by funext a; match a with | ⟨0, _⟩ => exact Subsingleton.elim (α := Fin 1) _ _ | ⟨1, _⟩ => rfl | ⟨2, _⟩ => rfl
  rw [hy]
  refine (o20 m c t (y 1) (y 2)).trans ?_
  show aVM (A m c) (ix3 (bat t) (row t (y 1)) (y 2)) = _
  blk_ext [idx' t, bat, row]

/-- The kernel's output gates. -/
theorem final21 (c : Dev nD) : (dats m 0 c).arrAt 21 (cfgs 0).N = aO (A m c) := by
  refine (dats m 0 c).arrAt_eq_of_covers 21 _ (by decide +kernel) fun t _ y => ?_
  blk_simp
  rw [after0_21]
  have hy : y = ix3 0 (y 1) (y 2) := by funext a; match a with | ⟨0, _⟩ => exact Subsingleton.elim (α := Fin 1) _ _ | ⟨1, _⟩ => rfl | ⟨2, _⟩ => rfl
  rw [hy]
  refine (o21 m c t (y 1) (y 2)).trans ?_
  show aO (A m c) (ix3 (bat t) (row t (y 1)) (y 2)) = _
  blk_ext [idx' t, bat, row]

end Cert.InpIdeal.Tile

namespace Cert.InpRefIdeal.Hand

open Cert.InpRefIdeal Cert.InpRefIdeal.Gen Cert.InpRefIdeal.Value Cert.InpRow Idealize.ShloMosaic Idealize.ShloMosaic.TcCoe Idealize.SL.Sem
open Idealize.ShloMosaic.StableHlo

variable (V : Valuation τ sig (Elt Ideal))

theorem ref11 : qN V = aT (AR V) := by
  funext i
  rw [eq_ix5 i]
  exact qN_at V (i 0) (i 1) (i 2) (i 3) (i 4)

theorem ref12 : qiN V = aTI (AR V) := by
  funext i
  rw [eq_ix4 i]
  exact qiN_at V (i 0) (i 1) (i 2) (i 3)

theorem ref13 : kN V = aK (AR V) := by
  funext i
  rw [eq_ix3 i]
  exact kN_at V (i 0) (i 1) (i 2)

theorem ref14 : vN V = aV (AR V) := by
  funext i
  rw [eq_ix3 i]
  exact vN_at V (i 0) (i 1) (i 2)

theorem ref15 : kiN V = aKI (AR V) := by
  funext i
  rw [eq_ix3 i]
  exact kiN_at V (i 0) (i 1) (i 2)

theorem ref16 (h) : transpose S16x8x2048 [0, 2, 1] (mulf (extractStridedSlice S16x2048x8 ![0, 0, 1344] (res_main_v29 V) slices_S16x2048x3408_S16x2048x8_0_0_1344) (broadcastInDim S16x2048x8 ![] bcast_S_S16x2048x8 (constant (F := Ideal) S_ .f32 0x3D3504F3#32))) h = aW (AR V) := by
  funext i
  rw [eq_ix3 i]
  exact w_at V h (i 0) (i 1) (i 2)

theorem ref17 : gN V = aG (AR V) := by
  funext i
  rw [eq_ix3 i]
  exact gN_at V (i 0) (i 1) (i 2)

theorem ref18 : truncf (F := Ideal) .bf16 (mulf (extractStridedSlice S16x2048x512 ![0, 0, 0] (res_main_v143 V) slices_S16x2048x1024_S16x2048x512_0_0_0) (broadcastInDim S16x2048x512 ![] bcast_S_S16x2048x512 (constant S_ .f32 0x3DB504F3#32))) bitsLt_bf16_f32 = aQM (AR V) := by
  funext i
  rw [eq_ix3 i]
  exact qm_at V (i 0) (i 1) (i 2)

theorem ref19 : truncf (F := Ideal) .bf16 (extractStridedSlice S16x2048x512 ![0, 0, 512] (res_main_v143 V) slices_S16x2048x1024_S16x2048x512_0_0_512) bitsLt_bf16_f32 = aKM (AR V) := by
  funext i
  rw [eq_ix3 i]
  exact km_at V (i 0) (i 1) (i 2)

theorem ref20 : truncf (F := Ideal) .bf16 (extractStridedSlice S16x2048x512 ![0, 0, 2376] (res_main_v29 V) slices_S16x2048x3408_S16x2048x512_0_0_2376) bitsLt_bf16_f32 = aVM (AR V) := by
  funext i
  rw [eq_ix3 i]
  exact vm_at V (i 0) (i 1) (i 2)

theorem ref21 : extractStridedSlice S16x2048x512 ![0, 0, 2888] (res_main_v29 V) slices_S16x2048x3408_S16x2048x512_0_0_2888 = aO (AR V) := by
  funext i
  rw [eq_ix3 i]
  exact om_at V (i 0) (i 1) (i 2)

end Cert.InpRefIdeal.Hand

end
-- ==== Proof.ModValue.lean ====
/- The modulation kernel's final array is the reference's result. -/
module

public import proofs.«01_k».proof.Proof.Gen.ModIdeal.Value
public import proofs.«01_k».proof.Proof.Gen.ModRefIdeal
public import Idealize.ShloMosaic.Lib.Pointwise
public import Idealize.ShloMosaic.Lib.Pipeline.ValueKit

@[expose] public section

set_option maxRecDepth 16384

noncomputable section

namespace Cert.ModRow

/-- One entry of the modulation: `silu c` times a column of the weights, plus its bias. -/
def out (c w : Fin 1024 → EReal) (b : EReal) : EReal := (∑ k, c k * Idealize.ShloMosaic.Ideal.logistic (c k) * w k) + b

end Cert.ModRow

namespace Cert.ModRefIdeal.Hand

open Cert.ModRefIdeal Cert.ModRefIdeal.Gen Idealize.ShloMosaic Idealize.ShloMosaic.TcCoe

/-- The reference's result. -/
def outN (c : FVec Ideal S16x1024 .f32) (w : FVec Ideal S2x1024x6144 .f32) (b : FVec Ideal S2x6144 .f32) : FVec Ideal S2x16x6144 .f32 :=
  concatenate S2x16x6144 0 [⟨S1x16x6144, (broadcastInDim S1x16x6144 ![1, 2] bcast_S16x6144_S1x16x6144_1_2 (addf (Host.dotGeneral dot_S16x1024_S1024x6144_S16x6144_1_0_0_1_n_n none (mulf c (Host.divf (broadcastInDim S16x1024 ![] bcast_S_S16x1024 (constant S_ .f32 0x3F800000#32)) (addf (broadcastInDim S16x1024 ![] bcast_S_S16x1024 (constant S_ .f32 0x3F800000#32)) (Host.exp (Host.negf c))))) (shapeCast _ (extractStridedSlice S1x1024x6144 ![0, 0, 0] w slices_S2x1024x6144_S1x1024x6144_0_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![0, 0] b slices_S2x6144_S1x6144_0_0) shapeCasts_S1x6144_S6144)))))⟩, ⟨S1x16x6144, (broadcastInDim S1x16x6144 ![1, 2] bcast_S16x6144_S1x16x6144_1_2 (addf (Host.dotGeneral dot_S16x1024_S1024x6144_S16x6144_1_0_0_1_n_n none (mulf c (Host.divf (broadcastInDim S16x1024 ![] bcast_S_S16x1024 (constant S_ .f32 0x3F800000#32)) (addf (broadcastInDim S16x1024 ![] bcast_S_S16x1024 (constant S_ .f32 0x3F800000#32)) (Host.exp (Host.negf c))))) (shapeCast _ (extractStridedSlice S1x1024x6144 ![1, 0, 0] w slices_S2x1024x6144_S1x1024x6144_1_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![1, 0] b slices_S2x6144_S1x6144_1_0) shapeCasts_S1x6144_S6144)))))⟩] concatenates_S1x16x6144_S1x16x6144_S2x16x6144_d0

theorem outN_at (c : FVec Ideal S16x1024 .f32) (w : FVec Ideal S2x1024x6144 .f32) (b : FVec Ideal S2x6144 .f32) (l : Fin 2) (r : Fin 16) (n : Fin 6144) :
    outN c w b (ix3 l r n) = ModRow.out (fun k => c (ix2 r k)) (fun k => w (ix3 l k n)) (b (ix2 l n)) := by
  match l with
  | 0 => pointwise [outN, ModRow.out]; simp only [Ideal.logistic]
  | 1 => pointwise [outN, ModRow.out]; simp only [Ideal.logistic]

end Cert.ModRefIdeal.Hand

namespace Cert.ModIdeal.Tile

open Cert.ModIdeal Cert.ModIdeal.Gen Idealize.ShloMosaic Idealize.ShloMosaic.TcCoe Idealize.SL.Sem
open Idealize.ShloMosaic.Pipeline (Dat)

/-- The tile at a row, over the staged blocks. -/
theorem tile_at (x0 : FVec Ideal S16x1024 .f32) (x1 : FVec Ideal S1x1024x1024 .f32) (x2 : FVec Ideal S1x1x1024 .f32) (r : Fin 16) (n : Fin 1024) :
    out0_3 (F := Ideal) x0 x1 x2 (ix3 0 r n) = ModRow.out (fun k => x0 (ix2 r k)) (fun k => x1 (ix3 0 k n)) (x2 (ix3 0 0 n)) := by
  unfold out0_3
  frame_out
  pointwise [k0_pay1, ModRow.out]

/-- Where every window of a grid point lies. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] ∧ t.val < 12 := (by decide +kernel : ∀ t : Fin grid0.N, _)

variable (m : (ℓ : Loc nD τ sig) → Buf (Elt Ideal) ℓ)

/-- The reference's result, of the kernel's arguments. -/
def REF (c : Dev nD) : FVec Ideal S2x16x6144 .f32 :=
  Cert.ModRefIdeal.Hand.outN (m ((c.tc : Thread nD τ).loc main_arg0)) (m ((c.tc : Thread nD τ).loc main_arg1)) (m ((c.tc : Thread nD τ).loc main_arg2))

/-- The column that point `t` writes at column `n` of its tile. -/
def col (t : Fin cfg0.N) (n : Fin 1024) : Fin 6144 := ⟨t.val % 6 * 1024 + n.val, by omega⟩
/-- The layer of the tile that point `t` writes. -/
def lay (t : Fin cfg0.N) : Fin 2 := ⟨t.val / 6, by have := (idx t).2.2.2.2; omega⟩

/-- The tile that point `t` writes, at a row. -/
theorem point (c : Dev nD) (t : Fin cfg0.N) (r : Fin 16) (n : Fin 1024) :
    out0_3 (F := Ideal) (iblk m c 0 t) (iblk m c 1 t) (iblk m c 2 t) (ix3 0 r n) = REF m c (ix3 (lay t) r (col t n)) := by
  refine (tile_at _ _ _ r n).trans (Eq.trans ?_ (Cert.ModRefIdeal.Hand.outN_at _ _ _ (lay t) r (col t n)).symm)
  have h0 : (fun k : Fin 1024 => (iblk m c 0 t : FVec Ideal S16x1024 .f32) (ix2 r k)) = fun k => m ((c.tc : Thread nD τ).loc main_arg0) (ix2 r k) := by
    funext k; blk_ext [iblk, V, idx t, lay, col]
  have h1 : (fun k : Fin 1024 => (iblk m c 1 t : FVec Ideal S1x1024x1024 .f32) (ix3 0 k n)) = fun k => m ((c.tc : Thread nD τ).loc main_arg1) (ix3 (lay t) k (col t n)) := by
    funext k; blk_ext [iblk, V, idx t, lay, col]
  have h2 : (iblk m c 2 t : FVec Ideal S1x1x1024 .f32) (ix3 0 0 n) = m ((c.tc : Thread nD τ).loc main_arg2) (ix2 (lay t) (col t n)) := by
    blk_simp [iblk, idx t]; entry_read; pointwise []; blk_ext [idx t, lay, col]
  rw [h0, h1, h2]

/-- The kernel's final array. -/
theorem final (c : Dev nD) : (dats m 0 c).arrAt 3 (cfgs 0).N = REF m c := by
  refine (dats m 0 c).arrAt_eq_of_covers 3 _ (by decide +kernel) fun t _ y => ?_
  blk_simp
  rw [after0_3]
  have hy : y = ix3 0 (y 1) (y 2) := by funext a; match a with | ⟨0, _⟩ => exact Subsingleton.elim (α := Fin 1) _ _ | ⟨1, _⟩ => rfl | ⟨2, _⟩ => rfl
  rw [hy]
  refine (point m c t (y 1) (y 2)).trans ?_
  blk_ext [idx t, lay, col]

end Cert.ModIdeal.Tile

end
-- ==== Proof.TabValue.lean ====
/- The rope tables' final arrays are the reference's results. -/
module

public import proofs.«01_k».proof.Proof.Gen.TabIdeal.Value
public import proofs.«01_k».proof.Proof.Gen.TabRefIdeal
public import Idealize.ShloMosaic.Lib.Pointwise
public import Idealize.ShloMosaic.Lib.Pipeline.ValueKit

@[expose] public section

set_option maxRecDepth 16384

noncomputable section

namespace Cert.TabRow

open Idealize.ShloMosaic

/-- The inverse frequency of rotation pair `j`: `10000 ^ (-(0 + 2 j) / 64)`. -/
def freq (j : Fin 32) : EReal :=
  Ideal.pow (Ideal.ofBits .f32 0x461C4000#32) (Ideal.div (-(0 + Ideal.ofBits .f32 0x40000000#32 * FloatOps.sitofp (F := Ideal) .f32 (BitVec.ofNat 32 j.val))) (Ideal.ofBits .f32 0x42800000#32))

/-- The angle of a position at a lane: the four groups of 32 lanes repeat. -/
def ang (p : BitVec 32) (n : Fin 128) : EReal := FloatOps.sitofp (F := Ideal) .f32 p * freq ⟨n.val % 32, by omega⟩

/-- The sign of the sine table at a lane: minus in the first half of each head. -/
def sgn (n : Fin 128) (x : EReal) : EReal := if n.val / 32 % 2 = 0 then -x else x

end Cert.TabRow

namespace Cert.TabRefIdeal.Hand

open Cert.TabRefIdeal Cert.TabRefIdeal.Gen Idealize.ShloMosaic Idealize.ShloMosaic.TcCoe

/-- The reference's angles. -/
def angN (p : Vec Ideal S16x2048 .i32) : FVec Ideal S16x2048x32 .f32 :=
  mulf (broadcastInDim S16x2048x32 ![0, 1, 2] bcast_S16x2048x1_S16x2048x32_0_1_2 (broadcastInDim S16x2048x1 ![0, 1] bcast_S16x2048_S16x2048x1_0_1 (sitofp .f32 p))) (broadcastInDim S16x2048x32 ![0, 1, 2] bcast_S1x1x32_S16x2048x32_0_1_2 (broadcastInDim S1x1x32 ![2] bcast_S32_S1x1x32_2 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The reference's cosine table. -/
def cosN (p : Vec Ideal S16x2048 .i32) : FVec Ideal S16x2048x128 .f32 :=
  (concatenate S16x2048x128 2 [⟨S16x2048x32, ((Host.cos (F := Ideal) (angN p)) : FVec Ideal S16x2048x32 .f32)⟩, ⟨S16x2048x32, ((Host.cos (F := Ideal) (angN p)) : FVec Ideal S16x2048x32 .f32)⟩, ⟨S16x2048x32, ((Host.cos (F := Ideal) (angN p)) : FVec Ideal S16x2048x32 .f32)⟩, ⟨S16x2048x32, ((Host.cos (F := Ideal) (angN p)) : FVec Ideal S16x2048x32 .f32)⟩] concatenates_S16x2048x32_S16x2048x32_S16x2048x32_S16x2048x32_S16x2048x128_d2 : (⟨S16x2048x128, .f32⟩ : BufTy).Contents (Elt Ideal))

/-- The sines of the angles, and their negatives. -/
def sN (p : Vec Ideal S16x2048 .i32) : FVec Ideal S16x2048x32 .f32 := Host.sin (F := Ideal) (angN p)
def nN (p : Vec Ideal S16x2048 .i32) : FVec Ideal S16x2048x32 .f32 := Host.negf (F := Ideal) (sN p)

/-- The reference's sine table. -/
def sinN (p : Vec Ideal S16x2048 .i32) : FVec Ideal S16x2048x128 .f32 :=
  (concatenate S16x2048x128 2 [⟨S16x2048x32, nN p⟩, ⟨S16x2048x32, sN p⟩, ⟨S16x2048x32, nN p⟩, ⟨S16x2048x32, sN p⟩] concatenates_S16x2048x32_S16x2048x32_S16x2048x32_S16x2048x32_S16x2048x128_d2 : (⟨S16x2048x128, .f32⟩ : BufTy).Contents (Elt Ideal))

theorem angN_at (p : Vec Ideal S16x2048 .i32) (b : Fin 16) (s : Fin 2048) (j : Fin 32) :
    angN p (ix3 b s j) = FloatOps.sitofp (F := Ideal) .f32 (p (ix2 b s)) * TabRow.freq j := by
  pointwise [angN, TabRow.freq]

theorem cosN_at (p : Vec Ideal S16x2048 .i32) (b : Fin 16) (s : Fin 2048) (n : Fin 128) :
    cosN p (ix3 b s n) = Ideal.cos (TabRow.ang (p (ix2 b s)) n) := by
  have e : ∀ j (h : j < 32), j = n.val % 32 → angN p (ix3 b s ⟨j, h⟩) = TabRow.ang (p (ix2 b s)) n := by
    rintro _ h rfl; exact angN_at p b s _
  pointwise [cosN]
  split_ifs <;> exact congrArg Ideal.cos (e _ _ (by omega))

theorem sinN_at (p : Vec Ideal S16x2048 .i32) (b : Fin 16) (s : Fin 2048) (n : Fin 128) :
    sinN p (ix3 b s n) = TabRow.sgn n (Ideal.sin (TabRow.ang (p (ix2 b s)) n)) := by
  have e1 : ∀ j (h : j < 32), j = n.val % 32 → sN p (ix3 b s ⟨j, h⟩) = Ideal.sin (TabRow.ang (p (ix2 b s)) n) := by
    rintro _ h rfl; exact congrArg Ideal.sin (angN_at p b s _)
  have e2 : ∀ j (h : j < 32), j = n.val % 32 → nN p (ix3 b s ⟨j, h⟩) = -Ideal.sin (TabRow.ang (p (ix2 b s)) n) := by
    intro j h hj; exact congrArg Neg.neg (e1 j h hj)
  have hp : n.val < 128 := n.isLt
  pointwise [sinN]
  by_cases h1 : n.val < 32
  · rw [dif_pos h1]; exact (e2 _ _ (by omega)).trans (if_pos (by omega)).symm
  rw [dif_neg h1]
  by_cases h2 : n.val - 32 < 32
  · rw [dif_pos h2]; exact (e1 _ _ (by omega)).trans (if_neg (by omega)).symm
  rw [dif_neg h2]
  by_cases h3 : n.val - 32 - 32 < 32
  · rw [dif_pos h3]; exact (e2 _ _ (by omega)).trans (if_pos (by omega)).symm
  rw [dif_neg h3]
  exact (e1 _ _ (by omega)).trans (if_neg (by omega)).symm

end Cert.TabRefIdeal.Hand

namespace Cert.TabIdeal.Tile

open Cert.TabIdeal Cert.TabIdeal.Gen Idealize.ShloMosaic Idealize.ShloMosaic.TcCoe Idealize.SL.Sem
open Idealize.ShloMosaic.Pipeline (Dat)

theorem cos_at (x0 : Vec Ideal S1x1x512 .i32) (x1 : FVec Ideal S32x1 .f32) (x2 : FVec Ideal S1x128 .f32) (r : Fin 512) (n : Fin 128) :
    out0_3 (F := Ideal) x0 x1 x2 (ix3 0 r n) = Ideal.cos (FloatOps.sitofp (F := Ideal) .f32 (x0 (ix3 0 0 r)) * x1 (ix2 ⟨n.val % 32, by omega⟩ 0)) := by
  unfold out0_3
  frame_out
  have e : ∀ j (h : j < 32), j = n.val % 32 → k0_pay1 x1 x0 (ix2 ⟨j, h⟩ r) = FloatOps.sitofp (F := Ideal) .f32 (x0 (ix3 0 0 r)) * x1 (ix2 ⟨n.val % 32, by omega⟩ 0) := by
    rintro _ h rfl; pointwise [k0_pay1]; exact mul_comm _ _
  pointwise [k0_pay2]
  split_ifs <;> exact congrArg Ideal.cos (e _ _ (by omega))

theorem sin_at (x0 : Vec Ideal S1x1x512 .i32) (x1 : FVec Ideal S32x1 .f32) (x2 : FVec Ideal S1x128 .f32) (r : Fin 512) (n : Fin 128) :
    out0_4 (F := Ideal) x0 x1 x2 (ix3 0 r n) = Ideal.sin (FloatOps.sitofp (F := Ideal) .f32 (x0 (ix3 0 0 r)) * x1 (ix2 ⟨n.val % 32, by omega⟩ 0)) * x2 (ix2 0 n) := by
  unfold out0_4
  frame_out
  have e : ∀ j (h : j < 32), j = n.val % 32 → k0_pay1 x1 x0 (ix2 ⟨j, h⟩ r) = FloatOps.sitofp (F := Ideal) .f32 (x0 (ix3 0 0 r)) * x1 (ix2 ⟨n.val % 32, by omega⟩ 0) := by
    rintro _ h rfl; pointwise [k0_pay1]; exact mul_comm _ _
  pointwise [k0_pay3]
  split_ifs <;> exact congrArg (fun v => Ideal.sin v * _) (e _ _ (by omega))

/-- Where every window of a grid point lies. -/
theorem idx : ∀ t : Fin cfg0.N, win0_0.index t = ![t.val / 4, 0, t.val % 4] ∧ win0_1.index t = ![0, 0] ∧ win0_2.index t = ![0, 0]
    ∧ win0_3.index t = ![t.val / 4, t.val % 4, 0] ∧ win0_4.index t = ![t.val / 4, t.val % 4, 0] ∧ t.val < 64 := (by decide +kernel : ∀ t : Fin grid0.N, _)

variable (m : (ℓ : Loc nD τ sig) → Buf (Elt Ideal) ℓ)

/-- The row that point `t` writes at row `r` of its tile. -/
def row (t : Fin cfg0.N) (r : Fin 512) : Fin 2048 := ⟨t.val % 4 * 512 + r.val, by omega⟩
/-- The batch of the tile that point `t` writes. -/
def bat (t : Fin cfg0.N) : Fin 16 := ⟨t.val / 4, by have := (idx t).2.2.2.2.2; omega⟩

theorem pos_at (c : Dev nD) (t : Fin cfg0.N) (r : Fin 512) :
    (iblk m c 0 t : Vec Ideal S1x1x512 .i32) (ix3 0 0 r) = m ((c.tc : Thread nD τ).loc main_arg0) (ix2 (bat t) (row t r)) := by
  blk_simp [iblk, idx t]; entry_read; pointwise []; blk_ext [idx t, bat, row]

theorem freq_at (c : Dev nD) (t : Fin cfg0.N) (j : Fin 32) :
    (iblk m c 1 t : FVec Ideal S32x1 .f32) (ix2 j 0) = TabRow.freq j := by
  blk_simp [iblk, idx t]; entry_read;
  have he : ∀ {α : Type} (f : S32x1.Idx → α), f (((View.whole main_v11).slice (win0_1.rect t)).emb (ix2 j 0)) = f (ix2 j 0) := fun f => by blk_ext [idx t]
  rw [show ((View.whole main_v11).slice (win0_1.rect t)).emb (ix2 j 0) = ix2 j 0 from he id]
  pointwise [TabRow.freq]

theorem lits : ∀ n : Fin 128, lit0 n = if n.val / 32 % 2 = 0 then 0xBF800000#32 else 0x3F800000#32 := by decide +kernel

theorem neg_one : Ideal.ofBits .f32 0xBF800000#32 = ((-(1 : ℝ)) : EReal) := by
  simp [Ideal.ofBits, Ideal.ieee, -EReal.coe_mul, -EReal.coe_neg]; norm_num

theorem sgn_at (c : Dev nD) (t : Fin cfg0.N) (n : Fin 128) (x : EReal) :
    x * (iblk m c 2 t : FVec Ideal S1x128 .f32) (ix2 0 n) = TabRow.sgn n x := by
  have h0 : (iblk m c 2 t : FVec Ideal S1x128 .f32) (ix2 0 n) = Ideal.ofBits .f32 (lit0 ⟨n.val, n.isLt⟩) := by
    blk_simp [iblk, idx t]; entry_read
    refine congrArg (fun k => Ideal.ofBits .f32 (lit0 k)) (Fin.ext ?_)
    have he : ∀ {α : Type} (f : S1x128.Idx → α), f (((View.whole main_cst).slice (win0_2.rect t)).emb (ix2 0 n)) = f (ix2 0 n) := fun f => by blk_ext [idx t]
    refine (congrArg (fun i => (S1x128.rowMajor i).val) (he id)).trans ?_
    simp [Shape.rowMajor_val_two]
  rw [h0, lits n, TabRow.sgn]
  split
  · rw [neg_one, mul_neg, EReal.coe_one, mul_one]
  · rw [Ideal.ofBits_one_f32, mul_one]

theorem point3 (c : Dev nD) (t : Fin cfg0.N) (r : Fin 512) (n : Fin 128) :
    out0_3 (F := Ideal) (iblk m c 0 t) (iblk m c 1 t) (iblk m c 2 t) (ix3 0 r n) = Cert.TabRefIdeal.Hand.cosN (m ((c.tc : Thread nD τ).loc main_arg0)) (ix3 (bat t) (row t r) n) := by
  refine (cos_at _ _ _ r n).trans ?_
  rw [pos_at m c t, freq_at m c t]
  exact (Cert.TabRefIdeal.Hand.cosN_at _ (bat t) (row t r) n).symm

/-- The kernel's cosine table. -/
theorem final3 (c : Dev nD) : (dats m 0 c).arrAt 3 (cfgs 0).N = Cert.TabRefIdeal.Hand.cosN (m ((c.tc : Thread nD τ).loc main_arg0)) := by
  refine (dats m 0 c).arrAt_eq_of_covers 3 _ (by decide +kernel) fun t _ y => ?_
  blk_simp
  rw [after0_3]
  have hy : y = ix3 0 (y 1) (y 2) := by funext a; match a with | ⟨0, _⟩ => exact Subsingleton.elim (α := Fin 1) _ _ | ⟨1, _⟩ => rfl | ⟨2, _⟩ => rfl
  rw [hy]
  refine (point3 m c t (y 1) (y 2)).trans ?_
  blk_ext [idx t, bat, row]

theorem point4 (c : Dev nD) (t : Fin cfg0.N) (r : Fin 512) (n : Fin 128) :
    out0_4 (F := Ideal) (iblk m c 0 t) (iblk m c 1 t) (iblk m c 2 t) (ix3 0 r n) = Cert.TabRefIdeal.Hand.sinN (m ((c.tc : Thread nD τ).loc main_arg0)) (ix3 (bat t) (row t r) n) := by
  refine (sin_at _ _ _ r n).trans ?_
  rw [pos_at m c t, freq_at m c t, sgn_at m c t]
  exact (Cert.TabRefIdeal.Hand.sinN_at _ (bat t) (row t r) n).symm

/-- The kernel's sine table. -/
theorem final4 (c : Dev nD) : (dats m 0 c).arrAt 4 (cfgs 0).N = Cert.TabRefIdeal.Hand.sinN (m ((c.tc : Thread nD τ).loc main_arg0)) := by
  refine (dats m 0 c).arrAt_eq_of_covers 4 _ (by decide +kernel) fun t _ y => ?_
  blk_simp
  rw [after0_4]
  have hy : y = ix3 0 (y 1) (y 2) := by funext a; match a with | ⟨0, _⟩ => exact Subsingleton.elim (α := Fin 1) _ _ | ⟨1, _⟩ => rfl | ⟨2, _⟩ => rfl
  rw [hy]
  refine (point4 m c t (y 1) (y 2)).trans ?_
  blk_ext [idx t, bat, row]

end Cert.TabIdeal.Tile

end
-- ==== Proof.lean ====
module

public import proofs.«01_k».proof.Defs
public import proofs.«01_k».proof.Proof.Gen.Mlstm
public import proofs.«01_k».proof.Proof.MlFrameBits
public import proofs.«01_k».proof.Proof.MlKern
public import proofs.«01_k».proof.Proof.MlRefVal
public import proofs.«01_k».proof.Proof.MlPre
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.FfnValue
public import proofs.«01_k».proof.Proof.Gen.Inp.Frame
public import proofs.«01_k».proof.Proof.Gen.InpIdeal.Frame
public import proofs.«01_k».proof.Proof.Gen.InpIdeal.Value
public import proofs.«01_k».proof.Proof.InpValue
public import proofs.«01_k».proof.Proof.Gen.Tab.Frame
public import proofs.«01_k».proof.Proof.Gen.TabIdeal.Frame
public import proofs.«01_k».proof.Proof.Gen.TabIdeal.Value
public import proofs.«01_k».proof.Proof.Gen.Mod.Frame
public import proofs.«01_k».proof.Proof.Gen.ModIdeal.Frame
public import proofs.«01_k».proof.Proof.Gen.ModIdeal.Value
public import proofs.«01_k».proof.Proof.ModValue
public import proofs.«01_k».proof.Proof.TabValue
public import proofs.«01_k».proof.Proof.Gen.InpRefIdeal.Run
public import proofs.«01_k».proof.Proof.Gen.TabRefIdeal.Run
public import proofs.«01_k».proof.Proof.Gen.ModRefIdeal.Run
public import proofs.«01_k».proof.Proof.Gen.Inp
public import proofs.«01_k».proof.Proof.Gen.InpIdeal
public import proofs.«01_k».proof.Proof.Gen.InpRefIdeal
public import proofs.«01_k».proof.Proof.Gen.Tab
public import proofs.«01_k».proof.Proof.Gen.TabIdeal
public import proofs.«01_k».proof.Proof.Gen.TabRefIdeal
public import proofs.«01_k».proof.Proof.Gen.Mod
public import proofs.«01_k».proof.Proof.Gen.ModIdeal
public import proofs.«01_k».proof.Proof.Gen.ModRefIdeal
public import Idealize.ShloMosaic.Lib.Claim
public import Idealize.ShloMosaic.Adequacy
public import Idealize.ShloMosaic.Init

@[expose] public section

noncomputable section

namespace Cert.Proof

open Idealize.ShloMosaic Idealize.SL.Sem Cert.Mlstm

/-! ## The recurrence -/

theorem frame_Mlstm : Cert.quiescent_Mlstm := fun m ρ _ => Cert.Mlstm.Hand.frame m ρ

theorem frame_MlstmIdeal : Cert.quiescent_MlstmIdeal := fun m ρ _ => Cert.MlstmIdeal.Hand.frame m ρ

theorem frame_MlstmIdeal_pre : Cert.quiescent_MlstmIdeal_pre_finite := fun m ρ _ => Cert.MlstmIdeal.Hand.frame m ρ

/-- The reference's states from a first one. -/
def states (s : Cert.MlstmRefIdeal.Step.State Ideal) : ℕ → Cert.MlstmRefIdeal.Step.State Ideal
  | 0 => s
  | n + 1 => Cert.MlstmRefIdeal.Step.step n (states s n)

theorem frame_MlstmRefIdeal : Cert.quiescent_MlstmRefIdeal := fun m ρ _ =>
  (θ_run Cert.MlstmRefIdeal.defs _ _).mono (fun r h => ⟨fun c => (h c).2, sem_eq_zero_of_no_sems rfl r.2⟩)
    (Cert.MlstmRefIdeal.Iter.run_iter m ρ (fun c => states (Cert.MlstmRefIdeal.Iter.initState m c)) (fun _ => rfl) (fun _ _ => rfl))

theorem frame_MlstmRefIdeal_pre : Cert.quiescent_MlstmRefIdeal_pre_finite := fun m ρ _ => frame_MlstmRefIdeal m ρ trivial

/-- Over finite arguments the reference's result is the layer's output. -/
theorem ref_out (m : (ℓ : Loc Cert.MlstmIdeal.nD Cert.MlstmIdeal.τ Cert.MlstmIdeal.sig) → Buf (Elt Ideal) ℓ) (c : Dev Cert.MlstmIdeal.nD) (hpre : Cert.Pre_MlstmIdeal_finite m)
    (s : Cert.MlstmRefIdeal.Step.State Ideal)
    (h0 : s = Cert.MlstmRefIdeal.Step.init (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1))
      (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg4))) :
    Cert.MlstmRefIdeal.Step.R_main_v55 (F := Ideal) (states s 32) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg5))
      = (Cert.MlstmIdeal.Hand.dats m 0 c).arrAt 6 ((Cert.MlstmIdeal.cfgs 0)).N := by
  have hF := Cert.Pre_finite.finite_of _ _ _ _ _ _ (hpre c)
  rw [Cert.MlstmIdeal.Hand.final m c hF]
  funext y
  rw [eq_ix3 y]
  exact Cert.MlstmRefIdeal.Step.result hF (states s) h0 (fun _ => rfl) _ _ _ _ _

theorem algebraic_Mlstm : Cert.algebraic_MlstmIdeal_MlstmRefIdeal_pre_finite := by
  pair_intro
  · run_from Cert.MlstmIdeal.Hand.run_main m g
  · run_from Cert.MlstmRefIdeal.Iter.run_iter m' g' (fun c => states (Cert.MlstmRefIdeal.Iter.initState m' c)) (fun _ => rfl) (fun _ _ => rfl)
    refine ref_out m c hpre _ ?_
    simp only [Cert.MlstmRefIdeal.Iter.initState, hagree c]

/-! ## The projection and the feed-forward block -/

theorem frame_Ffn : Cert.quiescent_Ffn := fun m ρ _ => Cert.Ffn.Gen.frame m ρ

theorem frame_FfnIdeal : Cert.quiescent_FfnIdeal := fun m ρ _ => Cert.FfnIdeal.Gen.frame m ρ

theorem frame_FfnRefIdeal : Cert.quiescent_FfnRefIdeal := fun m ρ _ =>
  (θ_run Cert.FfnRefIdeal.defs _ _).mono (fun r h => ⟨fun c => (h c).2, sem_eq_zero_of_no_sems rfl r.2⟩) (Cert.FfnRefIdeal.Hand.run (F := Ideal) m ρ)

theorem algebraic_Ffn : Cert.algebraic_FfnIdeal_FfnRefIdeal := by
  pair_intro
  · run_from Cert.FfnIdeal.Gen.run_main m g
  · run_from Cert.FfnRefIdeal.Hand.run m' g'
    exact (Cert.FfnIdeal.Tile.final m c).symm

/-! ## The input projection -/

theorem frame_Inp : Cert.quiescent_Inp := fun m ρ _ => Cert.Inp.Gen.frame m ρ

theorem frame_InpIdeal : Cert.quiescent_InpIdeal := fun m ρ _ => Cert.InpIdeal.Gen.frame m ρ

theorem frame_InpRefIdeal : Cert.quiescent_InpRefIdeal := fun m ρ _ =>
  (θ_run Cert.InpRefIdeal.defs _ _).mono (fun r h => ⟨fun c => (h c).2.2.2.2.2.2.2.2.2.2.2, sem_eq_zero_of_no_sems rfl r.2⟩) (Cert.InpRefIdeal.Value.run (F := Ideal) m ρ)

/-- The two programs' arguments agree, as the formulas take them. -/
theorem args_Inp (m : (ℓ : Loc Cert.InpIdeal.nD Cert.InpIdeal.τ Cert.InpIdeal.sig) → Buf (Elt Ideal) ℓ)
    (m' : (ℓ : Loc Cert.InpRefIdeal.nD Cert.InpRefIdeal.τ Cert.InpRefIdeal.sig) → Buf (Elt Ideal) ℓ) (c : Dev Cert.InpIdeal.nD)
    (h : m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)
      ∧ m' ((c.tc : Thread Cert.InpRefIdeal.nD Cert.InpRefIdeal.τ).loc Cert.InpRefIdeal.main_arg8) = m ((c.tc : Thread Cert.InpIdeal.nD Cert.InpIdeal.τ).loc Cert.InpIdeal.main_arg8)
      ∧ m' ((c.tc : Thread Cert.InpRefIdeal.nD Cert.InpRefIdeal.τ).loc Cert.InpRefIdeal.main_arg9) = m ((c.tc : Thread Cert.InpIdeal.nD Cert.InpIdeal.τ).loc Cert.InpIdeal.main_arg9)
      ∧ m' ((c.tc : Thread Cert.InpRefIdeal.nD Cert.InpRefIdeal.τ).loc Cert.InpRefIdeal.main_arg10) = m ((c.tc : Thread Cert.InpIdeal.nD Cert.InpIdeal.τ).loc Cert.InpIdeal.main_arg10)
      ∧ m' ((c.tc : Thread Cert.InpRefIdeal.nD Cert.InpRefIdeal.τ).loc Cert.InpRefIdeal.main_arg11) = m ((c.tc : Thread Cert.InpIdeal.nD Cert.InpIdeal.τ).loc Cert.InpIdeal.main_arg11)
      ∧ m' ((c.tc : Thread Cert.InpRefIdeal.nD Cert.InpRefIdeal.τ).loc Cert.InpRefIdeal.main_arg12) = m ((c.tc : Thread Cert.InpIdeal.nD Cert.InpIdeal.τ).loc Cert.InpIdeal.main_arg12)) :
    Cert.InpRefIdeal.Hand.AR (Idealize.ShloMosaic.StableHlo.launchContents m' c) = Cert.InpIdeal.Tile.A m c := by
  obtain ⟨h0, h1, h2, h3, h4, h5, h6, h7, h8, h9, h10, h11, h12⟩ := h
  unfold Cert.InpRefIdeal.Hand.AR Cert.InpIdeal.Tile.A
  rw [Cert.InpRow.Args.mk.injEq]
  refine ⟨?_, ?_, ?_, ?_, ?_, ?_, ?_, ?_, ?_, ?_, ?_, ?_, ?_⟩
  · funext b p l; exact congrFun h0 (ix3 b p l)
  · funext b k l; exact congrFun h1 (ix3 b k l)
  · funext l; exact congrFun h2 (ix2 0 l)
  · funext k j; exact congrFun h3 (ix3 0 k j)
  · funext k; exact congrFun h4 (ix2 0 k)
  · funext k j; exact congrFun h5 (ix3 0 k j)
  · funext k j; exact congrFun h6 (ix3 0 k j)
  · funext k l; exact congrFun h7 (ix3 0 k l)
  · funext l; exact congrFun h8 (ix2 0 l)
  · funext k; exact congrFun h9 (ix2 0 k)
  · funext k; exact congrFun h10 (ix2 0 k)
  · funext b p l; exact congrFun h11 (ix3 b p l)
  · funext b p l; exact congrFun h12 (ix3 b p l)

set_option maxHeartbeats 2000000 in
theorem algebraic_Inp : Cert.algebraic_InpIdeal_InpRefIdeal := by
  intro m g m' g' _ hagree
  refine ⟨fun c => Cert.InpRow.aT (Cert.InpIdeal.Tile.A m c), fun c => Cert.InpRow.aTI (Cert.InpIdeal.Tile.A m c), fun c => Cert.InpRow.aK (Cert.InpIdeal.Tile.A m c), fun c => Cert.InpRow.aV (Cert.InpIdeal.Tile.A m c), fun c => Cert.InpRow.aKI (Cert.InpIdeal.Tile.A m c), fun c => Cert.InpRow.aW (Cert.InpIdeal.Tile.A m c), fun c => Cert.InpRow.aG (Cert.InpIdeal.Tile.A m c), fun c => Cert.InpRow.aQM (Cert.InpIdeal.Tile.A m c), fun c => Cert.InpRow.aKM (Cert.InpIdeal.Tile.A m c), fun c => Cert.InpRow.aVM (Cert.InpIdeal.Tile.A m c), fun c => Cert.InpRow.aO (Cert.InpIdeal.Tile.A m c), ?_, ?_⟩
  · refine (θ_run Cert.InpIdeal.defs _ _).mono (fun r h c => ?_) (θ_run_and (Cert.InpIdeal.Gen.run_main (F := Ideal) m g) (Cert.InpIdeal.Gen.unchanged (F := Ideal) m g))
    have hw := (h.1 c).1
    exact ⟨(hw 11).trans (Cert.InpIdeal.Tile.final11 m c), (hw 12).trans (Cert.InpIdeal.Tile.final12 m c), (hw 13).trans (Cert.InpIdeal.Tile.final13 m c), (hw 14).trans (Cert.InpIdeal.Tile.final14 m c), (hw 15).trans (Cert.InpIdeal.Tile.final15 m c), (hw 16).trans (Cert.InpIdeal.Tile.final16 m c), (hw 17).trans (Cert.InpIdeal.Tile.final17 m c), (hw 18).trans (Cert.InpIdeal.Tile.final18 m c), (hw 19).trans (Cert.InpIdeal.Tile.final19 m c), (hw 20).trans (Cert.InpIdeal.Tile.final20 m c), (hw 21).trans (Cert.InpIdeal.Tile.final21 m c), h.2 c⟩
  · refine (θ_run Cert.InpRefIdeal.defs _ _).mono (fun r h c => ?_) (Cert.InpRefIdeal.Value.run (F := Ideal) m' g')
    obtain ⟨h11, h12, h13, h14, h15, h16, h17, h18, h19, h20, h21, hr⟩ := h c
    have e := args_Inp m m' c (hagree c)
    exact ⟨h11.trans ((Cert.InpRefIdeal.Hand.ref11 _).trans (congrArg Cert.InpRow.aT e)), h12.trans ((Cert.InpRefIdeal.Hand.ref12 _).trans (congrArg Cert.InpRow.aTI e)), h13.trans ((Cert.InpRefIdeal.Hand.ref13 _).trans (congrArg Cert.InpRow.aK e)), h14.trans ((Cert.InpRefIdeal.Hand.ref14 _).trans (congrArg Cert.InpRow.aV e)), h15.trans ((Cert.InpRefIdeal.Hand.ref15 _).trans (congrArg Cert.InpRow.aKI e)), h16.trans ((Cert.InpRefIdeal.Hand.ref16 _ _).trans (congrArg Cert.InpRow.aW e)), h17.trans ((Cert.InpRefIdeal.Hand.ref17 _).trans (congrArg Cert.InpRow.aG e)), h18.trans ((Cert.InpRefIdeal.Hand.ref18 _).trans (congrArg Cert.InpRow.aQM e)), h19.trans ((Cert.InpRefIdeal.Hand.ref19 _).trans (congrArg Cert.InpRow.aKM e)), h20.trans ((Cert.InpRefIdeal.Hand.ref20 _).trans (congrArg Cert.InpRow.aVM e)), h21.trans ((Cert.InpRefIdeal.Hand.ref21 _).trans (congrArg Cert.InpRow.aO e)), hr⟩

/-! ## The rope tables -/

theorem frame_Tab : Cert.quiescent_Tab := fun m ρ _ => Cert.Tab.Gen.frame m ρ

theorem frame_TabIdeal : Cert.quiescent_TabIdeal := fun m ρ _ => Cert.TabIdeal.Gen.frame m ρ

theorem frame_TabRefIdeal : Cert.quiescent_TabRefIdeal := fun m ρ _ =>
  (θ_run Cert.TabRefIdeal.defs _ _).mono (fun r h => ⟨fun c => (h c).2.2, sem_eq_zero_of_no_sems rfl r.2⟩) (Cert.TabRefIdeal.Value.run (F := Ideal) m ρ)

theorem algebraic_Tab : Cert.algebraic_TabIdeal_TabRefIdeal := by
  pair_intro
  · run_from Cert.TabIdeal.Gen.run_main m g
  · run_from Cert.TabRefIdeal.Value.run m' g'
    · have h := (Cert.TabIdeal.Tile.final3 m c).symm
      rw [← hagree c] at h
      exact h
    · have h := (Cert.TabIdeal.Tile.final4 m c).symm
      rw [← hagree c] at h
      exact h

/-! ## The modulation -/

theorem frame_Mod : Cert.quiescent_Mod := fun m ρ _ => Cert.Mod.Gen.frame m ρ

theorem frame_ModIdeal : Cert.quiescent_ModIdeal := fun m ρ _ => Cert.ModIdeal.Gen.frame m ρ

theorem frame_ModRefIdeal : Cert.quiescent_ModRefIdeal := fun m ρ _ =>
  (θ_run Cert.ModRefIdeal.defs _ _).mono (fun r h => ⟨fun c => (h c).2, sem_eq_zero_of_no_sems rfl r.2⟩) (Cert.ModRefIdeal.Value.run (F := Ideal) m ρ)

theorem algebraic_Mod : Cert.algebraic_ModIdeal_ModRefIdeal := by
  pair_intro
  · run_from Cert.ModIdeal.Gen.run_main m g
  · run_from Cert.ModRefIdeal.Value.run m' g'
    have h := (Cert.ModIdeal.Tile.final m c).symm
    unfold Cert.ModIdeal.Tile.REF at h
    rw [← (hagree c).2.2] at h
    exact h

theorem claim : Cert.Claim := ⟨Cert.Mlstm.Gen.facts, Cert.MlstmIdeal.Gen.facts, Cert.MlstmRefIdeal.Gen.facts, Cert.Inp.Gen.facts, Cert.InpIdeal.Gen.facts, Cert.InpRefIdeal.Gen.facts, Cert.Tab.Gen.facts, Cert.TabIdeal.Gen.facts, Cert.TabRefIdeal.Gen.facts,
  Cert.Mod.Gen.facts, Cert.ModIdeal.Gen.facts, Cert.ModRefIdeal.Gen.facts, Cert.Ffn.Gen.facts, Cert.FfnIdeal.Gen.facts, Cert.FfnRefIdeal.Gen.facts, Cert.Pre_finite.facts,
  frame_Mlstm, frame_MlstmIdeal, frame_MlstmIdeal_pre, frame_MlstmRefIdeal, frame_MlstmRefIdeal_pre, frame_Inp, frame_InpIdeal, frame_InpRefIdeal, frame_Tab, frame_TabIdeal, frame_TabRefIdeal, frame_Mod, frame_ModIdeal, frame_ModRefIdeal, frame_Ffn, frame_FfnIdeal, frame_FfnRefIdeal,
  trivial, algebraic_Mlstm, trivial, algebraic_Inp, trivial, algebraic_Tab, trivial, algebraic_Mod, trivial, algebraic_Ffn⟩

end Cert.Proof

end
